-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_finite [hPre_weights_finite : Cert.Pre_weights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_finite [hPre_weights_finite : Cert.Pre_weights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_steps_below_inf [hPre_steps_below_inf : Cert.Pre_steps_below_inf.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_steps_below_inf.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_steps_below_inf [hPre_steps_below_inf : Cert.Pre_steps_below_inf.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_steps_below_inf.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_weights_finite [hKernelIdeal : Cert.KernelIdeal.Facts] [hPre_weights_finite : Cert.Pre_weights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_weights_finite [hReferenceIdeal : Cert.ReferenceIdeal.Facts] [hPre_weights_finite : Cert.Pre_weights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Kernel6Ideal_pre_steps_below_inf [hKernel6Ideal : Cert.Kernel6Ideal.Facts] [hPre_steps_below_inf : Cert.Pre_steps_below_inf.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_steps_below_inf m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Reference6Ideal_pre_steps_below_inf [hReference6Ideal : Cert.Reference6Ideal.Facts] [hPre_steps_below_inf : Cert.Pre_steps_below_inf.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_steps_below_inf m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def preserves_Kernel_KernelIdeal : Prop :=
  True

def algebraic_KernelIdeal_ReferenceIdeal_pre_weights_finite [hKernelIdeal : Cert.KernelIdeal.Facts] [hReferenceIdeal : Cert.ReferenceIdeal.Facts] [hPre_weights_finite : Cert.Pre_weights_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)) (v2 : (c : Dev Cert.Kernel2Ideal.nD) → Buf (Elt Ideal) ((c.tc : Thread Cert.Kernel2Ideal.nD Cert.Kernel2Ideal.τ).loc Cert.Kernel2Ideal.main_v12_2)) (v3 : (c : Dev Cert.Kernel2Ideal.nD) → Buf (Elt Ideal) ((c.tc : Thread Cert.Kernel2Ideal.nD Cert.Kernel2Ideal.τ).loc Cert.Kernel2Ideal.main_v12_3)) (v4 : (c : Dev Cert.Kernel2Ideal.nD) → Buf (Elt Ideal) ((c.tc : Thread Cert.Kernel2Ideal.nD Cert.Kernel2Ideal.τ).loc Cert.Kernel2Ideal.main_v12_4)) (v5 : (c : Dev Cert.Kernel2Ideal.nD) → Buf (Elt Ideal) ((c.tc : Thread Cert.Kernel2Ideal.nD Cert.Kernel2Ideal.τ).loc Cert.Kernel2Ideal.main_v12_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_v12_2) = v2 c
          ∧ r.2.mem ((c.tc : Thread Cert.Kernel2Ideal.nD Cert.Kernel2Ideal.τ).loc Cert.Kernel2Ideal.main_v12_3) = v3 c
          ∧ r.2.mem ((c.tc : Thread Cert.Kernel2Ideal.nD Cert.Kernel2Ideal.τ).loc Cert.Kernel2Ideal.main_v12_4) = v4 c
          ∧ r.2.mem ((c.tc : Thread Cert.Kernel2Ideal.nD Cert.Kernel2Ideal.τ).loc Cert.Kernel2Ideal.main_v12_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_v60) = v1 c
          ∧ r.2.mem ((c.tc : Thread Cert.Reference2Ideal.nD Cert.Reference2Ideal.τ).loc Cert.Reference2Ideal.main_v53) = v2 c
          ∧ r.2.mem ((c.tc : Thread Cert.Reference2Ideal.nD Cert.Reference2Ideal.τ).loc Cert.Reference2Ideal.main_v54) = v3 c
          ∧ r.2.mem ((c.tc : Thread Cert.Reference2Ideal.nD Cert.Reference2Ideal.τ).loc Cert.Reference2Ideal.main_v58) = v4 c
          ∧ r.2.mem ((c.tc : Thread Cert.Reference2Ideal.nD Cert.Reference2Ideal.τ).loc Cert.Reference2Ideal.main_v61) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v64) = v0 c
          ∧ r.2.mem ((c.tc : Thread Cert.Reference3Ideal.nD Cert.Reference3Ideal.τ).loc Cert.Reference3Ideal.main_v68) = v1 c
          ∧ r.2.mem ((c.tc : Thread Cert.Reference3Ideal.nD Cert.Reference3Ideal.τ).loc Cert.Reference3Ideal.main_v70) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v47) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v43) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_steps_below_inf [hKernel6Ideal : Cert.Kernel6Ideal.Facts] [hReference6Ideal : Cert.Reference6Ideal.Facts] [hPre_steps_below_inf : Cert.Pre_steps_below_inf.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_steps_below_inf m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v10_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v186) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v43)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v43) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v38) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v43)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v43) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v38) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_weights_finite : Cert.Pre_weights_finite.Facts) (hPre_steps_below_inf : Cert.Pre_steps_below_inf.Facts),
    quiescent_Kernel (hKernel := hKernel)
    ∧ quiescent_KernelIdeal (hKernelIdeal := hKernelIdeal)
    ∧ quiescent_KernelIdeal_pre_weights_finite (hKernelIdeal := hKernelIdeal) (hPre_weights_finite := hPre_weights_finite)
    ∧ quiescent_ReferenceIdeal (hReferenceIdeal := hReferenceIdeal)
    ∧ quiescent_ReferenceIdeal_pre_weights_finite (hReferenceIdeal := hReferenceIdeal) (hPre_weights_finite := hPre_weights_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_steps_below_inf (hKernel6Ideal := hKernel6Ideal) (hPre_steps_below_inf := hPre_steps_below_inf)
    ∧ quiescent_Reference6Ideal (hReference6Ideal := hReference6Ideal)
    ∧ quiescent_Reference6Ideal_pre_steps_below_inf (hReference6Ideal := hReference6Ideal) (hPre_steps_below_inf := hPre_steps_below_inf)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_weights_finite (hKernelIdeal := hKernelIdeal) (hReferenceIdeal := hReferenceIdeal) (hPre_weights_finite := hPre_weights_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_steps_below_inf (hKernel6Ideal := hKernel6Ideal) (hReference6Ideal := hReference6Ideal) (hPre_steps_below_inf := hPre_steps_below_inf)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_steps_below_inf.lean ====
abbrev S6144x768 : Shape := ⟨2, ![6144, 768]⟩
abbrev S6144x128 : Shape := ⟨2, ![6144, 128]⟩
abbrev S128x6144 : Shape := ⟨2, ![128, 6144]⟩
abbrev S5x512 : Shape := ⟨2, ![5, 512]⟩
abbrev S512 : Shape := ⟨1, ![512]⟩
abbrev S2x4 : Shape := ⟨2, ![2, 4]⟩
abbrev S4 : Shape := ⟨1, ![4]⟩
abbrev S256 : Shape := ⟨1, ![256]⟩
abbrev S4096x8 : Shape := ⟨2, ![4096, 8]⟩
abbrev S_ : Shape := ⟨0, ![]⟩
abbrev S32768 : Shape := ⟨1, ![32768]⟩
abbrev S8 : Shape := ⟨1, ![8]⟩
abbrev S32784 : Shape := ⟨1, ![32784]⟩

class Facts : Prop where
  slices_S6144x128_S4096x8_0_0 : S6144x128.Slices ![0, 0] S4096x8
  bcast_S_S4096x8 : S_.BroadcastsInDim S4096x8 (![] : Fin 0 → Fin S4096x8.rank)
  shapeCasts_S4096x8_S32768 : S4096x8.ShapeCasts S32768
  bcast_S_S2x4 : S_.BroadcastsInDim S2x4 (![] : Fin 0 → Fin S2x4.rank)
  shapeCasts_S2x4_S8 : S2x4.ShapeCasts S8
  concatenates_S32768_S8_S8_S32784_d0 : Shape.Concatenates [S32768, S8, S8] S32784 0

variable [Facts]

def fn {F : FTy → Type} [FloatOps F] (main_arg0 : FVec F S6144x768 .f32) (main_arg1 : FVec F S6144x128 .f32) (main_arg2 : FVec F S128x6144 .f32) (main_arg3 : FVec F S5x512 .f32) (main_arg4 : FVec F S512 .f32) (main_arg5 : FVec F S2x4 .f32) (main_arg6 : FVec F S2x4 .f32) (main_arg7 : FVec F S4 .f32) (main_arg8 : FVec F S256 .f32) : IVec S32784 1 :=
  let main_v0 : FVec F S4096x8 .f32 := (extractStridedSlice S4096x8 ![0, 0] · slices_S6144x128_S4096x8_0_0) main_arg1
  let main_cst : FVec F S_ .f32 := constant S_ .f32 0x7F800000#32
  let main_v1 : FVec F S4096x8 .f32 := broadcastInDim S4096x8 ![] bcast_S_S4096x8 main_cst
  let main_v2 : IVec S4096x8 1 := cmpf .olt main_v0 main_v1
  let main_v3 : IVec S32768 1 := shapeCast S32768 main_v2 shapeCasts_S4096x8_S32768
  let main_cst_0 : FVec F S_ .f32 := constant S_ .f32 0x7F800000#32
  let main_v4 : FVec F S2x4 .f32 := broadcastInDim S2x4 ![] bcast_S_S2x4 main_cst_0
  let main_v5 : IVec S2x4 1 := cmpf .olt main_arg5 main_v4
  let main_v6 : IVec S8 1 := shapeCast S8 main_v5 shapeCasts_S2x4_S8
  let main_cst_1 : FVec F S_ .f32 := constant S_ .f32 0x7F800000#32
  let main_v7 : FVec F S2x4 .f32 := broadcastInDim S2x4 ![] bcast_S_S2x4 main_cst_1
  let main_v8 : IVec S2x4 1 := cmpf .olt main_arg6 main_v7
  let main_v9 : IVec S8 1 := shapeCast S8 main_v8 shapeCasts_S2x4_S8
  let main_v10 : IVec S32784 1 := concatenate S32784 0 [⟨S32768, main_v3⟩, ⟨S8, main_v6⟩, ⟨S8, main_v9⟩] concatenates_S32768_S8_S8_S32784_d0
  main_v10
-- ==== Pre_weights_finite.lean ====
abbrev S6144x512 : Shape := ⟨2, ![6144, 512]⟩
abbrev S64 : Shape := ⟨1, ![64]⟩
abbrev S4 : Shape := ⟨1, ![4]⟩
abbrev S_ : Shape := ⟨0, ![]⟩
abbrev S132 : Shape := ⟨1, ![132]⟩

class Facts : Prop where
  bcast_S_S64 : S_.BroadcastsInDim S64 (![] : Fin 0 → Fin S64.rank)
  bcast_S_S4 : S_.BroadcastsInDim S4 (![] : Fin 0 → Fin S4.rank)
  concatenates_S64_S64_S4_S132_d0 : Shape.Concatenates [S64, S64, S4] S132 0

variable [Facts]

def fn {F : FTy → Type} [FloatOps F] (main_arg0 : FVec F S6144x512 .f32) (main_arg1 : FVec F S64 .f32) (main_arg2 : FVec F S64 .f32) (main_arg3 : FVec F S4 .f32) : IVec S132 1 :=
  let main_v0 : FVec F S64 .f32 := Host.absf main_arg1
  let main_cst : FVec F S_ .f32 := constant S_ .f32 0x7F800000#32
  let main_v1 : FVec F S64 .f32 := broadcastInDim S64 ![] bcast_S_S64 main_cst
  let main_v2 : IVec S64 1 := cmpf .olt main_v0 main_v1
  let main_v3 : FVec F S64 .f32 := Host.absf main_arg2
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_cst_1 : FVec F S_ .f32 := constant S_ .f32 0x7F800000#32
  let main_v6 : FVec F S4 .f32 := broadcastInDim S4 ![] bcast_S_S4 main_cst_1
  let main_v7 : IVec S4 1 := cmpf .olt main_arg3 main_v6
  let main_v8 : IVec S132 1 := concatenate S132 0 [⟨S64, main_v2⟩, ⟨S64, main_v5⟩, ⟨S4, main_v7⟩] concatenates_S64_S64_S4_S132_d0
  main_v8
-- ==== Kernel.lean ====
abbrev S6144x512 : Shape := ⟨2, ![6144, 512]⟩
abbrev S64 : Shape := ⟨1, ![64]⟩
abbrev S4 : Shape := ⟨1, ![4]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S2x64 : Shape := ⟨2, ![2, 64]⟩
abbrev S128 : Shape := ⟨1, ![128]⟩
abbrev S1x128 : Shape := ⟨2, ![1, 128]⟩
abbrev S1x4 : Shape := ⟨2, ![1, 4]⟩
abbrev S4096x256 : Shape := ⟨2, ![4096, 256]⟩
abbrev S4096x128 : Shape := ⟨2, ![4096, 128]⟩
abbrev S256x512 : Shape := ⟨2, ![256, 512]⟩
abbrev S256x256 : Shape := ⟨2, ![256, 256]⟩
abbrev S256x128 : Shape := ⟨2, ![256, 128]⟩
abbrev S128x128 : Shape := ⟨2, ![128, 128]⟩
abbrev S256x64 : Shape := ⟨2, ![256, 64]⟩
abbrev S1x1 : Shape := ⟨2, ![1, 1]⟩
abbrev S256x1 : Shape := ⟨2, ![256, 1]⟩

abbrev nBuf : Space → Nat
  | .hbm => 16
  | .vmem => 11
  | .smem => 0
  | _ => 0

abbrev bufTy : (tb : Table) → Fin (tcTables nBuf tb) → BufTy
  | .hbm, ⟨0, _⟩ => ⟨S6144x512, .f32⟩
  | .hbm, ⟨1, _⟩ => ⟨S64, .f32⟩
  | .hbm, ⟨2, _⟩ => ⟨S64, .f32⟩
  | .hbm, ⟨3, _⟩ => ⟨S4, .f32⟩
  | .hbm, ⟨4, _⟩ => ⟨S1x64, .f32⟩
  | .hbm, ⟨5, _⟩ => ⟨S4x64, .f32⟩
  | .hbm, ⟨6, _⟩ => ⟨S256, .f32⟩
  | .hbm, ⟨7, _⟩ => ⟨S1x256, .f32⟩
  | .hbm, ⟨8, _⟩ => ⟨S1x64, .f32⟩
  | .hbm, ⟨9, _⟩ => ⟨S2x64, .f32⟩
  | .hbm, ⟨10, _⟩ => ⟨S128, .f32⟩
  | .hbm, ⟨11, _⟩ => ⟨S1x128, .f32⟩
  | .hbm, ⟨12, _⟩ => ⟨S1x4, .f32⟩
  | .hbm, ⟨13, _⟩ => ⟨S4096x256, .bf16⟩
  | .hbm, ⟨14, _⟩ => ⟨S4096x128, .f32⟩
  | .hbm, ⟨15, _⟩ => ⟨S4096x128, .f32⟩
  | .local _ .vmem, ⟨0, _⟩ => ⟨S256x512, .f32⟩
  | .local _ .vmem, ⟨1, _⟩ => ⟨S256x512, .f32⟩
  | .local _ .vmem, ⟨2, _⟩ => ⟨S1x256, .f32⟩
  | .local _ .vmem, ⟨3, _⟩ => ⟨S1x128, .f32⟩
  | .local _ .vmem, ⟨4, _⟩ => ⟨S1x4, .f32⟩
  | .local _ .vmem, ⟨5, _⟩ => ⟨S256x256, .bf16⟩
  | .local _ .vmem, ⟨6, _⟩ => ⟨S256x256, .bf16⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | _, _ => ⟨S6144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S6144x512 : Shape := ⟨2, ![6144, 512]⟩
abbrev S64 : Shape := ⟨1, ![64]⟩
abbrev S4 : Shape := ⟨1, ![4]⟩
abbrev S4096x512 : Shape := ⟨2, ![4096, 512]⟩
abbrev S16x256x512 : Shape := ⟨3, ![16, 256, 512]⟩
abbrev S16x256x256 : Shape := ⟨3, ![16, 256, 256]⟩
abbrev S16x256x128 : Shape := ⟨3, ![16, 256, 128]⟩
abbrev S16x256x4x64 : Shape := ⟨4, ![16, 256, 4, 64]⟩
abbrev S_ : Shape := ⟨0, ![]⟩
abbrev S16x256x4 : Shape := ⟨3, ![16, 256, 4]⟩
abbrev S16x256x4x1 : Shape := ⟨4, ![16, 256, 4, 1]⟩
abbrev S1x1x1x64 : Shape := ⟨4, ![1, 1, 1, 64]⟩
abbrev S16x256x2x64 : Shape := ⟨4, ![16, 256, 2, 64]⟩
abbrev S16x256x2 : Shape := ⟨3, ![16, 256, 2]⟩
abbrev S16x256x2x1 : Shape := ⟨4, ![16, 256, 2, 1]⟩
abbrev S16x256x2x2x64 : Shape := ⟨5, ![16, 256, 2, 2, 64]⟩
abbrev S16x2x256x256x2 : Shape := ⟨5, ![16, 2, 256, 256, 2]⟩
abbrev S16x2x2x256x256 : Shape := ⟨5, ![16, 2, 2, 256, 256]⟩
abbrev S2x2 : Shape := ⟨2, ![2, 2]⟩
abbrev S1x2x2x1x1 : Shape := ⟨5, ![1, 2, 2, 1, 1]⟩
abbrev S16x2x2x256x1 : Shape := ⟨5, ![16, 2, 2, 256, 1]⟩
abbrev S16x2x2x256x257 : Shape := ⟨5, ![16, 2, 2, 256, 257]⟩
abbrev S16x2x2x256 : Shape := ⟨4, ![16, 2, 2, 256]⟩
abbrev S16x2x64x2x256 : Shape := ⟨5, ![16, 2, 64, 2, 256]⟩
abbrev S4096x256 : Shape := ⟨2, ![4096, 256]⟩
abbrev S4096x128 : Shape := ⟨2, ![4096, 128]⟩

abbrev nBuf : Space → Nat
  | .hbm => 75
  | .vmem => 0
  | .smem => 0
  | _ => 0

abbrev bufTy : (tb : Table) → Fin (tcTables nBuf tb) → BufTy
  | .hbm, ⟨0, _⟩ => ⟨S6144x512, .f32⟩
  | .hbm, ⟨1, _⟩ => ⟨S64, .f32⟩
  | .hbm, ⟨2, _⟩ => ⟨S64, .f32⟩
  | .hbm, ⟨3, _⟩ => ⟨S4, .f32⟩
  | .hbm, ⟨4, _⟩ => ⟨S4096x512, .f32⟩
  | .hbm, ⟨5, _⟩ => ⟨S16x256x512, .f32⟩
  | .hbm, ⟨6, _⟩ => ⟨S16x256x256, .f32⟩
  | .hbm, ⟨7, _⟩ => ⟨S16x256x128, .f32⟩
  | .hbm, ⟨8, _⟩ => ⟨S16x256x128, .f32⟩
  | .hbm, ⟨9, _⟩ => ⟨S16x256x4x64, .f32⟩
  | .hbm, ⟨10, _⟩ => ⟨S16x256x4x64, .f32⟩
  | .hbm, ⟨11, _⟩ => ⟨S_, .f32⟩
  | .hbm, ⟨12, _⟩ => ⟨S16x256x4, .f32⟩
  | .hbm, ⟨13, _⟩ => ⟨S16x256x4x1, .f32⟩
  | .hbm, ⟨14, _⟩ => ⟨S_, .f32⟩
  | .hbm, ⟨15, _⟩ => ⟨S16x256x4x1, .f32⟩
  | .hbm, ⟨16, _⟩ => ⟨S16x256x4x1, .f32⟩
  | .hbm, ⟨17, _⟩ => ⟨S_, .f32⟩
  | .hbm, ⟨18, _⟩ => ⟨S16x256x4x1, .f32⟩
  | .hbm, ⟨19, _⟩ => ⟨S16x256x4x1, .f32⟩
  | .hbm, ⟨20, _⟩ => ⟨S16x256x4x1, .f32⟩
  | .hbm, ⟨21, _⟩ => ⟨S16x256x4x64, .f32⟩
  | .hbm, ⟨22, _⟩ => ⟨S16x256x4x64, .f32⟩
  | .hbm, ⟨23, _⟩ => ⟨S1x1x1x64, .f32⟩
  | .hbm, ⟨24, _⟩ => ⟨S16x256x4x64, .f32⟩
  | .hbm, ⟨25, _⟩ => ⟨S16x256x4x64, .f32⟩
  | .hbm, ⟨26, _⟩ => ⟨S16x256x2x64, .f32⟩
  | .hbm, ⟨27, _⟩ => ⟨S16x256x2x64, .f32⟩
  | .hbm, ⟨28, _⟩ => ⟨S_, .f32⟩
  | .hbm, ⟨29, _⟩ => ⟨S16x256x2, .f32⟩
  | .hbm, ⟨30, _⟩ => ⟨S16x256x2x1, .f32⟩
  | .hbm, ⟨31, _⟩ => ⟨S_, .f32⟩
  | .hbm, ⟨32, _⟩ => ⟨S16x256x2x1, .f32⟩
  | .hbm, ⟨33, _⟩ => ⟨S16x256x2x1, .f32⟩
  | .hbm, ⟨34, _⟩ => ⟨S_, .f32⟩
  | .hbm, ⟨35, _⟩ => ⟨S16x256x2x1, .f32⟩
  | .hbm, ⟨36, _⟩ => ⟨S16x256x2x1, .f32⟩
  | .hbm, ⟨37, _⟩ => ⟨S16x256x2x1, .f32⟩
  | .hbm, ⟨38, _⟩ => ⟨S16x256x2x64, .f32⟩
  | .hbm, ⟨39, _⟩ => ⟨S16x256x2x64, .f32⟩
  | .hbm, ⟨40, _⟩ => ⟨S1x1x1x64, .f32⟩
  | .hbm, ⟨41, _⟩ => ⟨S16x256x2x64, .f32⟩
  | .hbm, ⟨42, _⟩ => ⟨S16x256x2x64, .f32⟩
  | .hbm, ⟨43, _⟩ => ⟨S16x256x2x64, .f32⟩
  | .hbm, ⟨44, _⟩ => ⟨S16x256x2x2x64, .f32⟩
  | .hbm, ⟨45, _⟩ => ⟨S16x2x256x256x2, .f32⟩
  | .hbm, ⟨46, _⟩ => ⟨S16x2x2x256x256, .f32⟩
  | .hbm, ⟨47, _⟩ => ⟨S_, .f32⟩
  | .hbm, ⟨48, _⟩ => ⟨S16x2x2x256x256, .f32⟩
  | .hbm, ⟨49, _⟩ => ⟨S16x2x2x256x256, .f32⟩
  | .hbm, ⟨50, _⟩ => ⟨S2x2, .f32⟩
  | .hbm, ⟨51, _⟩ => ⟨S1x2x2x1x1, .f32⟩
  | .hbm, ⟨52, _⟩ => ⟨S16x2x2x256x1, .f32⟩
  | .hbm, ⟨53, _⟩ => ⟨S16x2x2x256x257, .f32⟩
  | .hbm, ⟨54, _⟩ => ⟨S_, .f32⟩
  | .hbm, ⟨55, _⟩ => ⟨S16x2x2x256, .f32⟩
  | .hbm, ⟨56, _⟩ => ⟨S_, .f32⟩
  | .hbm, ⟨57, _⟩ => ⟨S16x2x2x256, .f32⟩
  | .hbm, ⟨58, _⟩ => ⟨S16x2x2x256, .f32⟩
  | .hbm, ⟨59, _⟩ => ⟨S16x2x2x256x1, .f32⟩
  | .hbm, ⟨60, _⟩ => ⟨S16x2x2x256x257, .f32⟩
  | .hbm, ⟨61, _⟩ => ⟨S16x2x2x256x257, .f32⟩
  | .hbm, ⟨62, _⟩ => ⟨S16x2x2x256x257, .f32⟩
  | .hbm, ⟨63, _⟩ => ⟨S_, .f32⟩
  | .hbm, ⟨64, _⟩ => ⟨S16x2x2x256, .f32⟩
  | .hbm, ⟨65, _⟩ => ⟨S16x2x2x256x1, .f32⟩
  | .hbm, ⟨66, _⟩ => ⟨S16x2x2x256x257, .f32⟩
  | .hbm, ⟨67, _⟩ => ⟨S16x2x2x256x257, .f32⟩
  | .hbm, ⟨68, _⟩ => ⟨S16x2x2x256x256, .f32⟩
  | .hbm, ⟨69, _⟩ => ⟨S16x2x64x2x256, .f32⟩
  | .hbm, ⟨70, _⟩ => ⟨S16x256x2x2x64, .f32⟩
  | .hbm, ⟨71, _⟩ => ⟨S4096x256, .f32⟩
  | .hbm, ⟨72, _⟩ => ⟨S4096x256, .bf16⟩
  | .hbm, ⟨73, _⟩ => ⟨S4096x128, .f32⟩
  | .hbm, ⟨74, _⟩ => ⟨S4096x128, .f32⟩
  | _, _ => ⟨S6144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_cst_7 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_8 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩

abbrev nD : Nat := 1
abbrev τ : Topo := Topo.v7x

variable {F : FTy → Type} [FloatOps F]
-- ==== Kernel2.lean ====
abbrev S6144x1024 : Shape := ⟨2, ![6144, 1024]⟩
abbrev S1024 : Shape := ⟨1, ![1024]⟩
abbrev S8x1x1024 : Shape := ⟨3, ![8, 1, 1024]⟩
abbrev S1024x2584 : Shape := ⟨2, ![1024, 2584]⟩
abbrev S1024x768 : Shape := ⟨2, ![1024, 768]⟩
abbrev S1024x1024 : Shape := ⟨2, ![1024, 1024]⟩
abbrev S1024x256 : Shape := ⟨2, ![1024, 256]⟩
abbrev S1024x512 : Shape := ⟨2, ![1024, 512]⟩
abbrev S1024x2560 : Shape := ⟨2, ![1024, 2560]⟩
abbrev S1024x8 : Shape := ⟨2, ![1024, 8]⟩
abbrev S1024x16 : Shape := ⟨2, ![1024, 16]⟩
abbrev S_ : Shape := ⟨0, ![]⟩
abbrev S1024x104 : Shape := ⟨2, ![1024, 104]⟩
abbrev S1024x128 : Shape := ⟨2, ![1024, 128]⟩
abbrev S128x1024 : Shape := ⟨2, ![128, 1024]⟩
abbrev S1x1024 : Shape := ⟨2, ![1, 1024]⟩
abbrev S6144x768 : Shape := ⟨2, ![6144, 768]⟩
abbrev S6144x256 : Shape := ⟨2, ![6144, 256]⟩
abbrev S6144x512 : Shape := ⟨2, ![6144, 512]⟩
abbrev S6144x128 : Shape := ⟨2, ![6144, 128]⟩
abbrev S128x6144 : Shape := ⟨2, ![128, 6144]⟩
abbrev S512x1024 : Shape := ⟨2, ![512, 1024]⟩
abbrev S1x1x1024 : Shape := ⟨3, ![1, 1, 1024]⟩
abbrev S512x768 : Shape := ⟨2, ![512, 768]⟩
abbrev S512x256 : Shape := ⟨2, ![512, 256]⟩
abbrev S512x512 : Shape := ⟨2, ![512, 512]⟩
abbrev S512x128 : Shape := ⟨2, ![512, 128]⟩
abbrev S128x512 : Shape := ⟨2, ![128, 512]⟩
abbrev S512 : Shape := ⟨1, ![512]⟩
abbrev S512x1 : Shape := ⟨2, ![512, 1]⟩
abbrev S512x2560 : Shape := ⟨2, ![512, 2560]⟩

abbrev nBuf : Space → Nat
  | .hbm => 24
  | .vmem => 22
  | .smem => 0
  | _ => 0

abbrev bufTy : (tb : Table) → Fin (tcTables nBuf tb) → BufTy
  | .hbm, ⟨0, _⟩ => ⟨S6144x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x2584, .f32⟩
  | .hbm, ⟨5, _⟩ => ⟨S1024x768, .f32⟩
  | .hbm, ⟨6, _⟩ => ⟨S1024x1024, .f32⟩
  | .hbm, ⟨7, _⟩ => ⟨S1024x256, .f32⟩
  | .hbm, ⟨8, _⟩ => ⟨S1024x512, .f32⟩
  | .hbm, ⟨9, _⟩ => ⟨S1024x2560, .f32⟩
  | .hbm, ⟨10, _⟩ => ⟨S1024x8, .f32⟩
  | .hbm, ⟨11, _⟩ => ⟨S1024x16, .f32⟩
  | .hbm, ⟨12, _⟩ => ⟨S_, .f32⟩
  | .hbm, ⟨13, _⟩ => ⟨S1024x104, .f32⟩
  | .hbm, ⟨14, _⟩ => ⟨S1024x128, .f32⟩
  | .hbm, ⟨15, _⟩ => ⟨S1024x2560, .bf16⟩
  | .hbm, ⟨16, _⟩ => ⟨S128x1024, .f32⟩
  | .hbm, ⟨17, _⟩ => ⟨S1x1024, .f32⟩
  | .hbm, ⟨18, _⟩ => ⟨S6144x768, .f32⟩
  | .hbm, ⟨19, _⟩ => ⟨S6144x1024, .f32⟩
  | .hbm, ⟨20, _⟩ => ⟨S6144x256, .f32⟩
  | .hbm, ⟨21, _⟩ => ⟨S6144x512, .f32⟩
  | .hbm, ⟨22, _⟩ => ⟨S6144x128, .f32⟩
  | .hbm, ⟨23, _⟩ => ⟨S128x6144, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2560, .bf16⟩
  | .local _ .vmem, ⟨8, _⟩ => ⟨S1024x128, .f32⟩
  | .local _ .vmem, ⟨9, _⟩ => ⟨S128x1024, .f32⟩
  | .local _ .vmem, ⟨10, _⟩ => ⟨S512x768, .f32⟩
  | .local _ .vmem, ⟨11, _⟩ => ⟨S512x768, .f32⟩
  | .local _ .vmem, ⟨12, _⟩ => ⟨S512x1024, .f32⟩
  | .local _ .vmem, ⟨13, _⟩ => ⟨S512x1024, .f32⟩
  | .local _ .vmem, ⟨14, _⟩ => ⟨S512x256, .f32⟩
  | .local _ .vmem, ⟨15, _⟩ => ⟨S512x256, .f32⟩
  | .local _ .vmem, ⟨16, _⟩ => ⟨S512x512, .f32⟩
  | .local _ .vmem, ⟨17, _⟩ => ⟨S512x512, .f32⟩
  | .local _ .vmem, ⟨18, _⟩ => ⟨S512x128, .f32⟩
  | .local _ .vmem, ⟨19, _⟩ => ⟨S512x128, .f32⟩
  | .local _ .vmem, ⟨20, _⟩ => ⟨S128x512, .f32⟩
  | .local _ .vmem, ⟨21, _⟩ => ⟨S128x512, .f32⟩
  | _, _ => ⟨S6144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev main_v12_4 : Ref sig .tc := ⟨.hbm, 22, rfl⟩
abbrev main_v12_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S6144x1024 : Shape := ⟨2, ![6144, 1024]⟩
abbrev S1024 : Shape := ⟨1, ![1024]⟩
abbrev S8x1x1024 : Shape := ⟨3, ![8, 1, 1024]⟩
abbrev S1024x2584 : Shape := ⟨2, ![1024, 2584]⟩
abbrev S4096x1024 : Shape := ⟨2, ![4096, 1024]⟩
abbrev S16x256x1024 : Shape := ⟨3, ![16, 256, 1024]⟩
abbrev S2048x1024 : Shape := ⟨2, ![2048, 1024]⟩
abbrev S2x1024x1024 : Shape := ⟨3, ![2, 1024, 1024]⟩
abbrev S1x1x1024 : Shape := ⟨3, ![1, 1, 1024]⟩
abbrev S_ : Shape := ⟨0, ![]⟩
abbrev S16x256 : Shape := ⟨2, ![16, 256]⟩
abbrev S16x256x1 : Shape := ⟨3, ![16, 256, 1]⟩
abbrev S16x256x2584 : Shape := ⟨3, ![16, 256, 2584]⟩
abbrev S2x1x1024 : Shape := ⟨3, ![2, 1, 1024]⟩
abbrev S2x1024 : Shape := ⟨2, ![2, 1024]⟩
abbrev S2x1024x1 : Shape := ⟨3, ![2, 1024, 1]⟩
abbrev S2x1024x2584 : Shape := ⟨3, ![2, 1024, 2584]⟩
abbrev S4096x2584 : Shape := ⟨2, ![4096, 2584]⟩
abbrev S2048x2584 : Shape := ⟨2, ![2048, 2584]⟩
abbrev S6144x2584 : Shape := ⟨2, ![6144, 2584]⟩
abbrev S6144x776 : Shape := ⟨2, ![6144, 776]⟩
abbrev S6144x1040 : Shape := ⟨2, ![6144, 1040]⟩
abbrev S6144x256 : Shape := ⟨2, ![6144, 256]⟩
abbrev S6144x512 : Shape := ⟨2, ![6144, 512]⟩
abbrev S6144x8 : Shape := ⟨2, ![6144, 8]⟩
abbrev S6144x16 : Shape := ⟨2, ![6144, 16]⟩
abbrev S6144x104 : Shape := ⟨2, ![6144, 104]⟩
abbrev S6144x128 : Shape := ⟨2, ![6144, 128]⟩
abbrev S6144x768 : Shape := ⟨2, ![6144, 768]⟩
abbrev S128x6144 : Shape := ⟨2, ![128, 6144]⟩

abbrev nBuf : Space → Nat
  | .hbm => 76
  | .vmem => 0
  | .smem => 0
  | _ => 0

abbrev bufTy : (tb : Table) → Fin (tcTables nBuf tb) → BufTy
  | .hbm, ⟨0, _⟩ => ⟨S6144x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x2584, .f32⟩
  | .hbm, ⟨5, _⟩ => ⟨S4096x1024, .f32⟩
  | .hbm, ⟨6, _⟩ => ⟨S16x256x1024, .f32⟩
  | .hbm, ⟨7, _⟩ => ⟨S2048x1024, .f32⟩
  | .hbm, ⟨8, _⟩ => ⟨S2x1024x1024, .f32⟩
  | .hbm, ⟨9, _⟩ => ⟨S1x1x1024, .f32⟩
  | .hbm, ⟨10, _⟩ => ⟨S1x1x1024, .f32⟩
  | .hbm, ⟨11, _⟩ => ⟨S16x256x1024, .f32⟩
  | .hbm, ⟨12, _⟩ => ⟨S_, .f32⟩
  | .hbm, ⟨13, _⟩ => ⟨S16x256, .f32⟩
  | .hbm, ⟨14, _⟩ => ⟨S16x256x1, .f32⟩
  | .hbm, ⟨15, _⟩ => ⟨S_, .f32⟩
  | .hbm, ⟨16, _⟩ => ⟨S16x256x1, .f32⟩
  | .hbm, ⟨17, _⟩ => ⟨S16x256x1, .f32⟩
  | .hbm, ⟨18, _⟩ => ⟨S_, .f32⟩
  | .hbm, ⟨19, _⟩ => ⟨S16x256x1, .f32⟩
  | .hbm, ⟨20, _⟩ => ⟨S16x256x1, .f32⟩
  | .hbm, ⟨21, _⟩ => ⟨S16x256x1, .f32⟩
  | .hbm, ⟨22, _⟩ => ⟨S16x256x1024, .f32⟩
  | .hbm, ⟨23, _⟩ => ⟨S16x256x1024, .f32⟩
  | .hbm, ⟨24, _⟩ => ⟨S1x1x1024, .f32⟩
  | .hbm, ⟨25, _⟩ => ⟨S16x256x1024, .f32⟩
  | .hbm, ⟨26, _⟩ => ⟨S16x256x1024, .f32⟩
  | .hbm, ⟨27, _⟩ => ⟨S_, .f32⟩
  | .hbm, ⟨28, _⟩ => ⟨S1x1x1024, .f32⟩
  | .hbm, ⟨29, _⟩ => ⟨S1x1x1024, .f32⟩
  | .hbm, ⟨30, _⟩ => ⟨S16x256x1024, .f32⟩
  | .hbm, ⟨31, _⟩ => ⟨S16x256x1024, .f32⟩
  | .hbm, ⟨32, _⟩ => ⟨S16x256x1024, .f32⟩
  | .hbm, ⟨33, _⟩ => ⟨S16x256x1024, .f32⟩
  | .hbm, ⟨34, _⟩ => ⟨S16x256x2584, .f32⟩
  | .hbm, ⟨35, _⟩ => ⟨S2x1x1024, .f32⟩
  | .hbm, ⟨36, _⟩ => ⟨S2x1x1024, .f32⟩
  | .hbm, ⟨37, _⟩ => ⟨S2x1024x1024, .f32⟩
  | .hbm, ⟨38, _⟩ => ⟨S_, .f32⟩
  | .hbm, ⟨39, _⟩ => ⟨S2x1024, .f32⟩
  | .hbm, ⟨40, _⟩ => ⟨S2x1024x1, .f32⟩
  | .hbm, ⟨41, _⟩ => ⟨S_, .f32⟩
  | .hbm, ⟨42, _⟩ => ⟨S2x1024x1, .f32⟩
  | .hbm, ⟨43, _⟩ => ⟨S2x1024x1, .f32⟩
  | .hbm, ⟨44, _⟩ => ⟨S_, .f32⟩
  | .hbm, ⟨45, _⟩ => ⟨S2x1024x1, .f32⟩
  | .hbm, ⟨46, _⟩ => ⟨S2x1024x1, .f32⟩
  | .hbm, ⟨47, _⟩ => ⟨S2x1024x1, .f32⟩
  | .hbm, ⟨48, _⟩ => ⟨S2x1024x1024, .f32⟩
  | .hbm, ⟨49, _⟩ => ⟨S2x1024x1024, .f32⟩
  | .hbm, ⟨50, _⟩ => ⟨S1x1x1024, .f32⟩
  | .hbm, ⟨51, _⟩ => ⟨S2x1024x1024, .f32⟩
  | .hbm, ⟨52, _⟩ => ⟨S2x1024x1024, .f32⟩
  | .hbm, ⟨53, _⟩ => ⟨S_, .f32⟩
  | .hbm, ⟨54, _⟩ => ⟨S2x1x1024, .f32⟩
  | .hbm, ⟨55, _⟩ => ⟨S2x1x1024, .f32⟩
  | .hbm, ⟨56, _⟩ => ⟨S2x1024x1024, .f32⟩
  | .hbm, ⟨57, _⟩ => ⟨S2x1024x1024, .f32⟩
  | .hbm, ⟨58, _⟩ => ⟨S2x1024x1024, .f32⟩
  | .hbm, ⟨59, _⟩ => ⟨S2x1024x1024, .f32⟩
  | .hbm, ⟨60, _⟩ => ⟨S2x1024x2584, .f32⟩
  | .hbm, ⟨61, _⟩ => ⟨S4096x2584, .f32⟩
  | .hbm, ⟨62, _⟩ => ⟨S2048x2584, .f32⟩
  | .hbm, ⟨63, _⟩ => ⟨S6144x2584, .f32⟩
  | .hbm, ⟨64, _⟩ => ⟨S6144x776, .f32⟩
  | .hbm, ⟨65, _⟩ => ⟨S6144x1040, .f32⟩
  | .hbm, ⟨66, _⟩ => ⟨S6144x256, .f32⟩
  | .hbm, ⟨67, _⟩ => ⟨S6144x512, .f32⟩
  | .hbm, ⟨68, _⟩ => ⟨S6144x8, .f32⟩
  | .hbm, ⟨69, _⟩ => ⟨S6144x16, .f32⟩
  | .hbm, ⟨70, _⟩ => ⟨S_, .f32⟩
  | .hbm, ⟨71, _⟩ => ⟨S6144x104, .f32⟩
  | .hbm, ⟨72, _⟩ => ⟨S6144x128, .f32⟩
  | .hbm, ⟨73, _⟩ => ⟨S6144x768, .f32⟩
  | .hbm, ⟨74, _⟩ => ⟨S6144x1024, .f32⟩
  | .hbm, ⟨75, _⟩ => ⟨S128x6144, .f32⟩
  | _, _ => ⟨S6144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩

abbrev nD : Nat := 1
abbrev τ : Topo := Topo.v7x

variable {F : FTy → Type} [FloatOps F]
-- ==== Kernel3.lean ====
abbrev S6144x256 : Shape := ⟨2, ![6144, 256]⟩
abbrev S6144x1024 : Shape := ⟨2, ![6144, 1024]⟩
abbrev S1024x1024 : Shape := ⟨2, ![1024, 1024]⟩
abbrev S8x1x1024 : Shape := ⟨3, ![8, 1, 1024]⟩
abbrev S1024 : Shape := ⟨1, ![1024]⟩
abbrev S1x1024 : Shape := ⟨2, ![1, 1024]⟩
abbrev S1024x6144 : Shape := ⟨2, ![1024, 6144]⟩
abbrev S512x256 : Shape := ⟨2, ![512, 256]⟩
abbrev S512x1024 : Shape := ⟨2, ![512, 1024]⟩
abbrev S1x1x1024 : Shape := ⟨3, ![1, 1, 1024]⟩
abbrev S1024x512 : Shape := ⟨2, ![1024, 512]⟩
abbrev S256x1024 : Shape := ⟨2, ![256, 1024]⟩
abbrev S512 : Shape := ⟨1, ![512]⟩
abbrev S512x1 : Shape := ⟨2, ![512, 1]⟩

abbrev nBuf : Space → Nat
  | .hbm => 15
  | .vmem => 24
  | .smem => 0
  | _ => 0

abbrev bufTy : (tb : Table) → Fin (tcTables nBuf tb) → BufTy
  | .hbm, ⟨0, _⟩ => ⟨S6144x256, .bf16⟩
  | .hbm, ⟨1, _⟩ => ⟨S6144x256, .bf16⟩
  | .hbm, ⟨2, _⟩ => ⟨S6144x256, .bf16⟩
  | .hbm, ⟨3, _⟩ => ⟨S6144x256, .bf16⟩
  | .hbm, ⟨4, _⟩ => ⟨S6144x1024, .f32⟩
  | .hbm, ⟨5, _⟩ => ⟨S1024x1024, .f32⟩
  | .hbm, ⟨6, _⟩ => ⟨S8x1x1024, .f32⟩
  | .hbm, ⟨7, _⟩ => ⟨S1024, .f32⟩
  | .hbm, ⟨8, _⟩ => ⟨S8x1x1024, .f32⟩
  | .hbm, ⟨9, _⟩ => ⟨S8x1x1024, .f32⟩
  | .hbm, ⟨10, _⟩ => ⟨S1024x1024, .bf16⟩
  | .hbm, ⟨11, _⟩ => ⟨S1x1024, .f32⟩
  | .hbm, ⟨12, _⟩ => ⟨S6144x1024, .f32⟩
  | .hbm, ⟨13, _⟩ => ⟨S6144x1024, .bf16⟩
  | .hbm, ⟨14, _⟩ => ⟨S1024x6144, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S1024x512, .bf16⟩
  | .local _ .vmem, ⟨23, _⟩ => ⟨S1024x512, .bf16⟩
  | _, _ => ⟨S6144x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_9 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S6144x256 : Shape := ⟨2, ![6144, 256]⟩
abbrev S6144x1024 : Shape := ⟨2, ![6144, 1024]⟩
abbrev S1024x1024 : Shape := ⟨2, ![1024, 1024]⟩
abbrev S8x1x1024 : Shape := ⟨3, ![8, 1, 1024]⟩
abbrev S1024 : Shape := ⟨1, ![1024]⟩
abbrev S4096x1024 : Shape := ⟨2, ![4096, 1024]⟩
abbrev S16x256x1024 : Shape := ⟨3, ![16, 256, 1024]⟩
abbrev S1x1x1024 : Shape := ⟨3, ![1, 1, 1024]⟩
abbrev S_ : Shape := ⟨0, ![]⟩
abbrev S16x256 : Shape := ⟨2, ![16, 256]⟩
abbrev S16x256x1 : Shape := ⟨3, ![16, 256, 1]⟩
abbrev S2048x1024 : Shape := ⟨2, ![2048, 1024]⟩
abbrev S2x1024x1024 : Shape := ⟨3, ![2, 1024, 1024]⟩
abbrev S2x1x1024 : Shape := ⟨3, ![2, 1, 1024]⟩
abbrev S2x1024 : Shape := ⟨2, ![2, 1024]⟩
abbrev S2x1024x1 : Shape := ⟨3, ![2, 1024, 1]⟩
abbrev S1024x6144 : Shape := ⟨2, ![1024, 6144]⟩

abbrev nBuf : Space → Nat
  | .hbm => 89
  | .vmem => 0
  | .smem => 0
  | _ => 0

abbrev bufTy : (tb : Table) → Fin (tcTables nBuf tb) → BufTy
  | .hbm, ⟨0, _⟩ => ⟨S6144x256, .bf16⟩
  | .hbm, ⟨1, _⟩ => ⟨S6144x256, .bf16⟩
  | .hbm, ⟨2, _⟩ => ⟨S6144x256, .bf16⟩
  | .hbm, ⟨3, _⟩ => ⟨S6144x256, .bf16⟩
  | .hbm, ⟨4, _⟩ => ⟨S6144x1024, .f32⟩
  | .hbm, ⟨5, _⟩ => ⟨S1024x1024, .f32⟩
  | .hbm, ⟨6, _⟩ => ⟨S8x1x1024, .f32⟩
  | .hbm, ⟨7, _⟩ => ⟨S1024, .f32⟩
  | .hbm, ⟨8, _⟩ => ⟨S8x1x1024, .f32⟩
  | .hbm, ⟨9, _⟩ => ⟨S8x1x1024, .f32⟩
  | .hbm, ⟨10, _⟩ => ⟨S6144x1024, .bf16⟩
  | .hbm, ⟨11, _⟩ => ⟨S6144x1024, .f32⟩
  | .hbm, ⟨12, _⟩ => ⟨S4096x1024, .f32⟩
  | .hbm, ⟨13, _⟩ => ⟨S16x256x1024, .f32⟩
  | .hbm, ⟨14, _⟩ => ⟨S4096x1024, .f32⟩
  | .hbm, ⟨15, _⟩ => ⟨S16x256x1024, .f32⟩
  | .hbm, ⟨16, _⟩ => ⟨S1x1x1024, .f32⟩
  | .hbm, ⟨17, _⟩ => ⟨S1x1x1024, .f32⟩
  | .hbm, ⟨18, _⟩ => ⟨S1x1x1024, .f32⟩
  | .hbm, ⟨19, _⟩ => ⟨S16x256x1024, .f32⟩
  | .hbm, ⟨20, _⟩ => ⟨S16x256x1024, .f32⟩
  | .hbm, ⟨21, _⟩ => ⟨S16x256x1024, .f32⟩
  | .hbm, ⟨22, _⟩ => ⟨S16x256x1024, .f32⟩
  | .hbm, ⟨23, _⟩ => ⟨S16x256x1024, .f32⟩
  | .hbm, ⟨24, _⟩ => ⟨S_, .f32⟩
  | .hbm, ⟨25, _⟩ => ⟨S16x256, .f32⟩
  | .hbm, ⟨26, _⟩ => ⟨S16x256x1, .f32⟩
  | .hbm, ⟨27, _⟩ => ⟨S_, .f32⟩
  | .hbm, ⟨28, _⟩ => ⟨S16x256x1, .f32⟩
  | .hbm, ⟨29, _⟩ => ⟨S16x256x1, .f32⟩
  | .hbm, ⟨30, _⟩ => ⟨S_, .f32⟩
  | .hbm, ⟨31, _⟩ => ⟨S16x256x1, .f32⟩
  | .hbm, ⟨32, _⟩ => ⟨S16x256x1, .f32⟩
  | .hbm, ⟨33, _⟩ => ⟨S16x256x1, .f32⟩
  | .hbm, ⟨34, _⟩ => ⟨S16x256x1024, .f32⟩
  | .hbm, ⟨35, _⟩ => ⟨S16x256x1024, .f32⟩
  | .hbm, ⟨36, _⟩ => ⟨S1x1x1024, .f32⟩
  | .hbm, ⟨37, _⟩ => ⟨S16x256x1024, .f32⟩
  | .hbm, ⟨38, _⟩ => ⟨S16x256x1024, .f32⟩
  | .hbm, ⟨39, _⟩ => ⟨S_, .f32⟩
  | .hbm, ⟨40, _⟩ => ⟨S1x1x1024, .f32⟩
  | .hbm, ⟨41, _⟩ => ⟨S1x1x1024, .f32⟩
  | .hbm, ⟨42, _⟩ => ⟨S16x256x1024, .f32⟩
  | .hbm, ⟨43, _⟩ => ⟨S16x256x1024, .f32⟩
  | .hbm, ⟨44, _⟩ => ⟨S16x256x1024, .f32⟩
  | .hbm, ⟨45, _⟩ => ⟨S16x256x1024, .f32⟩
  | .hbm, ⟨46, _⟩ => ⟨S2048x1024, .f32⟩
  | .hbm, ⟨47, _⟩ => ⟨S2x1024x1024, .f32⟩
  | .hbm, ⟨48, _⟩ => ⟨S2048x1024, .f32⟩
  | .hbm, ⟨49, _⟩ => ⟨S2x1024x1024, .f32⟩
  | .hbm, ⟨50, _⟩ => ⟨S2x1x1024, .f32⟩
  | .hbm, ⟨51, _⟩ => ⟨S2x1x1024, .f32⟩
  | .hbm, ⟨52, _⟩ => ⟨S2x1x1024, .f32⟩
  | .hbm, ⟨53, _⟩ => ⟨S2x1024x1024, .f32⟩
  | .hbm, ⟨54, _⟩ => ⟨S2x1024x1024, .f32⟩
  | .hbm, ⟨55, _⟩ => ⟨S2x1024x1024, .f32⟩
  | .hbm, ⟨56, _⟩ => ⟨S2x1024x1024, .f32⟩
  | .hbm, ⟨57, _⟩ => ⟨S2x1024x1024, .f32⟩
  | .hbm, ⟨58, _⟩ => ⟨S_, .f32⟩
  | .hbm, ⟨59, _⟩ => ⟨S2x1024, .f32⟩
  | .hbm, ⟨60, _⟩ => ⟨S2x1024x1, .f32⟩
  | .hbm, ⟨61, _⟩ => ⟨S_, .f32⟩
  | .hbm, ⟨62, _⟩ => ⟨S2x1024x1, .f32⟩
  | .hbm, ⟨63, _⟩ => ⟨S2x1024x1, .f32⟩
  | .hbm, ⟨64, _⟩ => ⟨S_, .f32⟩
  | .hbm, ⟨65, _⟩ => ⟨S2x1024x1, .f32⟩
  | .hbm, ⟨66, _⟩ => ⟨S2x1024x1, .f32⟩
  | .hbm, ⟨67, _⟩ => ⟨S2x1024x1, .f32⟩
  | .hbm, ⟨68, _⟩ => ⟨S2x1024x1024, .f32⟩
  | .hbm, ⟨69, _⟩ => ⟨S2x1024x1024, .f32⟩
  | .hbm, ⟨70, _⟩ => ⟨S1x1x1024, .f32⟩
  | .hbm, ⟨71, _⟩ => ⟨S2x1024x1024, .f32⟩
  | .hbm, ⟨72, _⟩ => ⟨S2x1024x1024, .f32⟩
  | .hbm, ⟨73, _⟩ => ⟨S_, .f32⟩
  | .hbm, ⟨74, _⟩ => ⟨S2x1x1024, .f32⟩
  | .hbm, ⟨75, _⟩ => ⟨S2x1x1024, .f32⟩
  | .hbm, ⟨76, _⟩ => ⟨S2x1024x1024, .f32⟩
  | .hbm, ⟨77, _⟩ => ⟨S2x1024x1024, .f32⟩
  | .hbm, ⟨78, _⟩ => ⟨S2x1024x1024, .f32⟩
  | .hbm, ⟨79, _⟩ => ⟨S2x1024x1024, .f32⟩
  | .hbm, ⟨80, _⟩ => ⟨S4096x1024, .f32⟩
  | .hbm, ⟨81, _⟩ => ⟨S2048x1024, .f32⟩
  | .hbm, ⟨82, _⟩ => ⟨S6144x1024, .f32⟩
  | .hbm, ⟨83, _⟩ => ⟨S4096x1024, .f32⟩
  | .hbm, ⟨84, _⟩ => ⟨S2048x1024, .f32⟩
  | .hbm, ⟨85, _⟩ => ⟨S6144x1024, .f32⟩
  | .hbm, ⟨86, _⟩ => ⟨S6144x1024, .bf16⟩
  | .hbm, ⟨87, _⟩ => ⟨S1024x6144, .f32⟩
  | .hbm, ⟨88, _⟩ => ⟨S1024x6144, .bf16⟩
  | _, _ => ⟨S6144x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_3 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_cst_5 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_6 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Kernel4.lean ====
abbrev S1024x6144 : Shape := ⟨2, ![1024, 6144]⟩
abbrev S8x128x6144 : Shape := ⟨3, ![8, 128, 6144]⟩
abbrev S6144x1024 : Shape := ⟨2, ![6144, 1024]⟩
abbrev S8x1x1024 : Shape := ⟨3, ![8, 1, 1024]⟩
abbrev S16384x1024 : Shape := ⟨2, ![16384, 1024]⟩
abbrev S1024x16384 : Shape := ⟨2, ![1024, 16384]⟩
abbrev S1024x512 : Shape := ⟨2, ![1024, 512]⟩
abbrev S2048x1024 : Shape := ⟨2, ![2048, 1024]⟩
abbrev S1024x2048 : Shape := ⟨2, ![1024, 2048]⟩
abbrev S8x128x512 : Shape := ⟨3, ![8, 128, 512]⟩
abbrev S512x1024 : Shape := ⟨2, ![512, 1024]⟩
abbrev S1x1x1024 : Shape := ⟨3, ![1, 1, 1024]⟩
abbrev S2048x512 : Shape := ⟨2, ![2048, 512]⟩
abbrev S512x512 : Shape := ⟨2, ![512, 512]⟩
abbrev S1x1x512 : Shape := ⟨3, ![1, 1, 512]⟩
abbrev S1x512 : Shape := ⟨2, ![1, 512]⟩
abbrev S1x128x512 : Shape := ⟨3, ![1, 128, 512]⟩
abbrev S128x512 : Shape := ⟨2, ![128, 512]⟩
abbrev S1x1024 : Shape := ⟨2, ![1, 1024]⟩

abbrev nBuf : Space → Nat
  | .hbm => 13
  | .vmem => 22
  | .smem => 0
  | _ => 0

abbrev bufTy : (tb : Table) → Fin (tcTables nBuf tb) → BufTy
  | .hbm, ⟨0, _⟩ => ⟨S1024x6144, .bf16⟩
  | .hbm, ⟨1, _⟩ => ⟨S8x128x6144, .bf16⟩
  | .hbm, ⟨2, _⟩ => ⟨S8x128x6144, .bf16⟩
  | .hbm, ⟨3, _⟩ => ⟨S8x128x6144, .f32⟩
  | .hbm, ⟨4, _⟩ => ⟨S8x128x6144, .f32⟩
  | .hbm, ⟨5, _⟩ => ⟨S6144x1024, .f32⟩
  | .hbm, ⟨6, _⟩ => ⟨S8x1x1024, .f32⟩
  | .hbm, ⟨7, _⟩ => ⟨S16384x1024, .f32⟩
  | .hbm, ⟨8, _⟩ => ⟨S16384x1024, .f32⟩
  | .hbm, ⟨9, _⟩ => ⟨S16384x1024, .bf16⟩
  | .hbm, ⟨10, _⟩ => ⟨S16384x1024, .bf16⟩
  | .hbm, ⟨11, _⟩ => ⟨S1024x16384, .bf16⟩
  | .hbm, ⟨12, _⟩ => ⟨S6144x1024, .f32⟩
  | .local _ .vmem, ⟨0, _⟩ => ⟨S1024x512, .bf16⟩
  | .local _ .vmem, ⟨1, _⟩ => ⟨S1024x512, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S8x128x512, .bf16⟩
  | .local _ .vmem, ⟨7, _⟩ => ⟨S8x128x512, .bf16⟩
  | .local _ .vmem, ⟨8, _⟩ => ⟨S8x128x512, .bf16⟩
  | .local _ .vmem, ⟨9, _⟩ => ⟨S8x128x512, .bf16⟩
  | .local _ .vmem, ⟨10, _⟩ => ⟨S8x128x512, .f32⟩
  | .local _ .vmem, ⟨11, _⟩ => ⟨S8x128x512, .f32⟩
  | .local _ .vmem, ⟨12, _⟩ => ⟨S8x128x512, .f32⟩
  | .local _ .vmem, ⟨13, _⟩ => ⟨S8x128x512, .f32⟩
  | .local _ .vmem, ⟨14, _⟩ => ⟨S512x1024, .f32⟩
  | .local _ .vmem, ⟨15, _⟩ => ⟨S512x1024, .f32⟩
  | .local _ .vmem, ⟨16, _⟩ => ⟨S1x1x1024, .f32⟩
  | .local _ .vmem, ⟨17, _⟩ => ⟨S1x1x1024, .f32⟩
  | .local _ .vmem, ⟨18, _⟩ => ⟨S512x1024, .f32⟩
  | .local _ .vmem, ⟨19, _⟩ => ⟨S512x1024, .f32⟩
  | .local _ .vmem, ⟨20, _⟩ => ⟨S2048x512, .bf16⟩
  | .local _ .vmem, ⟨21, _⟩ => ⟨S1024x512, .f32⟩
  | _, _ => ⟨S1024x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![12, 8], ![false, false]⟩

def k0_off1 (i : grid0.Coords) (c0_i32_8 : BitVec 32) (c0_i32_9 : BitVec 32) : Fin 3 → Nat :=
  let c0_10 : Index := 0#32
  let arg1 : BitVec 32 := BitVec.ofNat 32 (i 1).val
  let c16_i32 : BitVec 32 := 16#32
  let v11 : BitVec 32 := Scalar.muli arg1 c16_i32
  let v12 : BitVec 32 := Scalar.addi v11 c0_i32_8
  let v13 : BitVec 32 := Scalar.addi v12 c0_i32_9
  let v14 : Index := Scalar.indexCast v13
  let c0_11 : Index := 0#32
  ![0, v14.toNat, 0]
def k0_off2 (i : grid0.Coords) (c0_i32_8 : BitVec 32) (c0_i32_9 : BitVec 32) : Fin 3 → Nat :=
  let c1 : Index := 1#32
  let arg1 : BitVec 32 := BitVec.ofNat 32 (i 1).val
  let c16_i32 : BitVec 32 := 16#32
  let v11 : BitVec 32 := Scalar.muli arg1 c16_i32
  let v12 : BitVec 32 := Scalar.addi v11 c0_i32_8
  let v13 : BitVec 32 := Scalar.addi v12 c0_i32_9
  let v32 : Index := Scalar.indexCast v13
  let c0_21 : Index := 0#32
  ![1, v32.toNat, 0]
def k0_off3 (i : grid0.Coords) (c0_i32_8 : BitVec 32) (c0_i32_9 : BitVec 32) : Fin 3 → Nat :=
  let c2 : Index := 2#32
  let arg1 : BitVec 32 := BitVec.ofNat 32 (i 1).val
  let c16_i32 : BitVec 32 := 16#32
  let v11 : BitVec 32 := Scalar.muli arg1 c16_i32
  let v12 : BitVec 32 := Scalar.addi v11 c0_i32_8
  let v13 : BitVec 32 := Scalar.addi v12 c0_i32_9
  let v51 : Index := Scalar.indexCast v13
  let c0_31 : Index := 0#32
  ![2, v51.toNat, 0]
def k0_off4 (i : grid0.Coords) (c0_i32_8 : BitVec 32) (c0_i32_9 : BitVec 32) : Fin 3 → Nat :=
  let c3 : Index := 3#32
  let arg1 : BitVec 32 := BitVec.ofNat 32 (i 1).val
  let c16_i32 : BitVec 32 := 16#32
  let v11 : BitVec 32 := Scalar.muli arg1 c16_i32
  let v12 : BitVec 32 := Scalar.addi v11 c0_i32_8
  let v13 : BitVec 32 := Scalar.addi v12 c0_i32_9
  let v70 : Index := Scalar.indexCast v13
  let c0_41 : Index := 0#32
  ![3, v70.toNat, 0]
def k0_off5 (i : grid0.Coords) (c0_i32_8 : BitVec 32) (c0_i32_9 : BitVec 32) : Fin 3 → Nat :=
  let c4 : Index := 4#32
  let arg1 : BitVec 32 := BitVec.ofNat 32 (i 1).val
  let c16_i32 : BitVec 32 := 16#32
  let v11 : BitVec 32 := Scalar.muli arg1 c16_i32
  let v12 : BitVec 32 := Scalar.addi v11 c0_i32_8
  let v13 : BitVec 32 := Scalar.addi v12 c0_i32_9
  let v89 : Index := Scalar.indexCast v13
  let c0_51 : Index := 0#32
  ![4, v89.toNat, 0]
def k0_off6 (i : grid0.Coords) (c0_i32_8 : BitVec 32) (c0_i32_9 : BitVec 32) : Fin 3 → Nat :=
  let c5 : Index := 5#32
  let arg1 : BitVec 32 := BitVec.ofNat 32 (i 1).val
  let c16_i32 : BitVec 32 := 16#32
  let v11 : BitVec 32 := Scalar.muli arg1 c16_i32
  let v12 : BitVec 32 := Scalar.addi v11 c0_i32_8
  let v13 : BitVec 32 := Scalar.addi v12 c0_i32_9
  let v108 : Index := Scalar.indexCast v13
  let c0_61 : Index := 0#32
  ![5, v108.toNat, 0]
def k0_off7 (i : grid0.Coords) (c0_i32_8 : BitVec 32) (c0_i32_9 : BitVec 32) : Fin 3 → Nat :=
  let c6 : Index := 6#32
  let arg1 : BitVec 32 := BitVec.ofNat 32 (i 1).val
  let c16_i32 : BitVec 32 := 16#32
  let v11 : BitVec 32 := Scalar.muli arg1 c16_i32
  let v12 : BitVec 32 := Scalar.addi v11 c0_i32_8
  let v13 : BitVec 32 := Scalar.addi v12 c0_i32_9
  let v127 : Index := Scalar.indexCast v13
  let c0_71 : Index := 0#32
  ![6, v127.toNat, 0]
def k0_off8 (i : grid0.Coords) (c0_i32_8 : BitVec 32) (c0_i32_9 : BitVec 32) : Fin 3 → Nat :=
  let c7 : Index := 7#32
  let arg1 : BitVec 32 := BitVec.ofNat 32 (i 1).val
  let c16_i32 : BitVec 32 := 16#32
  let v11 : BitVec 32 := Scalar.muli arg1 c16_i32
  let v12 : BitVec 32 := Scalar.addi v11 c0_i32_8
  let v13 : BitVec 32 := Scalar.addi v12 c0_i32_9
  let v146 : Index := Scalar.indexCast v13
  let c0_81 : Index := 0#32
  ![7, v146.toNat, 0]
def k0_cond2 (i : grid0.Coords) : BitVec 1 :=
  let arg1 : BitVec 32 := BitVec.ofNat 32 (i 1).val
  let c7_i32 : BitVec 32 := 7#32
  let v2743 : BitVec 1 := Scalar.cmpi .eq arg1 c7_i32
  let v2744 : BitVec 32 := Scalar.extui v2743
  let c0_i32_1562 : BitVec 32 := 0#32
  let v2745 : BitVec 1 := Scalar.cmpi .ne v2744 c0_i32_1562
  v2745

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference4Ideal.lean ====
abbrev S1024x6144 : Shape := ⟨2, ![1024, 6144]⟩
abbrev S8x128x6144 : Shape := ⟨3, ![8, 128, 6144]⟩
abbrev S6144x1024 : Shape := ⟨2, ![6144, 1024]⟩
abbrev S8x1x1024 : Shape := ⟨3, ![8, 1, 1024]⟩
abbrev S16384x1024 : Shape := ⟨2, ![16384, 1024]⟩
abbrev S8x1x128x6144 : Shape := ⟨4, ![8, 1, 128, 6144]⟩
abbrev S8x128x1x6144 : Shape := ⟨4, ![8, 128, 1, 6144]⟩
abbrev S8x128x128x6144 : Shape := ⟨4, ![8, 128, 128, 6144]⟩
abbrev S_ : Shape := ⟨0, ![]⟩
abbrev S128x128x6144 : Shape := ⟨3, ![128, 128, 6144]⟩
abbrev S16384x6144 : Shape := ⟨2, ![16384, 6144]⟩
abbrev S6144x16384 : Shape := ⟨2, ![6144, 16384]⟩
abbrev S1024x16384 : Shape := ⟨2, ![1024, 16384]⟩
abbrev S4096x1024 : Shape := ⟨2, ![4096, 1024]⟩
abbrev S16x256x1024 : Shape := ⟨3, ![16, 256, 1024]⟩
abbrev S1x1x1024 : Shape := ⟨3, ![1, 1, 1024]⟩
abbrev S2048x1024 : Shape := ⟨2, ![2048, 1024]⟩
abbrev S2x1024x1024 : Shape := ⟨3, ![2, 1024, 1024]⟩
abbrev S2x1x1024 : Shape := ⟨3, ![2, 1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S1024x6144, .bf16⟩
  | .hbm, ⟨1, _⟩ => ⟨S8x128x6144, .bf16⟩
  | .hbm, ⟨2, _⟩ => ⟨S8x128x6144, .bf16⟩
  | .hbm, ⟨3, _⟩ => ⟨S8x128x6144, .f32⟩
  | .hbm, ⟨4, _⟩ => ⟨S8x128x6144, .f32⟩
  | .hbm, ⟨5, _⟩ => ⟨S6144x1024, .f32⟩
  | .hbm, ⟨6, _⟩ => ⟨S8x1x1024, .f32⟩
  | .hbm, ⟨7, _⟩ => ⟨S16384x1024, .f32⟩
  | .hbm, ⟨8, _⟩ => ⟨S16384x1024, .f32⟩
  | .hbm, ⟨9, _⟩ => ⟨S8x128x6144, .f32⟩
  | .hbm, ⟨10, _⟩ => ⟨S8x1x128x6144, .f32⟩
  | .hbm, ⟨11, _⟩ => ⟨S8x128x6144, .f32⟩
  | .hbm, ⟨12, _⟩ => ⟨S8x1x128x6144, .f32⟩
  | .hbm, ⟨13, _⟩ => ⟨S8x128x1x6144, .f32⟩
  | .hbm, ⟨14, _⟩ => ⟨S8x128x128x6144, .f32⟩
  | .hbm, ⟨15, _⟩ => ⟨S8x128x128x6144, .f32⟩
  | .hbm, ⟨16, _⟩ => ⟨S8x128x128x6144, .i1⟩
  | .hbm, ⟨17, _⟩ => ⟨S8x128x1x6144, .f32⟩
  | .hbm, ⟨18, _⟩ => ⟨S8x128x128x6144, .f32⟩
  | .hbm, ⟨19, _⟩ => ⟨S8x128x128x6144, .f32⟩
  | .hbm, ⟨20, _⟩ => ⟨S8x128x128x6144, .f32⟩
  | .hbm, ⟨21, _⟩ => ⟨S_, .f32⟩
  | .hbm, ⟨22, _⟩ => ⟨S_, .f32⟩
  | .hbm, ⟨23, _⟩ => ⟨S8x128x128x6144, .f32⟩
  | .hbm, ⟨24, _⟩ => ⟨S8x128x128x6144, .f32⟩
  | .hbm, ⟨25, _⟩ => ⟨S_, .f32⟩
  | .hbm, ⟨26, _⟩ => ⟨S128x128x6144, .f32⟩
  | .hbm, ⟨27, _⟩ => ⟨S16384x6144, .f32⟩
  | .hbm, ⟨28, _⟩ => ⟨S6144x16384, .f32⟩
  | .hbm, ⟨29, _⟩ => ⟨S1024x6144, .f32⟩
  | .hbm, ⟨30, _⟩ => ⟨S6144x1024, .f32⟩
  | .hbm, ⟨31, _⟩ => ⟨S1024x16384, .f32⟩
  | .hbm, ⟨32, _⟩ => ⟨S6144x16384, .f32⟩
  | .hbm, ⟨33, _⟩ => ⟨S_, .f32⟩
  | .hbm, ⟨34, _⟩ => ⟨S6144x16384, .f32⟩
  | .hbm, ⟨35, _⟩ => ⟨S6144x16384, .f32⟩
  | .hbm, ⟨36, _⟩ => ⟨S6144x16384, .f32⟩
  | .hbm, ⟨37, _⟩ => ⟨S_, .f32⟩
  | .hbm, ⟨38, _⟩ => ⟨S6144x16384, .f32⟩
  | .hbm, ⟨39, _⟩ => ⟨S6144x16384, .f32⟩
  | .hbm, ⟨40, _⟩ => ⟨S6144x16384, .f32⟩
  | .hbm, ⟨41, _⟩ => ⟨S6144x16384, .f32⟩
  | .hbm, ⟨42, _⟩ => ⟨S6144x16384, .f32⟩
  | .hbm, ⟨43, _⟩ => ⟨S6144x1024, .f32⟩
  | .hbm, ⟨44, _⟩ => ⟨S4096x1024, .f32⟩
  | .hbm, ⟨45, _⟩ => ⟨S16x256x1024, .f32⟩
  | .hbm, ⟨46, _⟩ => ⟨S1x1x1024, .f32⟩
  | .hbm, ⟨47, _⟩ => ⟨S4096x1024, .f32⟩
  | .hbm, ⟨48, _⟩ => ⟨S16x256x1024, .f32⟩
  | .hbm, ⟨49, _⟩ => ⟨S16x256x1024, .f32⟩
  | .hbm, ⟨50, _⟩ => ⟨S16x256x1024, .f32⟩
  | .hbm, ⟨51, _⟩ => ⟨S16x256x1024, .f32⟩
  | .hbm, ⟨52, _⟩ => ⟨S2048x1024, .f32⟩
  | .hbm, ⟨53, _⟩ => ⟨S2x1024x1024, .f32⟩
  | .hbm, ⟨54, _⟩ => ⟨S2x1x1024, .f32⟩
  | .hbm, ⟨55, _⟩ => ⟨S2048x1024, .f32⟩
  | .hbm, ⟨56, _⟩ => ⟨S2x1024x1024, .f32⟩
  | .hbm, ⟨57, _⟩ => ⟨S2x1024x1024, .f32⟩
  | .hbm, ⟨58, _⟩ => ⟨S2x1024x1024, .f32⟩
  | .hbm, ⟨59, _⟩ => ⟨S2x1024x1024, .f32⟩
  | .hbm, ⟨60, _⟩ => ⟨S4096x1024, .f32⟩
  | .hbm, ⟨61, _⟩ => ⟨S2048x1024, .f32⟩
  | .hbm, ⟨62, _⟩ => ⟨S6144x1024, .f32⟩
  | _, _ => ⟨S1024x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Kernel5.lean ====
abbrev S2x1024 : Shape := ⟨2, ![2, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S4x1x6144 : Shape := ⟨3, ![4, 1, 6144]⟩
abbrev S4x8x6144 : Shape := ⟨3, ![4, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S4x1x6144, .f32⟩
  | .hbm, ⟨9, _⟩ => ⟨S4x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S2x1024 : Shape := ⟨2, ![2, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S1x1024x6144 : Shape := ⟨3, ![1, 1024, 6144]⟩
abbrev S1024x6144 : Shape := ⟨2, ![1024, 6144]⟩
abbrev S1x6144 : Shape := ⟨2, ![1, 6144]⟩
abbrev S6144 : Shape := ⟨1, ![6144]⟩
abbrev S8x6144 : Shape := ⟨2, ![8, 6144]⟩
abbrev S1x8x6144 : Shape := ⟨3, ![1, 8, 6144]⟩
abbrev S4x8x6144 : Shape := ⟨3, ![4, 8, 6144]⟩

abbrev nBuf : Space → Nat
  | .hbm => 81
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S1x1024x6144, .f32⟩
  | .hbm, ⟨9, _⟩ => ⟨S1024x6144, .f32⟩
  | .hbm, ⟨10, _⟩ => ⟨S1x6144, .f32⟩
  | .hbm, ⟨11, _⟩ => ⟨S6144, .f32⟩
  | .hbm, ⟨12, _⟩ => ⟨S8x1024, .f32⟩
  | .hbm, ⟨13, _⟩ => ⟨S8x1024, .f32⟩
  | .hbm, ⟨14, _⟩ => ⟨S_, .f32⟩
  | .hbm, ⟨15, _⟩ => ⟨S8x1024, .f32⟩
  | .hbm, ⟨16, _⟩ => ⟨S8x1024, .f32⟩
  | .hbm, ⟨17, _⟩ => ⟨S_, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S8x6144, .f32⟩
  | .hbm, ⟨22, _⟩ => ⟨S1x6144, .f32⟩
  | .hbm, ⟨23, _⟩ => ⟨S8x6144, .f32⟩
  | .hbm, ⟨24, _⟩ => ⟨S8x6144, .f32⟩
  | .hbm, ⟨25, _⟩ => ⟨S1x1024x6144, .f32⟩
  | .hbm, ⟨26, _⟩ => ⟨S1024x6144, .f32⟩
  | .hbm, ⟨27, _⟩ => ⟨S1x6144, .f32⟩
  | .hbm, ⟨28, _⟩ => ⟨S6144, .f32⟩
  | .hbm, ⟨29, _⟩ => ⟨S8x1024, .f32⟩
  | .hbm, ⟨30, _⟩ => ⟨S8x1024, .f32⟩
  | .hbm, ⟨31, _⟩ => ⟨S_, .f32⟩
  | .hbm, ⟨32, _⟩ => ⟨S8x1024, .f32⟩
  | .hbm, ⟨33, _⟩ => ⟨S8x1024, .f32⟩
  | .hbm, ⟨34, _⟩ => ⟨S_, .f32⟩
  | .hbm, ⟨35, _⟩ => ⟨S8x1024, .f32⟩
  | .hbm, ⟨36, _⟩ => ⟨S8x1024, .f32⟩
  | .hbm, ⟨37, _⟩ => ⟨S8x1024, .f32⟩
  | .hbm, ⟨38, _⟩ => ⟨S8x6144, .f32⟩
  | .hbm, ⟨39, _⟩ => ⟨S1x6144, .f32⟩
  | .hbm, ⟨40, _⟩ => ⟨S8x6144, .f32⟩
  | .hbm, ⟨41, _⟩ => ⟨S8x6144, .f32⟩
  | .hbm, ⟨42, _⟩ => ⟨S1x1024x6144, .f32⟩
  | .hbm, ⟨43, _⟩ => ⟨S1024x6144, .f32⟩
  | .hbm, ⟨44, _⟩ => ⟨S1x6144, .f32⟩
  | .hbm, ⟨45, _⟩ => ⟨S6144, .f32⟩
  | .hbm, ⟨46, _⟩ => ⟨S8x1024, .f32⟩
  | .hbm, ⟨47, _⟩ => ⟨S8x1024, .f32⟩
  | .hbm, ⟨48, _⟩ => ⟨S_, .f32⟩
  | .hbm, ⟨49, _⟩ => ⟨S8x1024, .f32⟩
  | .hbm, ⟨50, _⟩ => ⟨S8x1024, .f32⟩
  | .hbm, ⟨51, _⟩ => ⟨S_, .f32⟩
  | .hbm, ⟨52, _⟩ => ⟨S8x1024, .f32⟩
  | .hbm, ⟨53, _⟩ => ⟨S8x1024, .f32⟩
  | .hbm, ⟨54, _⟩ => ⟨S8x1024, .f32⟩
  | .hbm, ⟨55, _⟩ => ⟨S8x6144, .f32⟩
  | .hbm, ⟨56, _⟩ => ⟨S1x6144, .f32⟩
  | .hbm, ⟨57, _⟩ => ⟨S8x6144, .f32⟩
  | .hbm, ⟨58, _⟩ => ⟨S8x6144, .f32⟩
  | .hbm, ⟨59, _⟩ => ⟨S1x1024x6144, .f32⟩
  | .hbm, ⟨60, _⟩ => ⟨S1024x6144, .f32⟩
  | .hbm, ⟨61, _⟩ => ⟨S1x6144, .f32⟩
  | .hbm, ⟨62, _⟩ => ⟨S6144, .f32⟩
  | .hbm, ⟨63, _⟩ => ⟨S8x1024, .f32⟩
  | .hbm, ⟨64, _⟩ => ⟨S8x1024, .f32⟩
  | .hbm, ⟨65, _⟩ => ⟨S_, .f32⟩
  | .hbm, ⟨66, _⟩ => ⟨S8x1024, .f32⟩
  | .hbm, ⟨67, _⟩ => ⟨S8x1024, .f32⟩
  | .hbm, ⟨68, _⟩ => ⟨S_, .f32⟩
  | .hbm, ⟨69, _⟩ => ⟨S8x1024, .f32⟩
  | .hbm, ⟨70, _⟩ => ⟨S8x1024, .f32⟩
  | .hbm, ⟨71, _⟩ => ⟨S8x1024, .f32⟩
  | .hbm, ⟨72, _⟩ => ⟨S8x6144, .f32⟩
  | .hbm, ⟨73, _⟩ => ⟨S1x6144, .f32⟩
  | .hbm, ⟨74, _⟩ => ⟨S8x6144, .f32⟩
  | .hbm, ⟨75, _⟩ => ⟨S8x6144, .f32⟩
  | .hbm, ⟨76, _⟩ => ⟨S1x8x6144, .f32⟩
  | .hbm, ⟨77, _⟩ => ⟨S1x8x6144, .f32⟩
  | .hbm, ⟨78, _⟩ => ⟨S1x8x6144, .f32⟩
  | .hbm, ⟨79, _⟩ => ⟨S1x8x6144, .f32⟩
  | .hbm, ⟨80, _⟩ => ⟨S4x8x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call2_v0 : Ref sig .tc := ⟨.hbm, 46, rfl⟩
abbrev main_call2_v1 : Ref sig .tc := ⟨.hbm, 47, rfl⟩
abbrev main_call2_cst : Ref sig .tc := ⟨.hbm, 48, rfl⟩
abbrev main_call2_v2 : Ref sig .tc := ⟨.hbm, 49, rfl⟩
abbrev main_call2_v3 : Ref sig .tc := ⟨.hbm, 50, rfl⟩
abbrev main_call2_cst_0 : Ref sig .tc := ⟨.hbm, 51, rfl⟩
abbrev main_call2_v4 : Ref sig .tc := ⟨.hbm, 52, rfl⟩
abbrev main_call2_v5 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_call3_v0 : Ref sig .tc := ⟨.hbm, 63, rfl⟩
abbrev main_call3_v1 : Ref sig .tc := ⟨.hbm, 64, rfl⟩
abbrev main_call3_cst : Ref sig .tc := ⟨.hbm, 65, rfl⟩
abbrev main_call3_v2 : Ref sig .tc := ⟨.hbm, 66, rfl⟩
abbrev main_call3_v3 : Ref sig .tc := ⟨.hbm, 67, rfl⟩
abbrev main_call3_cst_0 : Ref sig .tc := ⟨.hbm, 68, rfl⟩
abbrev main_call3_v4 : Ref sig .tc := ⟨.hbm, 69, rfl⟩
abbrev main_call3_v5 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩

abbrev nD : Nat := 1
abbrev τ : Topo := Topo.v7x

variable {F : FTy → Type} [FloatOps F]
-- ==== Kernel6.lean ====
abbrev S6144x768 : Shape := ⟨2, ![6144, 768]⟩
abbrev S6144x128 : Shape := ⟨2, ![6144, 128]⟩
abbrev S128x6144 : Shape := ⟨2, ![128, 6144]⟩
abbrev S5x512 : Shape := ⟨2, ![5, 512]⟩
abbrev S512 : Shape := ⟨1, ![512]⟩
abbrev S2x4 : Shape := ⟨2, ![2, 4]⟩
abbrev S4 : Shape := ⟨1, ![4]⟩
abbrev S256 : Shape := ⟨1, ![256]⟩
abbrev S1x512 : Shape := ⟨2, ![1, 512]⟩
abbrev S1x8 : Shape := ⟨2, ![1, 8]⟩
abbrev S8x1 : Shape := ⟨2, ![8, 1]⟩
abbrev S4x64 : Shape := ⟨2, ![4, 64]⟩
abbrev S1x256 : Shape := ⟨2, ![1, 256]⟩
abbrev S_ : Shape := ⟨0, ![]⟩
abbrev S16x2x4x64x64 : Shape := ⟨5, ![16, 2, 4, 64, 64]⟩
abbrev S4096x256 : Shape := ⟨2, ![4096, 256]⟩
abbrev S256x768 : Shape := ⟨2, ![256, 768]⟩
abbrev S256x128 : Shape := ⟨2, ![256, 128]⟩
abbrev S128x256 : Shape := ⟨2, ![128, 256]⟩
abbrev S1x2x4x64x64 : Shape := ⟨5, ![1, 2, 4, 64, 64]⟩
abbrev S256x256 : Shape := ⟨2, ![256, 256]⟩
abbrev S256x512 : Shape := ⟨2, ![256, 512]⟩
abbrev S256x8 : Shape := ⟨2, ![256, 8]⟩
abbrev S8x256 : Shape := ⟨2, ![8, 256]⟩
abbrev S1x1x1x64x64 : Shape := ⟨5, ![1, 1, 1, 64, 64]⟩
abbrev S64x64 : Shape := ⟨2, ![64, 64]⟩
abbrev S256x64 : Shape := ⟨2, ![256, 64]⟩
abbrev S256x1 : Shape := ⟨2, ![256, 1]⟩
abbrev S1x1 : Shape := ⟨2, ![1, 1]⟩

abbrev nBuf : Space → Nat
  | .hbm => 22
  | .vmem => 21
  | .smem => 0
  | _ => 0

abbrev bufTy : (tb : Table) → Fin (tcTables nBuf tb) → BufTy
  | .hbm, ⟨0, _⟩ => ⟨S6144x768, .f32⟩
  | .hbm, ⟨1, _⟩ => ⟨S6144x128, .f32⟩
  | .hbm, ⟨2, _⟩ => ⟨S128x6144, .f32⟩
  | .hbm, ⟨3, _⟩ => ⟨S5x512, .f32⟩
  | .hbm, ⟨4, _⟩ => ⟨S512, .f32⟩
  | .hbm, ⟨5, _⟩ => ⟨S2x4, .f32⟩
  | .hbm, ⟨6, _⟩ => ⟨S2x4, .f32⟩
  | .hbm, ⟨7, _⟩ => ⟨S4, .f32⟩
  | .hbm, ⟨8, _⟩ => ⟨S256, .f32⟩
  | .hbm, ⟨9, _⟩ => ⟨S1x512, .f32⟩
  | .hbm, ⟨10, _⟩ => ⟨S1x8, .f32⟩
  | .hbm, ⟨11, _⟩ => ⟨S8x1, .f32⟩
  | .hbm, ⟨12, _⟩ => ⟨S1x8, .f32⟩
  | .hbm, ⟨13, _⟩ => ⟨S8x1, .f32⟩
  | .hbm, ⟨14, _⟩ => ⟨S4x64, .f32⟩
  | .hbm, ⟨15, _⟩ => ⟨S256, .f32⟩
  | .hbm, ⟨16, _⟩ => ⟨S1x256, .f32⟩
  | .hbm, ⟨17, _⟩ => ⟨S1x256, .f32⟩
  | .hbm, ⟨18, _⟩ => ⟨S_, .f32⟩
  | .hbm, ⟨19, _⟩ => ⟨S16x2x4x64x64, .f32⟩
  | .hbm, ⟨20, _⟩ => ⟨S4096x256, .bf16⟩
  | .hbm, ⟨21, _⟩ => ⟨S16x2x4x64x64, .f32⟩
  | .local _ .vmem, ⟨0, _⟩ => ⟨S256x768, .f32⟩
  | .local _ .vmem, ⟨1, _⟩ => ⟨S256x768, .f32⟩
  | .local _ .vmem, ⟨2, _⟩ => ⟨S256x128, .f32⟩
  | .local _ .vmem, ⟨3, _⟩ => ⟨S256x128, .f32⟩
  | .local _ .vmem, ⟨4, _⟩ => ⟨S128x256, .f32⟩
  | .local _ .vmem, ⟨5, _⟩ => ⟨S128x256, .f32⟩
  | .local _ .vmem, ⟨6, _⟩ => ⟨S5x512, .f32⟩
  | .local _ .vmem, ⟨7, _⟩ => ⟨S1x512, .f32⟩
  | .local _ .vmem, ⟨8, _⟩ => ⟨S1x8, .f32⟩
  | .local _ .vmem, ⟨9, _⟩ => ⟨S8x1, .f32⟩
  | .local _ .vmem, ⟨10, _⟩ => ⟨S1x8, .f32⟩
  | .local _ .vmem, ⟨11, _⟩ => ⟨S8x1, .f32⟩
  | .local _ .vmem, ⟨12, _⟩ => ⟨S1x256, .f32⟩
  | .local _ .vmem, ⟨13, _⟩ => ⟨S1x256, .f32⟩
  | .local _ .vmem, ⟨14, _⟩ => ⟨S1x2x4x64x64, .f32⟩
  | .local _ .vmem, ⟨15, _⟩ => ⟨S1x2x4x64x64, .f32⟩
  | .local _ .vmem, ⟨16, _⟩ => ⟨S256x256, .bf16⟩
  | .local _ .vmem, ⟨17, _⟩ => ⟨S256x256, .bf16⟩
  | .local _ .vmem, ⟨18, _⟩ => ⟨S1x2x4x64x64, .f32⟩
  | .local _ .vmem, ⟨19, _⟩ => ⟨S1x2x4x64x64, .f32⟩
  | .local _ .vmem, ⟨20, _⟩ => ⟨S256x256, .f32⟩
  | _, _ => ⟨S6144x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x2x4x64x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2x4x64x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference6Ideal.lean ====
abbrev S6144x768 : Shape := ⟨2, ![6144, 768]⟩
abbrev S6144x128 : Shape := ⟨2, ![6144, 128]⟩
abbrev S128x6144 : Shape := ⟨2, ![128, 6144]⟩
abbrev S5x512 : Shape := ⟨2, ![5, 512]⟩
abbrev S512 : Shape := ⟨1, ![512]⟩
abbrev S2x4 : Shape := ⟨2, ![2, 4]⟩
abbrev S4 : Shape := ⟨1, ![4]⟩
abbrev S256 : Shape := ⟨1, ![256]⟩
abbrev S4096x768 : Shape := ⟨2, ![4096, 768]⟩
abbrev S16x256x768 : Shape := ⟨3, ![16, 256, 768]⟩
abbrev S4096x8 : Shape := ⟨2, ![4096, 8]⟩
abbrev S16x256x2x4 : Shape := ⟨4, ![16, 256, 2, 4]⟩
abbrev S16x256x512 : Shape := ⟨3, ![16, 256, 512]⟩
abbrev S_ : Shape := ⟨0, ![]⟩
abbrev S16x260x512 : Shape := ⟨3, ![16, 260, 512]⟩
abbrev S1x512 : Shape := ⟨2, ![1, 512]⟩
abbrev S1x1x512 : Shape := ⟨3, ![1, 1, 512]⟩
abbrev S16x256x256 : Shape := ⟨3, ![16, 256, 256]⟩
abbrev S16x256x128 : Shape := ⟨3, ![16, 256, 128]⟩
abbrev S16x256x4x64 : Shape := ⟨4, ![16, 256, 4, 64]⟩
abbrev S16x256x2x64 : Shape := ⟨4, ![16, 256, 2, 64]⟩
abbrev S16x256x2x2x64 : Shape := ⟨5, ![16, 256, 2, 2, 64]⟩
abbrev S1x1x2x4 : Shape := ⟨4, ![1, 1, 2, 4]⟩
abbrev S16x256x1x4 : Shape := ⟨4, ![16, 256, 1, 4]⟩
abbrev S16x256x4 : Shape := ⟨3, ![16, 256, 4]⟩
abbrev S1x4 : Shape := ⟨2, ![1, 4]⟩
abbrev S64x64 : Shape := ⟨2, ![64, 64]⟩
abbrev S1x1x4 : Shape := ⟨3, ![1, 1, 4]⟩
abbrev S16x4x64x4 : Shape := ⟨4, ![16, 4, 64, 4]⟩
abbrev S16x4x4x64 : Shape := ⟨4, ![16, 4, 4, 64]⟩
abbrev S16x256x4x1 : Shape := ⟨4, ![16, 256, 4, 1]⟩
abbrev S16x4x64x4x64 : Shape := ⟨5, ![16, 4, 64, 4, 64]⟩
abbrev S16x4x1x4 : Shape := ⟨4, ![16, 4, 1, 4]⟩
abbrev S16x4x64x4x1 : Shape := ⟨5, ![16, 4, 64, 4, 1]⟩
abbrev S16x4x4x64x64 : Shape := ⟨5, ![16, 4, 4, 64, 64]⟩
abbrev S16x4x4 : Shape := ⟨3, ![16, 4, 4]⟩
abbrev S16x4x64x64 : Shape := ⟨4, ![16, 4, 64, 64]⟩
abbrev S16x1x4 : Shape := ⟨3, ![16, 1, 4]⟩
abbrev S16x4 : Shape := ⟨2, ![16, 4]⟩
abbrev S16x4x1x1 : Shape := ⟨4, ![16, 4, 1, 1]⟩
abbrev S16x1x4x64x64 : Shape := ⟨5, ![16, 1, 4, 64, 64]⟩
abbrev S16x2x4x64x64 : Shape := ⟨5, ![16, 2, 4, 64, 64]⟩

abbrev nBuf : Space → Nat
  | .hbm => 240
  | .vmem => 0
  | .smem => 0
  | _ => 0

abbrev hbmTy0_0 (i : Nat) : BufTy := match i % 128 with
  | 0 => ⟨S6144x768, .f32⟩
  | 1 => ⟨S6144x128, .f32⟩
  | 2 => ⟨S128x6144, .f32⟩
  | 3 => ⟨S5x512, .f32⟩
  | 4 => ⟨S512, .f32⟩
  | 5 => ⟨S2x4, .f32⟩
  | 6 => ⟨S2x4, .f32⟩
  | 7 => ⟨S4, .f32⟩
  | 8 => ⟨S256, .f32⟩
  | 9 => ⟨S4096x768, .f32⟩
  | 10 => ⟨S16x256x768, .f32⟩
  | 11 => ⟨S4096x8, .f32⟩
  | 12 => ⟨S16x256x2x4, .f32⟩
  | 13 => ⟨S16x256x512, .f32⟩
  | 14 => ⟨S_, .i32⟩
  | 15 => ⟨S_, .f32⟩
  | 16 => ⟨S16x260x512, .f32⟩
  | 17 => ⟨S16x256x512, .f32⟩
  | 18 => ⟨S1x512, .f32⟩
  | 19 => ⟨S512, .f32⟩
  | 20 => ⟨S1x1x512, .f32⟩
  | 21 => ⟨S16x256x512, .f32⟩
  | 22 => ⟨S16x256x512, .f32⟩
  | 23 => ⟨S_, .f32⟩
  | 24 => ⟨S16x256x512, .f32⟩
  | 25 => ⟨S16x256x512, .f32⟩
  | 26 => ⟨S16x256x512, .f32⟩
  | 27 => ⟨S1x512, .f32⟩
  | 28 => ⟨S512, .f32⟩
  | 29 => ⟨S1x1x512, .f32⟩
  | 30 => ⟨S16x256x512, .f32⟩
  | 31 => ⟨S16x256x512, .f32⟩
  | 32 => ⟨S16x256x512, .f32⟩
  | 33 => ⟨S16x256x512, .f32⟩
  | 34 => ⟨S1x512, .f32⟩
  | 35 => ⟨S512, .f32⟩
  | 36 => ⟨S1x1x512, .f32⟩
  | 37 => ⟨S16x256x512, .f32⟩
  | 38 => ⟨S16x256x512, .f32⟩
  | 39 => ⟨S16x256x512, .f32⟩
  | 40 => ⟨S16x256x512, .f32⟩
  | 41 => ⟨S1x512, .f32⟩
  | 42 => ⟨S512, .f32⟩
  | 43 => ⟨S1x1x512, .f32⟩
  | 44 => ⟨S16x256x512, .f32⟩
  | 45 => ⟨S16x256x512, .f32⟩
  | 46 => ⟨S16x256x512, .f32⟩
  | 47 => ⟨S16x256x512, .f32⟩
  | 48 => ⟨S1x512, .f32⟩
  | 49 => ⟨S512, .f32⟩
  | 50 => ⟨S1x1x512, .f32⟩
  | 51 => ⟨S16x256x512, .f32⟩
  | 52 => ⟨S16x256x512, .f32⟩
  | 53 => ⟨S16x256x512, .f32⟩
  | 54 => ⟨S1x1x512, .f32⟩
  | 55 => ⟨S16x256x512, .f32⟩
  | 56 => ⟨S16x256x512, .f32⟩
  | 57 => ⟨S16x256x512, .f32⟩
  | 58 => ⟨S16x256x512, .f32⟩
  | 59 => ⟨S_, .f32⟩
  | 60 => ⟨S16x256x512, .f32⟩
  | 61 => ⟨S16x256x512, .f32⟩
  | 62 => ⟨S_, .f32⟩
  | 63 => ⟨S16x256x512, .f32⟩
  | 64 => ⟨S16x256x512, .f32⟩
  | 65 => ⟨S16x256x512, .f32⟩
  | 66 => ⟨S16x256x256, .f32⟩
  | 67 => ⟨S16x256x128, .f32⟩
  | 68 => ⟨S16x256x128, .f32⟩
  | 69 => ⟨S16x256x4x64, .f32⟩
  | 70 => ⟨S16x256x2x64, .f32⟩
  | 71 => ⟨S16x256x2x2x64, .f32⟩
  | 72 => ⟨S16x256x4x64, .f32⟩
  | 73 => ⟨S1x1x2x4, .f32⟩
  | 74 => ⟨S16x256x2x4, .f32⟩
  | 75 => ⟨S16x256x2x4, .f32⟩
  | 76 => ⟨S_, .f32⟩
  | 77 => ⟨S16x256x2x4, .f32⟩
  | 78 => ⟨S16x256x2x4, .f32⟩
  | 79 => ⟨S16x256x2x4, .f32⟩
  | 80 => ⟨S16x256x2x4, .f32⟩
  | 81 => ⟨S16x256x2x4, .i1⟩
  | 82 => ⟨S16x256x2x4, .f32⟩
  | 83 => ⟨S16x256x2x4, .f32⟩
  | 84 => ⟨S16x256x2x4, .f32⟩
  | 85 => ⟨S16x256x2x4, .f32⟩
  | 86 => ⟨S16x256x2x4, .f32⟩
  | 87 => ⟨S16x256x2x4, .f32⟩
  | 88 => ⟨S16x256x2x4, .f32⟩
  | 89 => ⟨S16x256x2x4, .f32⟩
  | 90 => ⟨S2x4, .f32⟩
  | 91 => ⟨S2x4, .f32⟩
  | 92 => ⟨S16x256x1x4, .f32⟩
  | 93 => ⟨S16x256x4, .f32⟩
  | 94 => ⟨S1x4, .f32⟩
  | 95 => ⟨S4, .f32⟩
  | 96 => ⟨S_, .f32⟩
  | 97 => ⟨S64x64, .f32⟩
  | 98 => ⟨S64x64, .i32⟩
  | 99 => ⟨S_, .i32⟩
  | 100 => ⟨S64x64, .i32⟩
  | 101 => ⟨S64x64, .i32⟩
  | 102 => ⟨S64x64, .i32⟩
  | 103 => ⟨S64x64, .i1⟩
  | 104 => ⟨S_, .f32⟩
  | 105 => ⟨S64x64, .f32⟩
  | 106 => ⟨S64x64, .f32⟩
  | 107 => ⟨S1x1x4, .f32⟩
  | 108 => ⟨S16x256x4, .f32⟩
  | 109 => ⟨S16x256x4, .f32⟩
  | 110 => ⟨S16x4x64x4, .f32⟩
  | 111 => ⟨S16x4x4x64, .f32⟩
  | 112 => ⟨S16x4x64x4, .f32⟩
  | 113 => ⟨S16x256x4x1, .f32⟩
  | 114 => ⟨S16x256x4x64, .f32⟩
  | 115 => ⟨S16x256x4x64, .f32⟩
  | 116 => ⟨S16x4x64x4x64, .f32⟩
  | 117 => ⟨S16x4x64x4x64, .f32⟩
  | 118 => ⟨S16x4x1x4, .f32⟩
  | 119 => ⟨S16x4x64x4, .f32⟩
  | 120 => ⟨S16x4x64x4, .f32⟩
  | 121 => ⟨S16x4x64x4, .f32⟩
  | 122 => ⟨S16x4x64x4x1, .f32⟩
  | 123 => ⟨S16x4x64x4x64, .f32⟩
  | 124 => ⟨S16x4x64x4x64, .f32⟩
  | 125 => ⟨S16x4x4x64x64, .f32⟩
  | 126 => ⟨S16x4x1x4, .f32⟩
  | 127 => ⟨S16x4x4, .f32⟩
  | _ => ⟨S6144x768, .f32⟩

abbrev hbmTy0_1 (i : Nat) : BufTy := match i % 128 with
  | 0 => ⟨S16x4x4, .f32⟩
  | 1 => ⟨S_, .f32⟩
  | 2 => ⟨S16x4x64x64, .f32⟩
  | 3 => ⟨S16x1x4, .f32⟩
  | 4 => ⟨S16x4, .f32⟩
  | 5 => ⟨S16x4x1x1, .f32⟩
  | 6 => ⟨S16x4x64x64, .f32⟩
  | 7 => ⟨S16x4x64x64, .f32⟩
  | 8 => ⟨S16x1x4x64x64, .f32⟩
  | 9 => ⟨S16x4x64x64, .f32⟩
  | 10 => ⟨S16x4x64x64, .f32⟩
  | 11 => ⟨S16x1x4, .f32⟩
  | 12 => ⟨S16x4, .f32⟩
  | 13 => ⟨S16x4x1x1, .f32⟩
  | 14 => ⟨S16x4x64x64, .f32⟩
  | 15 => ⟨S16x4x64x64, .f32⟩
  | 16 => ⟨S16x1x4x64x64, .f32⟩
  | 17 => ⟨S16x4x64x64, .f32⟩
  | 18 => ⟨S16x4x64x64, .f32⟩
  | 19 => ⟨S16x1x4, .f32⟩
  | 20 => ⟨S16x4, .f32⟩
  | 21 => ⟨S16x4x1x1, .f32⟩
  | 22 => ⟨S16x4x64x64, .f32⟩
  | 23 => ⟨S16x4x64x64, .f32⟩
  | 24 => ⟨S16x1x4x64x64, .f32⟩
  | 25 => ⟨S16x4x64x64, .f32⟩
  | 26 => ⟨S16x4x64x64, .f32⟩
  | 27 => ⟨S16x1x4, .f32⟩
  | 28 => ⟨S16x4, .f32⟩
  | 29 => ⟨S16x4x1x1, .f32⟩
  | 30 => ⟨S16x4x64x64, .f32⟩
  | 31 => ⟨S16x4x64x64, .f32⟩
  | 32 => ⟨S16x1x4x64x64, .f32⟩
  | 33 => ⟨S16x4x64x64, .f32⟩
  | 34 => ⟨S16x4x64x64, .f32⟩
  | 35 => ⟨S16x256x4x64, .f32⟩
  | 36 => ⟨S16x256x1x4, .f32⟩
  | 37 => ⟨S16x256x1x4, .f32⟩
  | 38 => ⟨S16x256x4, .f32⟩
  | 39 => ⟨S1x4, .f32⟩
  | 40 => ⟨S4, .f32⟩
  | 41 => ⟨S16x256x4x64, .f32⟩
  | 42 => ⟨S_, .f32⟩
  | 43 => ⟨S64x64, .f32⟩
  | 44 => ⟨S64x64, .i32⟩
  | 45 => ⟨S_, .i32⟩
  | 46 => ⟨S64x64, .i32⟩
  | 47 => ⟨S64x64, .i32⟩
  | 48 => ⟨S64x64, .i32⟩
  | 49 => ⟨S64x64, .i1⟩
  | 50 => ⟨S_, .f32⟩
  | 51 => ⟨S64x64, .f32⟩
  | 52 => ⟨S64x64, .f32⟩
  | 53 => ⟨S1x1x4, .f32⟩
  | 54 => ⟨S16x256x4, .f32⟩
  | 55 => ⟨S16x256x4, .f32⟩
  | 56 => ⟨S16x4x64x4, .f32⟩
  | 57 => ⟨S16x4x4x64, .f32⟩
  | 58 => ⟨S16x4x64x4, .f32⟩
  | 59 => ⟨S16x256x4x1, .f32⟩
  | 60 => ⟨S16x256x4x64, .f32⟩
  | 61 => ⟨S16x256x4x64, .f32⟩
  | 62 => ⟨S16x4x64x4x64, .f32⟩
  | 63 => ⟨S16x4x64x4x64, .f32⟩
  | 64 => ⟨S16x4x1x4, .f32⟩
  | 65 => ⟨S16x4x64x4, .f32⟩
  | 66 => ⟨S16x4x64x4, .f32⟩
  | 67 => ⟨S16x4x64x4, .f32⟩
  | 68 => ⟨S16x4x64x4x1, .f32⟩
  | 69 => ⟨S16x4x64x4x64, .f32⟩
  | 70 => ⟨S16x4x64x4x64, .f32⟩
  | 71 => ⟨S16x4x4x64x64, .f32⟩
  | 72 => ⟨S16x4x1x4, .f32⟩
  | 73 => ⟨S16x4x4, .f32⟩
  | 74 => ⟨S16x4x4, .f32⟩
  | 75 => ⟨S_, .f32⟩
  | 76 => ⟨S16x4x64x64, .f32⟩
  | 77 => ⟨S16x1x4, .f32⟩
  | 78 => ⟨S16x4, .f32⟩
  | 79 => ⟨S16x4x1x1, .f32⟩
  | 80 => ⟨S16x4x64x64, .f32⟩
  | 81 => ⟨S16x4x64x64, .f32⟩
  | 82 => ⟨S16x1x4x64x64, .f32⟩
  | 83 => ⟨S16x4x64x64, .f32⟩
  | 84 => ⟨S16x4x64x64, .f32⟩
  | 85 => ⟨S16x1x4, .f32⟩
  | 86 => ⟨S16x4, .f32⟩
  | 87 => ⟨S16x4x1x1, .f32⟩
  | 88 => ⟨S16x4x64x64, .f32⟩
  | 89 => ⟨S16x4x64x64, .f32⟩
  | 90 => ⟨S16x1x4x64x64, .f32⟩
  | 91 => ⟨S16x4x64x64, .f32⟩
  | 92 => ⟨S16x4x64x64, .f32⟩
  | 93 => ⟨S16x1x4, .f32⟩
  | 94 => ⟨S16x4, .f32⟩
  | 95 => ⟨S16x4x1x1, .f32⟩
  | 96 => ⟨S16x4x64x64, .f32⟩
  | 97 => ⟨S16x4x64x64, .f32⟩
  | 98 => ⟨S16x1x4x64x64, .f32⟩
  | 99 => ⟨S16x4x64x64, .f32⟩
  | 100 => ⟨S16x4x64x64, .f32⟩
  | 101 => ⟨S16x1x4, .f32⟩
  | 102 => ⟨S16x4, .f32⟩
  | 103 => ⟨S16x4x1x1, .f32⟩
  | 104 => ⟨S16x4x64x64, .f32⟩
  | 105 => ⟨S16x4x64x64, .f32⟩
  | 106 => ⟨S16x1x4x64x64, .f32⟩
  | 107 => ⟨S16x4x64x64, .f32⟩
  | 108 => ⟨S16x4x64x64, .f32⟩
  | 109 => ⟨S16x1x4x64x64, .f32⟩
  | 110 => ⟨S16x1x4x64x64, .f32⟩
  | 111 => ⟨S16x2x4x64x64, .f32⟩
  | _ => ⟨S6144x768, .f32⟩

abbrev hbmTy (i : Nat) : BufTy := match i / 128 with
  | 0 => hbmTy0_0 i
  | 1 => hbmTy0_1 i
  | _ => ⟨S6144x768, .f32⟩

abbrev bufTy : (tb : Table) → Fin (tcTables nBuf tb) → BufTy
  | .hbm, ⟨i, _⟩ => hbmTy i
  | _, _ => ⟨S6144x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_call2_cst : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_0 : Ref sig .tc := ⟨.hbm, 96, rfl⟩
abbrev main_v63 : Ref sig .tc := ⟨.hbm, 97, rfl⟩
abbrev main_call3_v0 : Ref sig .tc := ⟨.hbm, 98, rfl⟩
abbrev main_call3_c : Ref sig .tc := ⟨.hbm, 99, rfl⟩
abbrev main_call3_v1 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_cst : Ref sig .tc := ⟨.hbm, 104, rfl⟩
abbrev main_call3_v5 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_1 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_cst_2 : Ref sig .tc := ⟨.hbm, 170, rfl⟩
abbrev main_v127 : Ref sig .tc := ⟨.hbm, 171, rfl⟩
abbrev main_call4_v0 : Ref sig .tc := ⟨.hbm, 172, rfl⟩
abbrev main_call4_c : Ref sig .tc := ⟨.hbm, 173, rfl⟩
abbrev main_call4_v1 : Ref sig .tc := ⟨.hbm, 174, rfl⟩
abbrev main_call4_v2 : Ref sig .tc := ⟨.hbm, 175, rfl⟩
abbrev main_call4_v3 : Ref sig .tc := ⟨.hbm, 176, rfl⟩
abbrev main_call4_v4 : Ref sig .tc := ⟨.hbm, 177, rfl⟩
abbrev main_call4_cst : Ref sig .tc := ⟨.hbm, 178, rfl⟩
abbrev main_call4_v5 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_cst_3 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩

abbrev nD : Nat := 1
abbrev τ : Topo := Topo.v7x

variable {F : FTy → Type} [FloatOps F]
-- ==== Kernel7.lean ====
abbrev S6144x256 : Shape := ⟨2, ![6144, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S4096x256 : Shape := ⟨2, ![4096, 256]⟩

abbrev nBuf : Space → Nat
  | .hbm => 175
  | .vmem => 8
  | .smem => 0
  | _ => 0

abbrev hbmTy0_0 (i : Nat) : BufTy := match i % 128 with
  | 0 => ⟨S6144x256, .f32⟩
  | 1 => ⟨S256, .i32⟩
  | 2 => ⟨S256x1, .i32⟩
  | 3 => ⟨S1x256, .i32⟩
  | 4 => ⟨S256x256, .i32⟩
  | 5 => ⟨S256x256, .i32⟩
  | 6 => ⟨S256x256, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S256x256, .i32⟩
  | 14 => ⟨S256x256, .i32⟩
  | 15 => ⟨S_, .i32⟩
  | 16 => ⟨S256x256, .i32⟩
  | 17 => ⟨S256x256, .i1⟩
  | 18 => ⟨S_, .i32⟩
  | 19 => ⟨S256x256, .i32⟩
  | 20 => ⟨S256x256, .i1⟩
  | 21 => ⟨S_, .i32⟩
  | 22 => ⟨S_, .i1⟩
  | 23 => ⟨S256x256, .i1⟩
  | 24 => ⟨S256x256, .i1⟩
  | 25 => ⟨S256x256, .i1⟩
  | 26 => ⟨S256x256, .i32⟩
  | 27 => ⟨S256x256, .i32⟩
  | 28 => ⟨S256x256, .i32⟩
  | 29 => ⟨S256x256, .f32⟩
  | 30 => ⟨S_, .f32⟩
  | 31 => ⟨S256x256, .f32⟩
  | 32 => ⟨S256x256, .f32⟩
  | 33 => ⟨S256, .i32⟩
  | 34 => ⟨S256x1, .i32⟩
  | 35 => ⟨S_, .i32⟩
  | 36 => ⟨S_, .i32⟩
  | 37 => ⟨S256x1, .i32⟩
  | 38 => ⟨S256x1, .i32⟩
  | 39 => ⟨S256x1, .i32⟩
  | 40 => ⟨S_, .i32⟩
  | 41 => ⟨S256x1, .i32⟩
  | 42 => ⟨S256x1, .i1⟩
  | 43 => ⟨S256x1, .i32⟩
  | 44 => ⟨S256x1, .i32⟩
  | 45 => ⟨S_, .i32⟩
  | 46 => ⟨S256x1, .i32⟩
  | 47 => ⟨S256x1, .i1⟩
  | 48 => ⟨S256x1, .i1⟩
  | 49 => ⟨S_, .i32⟩
  | 50 => ⟨S256x1, .i32⟩
  | 51 => ⟨S256x1, .i32⟩
  | 52 => ⟨S256x1, .i32⟩
  | 53 => ⟨S1x256, .i32⟩
  | 54 => ⟨S_, .i32⟩
  | 55 => ⟨S_, .i32⟩
  | 56 => ⟨S1x256, .i32⟩
  | 57 => ⟨S1x256, .i32⟩
  | 58 => ⟨S1x256, .i32⟩
  | 59 => ⟨S_, .i32⟩
  | 60 => ⟨S1x256, .i32⟩
  | 61 => ⟨S1x256, .i1⟩
  | 62 => ⟨S1x256, .i32⟩
  | 63 => ⟨S1x256, .i32⟩
  | 64 => ⟨S_, .i32⟩
  | 65 => ⟨S1x256, .i32⟩
  | 66 => ⟨S1x256, .i1⟩
  | 67 => ⟨S1x256, .i1⟩
  | 68 => ⟨S_, .i32⟩
  | 69 => ⟨S1x256, .i32⟩
  | 70 => ⟨S1x256, .i32⟩
  | 71 => ⟨S1x256, .i32⟩
  | 72 => ⟨S256x256, .i32⟩
  | 73 => ⟨S256x256, .i32⟩
  | 74 => ⟨S256x256, .i1⟩
  | 75 => ⟨S256x1, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S256x1, .i32⟩
  | 83 => ⟨S256x1, .i32⟩
  | 84 => ⟨S_, .i32⟩
  | 85 => ⟨S256x1, .i32⟩
  | 86 => ⟨S256x1, .i1⟩
  | 87 => ⟨S_, .i32⟩
  | 88 => ⟨S256x1, .i32⟩
  | 89 => ⟨S256x1, .i1⟩
  | 90 => ⟨S_, .i32⟩
  | 91 => ⟨S_, .i1⟩
  | 92 => ⟨S256x1, .i1⟩
  | 93 => ⟨S256x1, .i1⟩
  | 94 => ⟨S256x1, .i1⟩
  | 95 => ⟨S256x1, .i32⟩
  | 96 => ⟨S256x1, .i32⟩
  | 97 => ⟨S256x1, .i32⟩
  | 98 => ⟨S1x256, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S1x256, .i32⟩
  | 106 => ⟨S1x256, .i32⟩
  | 107 => ⟨S_, .i32⟩
  | 108 => ⟨S1x256, .i32⟩
  | 109 => ⟨S1x256, .i1⟩
  | 110 => ⟨S_, .i32⟩
  | 111 => ⟨S1x256, .i32⟩
  | 112 => ⟨S1x256, .i1⟩
  | 113 => ⟨S_, .i32⟩
  | 114 => ⟨S_, .i1⟩
  | 115 => ⟨S1x256, .i1⟩
  | 116 => ⟨S1x256, .i1⟩
  | 117 => ⟨S1x256, .i1⟩
  | 118 => ⟨S1x256, .i32⟩
  | 119 => ⟨S1x256, .i32⟩
  | 120 => ⟨S1x256, .i32⟩
  | 121 => ⟨S256x256, .i32⟩
  | 122 => ⟨S256x256, .i32⟩
  | 123 => ⟨S256x256, .i32⟩
  | 124 => ⟨S_, .i32⟩
  | 125 => ⟨S_, .i32⟩
  | 126 => ⟨S_, .i32⟩
  | 127 => ⟨S_, .i1⟩
  | _ => ⟨S6144x256, .f32⟩

abbrev hbmTy0_1 (i : Nat) : BufTy := match i % 128 with
  | 0 => ⟨S_, .i32⟩
  | 1 => ⟨S_, .i32⟩
  | 2 => ⟨S256x256, .i32⟩
  | 3 => ⟨S256x256, .i32⟩
  | 4 => ⟨S_, .i32⟩
  | 5 => ⟨S256x256, .i32⟩
  | 6 => ⟨S256x256, .i1⟩
  | 7 => ⟨S_, .i32⟩
  | 8 => ⟨S256x256, .i32⟩
  | 9 => ⟨S256x256, .i1⟩
  | 10 => ⟨S_, .i32⟩
  | 11 => ⟨S_, .i1⟩
  | 12 => ⟨S256x256, .i1⟩
  | 13 => ⟨S256x256, .i1⟩
  | 14 => ⟨S256x256, .i1⟩
  | 15 => ⟨S256x256, .i32⟩
  | 16 => ⟨S256x256, .i32⟩
  | 17 => ⟨S256x256, .i32⟩
  | 18 => ⟨S256x256, .f32⟩
  | 19 => ⟨S_, .f32⟩
  | 20 => ⟨S256x256, .f32⟩
  | 21 => ⟨S256x256, .f32⟩
  | 22 => ⟨S256x256, .f32⟩
  | 23 => ⟨S_, .f32⟩
  | 24 => ⟨S256x256, .f32⟩
  | 25 => ⟨S256x256, .f32⟩
  | 26 => ⟨S256x256, .f32⟩
  | 27 => ⟨S_, .f32⟩
  | 28 => ⟨S256x256, .f32⟩
  | 29 => ⟨S256x256, .f32⟩
  | 30 => ⟨S256x256, .f32⟩
  | 31 => ⟨S_, .f32⟩
  | 32 => ⟨S256x256, .f32⟩
  | 33 => ⟨S256x256, .f32⟩
  | 34 => ⟨S_, .f32⟩
  | 35 => ⟨S_, .f32⟩
  | 36 => ⟨S256x256, .f32⟩
  | 37 => ⟨S256x256, .f32⟩
  | 38 => ⟨S256x256, .f32⟩
  | 39 => ⟨S_, .f32⟩
  | 40 => ⟨S256x256, .f32⟩
  | 41 => ⟨S256x256, .f32⟩
  | 42 => ⟨S_, .f32⟩
  | 43 => ⟨S_, .f32⟩
  | 44 => ⟨S256x256, .f32⟩
  | 45 => ⟨S256x256, .f32⟩
  | 46 => ⟨S4096x256, .bf16⟩
  | _ => ⟨S6144x256, .f32⟩

abbrev hbmTy (i : Nat) : BufTy := match i / 128 with
  | 0 => hbmTy0_0 i
  | 1 => hbmTy0_1 i
  | _ => ⟨S6144x256, .f32⟩

abbrev bufTy : (tb : Table) → Fin (tcTables nBuf tb) → BufTy
  | .hbm, ⟨i, _⟩ => hbmTy i
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .bf16⟩
  | .local _ .vmem, ⟨7, _⟩ => ⟨S256x256, .bf16⟩
  | _, _ => ⟨S6144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v12 : Ref sig .tc := ⟨.hbm, 52, rfl⟩
abbrev main_v13 : Ref sig .tc := ⟨.hbm, 53, rfl⟩
abbrev main_c_1 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_c : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_0 : Ref sig .tc := ⟨.hbm, 68, rfl⟩
abbrev main_call2_v12 : Ref sig .tc := ⟨.hbm, 69, rfl⟩
abbrev main_call2_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_c_2 : Ref sig .tc := ⟨.hbm, 76, rfl⟩
abbrev main_call3_v0 : Ref sig .tc := ⟨.hbm, 77, rfl⟩
abbrev main_call3_c : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_c_1 : Ref sig .tc := ⟨.hbm, 84, rfl⟩
abbrev main_call3_v5 : Ref sig .tc := ⟨.hbm, 85, rfl⟩
abbrev main_call3_v6 : Ref sig .tc := ⟨.hbm, 86, rfl⟩
abbrev main_call3_c_2 : Ref sig .tc := ⟨.hbm, 87, rfl⟩
abbrev main_call3_v7 : Ref sig .tc := ⟨.hbm, 88, rfl⟩
abbrev main_call3_v8 : Ref sig .tc := ⟨.hbm, 89, rfl⟩
abbrev main_call3_c_3 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_v12 : Ref sig .tc := ⟨.hbm, 94, rfl⟩
abbrev main_call3_v13 : Ref sig .tc := ⟨.hbm, 95, rfl⟩
abbrev main_call3_v14 : Ref sig .tc := ⟨.hbm, 96, rfl⟩
abbrev main_v19 : Ref sig .tc := ⟨.hbm, 97, rfl⟩
abbrev main_v20 : Ref sig .tc := ⟨.hbm, 98, rfl⟩
abbrev main_c_3 : Ref sig .tc := ⟨.hbm, 99, rfl⟩
abbrev main_call4_v0 : Ref sig .tc := ⟨.hbm, 100, rfl⟩
abbrev main_call4_c : Ref sig .tc := ⟨.hbm, 101, rfl⟩
abbrev main_call4_v1 : Ref sig .tc := ⟨.hbm, 102, rfl⟩
abbrev main_call4_c_0 : Ref sig .tc := ⟨.hbm, 103, rfl⟩
abbrev main_call4_v2 : Ref sig .tc := ⟨.hbm, 104, rfl⟩
abbrev main_call4_v3 : Ref sig .tc := ⟨.hbm, 105, rfl⟩
abbrev main_call4_v4 : Ref sig .tc := ⟨.hbm, 106, rfl⟩
abbrev main_call4_c_1 : Ref sig .tc := ⟨.hbm, 107, rfl⟩
abbrev main_call4_v5 : Ref sig .tc := ⟨.hbm, 108, rfl⟩
abbrev main_call4_v6 : Ref sig .tc := ⟨.hbm, 109, rfl⟩
abbrev main_call4_c_2 : Ref sig .tc := ⟨.hbm, 110, rfl⟩
abbrev main_call4_v7 : Ref sig .tc := ⟨.hbm, 111, rfl⟩
abbrev main_call4_v8 : Ref sig .tc := ⟨.hbm, 112, rfl⟩
abbrev main_call4_c_3 : Ref sig .tc := ⟨.hbm, 113, rfl⟩
abbrev main_call4_v9 : Ref sig .tc := ⟨.hbm, 114, rfl⟩
abbrev main_call4_v10 : Ref sig .tc := ⟨.hbm, 115, rfl⟩
abbrev main_call4_v11 : Ref sig .tc := ⟨.hbm, 116, rfl⟩
abbrev main_call4_v12 : Ref sig .tc := ⟨.hbm, 117, rfl⟩
abbrev main_call4_v13 : Ref sig .tc := ⟨.hbm, 118, rfl⟩
abbrev main_call4_v14 : Ref sig .tc := ⟨.hbm, 119, rfl⟩
abbrev main_v21 : Ref sig .tc := ⟨.hbm, 120, rfl⟩
abbrev main_v22 : Ref sig .tc := ⟨.hbm, 121, rfl⟩
abbrev main_v23 : Ref sig .tc := ⟨.hbm, 122, rfl⟩
abbrev main_v24 : Ref sig .tc := ⟨.hbm, 123, rfl⟩
abbrev main_c_4 : Ref sig .tc := ⟨.hbm, 124, rfl⟩
abbrev main_call5_v0 : Ref sig .tc := ⟨.hbm, 125, rfl⟩
abbrev main_call5_c : Ref sig .tc := ⟨.hbm, 126, rfl⟩
abbrev main_call5_v1 : Ref sig .tc := ⟨.hbm, 127, rfl⟩
abbrev main_call5_c_0 : Ref sig .tc := ⟨.hbm, 128, rfl⟩
abbrev main_call5_v2 : Ref sig .tc := ⟨.hbm, 129, rfl⟩
abbrev main_call5_v3 : Ref sig .tc := ⟨.hbm, 130, rfl⟩
abbrev main_call5_v4 : Ref sig .tc := ⟨.hbm, 131, rfl⟩
abbrev main_call5_c_1 : Ref sig .tc := ⟨.hbm, 132, rfl⟩
abbrev main_call5_v5 : Ref sig .tc := ⟨.hbm, 133, rfl⟩
abbrev main_call5_v6 : Ref sig .tc := ⟨.hbm, 134, rfl⟩
abbrev main_call5_c_2 : Ref sig .tc := ⟨.hbm, 135, rfl⟩
abbrev main_call5_v7 : Ref sig .tc := ⟨.hbm, 136, rfl⟩
abbrev main_call5_v8 : Ref sig .tc := ⟨.hbm, 137, rfl⟩
abbrev main_call5_c_3 : Ref sig .tc := ⟨.hbm, 138, rfl⟩
abbrev main_call5_v9 : Ref sig .tc := ⟨.hbm, 139, rfl⟩
abbrev main_call5_v10 : Ref sig .tc := ⟨.hbm, 140, rfl⟩
abbrev main_call5_v11 : Ref sig .tc := ⟨.hbm, 141, rfl⟩
abbrev main_call5_v12 : Ref sig .tc := ⟨.hbm, 142, rfl⟩
abbrev main_call5_v13 : Ref sig .tc := ⟨.hbm, 143, rfl⟩
abbrev main_call5_v14 : Ref sig .tc := ⟨.hbm, 144, rfl⟩
abbrev main_v25 : Ref sig .tc := ⟨.hbm, 145, rfl⟩
abbrev main_v26 : Ref sig .tc := ⟨.hbm, 146, rfl⟩
abbrev main_cst_5 : Ref sig .tc := ⟨.hbm, 147, rfl⟩
abbrev main_v27 : Ref sig .tc := ⟨.hbm, 148, rfl⟩
abbrev main_v28 : Ref sig .tc := ⟨.hbm, 149, rfl⟩
abbrev main_v29 : Ref sig .tc := ⟨.hbm, 150, rfl⟩
abbrev main_cst_6 : Ref sig .tc := ⟨.hbm, 151, rfl⟩
abbrev main_v30 : Ref sig .tc := ⟨.hbm, 152, rfl⟩
abbrev main_v31 : Ref sig .tc := ⟨.hbm, 153, rfl⟩
abbrev main_v32 : Ref sig .tc := ⟨.hbm, 154, rfl⟩
abbrev main_cst_7 : Ref sig .tc := ⟨.hbm, 155, rfl⟩
abbrev main_v33 : Ref sig .tc := ⟨.hbm, 156, rfl⟩
abbrev main_v34 : Ref sig .tc := ⟨.hbm, 157, rfl⟩
abbrev main_v35 : Ref sig .tc := ⟨.hbm, 158, rfl⟩
abbrev main_cst_8 : Ref sig .tc := ⟨.hbm, 159, rfl⟩
abbrev main_v36 : Ref sig .tc := ⟨.hbm, 160, rfl⟩
abbrev main_v37 : Ref sig .tc := ⟨.hbm, 161, rfl⟩
abbrev main_cst_9 : Ref sig .tc := ⟨.hbm, 162, rfl⟩
abbrev main_call6_v0 : Ref sig .tc := ⟨.hbm, 163, rfl⟩
abbrev main_call6_v1 : Ref sig .tc := ⟨.hbm, 164, rfl⟩
abbrev main_v38 : Ref sig .tc := ⟨.hbm, 165, rfl⟩
abbrev main_v39 : Ref sig .tc := ⟨.hbm, 166, rfl⟩
abbrev main_cst_10 : Ref sig .tc := ⟨.hbm, 167, rfl⟩
abbrev main_v40 : Ref sig .tc := ⟨.hbm, 168, rfl⟩
abbrev main_v41 : Ref sig .tc := ⟨.hbm, 169, rfl⟩
abbrev main_cst_11 : Ref sig .tc := ⟨.hbm, 170, rfl⟩
abbrev main_call7_v0 : Ref sig .tc := ⟨.hbm, 171, rfl⟩
abbrev main_call7_v1 : Ref sig .tc := ⟨.hbm, 172, rfl⟩
abbrev main_v42 : Ref sig .tc := ⟨.hbm, 173, rfl⟩
abbrev main_v43 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S6144x256 : Shape := ⟨2, ![6144, 256]⟩
abbrev S4096x256 : Shape := ⟨2, ![4096, 256]⟩
abbrev S16x256x256 : Shape := ⟨3, ![16, 256, 256]⟩
abbrev S16x256x4x64 : Shape := ⟨4, ![16, 256, 4, 64]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S16x4x64x256 : Shape := ⟨4, ![16, 4, 64, 256]⟩

abbrev nBuf : Space → Nat
  | .hbm => 85
  | .vmem => 0
  | .smem => 0
  | _ => 0

abbrev bufTy : (tb : Table) → Fin (tcTables nBuf tb) → BufTy
  | .hbm, ⟨0, _⟩ => ⟨S6144x256, .f32⟩
  | .hbm, ⟨1, _⟩ => ⟨S4096x256, .f32⟩
  | .hbm, ⟨2, _⟩ => ⟨S16x256x256, .f32⟩
  | .hbm, ⟨3, _⟩ => ⟨S16x256x4x64, .f32⟩
  | .hbm, ⟨4, _⟩ => ⟨S256, .i32⟩
  | .hbm, ⟨5, _⟩ => ⟨S256x1, .i32⟩
  | .hbm, ⟨6, _⟩ => ⟨S1x256, .i32⟩
  | .hbm, ⟨7, _⟩ => ⟨S256x256, .i32⟩
  | .hbm, ⟨8, _⟩ => ⟨S256x256, .i32⟩
  | .hbm, ⟨9, _⟩ => ⟨S256x256, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S256x256, .i32⟩
  | .hbm, ⟨17, _⟩ => ⟨S256x256, .i32⟩
  | .hbm, ⟨18, _⟩ => ⟨S_, .i32⟩
  | .hbm, ⟨19, _⟩ => ⟨S256x256, .i32⟩
  | .hbm, ⟨20, _⟩ => ⟨S256x256, .i1⟩
  | .hbm, ⟨21, _⟩ => ⟨S_, .i32⟩
  | .hbm, ⟨22, _⟩ => ⟨S256x256, .i32⟩
  | .hbm, ⟨23, _⟩ => ⟨S256x256, .i1⟩
  | .hbm, ⟨24, _⟩ => ⟨S_, .i32⟩
  | .hbm, ⟨25, _⟩ => ⟨S_, .i1⟩
  | .hbm, ⟨26, _⟩ => ⟨S256x256, .i1⟩
  | .hbm, ⟨27, _⟩ => ⟨S256x256, .i1⟩
  | .hbm, ⟨28, _⟩ => ⟨S256x256, .i1⟩
  | .hbm, ⟨29, _⟩ => ⟨S256x256, .i32⟩
  | .hbm, ⟨30, _⟩ => ⟨S256x256, .i32⟩
  | .hbm, ⟨31, _⟩ => ⟨S256x256, .i32⟩
  | .hbm, ⟨32, _⟩ => ⟨S256x256, .f32⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S64, .i32⟩
  | .hbm, ⟨39, _⟩ => ⟨S64x1, .i32⟩
  | .hbm, ⟨40, _⟩ => ⟨S1x64, .i32⟩
  | .hbm, ⟨41, _⟩ => ⟨S64x64, .i32⟩
  | .hbm, ⟨42, _⟩ => ⟨S64x64, .i32⟩
  | .hbm, ⟨43, _⟩ => ⟨S64x64, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S64x64, .i32⟩
  | .hbm, ⟨51, _⟩ => ⟨S64x64, .i32⟩
  | .hbm, ⟨52, _⟩ => ⟨S_, .i32⟩
  | .hbm, ⟨53, _⟩ => ⟨S64x64, .i32⟩
  | .hbm, ⟨54, _⟩ => ⟨S64x64, .i1⟩
  | .hbm, ⟨55, _⟩ => ⟨S_, .i32⟩
  | .hbm, ⟨56, _⟩ => ⟨S64x64, .i32⟩
  | .hbm, ⟨57, _⟩ => ⟨S64x64, .i1⟩
  | .hbm, ⟨58, _⟩ => ⟨S_, .i32⟩
  | .hbm, ⟨59, _⟩ => ⟨S_, .i1⟩
  | .hbm, ⟨60, _⟩ => ⟨S64x64, .i1⟩
  | .hbm, ⟨61, _⟩ => ⟨S64x64, .i1⟩
  | .hbm, ⟨62, _⟩ => ⟨S64x64, .i1⟩
  | .hbm, ⟨63, _⟩ => ⟨S64x64, .i32⟩
  | .hbm, ⟨64, _⟩ => ⟨S64x64, .i32⟩
  | .hbm, ⟨65, _⟩ => ⟨S64x64, .i32⟩
  | .hbm, ⟨66, _⟩ => ⟨S64x64, .f32⟩
  | .hbm, ⟨67, _⟩ => ⟨S_, .f32⟩
  | .hbm, ⟨68, _⟩ => ⟨S64x64, .f32⟩
  | .hbm, ⟨69, _⟩ => ⟨S64x64, .f32⟩
  | .hbm, ⟨70, _⟩ => ⟨S64x64, .f32⟩
  | .hbm, ⟨71, _⟩ => ⟨S64x64, .f32⟩
  | .hbm, ⟨72, _⟩ => ⟨S16x256x4x64, .f32⟩
  | .hbm, ⟨73, _⟩ => ⟨S16x256x4x64, .f32⟩
  | .hbm, ⟨74, _⟩ => ⟨S16x4x64x256, .f32⟩
  | .hbm, ⟨75, _⟩ => ⟨S16x256x4x64, .f32⟩
  | .hbm, ⟨76, _⟩ => ⟨S16x4x64x256, .f32⟩
  | .hbm, ⟨77, _⟩ => ⟨S16x256x4x64, .f32⟩
  | .hbm, ⟨78, _⟩ => ⟨S16x256x4x64, .f32⟩
  | .hbm, ⟨79, _⟩ => ⟨S_, .f32⟩
  | .hbm, ⟨80, _⟩ => ⟨S16x256x4x64, .f32⟩
  | .hbm, ⟨81, _⟩ => ⟨S16x256x4x64, .f32⟩
  | .hbm, ⟨82, _⟩ => ⟨S16x256x256, .f32⟩
  | .hbm, ⟨83, _⟩ => ⟨S4096x256, .f32⟩
  | .hbm, ⟨84, _⟩ => ⟨S4096x256, .bf16⟩
  | _, _ => ⟨S6144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_0 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_v5 : Ref sig .tc := ⟨.hbm, 53, rfl⟩
abbrev main_call1_v6 : Ref sig .tc := ⟨.hbm, 54, rfl⟩
abbrev main_call1_c_2 : Ref sig .tc := ⟨.hbm, 55, rfl⟩
abbrev main_call1_v7 : Ref sig .tc := ⟨.hbm, 56, rfl⟩
abbrev main_call1_v8 : Ref sig .tc := ⟨.hbm, 57, rfl⟩
abbrev main_call1_c_3 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_v21 : Ref sig .tc := ⟨.hbm, 65, rfl⟩
abbrev main_v22 : Ref sig .tc := ⟨.hbm, 66, rfl⟩
abbrev main_cst_1 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_cst_2 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩

abbrev nD : Nat := 1
abbrev τ : Topo := Topo.v7x

variable {F : FTy → Type} [FloatOps F]
-- ==== Kernel8.lean ====
abbrev S6144x256 : Shape := ⟨2, ![6144, 256]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S2048x256 : Shape := ⟨2, ![2048, 256]⟩
abbrev S1024x256 : Shape := ⟨2, ![1024, 256]⟩

abbrev nBuf : Space → Nat
  | .hbm => 175
  | .vmem => 8
  | .smem => 0
  | _ => 0

abbrev hbmTy0_0 (i : Nat) : BufTy := match i % 128 with
  | 0 => ⟨S6144x256, .f32⟩
  | 1 => ⟨S1024, .i32⟩
  | 2 => ⟨S1024x1, .i32⟩
  | 3 => ⟨S1x1024, .i32⟩
  | 4 => ⟨S1024x1024, .i32⟩
  | 5 => ⟨S1024x1024, .i32⟩
  | 6 => ⟨S1024x1024, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S1024x1024, .i32⟩
  | 14 => ⟨S1024x1024, .i32⟩
  | 15 => ⟨S_, .i32⟩
  | 16 => ⟨S1024x1024, .i32⟩
  | 17 => ⟨S1024x1024, .i1⟩
  | 18 => ⟨S_, .i32⟩
  | 19 => ⟨S1024x1024, .i32⟩
  | 20 => ⟨S1024x1024, .i1⟩
  | 21 => ⟨S_, .i32⟩
  | 22 => ⟨S_, .i1⟩
  | 23 => ⟨S1024x1024, .i1⟩
  | 24 => ⟨S1024x1024, .i1⟩
  | 25 => ⟨S1024x1024, .i1⟩
  | 26 => ⟨S1024x1024, .i32⟩
  | 27 => ⟨S1024x1024, .i32⟩
  | 28 => ⟨S1024x1024, .i32⟩
  | 29 => ⟨S1024x1024, .f32⟩
  | 30 => ⟨S_, .f32⟩
  | 31 => ⟨S1024x1024, .f32⟩
  | 32 => ⟨S1024x1024, .f32⟩
  | 33 => ⟨S256, .i32⟩
  | 34 => ⟨S256x1, .i32⟩
  | 35 => ⟨S_, .i32⟩
  | 36 => ⟨S_, .i32⟩
  | 37 => ⟨S256x1, .i32⟩
  | 38 => ⟨S256x1, .i32⟩
  | 39 => ⟨S256x1, .i32⟩
  | 40 => ⟨S_, .i32⟩
  | 41 => ⟨S256x1, .i32⟩
  | 42 => ⟨S256x1, .i1⟩
  | 43 => ⟨S256x1, .i32⟩
  | 44 => ⟨S256x1, .i32⟩
  | 45 => ⟨S_, .i32⟩
  | 46 => ⟨S256x1, .i32⟩
  | 47 => ⟨S256x1, .i1⟩
  | 48 => ⟨S256x1, .i1⟩
  | 49 => ⟨S_, .i32⟩
  | 50 => ⟨S256x1, .i32⟩
  | 51 => ⟨S256x1, .i32⟩
  | 52 => ⟨S256x1, .i32⟩
  | 53 => ⟨S1x256, .i32⟩
  | 54 => ⟨S_, .i32⟩
  | 55 => ⟨S_, .i32⟩
  | 56 => ⟨S1x256, .i32⟩
  | 57 => ⟨S1x256, .i32⟩
  | 58 => ⟨S1x256, .i32⟩
  | 59 => ⟨S_, .i32⟩
  | 60 => ⟨S1x256, .i32⟩
  | 61 => ⟨S1x256, .i1⟩
  | 62 => ⟨S1x256, .i32⟩
  | 63 => ⟨S1x256, .i32⟩
  | 64 => ⟨S_, .i32⟩
  | 65 => ⟨S1x256, .i32⟩
  | 66 => ⟨S1x256, .i1⟩
  | 67 => ⟨S1x256, .i1⟩
  | 68 => ⟨S_, .i32⟩
  | 69 => ⟨S1x256, .i32⟩
  | 70 => ⟨S1x256, .i32⟩
  | 71 => ⟨S1x256, .i32⟩
  | 72 => ⟨S256x256, .i32⟩
  | 73 => ⟨S256x256, .i32⟩
  | 74 => ⟨S256x256, .i1⟩
  | 75 => ⟨S256x1, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S256x1, .i32⟩
  | 83 => ⟨S256x1, .i32⟩
  | 84 => ⟨S_, .i32⟩
  | 85 => ⟨S256x1, .i32⟩
  | 86 => ⟨S256x1, .i1⟩
  | 87 => ⟨S_, .i32⟩
  | 88 => ⟨S256x1, .i32⟩
  | 89 => ⟨S256x1, .i1⟩
  | 90 => ⟨S_, .i32⟩
  | 91 => ⟨S_, .i1⟩
  | 92 => ⟨S256x1, .i1⟩
  | 93 => ⟨S256x1, .i1⟩
  | 94 => ⟨S256x1, .i1⟩
  | 95 => ⟨S256x1, .i32⟩
  | 96 => ⟨S256x1, .i32⟩
  | 97 => ⟨S256x1, .i32⟩
  | 98 => ⟨S1x256, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S1x256, .i32⟩
  | 106 => ⟨S1x256, .i32⟩
  | 107 => ⟨S_, .i32⟩
  | 108 => ⟨S1x256, .i32⟩
  | 109 => ⟨S1x256, .i1⟩
  | 110 => ⟨S_, .i32⟩
  | 111 => ⟨S1x256, .i32⟩
  | 112 => ⟨S1x256, .i1⟩
  | 113 => ⟨S_, .i32⟩
  | 114 => ⟨S_, .i1⟩
  | 115 => ⟨S1x256, .i1⟩
  | 116 => ⟨S1x256, .i1⟩
  | 117 => ⟨S1x256, .i1⟩
  | 118 => ⟨S1x256, .i32⟩
  | 119 => ⟨S1x256, .i32⟩
  | 120 => ⟨S1x256, .i32⟩
  | 121 => ⟨S256x256, .i32⟩
  | 122 => ⟨S256x256, .i32⟩
  | 123 => ⟨S256x256, .i32⟩
  | 124 => ⟨S_, .i32⟩
  | 125 => ⟨S_, .i32⟩
  | 126 => ⟨S_, .i32⟩
  | 127 => ⟨S_, .i1⟩
  | _ => ⟨S6144x256, .f32⟩

abbrev hbmTy0_1 (i : Nat) : BufTy := match i % 128 with
  | 0 => ⟨S_, .i32⟩
  | 1 => ⟨S_, .i32⟩
  | 2 => ⟨S256x256, .i32⟩
  | 3 => ⟨S256x256, .i32⟩
  | 4 => ⟨S_, .i32⟩
  | 5 => ⟨S256x256, .i32⟩
  | 6 => ⟨S256x256, .i1⟩
  | 7 => ⟨S_, .i32⟩
  | 8 => ⟨S256x256, .i32⟩
  | 9 => ⟨S256x256, .i1⟩
  | 10 => ⟨S_, .i32⟩
  | 11 => ⟨S_, .i1⟩
  | 12 => ⟨S256x256, .i1⟩
  | 13 => ⟨S256x256, .i1⟩
  | 14 => ⟨S256x256, .i1⟩
  | 15 => ⟨S256x256, .i32⟩
  | 16 => ⟨S256x256, .i32⟩
  | 17 => ⟨S256x256, .i32⟩
  | 18 => ⟨S256x256, .f32⟩
  | 19 => ⟨S_, .f32⟩
  | 20 => ⟨S256x256, .f32⟩
  | 21 => ⟨S256x256, .f32⟩
  | 22 => ⟨S1024x1024, .f32⟩
  | 23 => ⟨S_, .f32⟩
  | 24 => ⟨S1024x1024, .f32⟩
  | 25 => ⟨S1024x1024, .f32⟩
  | 26 => ⟨S1024x1024, .f32⟩
  | 27 => ⟨S_, .f32⟩
  | 28 => ⟨S1024x1024, .f32⟩
  | 29 => ⟨S1024x1024, .f32⟩
  | 30 => ⟨S256x256, .f32⟩
  | 31 => ⟨S_, .f32⟩
  | 32 => ⟨S256x256, .f32⟩
  | 33 => ⟨S256x256, .f32⟩
  | 34 => ⟨S_, .f32⟩
  | 35 => ⟨S_, .f32⟩
  | 36 => ⟨S256x256, .f32⟩
  | 37 => ⟨S256x256, .f32⟩
  | 38 => ⟨S256x256, .f32⟩
  | 39 => ⟨S_, .f32⟩
  | 40 => ⟨S256x256, .f32⟩
  | 41 => ⟨S256x256, .f32⟩
  | 42 => ⟨S_, .f32⟩
  | 43 => ⟨S_, .f32⟩
  | 44 => ⟨S256x256, .f32⟩
  | 45 => ⟨S256x256, .f32⟩
  | 46 => ⟨S2048x256, .bf16⟩
  | _ => ⟨S6144x256, .f32⟩

abbrev hbmTy (i : Nat) : BufTy := match i / 128 with
  | 0 => hbmTy0_0 i
  | 1 => hbmTy0_1 i
  | _ => ⟨S6144x256, .f32⟩

abbrev bufTy : (tb : Table) → Fin (tcTables nBuf tb) → BufTy
  | .hbm, ⟨i, _⟩ => hbmTy i
  | .local _ .vmem, ⟨0, _⟩ => ⟨S1024x256, .f32⟩
  | .local _ .vmem, ⟨1, _⟩ => ⟨S1024x256, .f32⟩
  | .local _ .vmem, ⟨2, _⟩ => ⟨S1024x1024, .f32⟩
  | .local _ .vmem, ⟨3, _⟩ => ⟨S1024x1024, .f32⟩
  | .local _ .vmem, ⟨4, _⟩ => ⟨S256x256, .f32⟩
  | .local _ .vmem, ⟨5, _⟩ => ⟨S256x256, .f32⟩
  | .local _ .vmem, ⟨6, _⟩ => ⟨S1024x256, .bf16⟩
  | .local _ .vmem, ⟨7, _⟩ => ⟨S1024x256, .bf16⟩
  | _, _ => ⟨S6144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v12 : Ref sig .tc := ⟨.hbm, 52, rfl⟩
abbrev main_v13 : Ref sig .tc := ⟨.hbm, 53, rfl⟩
abbrev main_c_1 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_c : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_0 : Ref sig .tc := ⟨.hbm, 68, rfl⟩
abbrev main_call2_v12 : Ref sig .tc := ⟨.hbm, 69, rfl⟩
abbrev main_call2_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_c_2 : Ref sig .tc := ⟨.hbm, 76, rfl⟩
abbrev main_call3_v0 : Ref sig .tc := ⟨.hbm, 77, rfl⟩
abbrev main_call3_c : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_c_1 : Ref sig .tc := ⟨.hbm, 84, rfl⟩
abbrev main_call3_v5 : Ref sig .tc := ⟨.hbm, 85, rfl⟩
abbrev main_call3_v6 : Ref sig .tc := ⟨.hbm, 86, rfl⟩
abbrev main_call3_c_2 : Ref sig .tc := ⟨.hbm, 87, rfl⟩
abbrev main_call3_v7 : Ref sig .tc := ⟨.hbm, 88, rfl⟩
abbrev main_call3_v8 : Ref sig .tc := ⟨.hbm, 89, rfl⟩
abbrev main_call3_c_3 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_v12 : Ref sig .tc := ⟨.hbm, 94, rfl⟩
abbrev main_call3_v13 : Ref sig .tc := ⟨.hbm, 95, rfl⟩
abbrev main_call3_v14 : Ref sig .tc := ⟨.hbm, 96, rfl⟩
abbrev main_v19 : Ref sig .tc := ⟨.hbm, 97, rfl⟩
abbrev main_v20 : Ref sig .tc := ⟨.hbm, 98, rfl⟩
abbrev main_c_3 : Ref sig .tc := ⟨.hbm, 99, rfl⟩
abbrev main_call4_v0 : Ref sig .tc := ⟨.hbm, 100, rfl⟩
abbrev main_call4_c : Ref sig .tc := ⟨.hbm, 101, rfl⟩
abbrev main_call4_v1 : Ref sig .tc := ⟨.hbm, 102, rfl⟩
abbrev main_call4_c_0 : Ref sig .tc := ⟨.hbm, 103, rfl⟩
abbrev main_call4_v2 : Ref sig .tc := ⟨.hbm, 104, rfl⟩
abbrev main_call4_v3 : Ref sig .tc := ⟨.hbm, 105, rfl⟩
abbrev main_call4_v4 : Ref sig .tc := ⟨.hbm, 106, rfl⟩
abbrev main_call4_c_1 : Ref sig .tc := ⟨.hbm, 107, rfl⟩
abbrev main_call4_v5 : Ref sig .tc := ⟨.hbm, 108, rfl⟩
abbrev main_call4_v6 : Ref sig .tc := ⟨.hbm, 109, rfl⟩
abbrev main_call4_c_2 : Ref sig .tc := ⟨.hbm, 110, rfl⟩
abbrev main_call4_v7 : Ref sig .tc := ⟨.hbm, 111, rfl⟩
abbrev main_call4_v8 : Ref sig .tc := ⟨.hbm, 112, rfl⟩
abbrev main_call4_c_3 : Ref sig .tc := ⟨.hbm, 113, rfl⟩
abbrev main_call4_v9 : Ref sig .tc := ⟨.hbm, 114, rfl⟩
abbrev main_call4_v10 : Ref sig .tc := ⟨.hbm, 115, rfl⟩
abbrev main_call4_v11 : Ref sig .tc := ⟨.hbm, 116, rfl⟩
abbrev main_call4_v12 : Ref sig .tc := ⟨.hbm, 117, rfl⟩
abbrev main_call4_v13 : Ref sig .tc := ⟨.hbm, 118, rfl⟩
abbrev main_call4_v14 : Ref sig .tc := ⟨.hbm, 119, rfl⟩
abbrev main_v21 : Ref sig .tc := ⟨.hbm, 120, rfl⟩
abbrev main_v22 : Ref sig .tc := ⟨.hbm, 121, rfl⟩
abbrev main_v23 : Ref sig .tc := ⟨.hbm, 122, rfl⟩
abbrev main_v24 : Ref sig .tc := ⟨.hbm, 123, rfl⟩
abbrev main_c_4 : Ref sig .tc := ⟨.hbm, 124, rfl⟩
abbrev main_call5_v0 : Ref sig .tc := ⟨.hbm, 125, rfl⟩
abbrev main_call5_c : Ref sig .tc := ⟨.hbm, 126, rfl⟩
abbrev main_call5_v1 : Ref sig .tc := ⟨.hbm, 127, rfl⟩
abbrev main_call5_c_0 : Ref sig .tc := ⟨.hbm, 128, rfl⟩
abbrev main_call5_v2 : Ref sig .tc := ⟨.hbm, 129, rfl⟩
abbrev main_call5_v3 : Ref sig .tc := ⟨.hbm, 130, rfl⟩
abbrev main_call5_v4 : Ref sig .tc := ⟨.hbm, 131, rfl⟩
abbrev main_call5_c_1 : Ref sig .tc := ⟨.hbm, 132, rfl⟩
abbrev main_call5_v5 : Ref sig .tc := ⟨.hbm, 133, rfl⟩
abbrev main_call5_v6 : Ref sig .tc := ⟨.hbm, 134, rfl⟩
abbrev main_call5_c_2 : Ref sig .tc := ⟨.hbm, 135, rfl⟩
abbrev main_call5_v7 : Ref sig .tc := ⟨.hbm, 136, rfl⟩
abbrev main_call5_v8 : Ref sig .tc := ⟨.hbm, 137, rfl⟩
abbrev main_call5_c_3 : Ref sig .tc := ⟨.hbm, 138, rfl⟩
abbrev main_call5_v9 : Ref sig .tc := ⟨.hbm, 139, rfl⟩
abbrev main_call5_v10 : Ref sig .tc := ⟨.hbm, 140, rfl⟩
abbrev main_call5_v11 : Ref sig .tc := ⟨.hbm, 141, rfl⟩
abbrev main_call5_v12 : Ref sig .tc := ⟨.hbm, 142, rfl⟩
abbrev main_call5_v13 : Ref sig .tc := ⟨.hbm, 143, rfl⟩
abbrev main_call5_v14 : Ref sig .tc := ⟨.hbm, 144, rfl⟩
abbrev main_v25 : Ref sig .tc := ⟨.hbm, 145, rfl⟩
abbrev main_v26 : Ref sig .tc := ⟨.hbm, 146, rfl⟩
abbrev main_cst_5 : Ref sig .tc := ⟨.hbm, 147, rfl⟩
abbrev main_v27 : Ref sig .tc := ⟨.hbm, 148, rfl⟩
abbrev main_v28 : Ref sig .tc := ⟨.hbm, 149, rfl⟩
abbrev main_v29 : Ref sig .tc := ⟨.hbm, 150, rfl⟩
abbrev main_cst_6 : Ref sig .tc := ⟨.hbm, 151, rfl⟩
abbrev main_v30 : Ref sig .tc := ⟨.hbm, 152, rfl⟩
abbrev main_v31 : Ref sig .tc := ⟨.hbm, 153, rfl⟩
abbrev main_v32 : Ref sig .tc := ⟨.hbm, 154, rfl⟩
abbrev main_cst_7 : Ref sig .tc := ⟨.hbm, 155, rfl⟩
abbrev main_v33 : Ref sig .tc := ⟨.hbm, 156, rfl⟩
abbrev main_v34 : Ref sig .tc := ⟨.hbm, 157, rfl⟩
abbrev main_v35 : Ref sig .tc := ⟨.hbm, 158, rfl⟩
abbrev main_cst_8 : Ref sig .tc := ⟨.hbm, 159, rfl⟩
abbrev main_v36 : Ref sig .tc := ⟨.hbm, 160, rfl⟩
abbrev main_v37 : Ref sig .tc := ⟨.hbm, 161, rfl⟩
abbrev main_cst_9 : Ref sig .tc := ⟨.hbm, 162, rfl⟩
abbrev main_call6_v0 : Ref sig .tc := ⟨.hbm, 163, rfl⟩
abbrev main_call6_v1 : Ref sig .tc := ⟨.hbm, 164, rfl⟩
abbrev main_v38 : Ref sig .tc := ⟨.hbm, 165, rfl⟩
abbrev main_v39 : Ref sig .tc := ⟨.hbm, 166, rfl⟩
abbrev main_cst_10 : Ref sig .tc := ⟨.hbm, 167, rfl⟩
abbrev main_v40 : Ref sig .tc := ⟨.hbm, 168, rfl⟩
abbrev main_v41 : Ref sig .tc := ⟨.hbm, 169, rfl⟩
abbrev main_cst_11 : Ref sig .tc := ⟨.hbm, 170, rfl⟩
abbrev main_call7_v0 : Ref sig .tc := ⟨.hbm, 171, rfl⟩
abbrev main_call7_v1 : Ref sig .tc := ⟨.hbm, 172, rfl⟩
abbrev main_v42 : Ref sig .tc := ⟨.hbm, 173, rfl⟩
abbrev main_v43 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S6144x256 : Shape := ⟨2, ![6144, 256]⟩
abbrev S2048x256 : Shape := ⟨2, ![2048, 256]⟩
abbrev S2x1024x256 : Shape := ⟨3, ![2, 1024, 256]⟩
abbrev S2x1024x4x64 : Shape := ⟨4, ![2, 1024, 4, 64]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S2x4x64x1024 : Shape := ⟨4, ![2, 4, 64, 1024]⟩

abbrev nBuf : Space → Nat
  | .hbm => 85
  | .vmem => 0
  | .smem => 0
  | _ => 0

abbrev bufTy : (tb : Table) → Fin (tcTables nBuf tb) → BufTy
  | .hbm, ⟨0, _⟩ => ⟨S6144x256, .f32⟩
  | .hbm, ⟨1, _⟩ => ⟨S2048x256, .f32⟩
  | .hbm, ⟨2, _⟩ => ⟨S2x1024x256, .f32⟩
  | .hbm, ⟨3, _⟩ => ⟨S2x1024x4x64, .f32⟩
  | .hbm, ⟨4, _⟩ => ⟨S1024, .i32⟩
  | .hbm, ⟨5, _⟩ => ⟨S1024x1, .i32⟩
  | .hbm, ⟨6, _⟩ => ⟨S1x1024, .i32⟩
  | .hbm, ⟨7, _⟩ => ⟨S1024x1024, .i32⟩
  | .hbm, ⟨8, _⟩ => ⟨S1024x1024, .i32⟩
  | .hbm, ⟨9, _⟩ => ⟨S1024x1024, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S1024x1024, .i32⟩
  | .hbm, ⟨17, _⟩ => ⟨S1024x1024, .i32⟩
  | .hbm, ⟨18, _⟩ => ⟨S_, .i32⟩
  | .hbm, ⟨19, _⟩ => ⟨S1024x1024, .i32⟩
  | .hbm, ⟨20, _⟩ => ⟨S1024x1024, .i1⟩
  | .hbm, ⟨21, _⟩ => ⟨S_, .i32⟩
  | .hbm, ⟨22, _⟩ => ⟨S1024x1024, .i32⟩
  | .hbm, ⟨23, _⟩ => ⟨S1024x1024, .i1⟩
  | .hbm, ⟨24, _⟩ => ⟨S_, .i32⟩
  | .hbm, ⟨25, _⟩ => ⟨S_, .i1⟩
  | .hbm, ⟨26, _⟩ => ⟨S1024x1024, .i1⟩
  | .hbm, ⟨27, _⟩ => ⟨S1024x1024, .i1⟩
  | .hbm, ⟨28, _⟩ => ⟨S1024x1024, .i1⟩
  | .hbm, ⟨29, _⟩ => ⟨S1024x1024, .i32⟩
  | .hbm, ⟨30, _⟩ => ⟨S1024x1024, .i32⟩
  | .hbm, ⟨31, _⟩ => ⟨S1024x1024, .i32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S64, .i32⟩
  | .hbm, ⟨39, _⟩ => ⟨S64x1, .i32⟩
  | .hbm, ⟨40, _⟩ => ⟨S1x64, .i32⟩
  | .hbm, ⟨41, _⟩ => ⟨S64x64, .i32⟩
  | .hbm, ⟨42, _⟩ => ⟨S64x64, .i32⟩
  | .hbm, ⟨43, _⟩ => ⟨S64x64, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S64x64, .i32⟩
  | .hbm, ⟨51, _⟩ => ⟨S64x64, .i32⟩
  | .hbm, ⟨52, _⟩ => ⟨S_, .i32⟩
  | .hbm, ⟨53, _⟩ => ⟨S64x64, .i32⟩
  | .hbm, ⟨54, _⟩ => ⟨S64x64, .i1⟩
  | .hbm, ⟨55, _⟩ => ⟨S_, .i32⟩
  | .hbm, ⟨56, _⟩ => ⟨S64x64, .i32⟩
  | .hbm, ⟨57, _⟩ => ⟨S64x64, .i1⟩
  | .hbm, ⟨58, _⟩ => ⟨S_, .i32⟩
  | .hbm, ⟨59, _⟩ => ⟨S_, .i1⟩
  | .hbm, ⟨60, _⟩ => ⟨S64x64, .i1⟩
  | .hbm, ⟨61, _⟩ => ⟨S64x64, .i1⟩
  | .hbm, ⟨62, _⟩ => ⟨S64x64, .i1⟩
  | .hbm, ⟨63, _⟩ => ⟨S64x64, .i32⟩
  | .hbm, ⟨64, _⟩ => ⟨S64x64, .i32⟩
  | .hbm, ⟨65, _⟩ => ⟨S64x64, .i32⟩
  | .hbm, ⟨66, _⟩ => ⟨S64x64, .f32⟩
  | .hbm, ⟨67, _⟩ => ⟨S_, .f32⟩
  | .hbm, ⟨68, _⟩ => ⟨S64x64, .f32⟩
  | .hbm, ⟨69, _⟩ => ⟨S64x64, .f32⟩
  | .hbm, ⟨70, _⟩ => ⟨S64x64, .f32⟩
  | .hbm, ⟨71, _⟩ => ⟨S64x64, .f32⟩
  | .hbm, ⟨72, _⟩ => ⟨S2x1024x4x64, .f32⟩
  | .hbm, ⟨73, _⟩ => ⟨S2x1024x4x64, .f32⟩
  | .hbm, ⟨74, _⟩ => ⟨S2x4x64x1024, .f32⟩
  | .hbm, ⟨75, _⟩ => ⟨S2x1024x4x64, .f32⟩
  | .hbm, ⟨76, _⟩ => ⟨S2x4x64x1024, .f32⟩
  | .hbm, ⟨77, _⟩ => ⟨S2x1024x4x64, .f32⟩
  | .hbm, ⟨78, _⟩ => ⟨S2x1024x4x64, .f32⟩
  | .hbm, ⟨79, _⟩ => ⟨S_, .f32⟩
  | .hbm, ⟨80, _⟩ => ⟨S2x1024x4x64, .f32⟩
  | .hbm, ⟨81, _⟩ => ⟨S2x1024x4x64, .f32⟩
  | .hbm, ⟨82, _⟩ => ⟨S2x1024x256, .f32⟩
  | .hbm, ⟨83, _⟩ => ⟨S2048x256, .f32⟩
  | .hbm, ⟨84, _⟩ => ⟨S2048x256, .bf16⟩
  | _, _ => ⟨S6144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_0 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_v5 : Ref sig .tc := ⟨.hbm, 53, rfl⟩
abbrev main_call1_v6 : Ref sig .tc := ⟨.hbm, 54, rfl⟩
abbrev main_call1_c_2 : Ref sig .tc := ⟨.hbm, 55, rfl⟩
abbrev main_call1_v7 : Ref sig .tc := ⟨.hbm, 56, rfl⟩
abbrev main_call1_v8 : Ref sig .tc := ⟨.hbm, 57, rfl⟩
abbrev main_call1_c_3 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_v21 : Ref sig .tc := ⟨.hbm, 65, rfl⟩
abbrev main_v22 : Ref sig .tc := ⟨.hbm, 66, rfl⟩
abbrev main_cst_1 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_cst_2 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩

abbrev nD : Nat := 1
abbrev τ : Topo := Topo.v7x

variable {F : FTy → Type} [FloatOps F]
-- ==== Proof.Softmax.lean ====
/- Facts about extended reals for one row of the context attention: the root-mean-square norm of a head is finite, and a
   row of the softmax with a sink logit, multiplied into the values before or after the division, is the same number. -/
module

public import Idealize.ShloMosaic.Lib.Pointwise
public import Idealize.ShloMosaic.PureOps.Ideal

@[expose] public section

noncomputable section

open Idealize.ShloMosaic

namespace Cert.Att

/-- The constant the reference divides a head's sum of squares by is the real 64. -/
theorem c64 : Ideal.ofBits .f32 0x42800000#32 = ((64 : ℝ) : EReal) := by
  simp [Ideal.ofBits, Ideal.ieee]
  rw [← EReal.coe_mul]
  norm_num

/-- The weight of the kernel's head-mean matrix is the real 1/64. -/
theorem c64inv : Ideal.ofBits .f32 0x3C800000#32 = ((1 / 64 : ℝ) : EReal) := by
  simp [Ideal.ofBits, Ideal.ieee]
  rw [← EReal.coe_mul]
  norm_num

/-- The score scale is a real number. -/
theorem cscale : Ideal.ofBits .f32 0x3E000000#32 = ((1 / 8 : ℝ) : EReal) := by
  simp [Ideal.ofBits, Ideal.ieee]
  rw [← EReal.coe_mul]
  norm_num

/-- The norm's epsilon is a positive real number. -/
theorem ceps : ∃ r : ℝ, 0 < r ∧ Ideal.ofBits .f32 0x358637BD#32 = (r : EReal) := by
  refine ⟨_, ?_, by simp only [Ideal.ofBits, Ideal.ieee]; rw [if_neg (by decide), if_neg (by decide)]⟩
  rw [if_neg (by decide)]
  positivity

/-- The starting value of a maximum is minus infinity. -/
theorem cbot : Ideal.ofBits .f32 0xFF800000#32 = (⊥ : EReal) := by
  simp [Ideal.ofBits, Ideal.ieee]

/-- The bound of the finiteness test is plus infinity. -/
theorem ctop : Ideal.ofBits .f32 0x7F800000#32 = (⊤ : EReal) := by
  simp [Ideal.ofBits, Ideal.ieee]

/-- An extended real that is a real number. -/
def Fin' (x : EReal) : Prop := ∃ r : ℝ, x = (r : EReal)

/-- The product of two real numbers is a real number. -/
theorem Fin'.mul {x y : EReal} (hx : Fin' x) (hy : Fin' y) : Fin' (x * y) := by
  obtain ⟨a, rfl⟩ := hx
  obtain ⟨b, rfl⟩ := hy
  exact ⟨a * b, (EReal.coe_mul a b).symm⟩

/-- A finite sum of real numbers, read as an extended real. -/
theorem coe_sum' {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of real numbers is a real number. -/
theorem Fin'.sum {ι : Type} (s : Finset ι) (f : ι → EReal) (h : ∀ i, Fin' (f i)) : Fin' (∑ i ∈ s, f i) := by
  choose g hg using h
  exact ⟨∑ i ∈ s, g i, by simp only [hg]; exact (coe_sum' s g).symm⟩

/-- A square is not negative. -/
theorem sq_nonneg' (x : EReal) : 0 ≤ x * x := by
  induction x with
  | bot => simp
  | top => simp
  | coe r => exact_mod_cast mul_self_nonneg r

/-- One head's elements over the root of their mean square plus epsilon, times the weight. -/
def rms (x w : Fin 64 → EReal) (d : Fin 64) : EReal :=
  x d * Ideal.rsqrt (Ideal.div (∑ e, x e * x e) (Ideal.ofBits .f32 0x42800000#32) + Ideal.ofBits .f32 0x358637BD#32) * w d

/-- A sum with one infinite square is infinite. -/
theorem sum_top {ι : Type} [Fintype ι] (f : ι → EReal) (h : ∀ i, 0 ≤ f i) (d : ι) (hd : f d = ⊤) : ∑ e, f e = ⊤ := by
  refine top_le_iff.mp ?_
  rw [← hd]
  exact Finset.single_le_sum (fun i _ => h i) (Finset.mem_univ d)

/-- The norm of a head is finite whatever the head holds, when the weight is. -/
theorem rms_fin (x w : Fin 64 → EReal) (hw : ∀ d, Fin' (w d)) (d : Fin 64) : Fin' (rms x w d) := by
  refine Fin'.mul ?_ (hw d)
  obtain ⟨r, hr, he⟩ := ceps
  rw [c64, he, Ideal.div_coe (by norm_num)]
  have hn : (0 : EReal) ≤ ∑ e, x e * x e := Finset.sum_nonneg fun e _ => sq_nonneg' (x e)
  by_cases hx : Fin' (x d)
  · obtain ⟨a, ha⟩ := hx
    generalize ∑ e, x e * x e = S at hn
    induction S with
    | bot => simp at hn
    | top =>
      rw [EReal.top_mul_coe_of_pos (by norm_num), EReal.top_add_coe]
      exact ⟨0, by rw [show Ideal.rsqrt ⊤ = 0 from rfl, mul_zero]; rfl⟩
    | coe b =>
      have hb : 0 ≤ b := by exact_mod_cast hn
      rw [← EReal.coe_mul, ← EReal.coe_add]
      have hp : 0 < b * (1 / 64) + r := by positivity
      refine Fin'.mul ⟨a, ha⟩ ⟨(Real.sqrt (b * (1 / 64) + r))⁻¹, ?_⟩
      show (if b * (1 / 64) + r < 0 then ⊥ else if b * (1 / 64) + r = 0 then ⊤ else (((Real.sqrt (b * (1 / 64) + r))⁻¹ : ℝ) : EReal)) = _
      rw [if_neg (not_lt.mpr hp.le), if_neg hp.ne']
  · have hs : x d * x d = ⊤ := by
      generalize x d = y at hx
      induction y with
      | bot => rfl
      | top => rfl
      | coe b => exact absurd ⟨b, rfl⟩ hx
    rw [sum_top _ (fun e => sq_nonneg' (x e)) d hs, EReal.top_mul_coe_of_pos (by norm_num), EReal.top_add_coe]
    exact ⟨0, by rw [show Ideal.rsqrt ⊤ = 0 from rfl, mul_zero]; rfl⟩

/-- The largest of a row's scores and its sink logit. -/
def rowTop (s : Fin 256 → EReal) (z : EReal) : EReal := max z (Finset.univ.fold max ⊥ s)

/-- The softmax's denominator: the sink's exponential and the scores'. -/
def den (s : Fin 256 → EReal) (z : EReal) : EReal :=
  Ideal.exp (z - rowTop s z) + ∑ k, Ideal.exp (s k - rowTop s z)

/-- A row of the attention as the kernel has it: the exponentials' sum against the values, over the denominator. -/
def att (s : Fin 256 → EReal) (z : EReal) (v : Fin 256 → EReal) : EReal :=
  Ideal.div (∑ k, Ideal.exp (s k - rowTop s z) * v k) (den s z)

/-- The maximum over the scores with the sink appended is `rowTop`. -/
theorem fold_sink (s : Fin 256 → EReal) (z : EReal) :
    Finset.univ.fold max ⊥ (fun k : Fin 257 => if h : (k : ℕ) < 256 then s ⟨k, h⟩ else z) = rowTop s z := by
  have e : ∀ {n : ℕ} (f : Fin n → EReal), Finset.univ.fold max ⊥ f = Finset.univ.sup f := fun f => rfl
  unfold rowTop
  rw [e, e]
  refine le_antisymm (Finset.sup_le fun k _ => ?_) (max_le ?_ (Finset.sup_le fun k _ => ?_))
  · split
    · exact le_max_of_le_right (Finset.le_sup (f := s) (Finset.mem_univ _))
    · exact le_max_left _ _
  · exact (by simp : z = _).trans_le (Finset.le_sup (f := fun k : Fin 257 => if h : (k : ℕ) < 256 then s ⟨k, h⟩ else z)
      (Finset.mem_univ (⟨256, by norm_num⟩ : Fin 257)))
  · exact (by simp : s k = _).trans_le (Finset.le_sup (f := fun k : Fin 257 => if h : (k : ℕ) < 256 then s ⟨k, h⟩ else z)
      (Finset.mem_univ (⟨k, by omega⟩ : Fin 257)))

/-- The exponential of a number that is at most zero is a real number. -/
theorem exp_fin {x : EReal} (h : x ≠ ⊤) : ∃ r : ℝ, 0 ≤ r ∧ Ideal.exp x = (r : EReal) := by
  induction x with
  | bot => exact ⟨0, le_rfl, rfl⟩
  | top => exact absurd rfl h
  | coe a => exact ⟨Real.exp a, (Real.exp_pos a).le, rfl⟩

/-- With finite scores and a sink below plus infinity, the row's largest entry is finite. -/
theorem rowTop_fin (s : Fin 256 → EReal) (z : EReal) (hs : ∀ k, Fin' (s k)) (hz : z ≠ ⊤) : Fin' (rowTop s z) := by
  have hne : rowTop s z ≠ ⊤ := by
    unfold rowTop
    refine (max_lt hz.lt_top ?_).ne
    show Finset.univ.sup s < ⊤
    rw [Finset.sup_lt_iff (by exact bot_lt_top)]
    intro k _
    obtain ⟨r, hr⟩ := hs k
    rw [hr]
    exact EReal.coe_lt_top r
  have hnb : rowTop s z ≠ ⊥ := by
    intro hb
    obtain ⟨r, hr⟩ := hs 0
    have hle : s 0 ≤ rowTop s z := le_max_of_le_right (show s 0 ≤ Finset.univ.sup s from Finset.le_sup (Finset.mem_univ 0))
    rw [hb, le_bot_iff, hr] at hle
    exact EReal.coe_ne_bot r hle
  exact ⟨(rowTop s z).toReal, (EReal.coe_toReal hne hnb).symm⟩

/-- The denominator is a positive real number. -/
theorem den_fin (s : Fin 256 → EReal) (z : EReal) (hs : ∀ k, Fin' (s k)) (hz : z ≠ ⊤) :
    ∃ r : ℝ, 0 < r ∧ den s z = (r : EReal) := by
  obtain ⟨t, ht⟩ := rowTop_fin s z hs hz
  unfold den
  rw [ht]
  have hz' : z - (t : EReal) ≠ ⊤ := by
    induction z with
    | bot => simp
    | top => exact absurd rfl hz
    | coe a => rw [← EReal.coe_sub]; exact EReal.coe_ne_top _
  obtain ⟨a, ha, ha'⟩ := exp_fin hz'
  choose g hg using hs
  have hk : ∀ k, Ideal.exp (s k - (t : EReal)) = ((Real.exp (g k - t) : ℝ) : EReal) := fun k => by
    rw [hg, ← EReal.coe_sub]; rfl
  refine ⟨a + ∑ k, Real.exp (g k - t), add_pos_of_nonneg_of_pos ha (Finset.sum_pos (fun k _ => Real.exp_pos _) ⟨0, Finset.mem_univ 0⟩), ?_⟩
  rw [ha', EReal.coe_add, coe_sum']
  simp only [hk]

/-- A number that is finite and not negative distributes over a finite sum. -/
theorem mul_sum' {ι : Type} (c : EReal) (h0 : 0 ≤ c) (ht : c ≠ ⊤) (s : Finset ι) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- THE ROW: the values weighted by the softmax's quotients are the kernel's sum over the denominator. -/
theorem att_eq (s v : Fin 256 → EReal) (z : EReal) (hs : ∀ k, Fin' (s k)) (hz : z ≠ ⊤) :
    ∑ k, v k * Ideal.div (Ideal.exp (s k - rowTop s z)) (den s z) = att s z v := by
  obtain ⟨r, hr, hd⟩ := den_fin s z hs hz
  unfold att
  simp only [hd, Ideal.div_coe hr.ne']
  have hc : (0 : EReal) ≤ ((1 / r : ℝ) : EReal) := by exact_mod_cast (one_div_pos.mpr hr).le
  rw [mul_comm (∑ k, _), mul_sum' _ hc (EReal.coe_ne_top _)]
  exact Finset.sum_congr rfl fun k _ => by rw [mul_comm (v k), mul_comm _ (((1 / r : ℝ)) : EReal), mul_assoc]

/-! ## The context attention at an index -/

/-- The projected attention columns as a function of row and column. -/
abbrev Cols := (⟨2, ![6144, 512]⟩ : Shape).Idx → EReal

/-- A head's norm weights. -/
abbrev Wts := (⟨1, ![64]⟩ : Shape).Idx → EReal

/-- The row of position `i` of sequence `b`. -/
abbrev row (b : Fin 16) (i : Fin 256) : Fin 6144 := ⟨b * 256 + i, by omega⟩

/-- The kv head that head `h` attends to. -/
abbrev kv (h : Fin 4) : Fin 2 := ⟨h / 2, by omega⟩

/-- The normed query of head `h`. -/
def qh (u : Cols) (w : Wts) (b : Fin 16) (i : Fin 256) (h : Fin 4) (d : Fin 64) : EReal :=
  rms (fun e => u (ix2 (row b i) ⟨h * 64 + e, by omega⟩)) (fun e => w (ix1 e)) d

/-- The normed key of kv head `g`. -/
def kh (u : Cols) (w : Wts) (b : Fin 16) (i : Fin 256) (g : Fin 2) (d : Fin 64) : EReal :=
  rms (fun e => u (ix2 (row b i) ⟨256 + (g * 64 + e), by omega⟩)) (fun e => w (ix1 e)) d

/-- The value of kv head `g`. -/
def vh (u : Cols) (b : Fin 16) (i : Fin 256) (g : Fin 2) (d : Fin 64) : EReal :=
  u (ix2 (row b i) ⟨384 + (g * 64 + d), by omega⟩)

/-- The scaled score of query position `i` against key position `j` in head `h`. -/
def score (u : Cols) (wq wk : Wts) (b : Fin 16) (h : Fin 4) (i j : Fin 256) : EReal :=
  (∑ x, qh u wq b i h x * kh u wk b j (kv h) x) * Ideal.ofBits .f32 0x3E000000#32

/-- Element `d` of head `h` of the attention's output at position `i`. -/
def yh (u : Cols) (wq wk : Wts) (z : (⟨1, ![4]⟩ : Shape).Idx → EReal) (b : Fin 16) (i : Fin 256) (h : Fin 4) (d : Fin 64) : EReal :=
  att (score u wq wk b h i) (z (ix1 h)) (fun j => vh u b j (kv h) d)

/-- With finite weights a score is finite. -/
theorem score_fin (u : Cols) (wq wk : Wts) (hq : ∀ d, Fin' (wq (ix1 d))) (hk : ∀ d, Fin' (wk (ix1 d))) (b : Fin 16) (h : Fin 4)
    (i j : Fin 256) : Fin' (score u wq wk b h i j) :=
  Fin'.mul (Fin'.sum _ _ fun x => Fin'.mul (rms_fin _ _ hq x) (rms_fin _ _ hk x)) ⟨_, cscale⟩

end Cert.Att

end
-- ==== Proof.RefAt.lean ====
/- The reference's three results read at an index. -/
module

public import proofs.«01_k».proof.Proof.Softmax
public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.ReferenceIdeal.At

open Cert.ReferenceIdeal Cert.ReferenceIdeal.Gen Cert.ReferenceIdeal.Value

/-- The context rows by batch and position. -/
def rows (u : FVec Ideal S6144x512 .f32) : FVec Ideal S16x256x512 .f32 :=
  shapeCast _ (extractStridedSlice S4096x512 ![0, 0] u slices_S6144x512_S4096x512_0_0) shapeCasts_S4096x512_S16x256x512

/-- The query heads. -/
def qIn (u : FVec Ideal S6144x512 .f32) : FVec Ideal S16x256x4x64 .f32 :=
  shapeCast _ (extractStridedSlice S16x256x256 ![0, 0, 0] (rows u) slices_S16x256x512_S16x256x256_0_0_0) shapeCasts_S16x256x256_S16x256x4x64

/-- The key heads. -/
def kIn (u : FVec Ideal S6144x512 .f32) : FVec Ideal S16x256x2x64 .f32 :=
  shapeCast _ (extractStridedSlice S16x256x128 ![0, 0, 256] (rows u) slices_S16x256x512_S16x256x128_0_0_256) shapeCasts_S16x256x128_S16x256x2x64

/-- The value heads. -/
def vIn (u : FVec Ideal S6144x512 .f32) : FVec Ideal S16x256x2x64 .f32 :=
  shapeCast _ (extractStridedSlice S16x256x128 ![0, 0, 384] (rows u) slices_S16x256x512_S16x256x128_0_0_384) shapeCasts_S16x256x128_S16x256x2x64

/-- The normed query heads. -/
def qNorm (u : FVec Ideal S6144x512 .f32) (w : FVec Ideal S64 .f32) : FVec Ideal S16x256x4x64 .f32 :=
  mulf (mulf (qIn u) (broadcastInDim S16x256x4x64 ![0, 1, 2, 3] bcast_S16x256x4x1_S16x256x4x64_0_1_2_3 (Host.rsqrt (addf (Host.divf (broadcastInDim S16x256x4x1 ![0, 1, 2] bcast_S16x256x4_S16x256x4x1_0_1_2 (Host.reduceAdd (mulf (qIn u) (qIn u)) (constant S_ .f32 0x00000000#32) reducesTo_S16x256x4x64_S16x256x4_d3 h_S_)) (broadcastInDim S16x256x4x1 ![] bcast_S_S16x256x4x1 (constant S_ .f32 0x42800000#32))) (broadcastInDim S16x256x4x1 ![] bcast_S_S16x256x4x1 (constant S_ .f32 0x358637BD#32)))))) (broadcastInDim S16x256x4x64 ![0, 1, 2, 3] bcast_S1x1x1x64_S16x256x4x64_0_1_2_3 (broadcastInDim S1x1x1x64 ![3] bcast_S64_S1x1x1x64_3 w))

/-- The normed key heads. -/
def kNorm (u : FVec Ideal S6144x512 .f32) (w : FVec Ideal S64 .f32) : FVec Ideal S16x256x2x64 .f32 :=
  mulf (mulf (kIn u) (broadcastInDim S16x256x2x64 ![0, 1, 2, 3] bcast_S16x256x2x1_S16x256x2x64_0_1_2_3 (Host.rsqrt (addf (Host.divf (broadcastInDim S16x256x2x1 ![0, 1, 2] bcast_S16x256x2_S16x256x2x1_0_1_2 (Host.reduceAdd (mulf (kIn u) (kIn u)) (constant S_ .f32 0x00000000#32) reducesTo_S16x256x2x64_S16x256x2_d3 h_S_)) (broadcastInDim S16x256x2x1 ![] bcast_S_S16x256x2x1 (constant S_ .f32 0x42800000#32))) (broadcastInDim S16x256x2x1 ![] bcast_S_S16x256x2x1 (constant S_ .f32 0x358637BD#32)))))) (broadcastInDim S16x256x2x64 ![0, 1, 2, 3] bcast_S1x1x1x64_S16x256x2x64_0_1_2_3 (broadcastInDim S1x1x1x64 ![3] bcast_S64_S1x1x1x64_3 w))

/-- The scaled scores. -/
def scores (q : FVec Ideal S16x256x4x64 .f32) (k : FVec Ideal S16x256x2x64 .f32) : FVec Ideal S16x2x2x256x256 .f32 :=
  mulf (transpose S16x2x2x256x256 [0, 1, 4, 3, 2] (Host.dotGeneral dot_S16x256x2x64_S16x256x2x2x64_S16x2x256x256x2_3_4_1_13_02_02 none k (shapeCast S16x256x2x2x64 q shapeCasts_S16x256x4x64_S16x256x2x2x64)) transposes_S16x2x256x256x2_S16x2x2x256x256_0_1_4_3_2) (broadcastInDim S16x2x2x256x256 ![] bcast_S_S16x2x2x256x256 (constant S_ .f32 0x3E000000#32))

/-- The scores with the sink's column appended. -/
def logits (s : FVec Ideal S16x2x2x256x256 .f32) (z : FVec Ideal S4 .f32) : FVec Ideal S16x2x2x256x257 .f32 :=
  concatenate S16x2x2x256x257 4 [⟨S16x2x2x256x256, s⟩, ⟨S16x2x2x256x1, broadcastInDim S16x2x2x256x1 ![0, 1, 2, 3, 4] bcast_S1x2x2x1x1_S16x2x2x256x1_0_1_2_3_4 (broadcastInDim S1x2x2x1x1 ![1, 2] bcast_S2x2_S1x2x2x1x1_1_2 (shapeCast S2x2 z shapeCasts_S4_S2x2))⟩] concatenates_S16x2x2x256x256_S16x2x2x256x1_S16x2x2x256x257_d4

/-- Each row's largest logit. -/
def largest (l : FVec Ideal S16x2x2x256x257 .f32) : FVec Ideal S16x2x2x256 .f32 :=
  Host.reduce FloatOps.maximumf l (constant S_ .f32 0xFF800000#32) reducesTo_S16x2x2x256x257_S16x2x2x256_d4 h_S_

/-- The exponentials of the logits less a number per row. -/
def exps (l : FVec Ideal S16x2x2x256x257 .f32) (t : FVec Ideal S16x2x2x256 .f32) : FVec Ideal S16x2x2x256x257 .f32 :=
  Host.exp (subf l (broadcastInDim S16x2x2x256x257 ![0, 1, 2, 3, 4] bcast_S16x2x2x256x1_S16x2x2x256x257_0_1_2_3_4 (broadcastInDim S16x2x2x256x1 ![0, 1, 2, 3] bcast_S16x2x2x256_S16x2x2x256x1_0_1_2_3 (maximumf (broadcastInDim S16x2x2x256 ![] bcast_S_S16x2x2x256 (constant S_ .f32 0xFF800000#32)) t))))

/-- The softmax without the sink's column. -/
def probs (e : FVec Ideal S16x2x2x256x257 .f32) : FVec Ideal S16x2x2x256x256 .f32 :=
  extractStridedSlice S16x2x2x256x256 ![0, 0, 0, 0, 0] (Host.divf e (broadcastInDim S16x2x2x256x257 ![0, 1, 2, 3, 4] bcast_S16x2x2x256x1_S16x2x2x256x257_0_1_2_3_4 (broadcastInDim S16x2x2x256x1 ![0, 1, 2, 3] bcast_S16x2x2x256_S16x2x2x256x1_0_1_2_3 (Host.reduceAdd e (constant S_ .f32 0x00000000#32) reducesTo_S16x2x2x256x257_S16x2x2x256_d4 h_S_)))) slices_S16x2x2x256x257_S16x2x2x256x256_0_0_0_0_0

/-- The attention's output from its probabilities and values. -/
def outs (p : FVec Ideal S16x2x2x256x256 .f32) (v : FVec Ideal S16x256x2x64 .f32) : FVec Ideal S4096x256 .bf16 :=
  truncf .bf16 (shapeCast S4096x256 (transpose S16x256x2x2x64 [0, 4, 1, 3, 2] (Host.dotGeneral dot_S16x256x2x64_S16x2x2x256x256_S16x2x64x2x256_1_4_3_23_02_01 none v p) transposes_S16x2x64x2x256_S16x256x2x2x64_0_4_1_3_2) shapeCasts_S16x256x2x2x64_S4096x256) bitsLt_bf16_f32

set_option maxHeartbeats 1600000 in
/-- The reference's first result is built of these parts. -/
theorem res_eq (m : (ℓ : Loc nD τ sig) → Buf (Elt Ideal) ℓ) (c : Dev nD) (l : FVec Ideal S16x2x2x256x257 .f32)
    (hl : l = logits (scores (qNorm (m ((c.tc : Thread nD τ).loc main_arg0)) (m ((c.tc : Thread nD τ).loc main_arg1))) (kNorm (m ((c.tc : Thread nD τ).loc main_arg0)) (m ((c.tc : Thread nD τ).loc main_arg2)))) (m ((c.tc : Thread nD τ).loc main_arg3))) :
    res_out0 m c = outs (probs (exps l (largest l))) (vIn (m ((c.tc : Thread nD τ).loc main_arg0))) := by
  subst hl
  rfl

/-- A normed query element is the root-mean-square norm of its head. -/
theorem qNorm_at (u : FVec Ideal S6144x512 .f32) (w : FVec Ideal S64 .f32) (b : Fin 16) (i : Fin 256) (h : Fin 4) (d : Fin 64) :
    qNorm u w (ix4 b i h d) = Cert.Att.qh u w b i h d := by
  pointwise [qNorm, qIn, rows, Cert.Att.qh, Cert.Att.rms]

/-- A normed key element is the root-mean-square norm of its head. -/
theorem kNorm_at (u : FVec Ideal S6144x512 .f32) (w : FVec Ideal S64 .f32) (b : Fin 16) (i : Fin 256) (g : Fin 2) (d : Fin 64) :
    kNorm u w (ix4 b i g d) = Cert.Att.kh u w b i g d := by
  pointwise [kNorm, kIn, rows, Cert.Att.kh, Cert.Att.rms]

/-- A value element is an element of the last 128 columns. -/
theorem vIn_at (u : FVec Ideal S6144x512 .f32) (b : Fin 16) (i : Fin 256) (g : Fin 2) (d : Fin 64) :
    vIn u (ix4 b i g d) = Cert.Att.vh u b i g d := by
  pointwise [vIn, rows, Cert.Att.vh]

/-- A score read at an index. -/
theorem scores_at (q : FVec Ideal S16x256x4x64 .f32) (k : FVec Ideal S16x256x2x64 .f32) (b : Fin 16) (g r : Fin 2) (i j : Fin 256) :
    scores q k (ix5 b g r i j) = (∑ x, k (ix4 b j g x) * q (ix4 b i ⟨g * 2 + r, by omega⟩ x)) * Ideal.ofBits .f32 0x3E000000#32 := by
  pointwise [scores]

/-- A logit is a score or, in the last column, the sink's. -/
theorem logits_at (s : FVec Ideal S16x2x2x256x256 .f32) (z : FVec Ideal S4 .f32) (b : Fin 16) (g r : Fin 2) (i : Fin 256) (j : Fin 257) :
    logits s z (ix5 b g r i j) = if h : (j : ℕ) < 256 then s (ix5 b g r i ⟨j, h⟩) else z (ix1 ⟨g * 2 + r, by omega⟩) := by
  pointwise [logits]

/-- The largest logit is a maximum over the row. -/
theorem largest_at (l : FVec Ideal S16x2x2x256x257 .f32) (b : Fin 16) (g r : Fin 2) (i : Fin 256) :
    largest l (ix4 b g r i) = Finset.univ.fold max ⊥ fun k : Fin 257 => l (ix5 b g r i k) := by
  pointwise [largest]
  rw [Cert.Att.cbot]

/-- An exponential read at an index. -/
theorem exps_at (l : FVec Ideal S16x2x2x256x257 .f32) (t : FVec Ideal S16x2x2x256 .f32) (b : Fin 16) (g r : Fin 2) (i : Fin 256) (j : Fin 257) :
    exps l t (ix5 b g r i j) = Ideal.exp (l (ix5 b g r i j) - t (ix4 b g r i)) := by
  pointwise [exps]
  rw [Cert.Att.cbot, max_eq_right bot_le]

/-- A probability read at an index. -/
theorem probs_at (e : FVec Ideal S16x2x2x256x257 .f32) (b : Fin 16) (g r : Fin 2) (i j : Fin 256) :
    probs e (ix5 b g r i j) = Ideal.div (e (ix5 b g r i ⟨j, by omega⟩)) (∑ x : Fin 257, e (ix5 b g r i x)) := by
  pointwise [probs]

/-- An output element read at an index. -/
theorem outs_at (p : FVec Ideal S16x2x2x256x256 .f32) (v : FVec Ideal S16x256x2x64 .f32) (i : Fin 4096) (j : Fin 256) :
    outs p v (ix2 i j) = ∑ x : Fin 256, v (ix4 ⟨i / 256, by omega⟩ x ⟨j / 128, by omega⟩ ⟨j % 64, by omega⟩)
      * p (ix5 ⟨i / 256, by omega⟩ ⟨j / 128, by omega⟩ ⟨j / 64 % 2, by omega⟩ ⟨i % 256, by omega⟩ x) := by
  pointwise [outs]

/-- One row of the softmax with its sink, against the values: the attention's row. -/
theorem row_eq (s : FVec Ideal S16x2x2x256x256 .f32) (z : FVec Ideal S4 .f32) (b : Fin 16) (g r : Fin 2) (i : Fin 256) (v : Fin 256 → EReal)
    (hs : ∀ k, Cert.Att.Fin' (s (ix5 b g r i k))) (hz : z (ix1 ⟨g * 2 + r, by omega⟩) ≠ ⊤) :
    ∑ x : Fin 256, v x * probs (exps (logits s z) (largest (logits s z))) (ix5 b g r i x)
      = Cert.Att.att (fun k => s (ix5 b g r i k)) (z (ix1 ⟨g * 2 + r, by omega⟩)) v := by
  have hl : largest (logits s z) (ix4 b g r i) = Cert.Att.rowTop (fun k => s (ix5 b g r i k)) (z (ix1 ⟨g * 2 + r, by omega⟩)) := by
    rw [largest_at]
    simp only [logits_at]
    exact Cert.Att.fold_sink (fun k => s (ix5 b g r i k)) _
  have hd : ∑ x : Fin 257, exps (logits s z) (largest (logits s z)) (ix5 b g r i x)
      = Cert.Att.den (fun k => s (ix5 b g r i k)) (z (ix1 ⟨g * 2 + r, by omega⟩)) := by
    simp only [exps_at, hl, logits_at]
    rw [Fin.sum_univ_castSucc, add_comm]
    unfold Cert.Att.den
    refine congrArg₂ (· + ·) rfl (Finset.sum_congr rfl fun k _ => ?_)
    rw [dif_pos (show ((Fin.castSucc k : Fin 257) : ℕ) < 256 from k.isLt)]
    rfl
  rw [← Cert.Att.att_eq _ v _ hs hz]
  refine Finset.sum_congr rfl fun x _ => ?_
  rw [probs_at, hd, exps_at, hl, logits_at, dif_pos (show (x : ℕ) < 256 from x.isLt)]

/-- THE REFERENCE'S ATTENTION at a row and column, for finite norm weights and a sink below plus infinity. -/
theorem y_at (u : FVec Ideal S6144x512 .f32) (wq wk : FVec Ideal S64 .f32) (z : FVec Ideal S4 .f32)
    (hq : ∀ d, Cert.Att.Fin' (wq (ix1 d))) (hk : ∀ d, Cert.Att.Fin' (wk (ix1 d))) (hz : ∀ h, z (ix1 h) ≠ ⊤)
    (l : FVec Ideal S16x2x2x256x257 .f32) (hl : l = logits (scores (qNorm u wq) (kNorm u wk)) z) (i : Fin 4096) (j : Fin 256) :
    outs (probs (exps l (largest l))) (vIn u) (ix2 i j)
      = Cert.Att.yh u wq wk z ⟨i / 256, by omega⟩ ⟨i % 256, by omega⟩ ⟨j / 64, by omega⟩ ⟨j % 64, by omega⟩ := by
  have hs : ∀ (b : Fin 16) (g r : Fin 2) (i j : Fin 256), scores (qNorm u wq) (kNorm u wk) (ix5 b g r i j)
      = Cert.Att.score u wq wk b ⟨g * 2 + r, by omega⟩ i j := by
    intro b g r i j
    rw [scores_at]
    unfold Cert.Att.score
    congr 1
    refine Finset.sum_congr rfl fun x _ => ?_
    rw [qNorm_at, kNorm_at, mul_comm]
    congr 2
    exact Fin.ext (by show (g : ℕ) = (g * 2 + r) / 2; omega)
  subst hl
  rw [outs_at, row_eq _ _ _ _ _ _ _ (fun k => by rw [hs]; exact Cert.Att.score_fin u wq wk hq hk _ _ _ _) (hz _)]
  simp only [hs, vIn_at]
  unfold Cert.Att.yh
  have e : (⟨j / 128 * 2 + j / 64 % 2, by omega⟩ : Fin 4) = ⟨j / 64, by omega⟩ := Fin.ext (by show (j : ℕ) / 128 * 2 + j / 64 % 2 = j / 64; omega)
  have e' : (⟨j / 128, by omega⟩ : Fin 2) = ⟨j / 64 / 2, by omega⟩ := Fin.ext (by show (j : ℕ) / 128 = j / 64 / 2; omega)
  simp only [e, e']

/-- The reference's second result, the normed keys by row and column. -/
theorem k_at (u : FVec Ideal S6144x512 .f32) (w : FVec Ideal S64 .f32) (i : Fin 4096) (j : Fin 128) :
    shapeCast S4096x128 (kNorm u w) shapeCasts_S16x256x2x64_S4096x128 (ix2 i j)
      = Cert.Att.kh u w ⟨i / 256, by omega⟩ ⟨i % 256, by omega⟩ ⟨j / 64, by omega⟩ ⟨j % 64, by omega⟩ := by
  pointwise
  exact kNorm_at u w _ _ _ _

/-- The reference's third result, the values by row and column. -/
theorem v_at (u : FVec Ideal S6144x512 .f32) (i : Fin 4096) (j : Fin 128) :
    shapeCast S4096x128 (vIn u) shapeCasts_S16x256x2x64_S4096x128 (ix2 i j)
      = Cert.Att.vh u ⟨i / 256, by omega⟩ ⟨i % 256, by omega⟩ ⟨j / 64, by omega⟩ ⟨j % 64, by omega⟩ := by
  pointwise
  exact vIn_at u _ _ _ _

end Cert.ReferenceIdeal.At

end
-- ==== Proof.BlockAt.lean ====
/- What the kernel's body leaves in its three output blocks, read at an index of the block. -/
module

public import proofs.«01_k».proof.Proof.Softmax
public import proofs.«01_k».proof.Proof.Gen.KernelIdeal.Value
public import Idealize.ShloMosaic.Lib.Pointwise

@[expose] public section

set_option maxRecDepth 16384

noncomputable section

open Idealize.ShloMosaic Idealize.ShloMosaic.TcCoe Idealize.SL.Sem

namespace Cert.KernelIdeal.At

open Cert.KernelIdeal Cert.KernelIdeal.Gen

variable {F : FTy → Type} [FloatOps F]

/-- A head's scores from its queries and keys. -/
def sc (q k : FVec F S256x64 .f32) : FVec F S256x256 .f32 :=
  mulf (matmul dot_S256x64_S256x64_S256x256_1_1_0_0_n_n none (truncf .bf16 q bitsLt_bf16_f32) (truncf .bf16 k bitsLt_bf16_f32) (constant S256x256 .f32 0x00000000#32)) (broadcast S256x256 (Scalar.ofBits .f32 0x3E000000#32))

/-- A head's largest scores, the sink among them. -/
def mx (s : FVec F S256x256 .f32) (z : Vec F S1x1 .f32) : FVec F S256x1 .f32 :=
  maximumf (broadcastTo S256x1 (shapeCast S1x1 z shapeCasts_S1x1_S1x1) broadcasts_S1x1_S256x1) (shapeCast S256x1 (multiReduction .maximumf [1] S256 s 0xFF800000#32 reduces_S256x256_S256 (.inl rfl) rfl) shapeCasts_S256_S256x1)

/-- A head's exponentials. -/
def ex (s : FVec F S256x256 .f32) (z : Vec F S1x1 .f32) : FVec F S256x256 .f32 :=
  exp (subf s (broadcastTo S256x256 (mx s z) broadcasts_S256x1_S256x256))

/-- A head's denominators. -/
def dn (s : FVec F S256x256 .f32) (z : Vec F S1x1 .f32) : FVec F S256x1 .f32 :=
  addf (exp (subf (broadcastTo S256x1 (shapeCast S1x1 z shapeCasts_S1x1_S1x1) broadcasts_S1x1_S256x1) (mx s z))) (shapeCast S256x1 (multiReduction .add [1] S256 (ex s z) 0x00000000#32 reduces_S256x256_S256 (.inl rfl) rfl) shapeCasts_S256_S256x1)

/-- A head's output. -/
def hd (s : FVec F S256x256 .f32) (z : Vec F S1x1 .f32) (v : FVec F S256x64 .f32) : FVec F S256x64 .f32 :=
  divf (matmul dot_S256x256_S256x64_S256x64_1_0_0_1_n_n none (truncf .bf16 (ex s z) bitsLt_bf16_f32) (truncf .bf16 v bitsLt_bf16_f32) (constant S256x64 .f32 0x00000000#32)) (broadcastTo S256x64 (dn s z) broadcasts_S256x1_S256x64)

/-- Four heads side by side. -/
def cat (a b c d : FVec F S256x64 .f32) : FVec F S256x256 .bf16 :=
  truncf .bf16 (concatenate S256x256 1 [⟨S256x64, a⟩, ⟨S256x64, b⟩, ⟨S256x64, c⟩, ⟨S256x64, d⟩] concatenates_S256x64_S256x64_S256x64_S256x64_S256x256_d1) bitsLt_bf16_f32

/-- The body's stored output is four heads side by side. -/
theorem pay_eq (q : FVec F S256x256 .f32) (k0 : Vec F S256x128 .f32) (w : FVec F S1x128 .f32) (r : FVec F S256x128 .f32) (v : Vec F S256x128 .f32)
    (z0 z1 z2 z3 : Vec F S1x1 .f32) (k : FVec F S256x128 .f32) (hk : k = k0_pay5 k0 w r) :
    k0_pay1 (k0_pay8 q k0 w r v z0) (k0_pay10 (k0_pay7 v) (k0_pay9 q k0 w r) z1) (k0_pay12 v) (k0_pay13 q k v z2) (k0_pay14 q) (k0_pay15 k) z3
      = cat (hd (sc (extractStridedSlice S256x64 ![0, 0] q slices_S256x256_o0_0_S256x64) (k0_pay6 k0 w r)) z0 (k0_pay7 v))
          (hd (sc (extractStridedSlice S256x64 ![0, 64] q slices_S256x256_o0_64_S256x64) (k0_pay6 k0 w r)) z1 (k0_pay7 v))
          (hd (sc (extractStridedSlice S256x64 ![0, 128] q slices_S256x256_o0_128_S256x64) (k0_pay11 k)) z2 (k0_pay12 v))
          (hd (sc (extractStridedSlice S256x64 ![0, 192] q slices_S256x256_o0_192_S256x64) (k0_pay11 k)) z3 (k0_pay12 v)) := rfl

/-- A score read at an index. -/
theorem sc_at (q k : FVec Ideal S256x64 .f32) (i j : Fin 256) :
    sc q k (ix2 i j) = (∑ x, q (ix2 i x) * k (ix2 j x)) * Ideal.ofBits .f32 0x3E000000#32 := by
  pointwise [sc]

/-- A row's largest score and sink. -/
theorem mx_at (s : FVec Ideal S256x256 .f32) (z : Vec Ideal S1x1 .f32) (i : Fin 256) :
    mx s z (ix2 i 0) = Cert.Att.rowTop (fun k => s (ix2 i k)) (z (ix2 0 0)) := by
  pointwise [mx]
  rw [Cert.Att.cbot]
  rfl

/-- An exponential read at an index. -/
theorem ex_at (s : FVec Ideal S256x256 .f32) (z : Vec Ideal S1x1 .f32) (i k : Fin 256) :
    ex s z (ix2 i k) = Ideal.exp (s (ix2 i k) - Cert.Att.rowTop (fun k => s (ix2 i k)) (z (ix2 0 0))) := by
  rw [← mx_at]
  pointwise [ex]

/-- A row's denominator. -/
theorem dn_at (s : FVec Ideal S256x256 .f32) (z : Vec Ideal S1x1 .f32) (i : Fin 256) :
    dn s z (ix2 i 0) = Cert.Att.den (fun k => s (ix2 i k)) (z (ix2 0 0)) := by
  unfold Cert.Att.den
  simp only [← ex_at]
  rw [← mx_at]
  pointwise [dn]

/-- A head's output element is the attention's row. -/
theorem hd_at (s : FVec Ideal S256x256 .f32) (z : Vec Ideal S1x1 .f32) (v : FVec Ideal S256x64 .f32) (i : Fin 256) (d : Fin 64) :
    hd s z v (ix2 i d) = Cert.Att.att (fun k => s (ix2 i k)) (z (ix2 0 0)) (fun k => v (ix2 k d)) := by
  unfold Cert.Att.att
  rw [← dn_at]
  simp only [← ex_at]
  pointwise [hd]

/-- Shifting a column number right by six bits is dividing it by 64. -/
theorem shr6 : ∀ x : Fin 256, IntOp.shrui ArithUnit.vector (BitVec.ofNat 32 x) 6#32 = BitVec.ofNat 32 (x / 64) := by
  decide +kernel

/-- The head-mean matrix keeps the columns of the same group of 64. -/
theorem sel_group (x j : ℕ) (hx : x < 256) (hj : j < 256) (a : EReal) :
    Scalar.select (IntOp.cmpi CmpIPredicate.eq (IntOp.shrui ArithUnit.vector (BitVec.ofNat 32 x) 6#32)
      (IntOp.shrui ArithUnit.vector (BitVec.ofNat 32 j) 6#32)) a 0 = if x / 64 = j / 64 then a else 0 := by
  rw [shr6 ⟨x, hx⟩, shr6 ⟨j, hj⟩]
  by_cases h : x / 64 = j / 64
  · rw [if_pos h]
    simp [h, Scalar.select, IntOp.cmpi]
  · rw [if_neg h]
    have hne : BitVec.ofNat 32 (x / 64) ≠ BitVec.ofNat 32 (j / 64) := by
      intro he
      have := congrArg BitVec.toNat he
      simp only [BitVec.toNat_ofNat] at this
      omega
    unfold Scalar.select IntOp.cmpi
    dsimp only
    rw [beq_eq_false_iff_ne.mpr hne]
    rfl

/-- The head-mean matrix's column sum of squares over 64: of `n` groups of 64 columns, the mean over one group. -/
theorem group_mean (n N : ℕ) (hN : n * 64 = N) (hN' : N ≤ 256) (f : Fin N → EReal) (hf : ∀ x, 0 ≤ f x) (j : Fin N) :
    ∑ x : Fin N, Scalar.select (IntOp.cmpi CmpIPredicate.eq (IntOp.shrui ArithUnit.vector (BitVec.ofNat 32 x) 6#32)
      (IntOp.shrui ArithUnit.vector (BitVec.ofNat 32 j) 6#32)) (f x * Ideal.ofBits .f32 0x3C800000#32) 0
      = Ideal.div (∑ e : Fin 64, f ⟨j / 64 * 64 + e, by have := j.isLt; omega⟩) (Ideal.ofBits .f32 0x42800000#32) := by
  subst hN
  rw [Cert.Att.c64, Ideal.div_coe (by norm_num), Cert.Att.c64inv, mul_comm (∑ e, _), Cert.Att.mul_sum' _ (by exact_mod_cast (by norm_num : (0:ℝ) ≤ 1 / 64)) (EReal.coe_ne_top _)]
  have e : ∀ x : Fin (n * 64), Scalar.select (IntOp.cmpi CmpIPredicate.eq (IntOp.shrui ArithUnit.vector (BitVec.ofNat 32 x) 6#32)
      (IntOp.shrui ArithUnit.vector (BitVec.ofNat 32 j) 6#32)) (f x * (((1 / 64 : ℝ)) : EReal)) 0
      = if (x : ℕ) / 64 = j / 64 then f x * (((1 / 64 : ℝ)) : EReal) else 0 := fun x => by
    rw [sel_group x j (by omega) (by omega)]
  simp only [e]
  rw [Fin.sum_univ_tiles n 64 rfl]
  rw [Finset.sum_eq_single (⟨j / 64, by have := j.isLt; omega⟩ : Fin n)]
  · refine Finset.sum_congr rfl fun t _ => ?_
    rw [if_pos (show ((j : ℕ) / 64 * 64 + t) / 64 = j / 64 by omega), mul_comm]
  · intro b _ hb
    refine Finset.sum_eq_zero fun t _ => if_neg ?_
    intro h
    exact hb (Fin.ext (show (b : ℕ) = j / 64 by rw [← h]; show (b : ℕ) = ((b : ℕ) * 64 + t) / 64; omega))
  · intro h
    exact absurd (Finset.mem_univ _) h

/-- A normed query element is the root-mean-square norm of its group of 64 columns. -/
theorem pay2_at (u : Vec Ideal S256x256 .f32) (w : Vec Ideal S1x256 .f32) (i : Fin 256) (h : Fin 4) (d : Fin 64) :
    k0_pay2 u w (ix2 i ⟨h * 64 + d, by omega⟩)
      = Cert.Att.rms (fun e => u (ix2 i ⟨h * 64 + e, by omega⟩)) (fun e => w (ix2 0 ⟨h * 64 + e, by omega⟩)) d := by
  pointwise [k0_pay2]
  have g := group_mean 4 256 rfl le_rfl (fun x => u (ix2 i x) * u (ix2 i x)) (fun x => Cert.Att.sq_nonneg' _) ⟨h * 64 + d, by omega⟩
  dsimp only at g
  rw [g]
  unfold Cert.Att.rms
  have e : ((h : ℕ) * 64 + d) / 64 = h := by omega
  simp only [e]

/-- A normed key element is the root-mean-square norm of its group of 64 columns. -/
theorem pay5_at (u : Vec Ideal S256x128 .f32) (w : Vec Ideal S1x128 .f32) (i : Fin 256) (h : Fin 2) (d : Fin 64) :
    k0_pay5 u (k0_pay3 w) (k0_pay4 u) (ix2 i ⟨h * 64 + d, by omega⟩)
      = Cert.Att.rms (fun e => u (ix2 i ⟨h * 64 + e, by omega⟩)) (fun e => w (ix2 0 ⟨h * 64 + e, by omega⟩)) d := by
  pointwise [k0_pay3, k0_pay4, k0_pay5]
  have g := group_mean 2 128 rfl (by norm_num) (fun x => u (ix2 i x) * u (ix2 i x)) (fun x => Cert.Att.sq_nonneg' _) ⟨h * 64 + d, by omega⟩
  dsimp only at g
  rw [g]
  unfold Cert.Att.rms
  have e : ((h : ℕ) * 64 + d) / 64 = h := by omega
  simp only [e]

/-- Four heads side by side read at head `h`. -/
theorem cat_at (a0 a1 a2 a3 : FVec Ideal S256x64 .f32) (i : Fin 256) (d : Fin 64) (R : Fin 4 → EReal) (h0 : a0 (ix2 i d) = R 0)
    (h1 : a1 (ix2 i d) = R 1) (h2 : a2 (ix2 i d) = R 2) (h3 : a3 (ix2 i d) = R 3) (h : Fin 4) :
    cat a0 a1 a2 a3 (ix2 i ⟨h * 64 + d, by omega⟩) = R h := by
  pointwise [cat]
  fin_cases h
  · rw [dif_pos (show 0 * 64 + (d : ℕ) < 64 by omega)]
    exact (congrArg a0 (congrArg (ix2 i) (Fin.ext (show 0 * 64 + (d : ℕ) = d by omega)))).trans h0
  · rw [dif_neg (show ¬ 1 * 64 + (d : ℕ) < 64 by omega), dif_pos (show 1 * 64 + (d : ℕ) - 64 < 64 by omega)]
    exact (congrArg a1 (congrArg (ix2 i) (Fin.ext (show 1 * 64 + (d : ℕ) - 64 = d by omega)))).trans h1
  · rw [dif_neg (show ¬ 2 * 64 + (d : ℕ) < 64 by omega), dif_neg (show ¬ 2 * 64 + (d : ℕ) - 64 < 64 by omega),
      dif_pos (show 2 * 64 + (d : ℕ) - 64 - 64 < 64 by omega)]
    exact (congrArg a2 (congrArg (ix2 i) (Fin.ext (show 2 * 64 + (d : ℕ) - 64 - 64 = d by omega)))).trans h2
  · rw [dif_neg (show ¬ 3 * 64 + (d : ℕ) < 64 by omega), dif_neg (show ¬ 3 * 64 + (d : ℕ) - 64 < 64 by omega),
      dif_neg (show ¬ 3 * 64 + (d : ℕ) - 64 - 64 < 64 by omega)]
    exact (congrArg a3 (congrArg (ix2 i) (Fin.ext (show 3 * 64 + (d : ℕ) - 64 - 64 - 64 = d by omega)))).trans h3

/-- One head's output from its normed queries, normed keys, values and sink. -/
theorem head_at (U : Cert.Att.Cols) (wq wk : Cert.Att.Wts) (Z : (⟨1, ![4]⟩ : Shape).Idx → EReal) (b : Fin 16) (h : Fin 4)
    (q k v : FVec Ideal S256x64 .f32) (z : Vec Ideal S1x1 .f32) (hq : ∀ i d, q (ix2 i d) = Cert.Att.qh U wq b i h d)
    (hk : ∀ i d, k (ix2 i d) = Cert.Att.kh U wk b i (Cert.Att.kv h) d) (hv : ∀ i d, v (ix2 i d) = Cert.Att.vh U b i (Cert.Att.kv h) d)
    (hz : z (ix2 0 0) = Z (ix1 h)) (i : Fin 256) (d : Fin 64) :
    hd (sc q k) z v (ix2 i d) = Cert.Att.yh U wq wk Z b i h d := by
  rw [hd_at]
  unfold Cert.Att.yh Cert.Att.score
  simp only [sc_at, hq, hk, hv, hz]

/-- THE BODY'S ATTENTION: the stored output block at position `i`, head `h`, element `d`, when the loaded vectors are the
    projected columns of sequence `b` and the weights are the norms' repeated per head. -/
theorem y_at (U : Cert.Att.Cols) (wq wk : Cert.Att.Wts) (Z : (⟨1, ![4]⟩ : Shape).Idx → EReal) (b : Fin 16)
    (uq : Vec Ideal S256x256 .f32) (uk uv : Vec Ideal S256x128 .f32) (w1 : Vec Ideal S1x256 .f32) (w2 : Vec Ideal S1x128 .f32)
    (z0 z1 z2 z3 : Vec Ideal S1x1 .f32)
    (huq : ∀ i (c : Fin 256), uq (ix2 i c) = U (ix2 (Cert.Att.row b i) ⟨c, by omega⟩))
    (huk : ∀ i (c : Fin 128), uk (ix2 i c) = U (ix2 (Cert.Att.row b i) ⟨256 + c, by omega⟩))
    (huv : ∀ i (c : Fin 128), uv (ix2 i c) = U (ix2 (Cert.Att.row b i) ⟨384 + c, by omega⟩))
    (hw1 : ∀ c : Fin 256, w1 (ix2 0 c) = wq (ix1 ⟨c % 64, by omega⟩))
    (hw2 : ∀ c : Fin 128, w2 (ix2 0 c) = wk (ix1 ⟨c % 64, by omega⟩))
    (h0 : z0 (ix2 0 0) = Z (ix1 0)) (h1 : z1 (ix2 0 0) = Z (ix1 1)) (h2 : z2 (ix2 0 0) = Z (ix1 2)) (h3 : z3 (ix2 0 0) = Z (ix1 3))
    (i : Fin 256) (h : Fin 4) (d : Fin 64) :
    k0_pay1 (k0_pay8 (k0_pay2 uq w1) uk (k0_pay3 w2) (k0_pay4 uk) uv z0) (k0_pay10 (k0_pay7 uv) (k0_pay9 (k0_pay2 uq w1) uk (k0_pay3 w2) (k0_pay4 uk)) z1)
        (k0_pay12 uv) (k0_pay13 (k0_pay2 uq w1) (k0_pay5 uk (k0_pay3 w2) (k0_pay4 uk)) uv z2) (k0_pay14 (k0_pay2 uq w1)) (k0_pay15 (k0_pay5 uk (k0_pay3 w2) (k0_pay4 uk))) z3
        (ix2 i ⟨h * 64 + d, by omega⟩)
      = Cert.Att.yh U wq wk Z b i h d := by
  have hq : ∀ i (h : Fin 4) (d : Fin 64), k0_pay2 uq w1 (ix2 i ⟨h * 64 + d, by omega⟩) = Cert.Att.qh U wq b i h d := by
    intro i h d
    rw [pay2_at]
    unfold Cert.Att.qh
    simp only [huq, hw1]
    congr 1
    funext e
    exact congrArg wq (congrArg ix1 (Fin.ext (show ((h : ℕ) * 64 + e) % 64 = e by omega)))
  have hk : ∀ i (g : Fin 2) (d : Fin 64), k0_pay5 uk (k0_pay3 w2) (k0_pay4 uk) (ix2 i ⟨g * 64 + d, by omega⟩) = Cert.Att.kh U wk b i g d := by
    intro i g d
    rw [pay5_at]
    unfold Cert.Att.kh
    simp only [huk, hw2]
    congr 1
    funext e
    exact congrArg wk (congrArg ix1 (Fin.ext (show ((g : ℕ) * 64 + e) % 64 = e by omega)))
  rw [pay_eq _ _ _ _ _ _ _ _ _ _ rfl]
  have sl : ∀ (h : Fin 4) (i : Fin 256) (d : Fin 64) (c : Fin 256), (c : ℕ) = h * 64 + d → k0_pay2 uq w1 (ix2 i c) = Cert.Att.qh U wq b i h d := by
    intro h i d c hc
    rw [← hq]
    exact congrArg _ (congrArg (ix2 i) (Fin.ext hc))
  have kl : ∀ (g : Fin 2) (i : Fin 256) (d : Fin 64) (c : Fin 128), (c : ℕ) = g * 64 + d →
      k0_pay5 uk (k0_pay3 w2) (k0_pay4 uk) (ix2 i c) = Cert.Att.kh U wk b i g d := by
    intro g i d c hc
    rw [← hk]
    exact congrArg _ (congrArg (ix2 i) (Fin.ext hc))
  have vl : ∀ (g : Fin 2) (i : Fin 256) (d : Fin 64) (c : Fin 128), (c : ℕ) = g * 64 + d → uv (ix2 i c) = Cert.Att.vh U b i g d := by
    intro g i d c hc
    rw [huv]
    exact congrArg U (congrArg (ix2 _) (Fin.ext (show 384 + (c : ℕ) = 384 + (g * 64 + d) by rw [hc])))
  refine cat_at _ _ _ _ i d (fun h => Cert.Att.yh U wq wk Z b i h d) ?_ ?_ ?_ ?_ h
  · refine head_at U wq wk Z b 0 _ _ _ _ (fun i d => ?_) (fun i d => ?_) (fun i d => ?_) h0 i d
    · pointwise; exact sl 0 i d _ (by simp)
    · pointwise [k0_pay6]; exact kl 0 i d _ (by simp)
    · pointwise [k0_pay7]; exact vl 0 i d _ (by simp)
  · refine head_at U wq wk Z b 1 _ _ _ _ (fun i d => ?_) (fun i d => ?_) (fun i d => ?_) h1 i d
    · pointwise; exact sl 1 i d _ (by simp)
    · pointwise [k0_pay6]; exact kl 0 i d _ (by simp)
    · pointwise [k0_pay7]; exact vl 0 i d _ (by simp)
  · refine head_at U wq wk Z b 2 _ _ _ _ (fun i d => ?_) (fun i d => ?_) (fun i d => ?_) h2 i d
    · pointwise; exact sl 2 i d _ (by simp)
    · pointwise [k0_pay11]; exact kl 1 i d _ (by simp)
    · pointwise [k0_pay12]; exact vl 1 i d _ (by simp)
  · refine head_at U wq wk Z b 3 _ _ _ _ (fun i d => ?_) (fun i d => ?_) (fun i d => ?_) h3 i d
    · pointwise; exact sl 3 i d _ (by simp)
    · pointwise [k0_pay11]; exact kl 1 i d _ (by simp)
    · pointwise [k0_pay12]; exact vl 1 i d _ (by simp)

end Cert.KernelIdeal.At

end
-- ==== Proof.Final.lean ====
/- The kernel's three result arrays after the run, as functions of its argument arrays. -/
module

public import proofs.«01_k».proof.Proof.BlockAt
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.At

open Cert.KernelIdeal Cert.KernelIdeal.Gen

/-- The attention's output array. -/
def GY (u : Cert.Att.Cols) (wq wk : Cert.Att.Wts) (z : (⟨1, ![4]⟩ : Shape).Idx → EReal) : FVec Ideal S4096x256 .bf16 :=
  fun j => Cert.Att.yh u wq wk z ⟨(j 0).val / 256, by have : (j 0).val < 4096 := (j 0).isLt; omega⟩ ⟨(j 0).val % 256, by omega⟩
    ⟨(j 1).val / 64, by have : (j 1).val < 256 := (j 1).isLt; omega⟩ ⟨(j 1).val % 64, by omega⟩

/-- The normed keys' array. -/
def GK (u : Cert.Att.Cols) (w : Cert.Att.Wts) : FVec Ideal S4096x128 .f32 :=
  fun j => Cert.Att.kh u w ⟨(j 0).val / 256, by have : (j 0).val < 4096 := (j 0).isLt; omega⟩ ⟨(j 0).val % 256, by omega⟩
    ⟨(j 1).val / 64, by have : (j 1).val < 128 := (j 1).isLt; omega⟩ ⟨(j 1).val % 64, by omega⟩

/-- The values' array. -/
def GV (u : Cert.Att.Cols) : FVec Ideal S4096x128 .f32 :=
  fun j => Cert.Att.vh u ⟨(j 0).val / 256, by have : (j 0).val < 4096 := (j 0).isLt; omega⟩ ⟨(j 0).val % 256, by omega⟩
    ⟨(j 1).val / 64, by have : (j 1).val < 128 := (j 1).isLt; omega⟩ ⟨(j 1).val % 64, by omega⟩

/-- The attention's array at row `b·256 + i` and column `h·64 + d`. -/
theorem GY_at (u : Cert.Att.Cols) (wq wk : Cert.Att.Wts) (z : (⟨1, ![4]⟩ : Shape).Idx → EReal) (p : S4096x256.Idx) (b : Fin 16) (i : Fin 256)
    (h : Fin 4) (d : Fin 64) (h0 : (p 0).val = b * 256 + i) (h1 : (p 1).val = h * 64 + d) :
    GY u wq wk z p = Cert.Att.yh u wq wk z b i h d := by
  unfold GY
  congr 1 <;> apply Fin.ext <;> simp only [h0, h1] <;> omega

/-- The keys' array at row `b·256 + i` and column `g·64 + d`. -/
theorem GK_at (u : Cert.Att.Cols) (w : Cert.Att.Wts) (p : S4096x128.Idx) (b : Fin 16) (i : Fin 256)
    (g : Fin 2) (d : Fin 64) (h0 : (p 0).val = b * 256 + i) (h1 : (p 1).val = g * 64 + d) :
    GK u w p = Cert.Att.kh u w b i g d := by
  unfold GK
  congr 1 <;> apply Fin.ext <;> simp only [h0, h1] <;> omega

/-- The values' array at row `b·256 + i` and column `g·64 + d`. -/
theorem GV_at (u : Cert.Att.Cols) (p : S4096x128.Idx) (b : Fin 16) (i : Fin 256)
    (g : Fin 2) (d : Fin 64) (h0 : (p 0).val = b * 256 + i) (h1 : (p 1).val = g * 64 + d) :
    GV u p = Cert.Att.vh u b i g d := by
  unfold GV
  congr 1 <;> apply Fin.ext <;> simp only [h0, h1] <;> omega

/-- A column of 256 is an element of a head. -/
theorem split4 (j : Fin 256) : ∃ (h : Fin 4) (d : Fin 64), j = ⟨h * 64 + d, by omega⟩ :=
  ⟨⟨j / 64, by omega⟩, ⟨j % 64, by omega⟩, Fin.ext (show (j : ℕ) = j / 64 * 64 + j % 64 by omega)⟩

/-- A column of 128 is an element of a kv head. -/
theorem split2 (j : Fin 128) : ∃ (g : Fin 2) (d : Fin 64), j = ⟨g * 64 + d, by omega⟩ :=
  ⟨⟨j / 64, by omega⟩, ⟨j % 64, by omega⟩, Fin.ext (show (j : ℕ) = j / 64 * 64 + j % 64 by omega)⟩

variable (m : (ℓ : Loc nD τ sig) → Buf (Elt Ideal) ℓ)

/-- The windows' block indices: the column windows step through the sequences, the weights' stay. -/
theorem idx : ∀ t : Fin cfg0.N, t.val < 16 ∧ win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] :=
  (by decide +kernel : ∀ t : Fin grid0.N, _)

/-- A point's block of the columns is its sequence's rows. -/
theorem u_blk (c : Dev nD) (t : Fin cfg0.N) (i : Fin 256) (j : Fin 512) :
    (show FVec Ideal S256x512 .f32 from iblk m c 0 t) (ix2 i j) = (show FVec Ideal S6144x512 .f32 from m ((c : Thread nD τ).loc main_arg0)) (ix2 (Cert.Att.row ⟨t.val, (idx t).1⟩ i) j) := by
  blk_ext [iblk, V, idx t]

/-- Every point's block of the query norm is the norm's weights repeated. -/
theorem q_blk (c : Dev nD) (t : Fin cfg0.N) (j : Fin 256) :
    (show FVec Ideal S1x256 .f32 from iblk m c 1 t) (ix2 0 j) = (show FVec Ideal S64 .f32 from m ((c : Thread nD τ).loc main_arg1)) (ix1 ⟨j % 64, by omega⟩) := by
  blk_simp [iblk, idx t]
  entry_read
  pointwise
  blk_ext [idx t]

/-- Every point's block of the key norm is the norm's weights repeated. -/
theorem k_blk (c : Dev nD) (t : Fin cfg0.N) (j : Fin 128) :
    (show FVec Ideal S1x128 .f32 from iblk m c 2 t) (ix2 0 j) = (show FVec Ideal S64 .f32 from m ((c : Thread nD τ).loc main_arg2)) (ix1 ⟨j % 64, by omega⟩) := by
  blk_simp [iblk, idx t]
  entry_read
  pointwise
  blk_ext [idx t]

/-- Every point's block of the sinks is the sinks. -/
theorem z_blk (c : Dev nD) (t : Fin cfg0.N) (j : Fin 4) :
    (show FVec Ideal S1x4 .f32 from iblk m c 3 t) (ix2 0 j) = (show FVec Ideal S4 .f32 from m ((c : Thread nD τ).loc main_arg3)) (ix1 j) := by
  blk_simp [iblk, idx t]
  entry_read
  pointwise
  blk_ext [idx t]

/-- The third result array is the values. -/
theorem finalV (c : Dev nD) : (dats m 0 c).arrAt 6 cfg0.N = GV (m ((c : Thread nD τ).loc main_arg0)) := by
  refine (dats m 0 c).arrAt_eq_of_covers 6 _ (by decide +kernel) fun t _ y => ?_
  blk_simp
  rw [after0_6]
  frame_out
  obtain ⟨i, j, rfl⟩ : ∃ (i : Fin 256) (j : Fin 128), y = ix2 i j := ⟨y 0, y 1, eq_ix2 y⟩
  obtain ⟨g, d, rfl⟩ := split2 j
  rw [GV_at _ _ ⟨t.val, (idx t).1⟩ i g d (by blk_simp [idx t]) (by blk_simp [idx t])]
  pointwise
  exact u_blk m c t i _

/-- The second result array is the normed keys. -/
theorem finalK (c : Dev nD) : (dats m 0 c).arrAt 5 cfg0.N = GK (m ((c : Thread nD τ).loc main_arg0)) (m ((c : Thread nD τ).loc main_arg2)) := by
  refine (dats m 0 c).arrAt_eq_of_covers 5 _ (by decide +kernel) fun t _ y => ?_
  blk_simp
  rw [after0_5]
  frame_out
  obtain ⟨i, j, rfl⟩ : ∃ (i : Fin 256) (j : Fin 128), y = ix2 i j := ⟨y 0, y 1, eq_ix2 y⟩
  obtain ⟨g, d, rfl⟩ := split2 j
  rw [GK_at _ _ _ ⟨t.val, (idx t).1⟩ i g d (by blk_simp [idx t]) (by blk_simp [idx t])]
  unfold k0_pay17 k0_pay18
  rw [pay5_at]
  unfold Cert.Att.kh
  congr 1
  · funext e
    pointwise
    exact u_blk m c t i _
  · funext e
    pointwise
    refine (k_blk m c t _).trans ?_
    exact congrArg _ (congrArg ix1 (Fin.ext (show ((g : ℕ) * 64 + e) % 64 = e by omega)))

/-- The first result array is the attention's output. -/
theorem finalY (c : Dev nD) : (dats m 0 c).arrAt 4 cfg0.N = GY (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  obtain ⟨i, j, rfl⟩ : ∃ (i : Fin 256) (j : Fin 256), y = ix2 i j := ⟨y 0, y 1, eq_ix2 y⟩
  obtain ⟨h, d, rfl⟩ := split4 j
  rw [GY_at _ _ _ _ _ ⟨t.val, (idx t).1⟩ i h d (by blk_simp [idx t]) (by blk_simp [idx t])]
  unfold k0_pay19 k0_pay18 k0_pay17 k0_pay16
  refine y_at _ _ _ _ ⟨t.val, (idx t).1⟩ _ _ _ _ _ _ _ _ _ (fun i c' => ?_) (fun i c' => ?_) (fun i c' => ?_) (fun c' => ?_) (fun c' => ?_) ?_ ?_ ?_ ?_ i h d
  · pointwise; exact u_blk m c t i _
  · pointwise; exact u_blk m c t i _
  · pointwise; exact u_blk m c t i _
  · pointwise; exact q_blk m c t _
  · pointwise; exact k_blk m c t _
  · pointwise; exact z_blk m c t 0
  · pointwise; exact z_blk m c t 1
  · pointwise; exact z_blk m c t 2
  · pointwise; exact z_blk m c t 3

end Cert.KernelIdeal.At

end
-- ==== Proof.PreAt.lean ====
/- The precondition read at the entries of the norm weights and of the sinks. -/
module

public import proofs.«01_k».proof.Pre_weights_finite
public import proofs.«01_k».proof.Proof.Softmax
public import Idealize.ShloMosaic.Lib.Pointwise

@[expose] public section

set_option maxRecDepth 16384

noncomputable section

open Idealize.ShloMosaic

namespace Cert.Pre_weights_finite

/-- The precondition's shape facts. -/
theorem facts : Facts := ⟨by decide, by decide, by decide⟩

/-- A magnitude below the top is a real number's. -/
theorem fin_of_abs (x : EReal) (h : BitVec.ofBool (decide (max x (-x) < ⊤)) = 1#1) : Cert.Att.Fin' x := by
  have h' : max x (-x) < ⊤ := by
    by_contra hn
    rw [decide_eq_false hn] at h
    exact absurd h (by decide)
  induction x using EReal.rec with
  | bot => simp at h'
  | top => simp at h'
  | coe r => exact ⟨r, rfl⟩

/-- A value below the top is not the top. -/
theorem ne_of_lt (x : EReal) (h : BitVec.ofBool (decide (x < ⊤)) = 1#1) : x ≠ ⊤ := by
  rintro rfl
  simp at h

variable [Facts] {u : FVec Ideal S6144x512 .f32} {wq wk : FVec Ideal S64 .f32} {z : FVec Ideal S4 .f32}
  (H : fn (F := Ideal) u wq wk z = fun _ => 1#1)
include H

/-- The query norm's weights are real numbers. -/
theorem wq_fin (d : Fin 64) : Cert.Att.Fin' (wq (ix1 d)) := by
  have h := congrFun H (ix1 ⟨d, by omega⟩)
  unfold fn at h
  pointwise at h
  rw [Cert.Att.ctop] at h
  exact fin_of_abs _ h

/-- The key norm's weights are real numbers. -/
theorem wk_fin (d : Fin 64) : Cert.Att.Fin' (wk (ix1 d)) := by
  have h := congrFun H (ix1 ⟨64 + d, by omega⟩)
  unfold fn at h
  pointwise at h
  rw [Cert.Att.ctop] at h
  convert fin_of_abs _ h using 3

/-- No sink is the top. -/
theorem z_ne (k : Fin 4) : z (ix1 k) ≠ ⊤ := by
  have h := congrFun H (ix1 ⟨128 + k, by omega⟩)
  unfold fn at h
  pointwise at h
  rw [Cert.Att.ctop, dif_neg (by omega), dif_neg (by omega)] at h
  have e : (⟨128 + (k : ℕ) - 64 - 64, by omega⟩ : Fin 4) = k := Fin.ext (show 128 + (k : ℕ) - 64 - 64 = k by omega)
  have h' := ne_of_lt _ h
  rwa [e] at h'

end Cert.Pre_weights_finite

end
-- ==== Proof.Claims.lean ====
/- The claims about the attention over the prompt: the run of the kernel against the run of the reference. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.RefAt
public import proofs.«01_k».proof.Proof.Final
public import proofs.«01_k».proof.Proof.PreAt
public import Idealize.ShloMosaic.Adequacy
public import Idealize.ShloMosaic.Init

@[expose] public section

set_option maxRecDepth 16384

noncomputable section

open Idealize.ShloMosaic Idealize.ShloMosaic.TcCoe Idealize.SL.Sem

namespace Cert.Att

/-- The reference's program leaves its arguments alone and no counter raised. -/
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- Where the norm weights are finite and no sink is the top, the kernel's three arrays are the reference's: the
    attention over the prompt, the normed keys and the values. -/
theorem algebraic [Cert.Pre_weights_finite.Facts] : Cert.algebraic_KernelIdeal_ReferenceIdeal_pre_weights_finite := by
  intro m ρ m' ρ' hpre hagree
  refine ⟨fun c => Cert.KernelIdeal.At.GY (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.KernelIdeal.At.GK (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    fun c => Cert.KernelIdeal.At.GV (m ((c.tc : Thread Cert.KernelIdeal.nD Cert.KernelIdeal.τ).loc Cert.KernelIdeal.main_arg0)), ?_, ?_⟩
  · exact (θ_run Cert.KernelIdeal.defs _ _).mono (fun _ h c =>
      ⟨(h c).1.trans (Cert.KernelIdeal.At.finalY m c), (h c).2.1.trans (Cert.KernelIdeal.At.finalK m c),
        (h c).2.2.1.trans (Cert.KernelIdeal.At.finalV m c), (h c).2.2.2⟩)
      (Cert.KernelIdeal.Value.run_blocks m ρ)
  · refine (θ_run Cert.ReferenceIdeal.defs _ _).mono (fun _ h c => ⟨(h c).1.trans ?_, (h c).2.1.trans ?_, (h c).2.2.1.trans ?_, (h c).2.2.2⟩)
      (Cert.ReferenceIdeal.Value.run (F := Ideal) m' ρ')
    · have e := Cert.ReferenceIdeal.At.res_eq m' c _ rfl
      have hp := hpre c
      rw [(hagree c).1, (hagree c).2.1, (hagree c).2.2.1, (hagree c).2.2.2] at e
      refine Eq.trans e ?_
      funext p
      obtain ⟨i, j, rfl⟩ : ∃ (i : Fin 4096) (j : Fin 256), p = ix2 i j := ⟨p 0, p 1, eq_ix2 p⟩
      exact Cert.ReferenceIdeal.At.y_at _ _ _ _ (Cert.Pre_weights_finite.wq_fin hp) (Cert.Pre_weights_finite.wk_fin hp) (Cert.Pre_weights_finite.z_ne hp) _ rfl i j
    · rw [(hagree c).1, (hagree c).2.2.1]
      funext p
      obtain ⟨i, j, rfl⟩ : ∃ (i : Fin 4096) (j : Fin 128), p = ix2 i j := ⟨p 0, p 1, eq_ix2 p⟩
      exact Cert.ReferenceIdeal.At.k_at _ _ i j
    · rw [(hagree c).1]
      funext p
      obtain ⟨i, j, rfl⟩ : ∃ (i : Fin 4096) (j : Fin 128), p = ix2 i j := ⟨p 0, p 1, eq_ix2 p⟩
      exact Cert.ReferenceIdeal.At.v_at _ i j

end Cert.Att

end
-- ==== Proof.Modulated.lean ====
/- The modulated root-mean-square norm of a token's 1024 channels, as a formula over the extended reals. -/
module

public import Idealize.ShloMosaic.Lib.Pointwise

@[expose] public section

noncomputable section

open Idealize.ShloMosaic

namespace Cert.Mod

/-- A token's channels `r` over their root mean square, times the norm's weight, times one plus the scale, plus the shift. -/
def nrm (r : Fin 1024 → EReal) (w s h : Fin 1024 → EReal) (k : Fin 1024) : EReal :=
  r k * Ideal.rsqrt (Ideal.div (∑ e, r e * r e) (Ideal.ofBits .f32 0x44800000#32) + Ideal.ofBits .f32 0x358637BD#32) * w k
    * (Ideal.ofBits .f32 0x3F800000#32 + s k) + h k

/-- The modulation row of a token: 0 for the prompt's, 1 and 2 for the two latent sequences'. -/
def grp (i : Fin 6144) : Fin 8 := ⟨if (i : ℕ) < 4096 then 0 else 1 + (i - 4096) / 1024, by split <;> omega⟩

/-- A prompt token's modulation row. -/
theorem grp_prompt (i : Fin 4096) : grp ⟨i, by omega⟩ = 0 := Fin.ext (if_pos i.isLt)

/-- A latent token's modulation row. -/
theorem grp_latent (i : Fin 2048) : grp ⟨4096 + i, by omega⟩ = ⟨1 + i / 1024, by omega⟩ :=
  Fin.ext ((if_neg (by simp)).trans (by simp))

/-- The modulation row of the tokens of block `t` of 512. -/
theorem grp_block (t : Fin 12) (i : Fin 512) : (grp ⟨(t : ℕ) * 512 + i, by omega⟩).val = if (t : ℕ) < 8 then 0 else 1 + ((t : ℕ) - 8) / 2 := by
  unfold grp
  dsimp only
  split <;> split <;> omega

end Cert.Mod

end
-- ==== Proof.InRef.lean ====
/- The input projection's reference read at an index. -/
module

public import proofs.«01_k».proof.Proof.Modulated
public import proofs.«01_k».proof.Proof.Gen.Reference2Ideal.Run

@[expose] public section

set_option maxRecDepth 16384

noncomputable section

open Idealize.ShloMosaic Idealize.ShloMosaic.TcCoe Idealize.SL.Sem

namespace Cert.In

/-- Column `j` of the projected token `i`. -/
def U (x : (⟨2, ![6144, 1024]⟩ : Shape).Idx → EReal) (w : (⟨1, ![1024]⟩ : Shape).Idx → EReal) (sc sh : (⟨3, ![8, 1, 1024]⟩ : Shape).Idx → EReal)
    (W : (⟨2, ![1024, 2584]⟩ : Shape).Idx → EReal) (i : Fin 6144) (j : Fin 2584) : EReal :=
  ∑ k : Fin 1024, Cert.Mod.nrm (fun k => x (ix2 i k)) (fun k => w (ix1 k)) (fun k => sc (ix3 (Cert.Mod.grp i) 0 k)) (fun k => sh (ix3 (Cert.Mod.grp i) 0 k)) k
    * W (ix2 k j)

end Cert.In

namespace Cert.Reference2Ideal.At

open Cert.Reference2Ideal Cert.Reference2Ideal.Gen Cert.Reference2Ideal.Value

/-- The prompt's modulated norms. -/
def hp (X : FVec Ideal S16x256x1024 .f32) (w : FVec Ideal S1024 .f32) (s h : FVec Ideal S1x1x1024 .f32) : FVec Ideal S16x256x1024 .f32 :=
  addf (mulf (mulf (mulf X (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf X X) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32))))))
    (broadcastInDim S16x256x1024 ![0, 1, 2] bcast_S1x1x1024_S16x256x1024_0_1_2 (broadcastInDim S1x1x1024 ![2] bcast_S1024_S1x1x1024_2 w)))
    (broadcastInDim S16x256x1024 ![0, 1, 2] bcast_S1x1x1024_S16x256x1024_0_1_2 (addf (broadcastInDim S1x1x1024 ![] bcast_S_S1x1x1024 (constant S_ .f32 0x3F800000#32)) s)))
    (broadcastInDim S16x256x1024 ![0, 1, 2] bcast_S1x1x1024_S16x256x1024_0_1_2 h)

/-- The latents' modulated norms. -/
def hs (X : FVec Ideal S2x1024x1024 .f32) (w : FVec Ideal S1024 .f32) (s h : FVec Ideal S2x1x1024 .f32) : FVec Ideal S2x1024x1024 .f32 :=
  addf (mulf (mulf (mulf X (broadcastInDim S2x1024x1024 ![0, 1, 2] bcast_S2x1024x1_S2x1024x1024_0_1_2 (Host.rsqrt (addf (Host.divf (broadcastInDim S2x1024x1 ![0, 1] bcast_S2x1024_S2x1024x1_0_1 (Host.reduceAdd (mulf X X) (constant S_ .f32 0x00000000#32) reducesTo_S2x1024x1024_S2x1024_d2 h_S_)) (broadcastInDim S2x1024x1 ![] bcast_S_S2x1024x1 (constant S_ .f32 0x44800000#32))) (broadcastInDim S2x1024x1 ![] bcast_S_S2x1024x1 (constant S_ .f32 0x358637BD#32))))))
    (broadcastInDim S2x1024x1024 ![0, 1, 2] bcast_S1x1x1024_S2x1024x1024_0_1_2 (broadcastInDim S1x1x1024 ![2] bcast_S1024_S1x1x1024_2 w)))
    (broadcastInDim S2x1024x1024 ![0, 1, 2] bcast_S2x1x1024_S2x1024x1024_0_1_2 (addf (broadcastInDim S2x1x1024 ![] bcast_S_S2x1x1024 (constant S_ .f32 0x3F800000#32)) s)))
    (broadcastInDim S2x1024x1024 ![0, 1, 2] bcast_S2x1x1024_S2x1024x1024_0_1_2 h)

/-- The prompt's columns. -/
def up (x : FVec Ideal S6144x1024 .f32) (w : FVec Ideal S1024 .f32) (sc sh : FVec Ideal S8x1x1024 .f32) (W : FVec Ideal S1024x2584 .f32) : FVec Ideal S4096x2584 .f32 :=
  shapeCast _ (Host.dotGeneral dot_S16x256x1024_S1024x2584_S16x256x2584_2_0_01_1_n_n none (hp (shapeCast _ (extractStridedSlice S4096x1024 ![0, 0] x slices_S6144x1024_S4096x1024_0_0) shapeCasts_S4096x1024_S16x256x1024) w
    (extractStridedSlice S1x1x1024 ![0, 0, 0] sc slices_S8x1x1024_S1x1x1024_0_0_0) (extractStridedSlice S1x1x1024 ![0, 0, 0] sh slices_S8x1x1024_S1x1x1024_0_0_0)) W) shapeCasts_S16x256x2584_S4096x2584

/-- The latents' columns. -/
def us (x : FVec Ideal S6144x1024 .f32) (w : FVec Ideal S1024 .f32) (sc sh : FVec Ideal S8x1x1024 .f32) (W : FVec Ideal S1024x2584 .f32) : FVec Ideal S2048x2584 .f32 :=
  shapeCast _ (Host.dotGeneral dot_S2x1024x1024_S1024x2584_S2x1024x2584_2_0_01_1_n_n none (hs (shapeCast _ (extractStridedSlice S2048x1024 ![4096, 0] x slices_S6144x1024_S2048x1024_4096_0) shapeCasts_S2048x1024_S2x1024x1024) w
    (extractStridedSlice S2x1x1024 ![1, 0, 0] sc slices_S8x1x1024_S2x1x1024_1_0_0) (extractStridedSlice S2x1x1024 ![1, 0, 0] sh slices_S8x1x1024_S2x1x1024_1_0_0)) W) shapeCasts_S2x1024x2584_S2048x2584

/-- All columns. -/
def cols (p : FVec Ideal S4096x2584 .f32) (s : FVec Ideal S2048x2584 .f32) : FVec Ideal S6144x2584 .f32 :=
  concatenate S6144x2584 0 [⟨S4096x2584, p⟩, ⟨S2048x2584, s⟩] concatenates_S4096x2584_S2048x2584_S6144x2584_d0

/-- The three small groups of columns and zeros. -/
def smalls (u : FVec Ideal S6144x2584 .f32) : FVec Ideal S6144x128 .f32 :=
  concatenate S6144x128 1 [⟨S6144x8, extractStridedSlice S6144x8 ![0, 768] (extractStridedSlice S6144x776 ![0, 0] u slices_S6144x2584_S6144x776_0_0) slices_S6144x776_S6144x8_0_768⟩,
    ⟨S6144x16, extractStridedSlice S6144x16 ![0, 1024] (extractStridedSlice S6144x1040 ![0, 776] u slices_S6144x2584_S6144x1040_0_776) slices_S6144x1040_S6144x16_0_1024⟩,
    ⟨S6144x104, broadcastInDim S6144x104 ![] bcast_S_S6144x104 (constant S_ .f32 0x00000000#32)⟩] concatenates_S6144x8_S6144x16_S6144x104_S6144x128_d1

theorem hp_at (X : FVec Ideal S16x256x1024 .f32) (w : FVec Ideal S1024 .f32) (s h : FVec Ideal S1x1x1024 .f32) (b : Fin 16) (i : Fin 256) (k : Fin 1024) :
    hp X w s h (ix3 b i k) = Cert.Mod.nrm (fun k => X (ix3 b i k)) (fun k => w (ix1 k)) (fun k => s (ix3 0 0 k)) (fun k => h (ix3 0 0 k)) k := by
  unfold hp Cert.Mod.nrm
  pointwise

theorem hs_at (X : FVec Ideal S2x1024x1024 .f32) (w : FVec Ideal S1024 .f32) (s h : FVec Ideal S2x1x1024 .f32) (b : Fin 2) (i : Fin 1024) (k : Fin 1024) :
    hs X w s h (ix3 b i k) = Cert.Mod.nrm (fun k => X (ix3 b i k)) (fun k => w (ix1 k)) (fun k => s (ix3 b 0 k)) (fun k => h (ix3 b 0 k)) k := by
  unfold hs Cert.Mod.nrm
  pointwise

theorem up_at (x : FVec Ideal S6144x1024 .f32) (w : FVec Ideal S1024 .f32) (sc sh : FVec Ideal S8x1x1024 .f32) (W : FVec Ideal S1024x2584 .f32) (i : Fin 4096) (j : Fin 2584) :
    up x w sc sh W (ix2 i j) = Cert.In.U x w sc sh W ⟨i, by omega⟩ j := by
  unfold up Cert.In.U
  pointwise [hp_at]
  rw [Cert.Mod.grp_prompt]

theorem us_at (x : FVec Ideal S6144x1024 .f32) (w : FVec Ideal S1024 .f32) (sc sh : FVec Ideal S8x1x1024 .f32) (W : FVec Ideal S1024x2584 .f32) (i : Fin 2048) (j : Fin 2584) :
    us x w sc sh W (ix2 i j) = Cert.In.U x w sc sh W ⟨4096 + i, by omega⟩ j := by
  unfold us Cert.In.U
  pointwise [hs_at]
  rw [Cert.Mod.grp_latent]

theorem cols_at (x : FVec Ideal S6144x1024 .f32) (w : FVec Ideal S1024 .f32) (sc sh : FVec Ideal S8x1x1024 .f32) (W : FVec Ideal S1024x2584 .f32) (i : Fin 6144) (j : Fin 2584) :
    cols (up x w sc sh W) (us x w sc sh W) (ix2 i j) = Cert.In.U x w sc sh W i j := by
  unfold cols
  pointwise
  split
  · exact up_at x w sc sh W ⟨i, by omega⟩ j
  · rename_i h
    rw [us_at]
    exact congrArg (fun a => Cert.In.U x w sc sh W a j) (Fin.ext (show 4096 + ((i : ℕ) - 4096) = i by omega))

theorem smalls_at (u : FVec Ideal S6144x2584 .f32) (i : Fin 6144) (j : Fin 128) :
    smalls u (ix2 i j) = if h : (j : ℕ) < 8 then u (ix2 i ⟨768 + j, by omega⟩) else if h : (j : ℕ) < 24 then u (ix2 i ⟨1792 + j, by omega⟩) else 0 := by
  unfold smalls
  pointwise
  split
  · rfl
  · split
    · rename_i h1 h2
      rw [dif_pos (by omega)]
      exact congrArg (fun a => u (ix2 i a)) (Fin.ext (show 776 + (1024 + ((j : ℕ) - 8)) = 1792 + j by omega))
    · rename_i h1 h2
      rw [dif_neg (by omega)]

end Cert.Reference2Ideal.At

end
-- ==== Proof.InBlock.lean ====
/- The input projection's blocks and result arrays. -/
module

public import proofs.«01_k».proof.Proof.InRef
public import proofs.«01_k».proof.Proof.Gen.Kernel2Ideal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.At

open Cert.Kernel2Ideal Cert.Kernel2Ideal.Gen

/-- The block's modulated norm. -/
theorem pay4_at (x : FVec Ideal S512x1024 .f32) (w : FVec Ideal S1x1024 .f32) (s h : FVec Ideal S1x1x1024 .f32) (i : Fin 512) (k : Fin 1024) :
    k0_pay4 (F := Ideal) x w s h (ix2 i k) = Cert.Mod.nrm (fun k => x (ix2 i k)) (fun k => w (ix2 0 k)) (fun k => s (ix3 0 0 k)) (fun k => h (ix3 0 0 k)) k := by
  unfold k0_pay4 Cert.Mod.nrm
  pointwise

/-- The block's main columns. -/
theorem pay5_at (x : FVec Ideal S512x1024 .f32) (w : FVec Ideal S1x1024 .f32) (s h : FVec Ideal S1x1x1024 .f32) (W : FVec Ideal S1024x2560 .bf16) (i : Fin 512) (j : Fin 2560) :
    k0_pay5 (F := Ideal) x w s h W (ix2 i j) = ∑ k, Cert.Mod.nrm (fun k => x (ix2 i k)) (fun k => w (ix2 0 k)) (fun k => s (ix3 0 0 k)) (fun k => h (ix3 0 0 k)) k * W (ix2 k j) := by
  unfold k0_pay5
  pointwise [pay4_at]

/-- The block's small columns. -/
theorem pay2_at (v : FVec Ideal S512x1024 .f32) (W : FVec Ideal S1024x128 .f32) (i : Fin 512) (j : Fin 128) :
    k0_pay2 v W (ix2 i j) = ∑ k, v (ix2 i k) * W (ix2 k j) := by
  unfold k0_pay2
  pointwise

/-- The block's small columns, transposed. -/
theorem pay3_at (v : FVec Ideal S512x1024 .f32) (W : FVec Ideal S128x1024 .f32) (j : Fin 128) (i : Fin 512) :
    k0_pay3 v W (ix2 j i) = ∑ k, v (ix2 i k) * W (ix2 j k) := by
  unfold k0_pay3
  pointwise
  exact Finset.sum_congr rfl fun k _ => mul_comm _ _

/-- The main columns' weights, re-arranged. -/
def wMain (W : FVec Ideal S1024x2584 .f32) : FVec Ideal S1024x2560 .f32 :=
  concatenate S1024x2560 1 [⟨S1024x768, extractStridedSlice S1024x768 ![0, 0] W slices_S1024x2584_S1024x768_0_0⟩,
    ⟨S1024x1024, extractStridedSlice S1024x1024 ![0, 776] W slices_S1024x2584_S1024x1024_0_776⟩,
    ⟨S1024x256, extractStridedSlice S1024x256 ![0, 1816] W slices_S1024x2584_S1024x256_0_1816⟩,
    ⟨S1024x512, extractStridedSlice S1024x512 ![0, 2072] W slices_S1024x2584_S1024x512_0_2072⟩] concatenates_S1024x768_S1024x1024_S1024x256_S1024x512_S1024x2560_d1

/-- The small columns' weights. -/
def wSmall (W : FVec Ideal S1024x2584 .f32) : FVec Ideal S1024x128 .f32 :=
  concatenate S1024x128 1 [⟨S1024x8, extractStridedSlice S1024x8 ![0, 768] W slices_S1024x2584_S1024x8_0_768⟩,
    ⟨S1024x16, extractStridedSlice S1024x16 ![0, 1800] W slices_S1024x2584_S1024x16_0_1800⟩,
    ⟨S1024x104, broadcastInDim S1024x104 ![] bcast_S_S1024x104 (constant S_ .f32 0x00000000#32)⟩] concatenates_S1024x8_S1024x16_S1024x104_S1024x128_d1

/-- The small columns' weights from their three pieces. -/
theorem wSmall_of (W : FVec Ideal S1024x2584 .f32) {a : FVec Ideal S1024x8 .f32} {b : FVec Ideal S1024x16 .f32} {c : FVec Ideal S1024x104 .f32}
    (ha : a = extractStridedSlice S1024x8 ![0, 768] W slices_S1024x2584_S1024x8_0_768)
    (hb : b = extractStridedSlice S1024x16 ![0, 1800] W slices_S1024x2584_S1024x16_0_1800)
    (hc : c = broadcastInDim S1024x104 ![] bcast_S_S1024x104 (constant S_ .f32 0x00000000#32)) :
    concatenate S1024x128 1 [⟨S1024x8, a⟩, ⟨S1024x16, b⟩, ⟨S1024x104, c⟩] concatenates_S1024x8_S1024x16_S1024x104_S1024x128_d1 = wSmall W := by
  subst ha hb hc
  rfl

/-- The main columns' weights, entry by entry. -/
theorem wMain_at (W : FVec Ideal S1024x2584 .f32) (k : Fin 1024) (j : Fin 2560) : wMain W (ix2 k j) = W
      (ix2 k ⟨if (j : ℕ) < 768 then j else if (j : ℕ) < 1792 then j + 8 else j + 24, by split <;> [skip; split] <;> omega⟩) := by
  unfold wMain
  pointwise
  split
  · rename_i h
    exact congrArg (fun a => W (ix2 k a)) (Fin.ext (by simp only [if_pos h]))
  · rename_i h
    split
    · rename_i h'
      exact congrArg (fun a => W (ix2 k a)) (Fin.ext (by simp only [if_neg h]; split <;> omega))
    · rename_i h'
      split
      · exact congrArg (fun a => W (ix2 k a)) (Fin.ext (by simp only [if_neg h]; split <;> omega))
      · exact congrArg (fun a => W (ix2 k a)) (Fin.ext (by simp only [if_neg h]; split <;> omega))

/-- The small columns' weights, entry by entry. -/
theorem wSmall_at (W : FVec Ideal S1024x2584 .f32) (k : Fin 1024) (j : Fin 128) : wSmall W (ix2 k j) =
      if h : (j : ℕ) < 8 then W (ix2 k ⟨768 + j, by omega⟩) else if h : (j : ℕ) < 24 then W (ix2 k ⟨1792 + j, by omega⟩) else 0 := by
  unfold wSmall
  pointwise
  split
  · rfl
  · split
    · rename_i h1 h2
      rw [dif_pos (by omega)]
      exact congrArg (fun a => W (ix2 k a)) (Fin.ext (show 1800 + ((j : ℕ) - 8) = 1792 + j by omega))
    · rename_i h1 h2
      rw [dif_neg (by omega)]

variable (m : (ℓ : Loc nD τ sig) → Buf (Elt Ideal) ℓ)

/-- The windows' block indices: the tokens' windows step through the blocks of 512, the modulation's through the groups. -/
theorem idx : ∀ t : Fin cfg0.N, t.val < 12 ∧ win0_0.index t = ![t.val, 0] ∧ win0_1.index t = ![0, 0]
    ∧ win0_2.index t = ![if t.val < 8 then 0 else 1 + (t.val - 8) / 2, 0, 0] ∧ win0_3.index t = ![if t.val < 8 then 0 else 1 + (t.val - 8) / 2, 0, 0]
    ∧ win0_4.index t = ![0, 0] ∧ win0_5.index t = ![0, 0] ∧ win0_6.index t = ![0, 0] ∧ win0_7.index t = ![t.val, 0] ∧ win0_8.index t = ![t.val, 0]
    ∧ win0_9.index t = ![t.val, 0] ∧ win0_10.index t = ![t.val, 0] ∧ win0_11.index t = ![t.val, 0] ∧ win0_12.index t = ![0, t.val] :=
  (by decide +kernel : ∀ t : Fin grid0.N, _)

/-- The token of row `i` of block `t`. -/
def tok (t : Fin cfg0.N) (i : Fin 512) : Fin 6144 := ⟨t.val * 512 + i, by have := (idx t).1; omega⟩

/-- A point's block of the tokens is 512 tokens. -/
theorem x_blk (c : Dev nD) (t : Fin cfg0.N) (i : Fin 512) (j : Fin 1024) :
    (show FVec Ideal S512x1024 .f32 from iblk m c 0 t) (ix2 i j) = (show FVec Ideal S6144x1024 .f32 from m ((c : Thread nD τ).loc main_arg0)) (ix2 (tok t i) j) := by
  unfold tok
  blk_ext [iblk, V, idx t]

/-- Every point's block of the norm weights is the weights. -/
theorem w_blk (c : Dev nD) (t : Fin cfg0.N) (j : Fin 1024) :
    (show FVec Ideal S1x1024 .f32 from iblk m c 1 t) (ix2 0 j) = (show FVec Ideal S1024 .f32 from m ((c : Thread nD τ).loc main_arg1)) (ix1 j) := by
  blk_simp [iblk, idx t]
  entry_read
  pointwise
  blk_ext [idx t]

/-- A point's block of the scales is its group's. -/
theorem s_blk (c : Dev nD) (t : Fin cfg0.N) (i : Fin 512) (j : Fin 1024) :
    (show FVec Ideal S1x1x1024 .f32 from iblk m c 2 t) (ix3 0 0 j) = (show FVec Ideal S8x1x1024 .f32 from m ((c : Thread nD τ).loc main_arg2)) (ix3 (Cert.Mod.grp (tok t i)) 0 j) := by
  have e := Cert.Mod.grp_block ⟨t.val, (idx t).1⟩ i
  unfold tok
  blk_ext [iblk, V, idx t, e]

/-- A point's block of the shifts is its group's. -/
theorem h_blk (c : Dev nD) (t : Fin cfg0.N) (i : Fin 512) (j : Fin 1024) :
    (show FVec Ideal S1x1x1024 .f32 from iblk m c 3 t) (ix3 0 0 j) = (show FVec Ideal S8x1x1024 .f32 from m ((c : Thread nD τ).loc main_arg3)) (ix3 (Cert.Mod.grp (tok t i)) 0 j) := by
  have e := Cert.Mod.grp_block ⟨t.val, (idx t).1⟩ i
  unfold tok
  blk_ext [iblk, V, idx t, e]

/-- The small weights the kernel is given. -/
theorem V_small (c : Dev nD) : V m c main_v8 = wSmall (m ((c : Thread nD τ).loc main_arg4)) := by
  unfold V
  after_results_simp
  refine wSmall_of _ ?_ ?_ ?_
  · change HloOp.result _ _ (Proc.devRef .tc main_v5) = _
    after_results_steps
  · change HloOp.result _ _ (Proc.devRef .tc main_v6) = _
    after_results_steps
  · change HloOp.result _ _ (Proc.devRef .tc main_v7) = _
    after_results_steps

/-- The main weights the kernel is given. -/
theorem V_main (c : Dev nD) : V m c main_v9 = truncf .bf16 (wMain (m ((c : Thread nD τ).loc main_arg4))) bitsLt_bf16_f32 := by
  unfold V
  simp only [StableHlo.after_cons, StableHlo.after_nil]
  after_results_steps
  rfl

/-- The small weights, transposed, the kernel is given. -/
theorem V_smallT (c : Dev nD) : V m c main_v10 = transpose S128x1024 [1, 0] (wSmall (m ((c : Thread nD τ).loc main_arg4))) transposes_S1024x128_S128x1024_1_0 := by
  refine Eq.trans ?_ (congrArg (fun w => transpose S128x1024 [1, 0] w transposes_S1024x128_S128x1024_1_0) (V_small m c))
  unfold V
  simp only [StableHlo.after_cons, StableHlo.after_nil]
  after_results_steps

/-- Every point's block of the main weights. -/
theorem main_blk (c : Dev nD) (t : Fin cfg0.N) (k : Fin 1024) (j : Fin 2560) :
    (show FVec Ideal S1024x2560 .bf16 from iblk m c 4 t) (ix2 k j) = (show FVec Ideal S1024x2584 .f32 from m ((c : Thread nD τ).loc main_arg4))
      (ix2 k ⟨if (j : ℕ) < 768 then j else if (j : ℕ) < 1792 then j + 8 else j + 24, by split <;> [skip; split] <;> omega⟩) := by
  blk_simp [iblk, idx t]
  refine (congrFun (V_main m c) _).trans (Eq.trans ?_ (wMain_at _ k j))
  show wMain _ _ = wMain _ _
  blk_ext [idx t]

/-- Every point's block of the small weights. -/
theorem small_blk (c : Dev nD) (t : Fin cfg0.N) (k : Fin 1024) (j : Fin 128) :
    (show FVec Ideal S1024x128 .f32 from iblk m c 5 t) (ix2 k j) =
      if h : (j : ℕ) < 8 then (show FVec Ideal S1024x2584 .f32 from m ((c : Thread nD τ).loc main_arg4)) (ix2 k ⟨768 + j, by omega⟩)
        else if h : (j : ℕ) < 24 then (show FVec Ideal S1024x2584 .f32 from m ((c : Thread nD τ).loc main_arg4)) (ix2 k ⟨1792 + j, by omega⟩) else 0 := by
  blk_simp [iblk, idx t]
  refine (congrFun (V_small m c) _).trans (Eq.trans ?_ (wSmall_at _ k j))
  blk_ext [idx t]

/-- Every point's block of the transposed small weights. -/
theorem smallT_blk (c : Dev nD) (t : Fin cfg0.N) (k : Fin 1024) (j : Fin 128) :
    (show FVec Ideal S128x1024 .f32 from iblk m c 6 t) (ix2 j k) =
      if h : (j : ℕ) < 8 then (show FVec Ideal S1024x2584 .f32 from m ((c : Thread nD τ).loc main_arg4)) (ix2 k ⟨768 + j, by omega⟩)
        else if h : (j : ℕ) < 24 then (show FVec Ideal S1024x2584 .f32 from m ((c : Thread nD τ).loc main_arg4)) (ix2 k ⟨1792 + j, by omega⟩) else 0 := by
  blk_simp [iblk, idx t]
  refine (congrFun (V_smallT m c) _).trans (Eq.trans ?_ (wSmall_at _ k j))
  have e : (win0_6.blk t).view.emb (ix2 j k) = ix2 j k := by blk_ext [idx t]
  rw [e]
  pointwise

end Cert.Kernel2Ideal.At

end
-- ==== Proof.InFinal.lean ====
/- The input projection's six result arrays after the run, as functions of its argument arrays. -/
module

public import proofs.«01_k».proof.Proof.InBlock

@[expose] public section

set_option maxRecDepth 16384

noncomputable section

open Idealize.ShloMosaic Idealize.ShloMosaic.TcCoe Idealize.SL.Sem
open Idealize.ShloMosaic.Pipeline (Dat)

namespace Cert.In

/-- `n` columns from column `o` of the projected tokens. -/
def G (u : Fin 6144 → Fin 2584 → EReal) (n o : ℕ) (h : o + n ≤ 2584) : (⟨2, ![6144, n]⟩ : Shape).Idx → EReal :=
  fun p => u ⟨(p 0).val, (p 0).isLt⟩ ⟨o + (p 1).val, by have : (p 1).val < n := (p 1).isLt; omega⟩

/-- An element of those columns. -/
theorem G_at (u : Fin 6144 → Fin 2584 → EReal) (n o : ℕ) (h : o + n ≤ 2584) (p : (⟨2, ![6144, n]⟩ : Shape).Idx) (i : Fin 6144) (j : Fin n)
    (h0 : (p 0).val = i) (h1 : (p 1).val = j) : G u n o h p = u i ⟨o + j, by omega⟩ := by
  unfold G
  congr 1 <;> apply Fin.ext <;> simp only [h0, h1]

/-- The small columns: 8, then 16, then zeros. -/
def small (u : Fin 6144 → Fin 2584 → EReal) (i : Fin 6144) (j : Fin 128) : EReal :=
  if h : (j : ℕ) < 8 then u i ⟨768 + j, by omega⟩ else if h : (j : ℕ) < 24 then u i ⟨1792 + j, by omega⟩ else 0

/-- The small columns' array. -/
def GS (u : Fin 6144 → Fin 2584 → EReal) : (⟨2, ![6144, 128]⟩ : Shape).Idx → EReal :=
  fun p => small u ⟨(p 0).val, (p 0).isLt⟩ ⟨(p 1).val, (p 1).isLt⟩

/-- The small columns' array, transposed. -/
def GT (u : Fin 6144 → Fin 2584 → EReal) : (⟨2, ![128, 6144]⟩ : Shape).Idx → EReal :=
  fun p => small u ⟨(p 1).val, (p 1).isLt⟩ ⟨(p 0).val, (p 0).isLt⟩

/-- An element of the small columns. -/
theorem GS_at (u : Fin 6144 → Fin 2584 → EReal) (p : (⟨2, ![6144, 128]⟩ : Shape).Idx) (i : Fin 6144) (j : Fin 128)
    (h0 : (p 0).val = i) (h1 : (p 1).val = j) : GS u p = small u i j := by
  unfold GS
  congr 1 <;> apply Fin.ext <;> simp only [h0, h1]

/-- An element of the transposed small columns. -/
theorem GT_at (u : Fin 6144 → Fin 2584 → EReal) (p : (⟨2, ![128, 6144]⟩ : Shape).Idx) (i : Fin 6144) (j : Fin 128)
    (h0 : (p 0).val = j) (h1 : (p 1).val = i) : GT u p = small u i j := by
  unfold GT
  congr 1 <;> apply Fin.ext <;> simp only [h0, h1]

end Cert.In

namespace Cert.Kernel2Ideal.At

open Cert.Kernel2Ideal Cert.Kernel2Ideal.Gen

variable (m : (ℓ : Loc nD τ sig) → Buf (Elt Ideal) ℓ)

/-- The projected columns of the argument arrays. -/
def um (c : Dev nD) : Fin 6144 → Fin 2584 → EReal :=
  Cert.In.U (m ((c : Thread nD τ).loc main_arg0)) (m ((c : Thread nD τ).loc main_arg1)) (m ((c : Thread nD τ).loc main_arg2))
    (m ((c : Thread nD τ).loc main_arg3)) (m ((c : Thread nD τ).loc main_arg4))

/-- A block's normed rows are the tokens' normed rows. -/
theorem nrm_blk (c : Dev nD) (t : Fin cfg0.N) (i : Fin 512) (k : Fin 1024) :
    Cert.Mod.nrm (fun k => (show FVec Ideal S512x1024 .f32 from iblk m c 0 t) (ix2 i k)) (fun k => (show FVec Ideal S1x1024 .f32 from iblk m c 1 t) (ix2 0 k))
      (fun k => (show FVec Ideal S1x1x1024 .f32 from iblk m c 2 t) (ix3 0 0 k)) (fun k => (show FVec Ideal S1x1x1024 .f32 from iblk m c 3 t) (ix3 0 0 k)) k
    = Cert.Mod.nrm (fun k => (show FVec Ideal S6144x1024 .f32 from m ((c : Thread nD τ).loc main_arg0)) (ix2 (tok t i) k)) (fun k => (show FVec Ideal S1024 .f32 from m ((c : Thread nD τ).loc main_arg1)) (ix1 k))
      (fun k => (show FVec Ideal S8x1x1024 .f32 from m ((c : Thread nD τ).loc main_arg2)) (ix3 (Cert.Mod.grp (tok t i)) 0 k))
      (fun k => (show FVec Ideal S8x1x1024 .f32 from m ((c : Thread nD τ).loc main_arg3)) (ix3 (Cert.Mod.grp (tok t i)) 0 k)) k := by
  rw [funext fun k => x_blk m c t i k, funext fun k => w_blk m c t k, funext fun k => s_blk m c t i k, funext fun k => h_blk m c t i k]

/-- A block's main columns are the tokens' columns, the re-arranged weights read back. -/
theorem main_at (c : Dev nD) (t : Fin cfg0.N) (i : Fin 512) (j : Fin 2560) (l : Fin 2584)
    (e : (if (j : ℕ) < 768 then (j : ℕ) else if (j : ℕ) < 1792 then j + 8 else j + 24) = l) :
    k0_pay5 (F := Ideal) (iblk m c 0 t) (iblk m c 1 t) (iblk m c 2 t) (iblk m c 3 t) (iblk m c 4 t) (ix2 i j) = um m c (tok t i) l := by
  refine (pay5_at _ _ _ _ _ i j).trans ?_
  unfold um Cert.In.U
  refine Finset.sum_congr rfl fun k _ => congrArg₂ _ (nrm_blk m c t i k) ((main_blk m c t k j).trans ?_)
  exact congrArg (fun a => (show FVec Ideal S1024x2584 .f32 from m ((c : Thread nD τ).loc main_arg4)) (ix2 k a)) (Fin.ext e)

/-- A sum against the small weights is a small column. -/
theorem small_sum (f : Fin 1024 → EReal) (W : (⟨2, ![1024, 2584]⟩ : Shape).Idx → EReal) (j : Fin 128) :
    (∑ k, f k * (if h : (j : ℕ) < 8 then W (ix2 k ⟨768 + j, by omega⟩) else if h : (j : ℕ) < 24 then W (ix2 k ⟨1792 + j, by omega⟩) else 0))
      = if h : (j : ℕ) < 8 then ∑ k, f k * W (ix2 k ⟨768 + j, by omega⟩) else if h : (j : ℕ) < 24 then ∑ k, f k * W (ix2 k ⟨1792 + j, by omega⟩) else 0 := by
  split
  · rfl
  · split
    · rfl
    · simp only [mul_zero, Finset.sum_const_zero]

/-- A block's small columns are the tokens' small columns. -/
theorem small_at (c : Dev nD) (t : Fin cfg0.N) (i : Fin 512) (j : Fin 128) :
    k0_pay2 (F := Ideal) (k0_pay4 (iblk m c 0 t) (iblk m c 1 t) (iblk m c 2 t) (iblk m c 3 t)) (iblk m c 5 t) (ix2 i j) = Cert.In.small (um m c) (tok t i) j := by
  refine (pay2_at _ _ i j).trans ?_
  have e : ∀ k, k0_pay4 (F := Ideal) (iblk m c 0 t) (iblk m c 1 t) (iblk m c 2 t) (iblk m c 3 t) (ix2 i k) = _ := fun k => (pay4_at _ _ _ _ i k).trans (nrm_blk m c t i k)
  rw [Finset.sum_congr rfl fun k _ => congrArg₂ (· * ·) (e k) (small_blk m c t k j)]
  exact small_sum _ _ j

/-- A block's transposed small columns are the tokens' small columns. -/
theorem smallT_at (c : Dev nD) (t : Fin cfg0.N) (i : Fin 512) (j : Fin 128) :
    k0_pay3 (F := Ideal) (k0_pay4 (iblk m c 0 t) (iblk m c 1 t) (iblk m c 2 t) (iblk m c 3 t)) (iblk m c 6 t) (ix2 j i) = Cert.In.small (um m c) (tok t i) j := by
  refine (pay3_at _ _ j i).trans ?_
  have e : ∀ k, k0_pay4 (F := Ideal) (iblk m c 0 t) (iblk m c 1 t) (iblk m c 2 t) (iblk m c 3 t) (ix2 i k) = _ := fun k => (pay4_at _ _ _ _ i k).trans (nrm_blk m c t i k)
  rw [Finset.sum_congr rfl fun k _ => congrArg₂ (· * ·) (e k) (smallT_blk m c t k j)]
  exact small_sum _ _ j

/-- The body's shared value is the block's modulated norm. -/
theorem pay9_eq (x0 : FVec Ideal S512x1024 .f32) (x1 : FVec Ideal S1x1024 .f32) (x2 x3 : FVec Ideal S1x1x1024 .f32) (x4 : FVec Ideal S1024x2560 .bf16)
    (x5 : FVec Ideal S1024x128 .f32) (x6 : FVec Ideal S128x1024 .f32) : k0_pay9 (F := Ideal) x0 x1 x2 x3 x4 x5 x6 = k0_pay4 x0 x1 x2 x3 := by
  unfold k0_pay9 r0_0 r0_1 r0_2
  rw [View.ld_unit_lit _ _ (by decide), View.ld_unit_lit _ _ (by decide), View.ld_unit_lit _ _ (by decide), View.ld_unit_lit _ _ (by decide)]

/-- The first array: the SSD's columns. -/
theorem final0 (c : Dev nD) : (dats m 0 c).arrAt 7 cfg0.N = Cert.In.G (um m c) 768 0 (by omega) := by
  refine (dats m 0 c).arrAt_eq_of_covers 7 _ (by decide +kernel) fun t _ y => ?_
  blk_simp
  rw [after0_7]
  frame_out
  obtain ⟨i, j, rfl⟩ : ∃ (i : Fin 512) (j : Fin 768), y = ix2 i j := ⟨y 0, y 1, eq_ix2 y⟩
  rw [Cert.In.G_at _ _ _ _ _ (tok t i) j (by unfold tok; blk_simp [idx t]) (by blk_simp [idx t])]
  unfold k0_pay6
  pointwise
  refine main_at m c t i _ _ ?_
  dsimp only
  split <;> [skip; split] <;> omega

/-- The second array: the GDN's columns. -/
theorem final1 (c : Dev nD) : (dats m 0 c).arrAt 8 cfg0.N = Cert.In.G (um m c) 1024 776 (by omega) := by
  refine (dats m 0 c).arrAt_eq_of_covers 8 _ (by decide +kernel) fun t _ y => ?_
  blk_simp
  rw [after0_8]
  frame_out
  obtain ⟨i, j, rfl⟩ : ∃ (i : Fin 512) (j : Fin 1024), y = ix2 i j := ⟨y 0, y 1, eq_ix2 y⟩
  rw [Cert.In.G_at _ _ _ _ _ (tok t i) j (by unfold tok; blk_simp [idx t]) (by blk_simp [idx t])]
  unfold k0_pay7
  pointwise
  refine main_at m c t i _ _ ?_
  dsimp only
  split <;> [skip; split] <;> omega

/-- The third array: the FNet's columns. -/
theorem final2 (c : Dev nD) : (dats m 0 c).arrAt 9 cfg0.N = Cert.In.G (um m c) 256 1816 (by omega) := by
  refine (dats m 0 c).arrAt_eq_of_covers 9 _ (by decide +kernel) fun t _ y => ?_
  blk_simp
  rw [after0_9]
  frame_out
  obtain ⟨i, j, rfl⟩ : ∃ (i : Fin 512) (j : Fin 256), y = ix2 i j := ⟨y 0, y 1, eq_ix2 y⟩
  rw [Cert.In.G_at _ _ _ _ _ (tok t i) j (by unfold tok; blk_simp [idx t]) (by blk_simp [idx t])]
  unfold k0_pay8
  pointwise
  refine main_at m c t i _ _ ?_
  dsimp only
  split <;> [skip; split] <;> omega

/-- The fourth array: the attention's columns. -/
theorem final3 (c : Dev nD) : (dats m 0 c).arrAt 10 cfg0.N = Cert.In.G (um m c) 512 2072 (by omega) := by
  refine (dats m 0 c).arrAt_eq_of_covers 10 _ (by decide +kernel) fun t _ y => ?_
  blk_simp
  rw [after0_10]
  frame_out
  obtain ⟨i, j, rfl⟩ : ∃ (i : Fin 512) (j : Fin 512), y = ix2 i j := ⟨y 0, y 1, eq_ix2 y⟩
  rw [Cert.In.G_at _ _ _ _ _ (tok t i) j (by unfold tok; blk_simp [idx t]) (by blk_simp [idx t])]
  unfold k0_pay1
  pointwise
  refine main_at m c t i _ _ ?_
  dsimp only
  split <;> [skip; split] <;> omega

/-- The fifth array: the small columns. -/
theorem final4 (c : Dev nD) : (dats m 0 c).arrAt 11 cfg0.N = Cert.In.GS (um m c) := by
  refine (dats m 0 c).arrAt_eq_of_covers 11 _ (by decide +kernel) fun t _ y => ?_
  blk_simp
  rw [after0_11]
  frame_out
  obtain ⟨i, j, rfl⟩ : ∃ (i : Fin 512) (j : Fin 128), y = ix2 i j := ⟨y 0, y 1, eq_ix2 y⟩
  rw [Cert.In.GS_at _ _ (tok t i) j (by unfold tok; blk_simp [idx t]) (by blk_simp [idx t])]
  rw [pay9_eq]
  exact small_at m c t i j

/-- The sixth array: the small columns, transposed. -/
theorem final5 (c : Dev nD) : (dats m 0 c).arrAt 12 cfg0.N = Cert.In.GT (um m c) := by
  refine (dats m 0 c).arrAt_eq_of_covers 12 _ (by decide +kernel) fun t _ y => ?_
  blk_simp
  rw [after0_12]
  frame_out
  obtain ⟨j, i, rfl⟩ : ∃ (j : Fin 128) (i : Fin 512), y = ix2 j i := ⟨y 0, y 1, eq_ix2 y⟩
  rw [Cert.In.GT_at _ _ (tok t i) j (by blk_simp [idx t]) (by unfold tok; blk_simp [idx t])]
  rw [pay9_eq]
  exact smallT_at m c t i j

end Cert.Kernel2Ideal.At

end
-- ==== Proof.InClaims.lean ====
/- The claims about the input projection: the run of the kernel against the run of the reference. -/
module

public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.InFinal
public import Idealize.ShloMosaic.Adequacy
public import Idealize.ShloMosaic.Init

@[expose] public section

set_option maxRecDepth 16384

noncomputable section

open Idealize.ShloMosaic Idealize.ShloMosaic.TcCoe Idealize.SL.Sem

namespace Cert.Reference2Ideal.At

open Cert.Reference2Ideal Cert.Reference2Ideal.Gen Cert.Reference2Ideal.Value

/-- The reference's columns of its argument arrays. -/
def ur (m : (ℓ : Loc nD τ sig) → Buf (Elt Ideal) ℓ) (c : Dev nD) : FVec Ideal S6144x2584 .f32 :=
  cols (up (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
    (us (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))

/-- The SSD's columns. -/
theorem g0 (u : FVec Ideal S6144x2584 .f32) (f : Fin 6144 → Fin 2584 → EReal) (h : ∀ i j, u (ix2 i j) = f i j) :
    extractStridedSlice S6144x768 ![0, 0] (extractStridedSlice S6144x776 ![0, 0] u slices_S6144x2584_S6144x776_0_0) slices_S6144x776_S6144x768_0_0 = Cert.In.G f 768 0 (by omega) := by
  funext p
  obtain ⟨i, j, rfl⟩ : ∃ (i : Fin 6144) (j : Fin 768), p = ix2 i j := ⟨p 0, p 1, eq_ix2 p⟩
  rw [Cert.In.G_at _ _ _ _ _ i j rfl rfl, ← h]
  pointwise
  first | done | exact congrArg (fun a => u (ix2 i a)) (Fin.ext (by simp))

/-- The GDN's columns. -/
theorem g1 (u : FVec Ideal S6144x2584 .f32) (f : Fin 6144 → Fin 2584 → EReal) (h : ∀ i j, u (ix2 i j) = f i j) :
    extractStridedSlice S6144x1024 ![0, 0] (extractStridedSlice S6144x1040 ![0, 776] u slices_S6144x2584_S6144x1040_0_776) slices_S6144x1040_S6144x1024_0_0 = Cert.In.G f 1024 776 (by omega) := by
  funext p
  obtain ⟨i, j, rfl⟩ : ∃ (i : Fin 6144) (j : Fin 1024), p = ix2 i j := ⟨p 0, p 1, eq_ix2 p⟩
  rw [Cert.In.G_at _ _ _ _ _ i j rfl rfl, ← h]
  pointwise

/-- The FNet's columns. -/
theorem g2 (u : FVec Ideal S6144x2584 .f32) (f : Fin 6144 → Fin 2584 → EReal) (h : ∀ i j, u (ix2 i j) = f i j) :
    extractStridedSlice S6144x256 ![0, 1816] u slices_S6144x2584_S6144x256_0_1816 = Cert.In.G f 256 1816 (by omega) := by
  funext p
  obtain ⟨i, j, rfl⟩ : ∃ (i : Fin 6144) (j : Fin 256), p = ix2 i j := ⟨p 0, p 1, eq_ix2 p⟩
  rw [Cert.In.G_at _ _ _ _ _ i j rfl rfl, ← h]
  pointwise

/-- The attention's columns. -/
theorem g3 (u : FVec Ideal S6144x2584 .f32) (f : Fin 6144 → Fin 2584 → EReal) (h : ∀ i j, u (ix2 i j) = f i j) :
    extractStridedSlice S6144x512 ![0, 2072] u slices_S6144x2584_S6144x512_0_2072 = Cert.In.G f 512 2072 (by omega) := by
  funext p
  obtain ⟨i, j, rfl⟩ : ∃ (i : Fin 6144) (j : Fin 512), p = ix2 i j := ⟨p 0, p 1, eq_ix2 p⟩
  rw [Cert.In.G_at _ _ _ _ _ i j rfl rfl, ← h]
  pointwise

/-- The small columns. -/
theorem g4 (u : FVec Ideal S6144x2584 .f32) (f : Fin 6144 → Fin 2584 → EReal) (h : ∀ i j, u (ix2 i j) = f i j) :
    smalls u = Cert.In.GS f := by
  funext p
  obtain ⟨i, j, rfl⟩ : ∃ (i : Fin 6144) (j : Fin 128), p = ix2 i j := ⟨p 0, p 1, eq_ix2 p⟩
  rw [Cert.In.GS_at _ _ i j rfl rfl, smalls_at]
  unfold Cert.In.small
  simp only [h]

/-- The small columns, transposed. -/
theorem g5 (u : FVec Ideal S6144x2584 .f32) (f : Fin 6144 → Fin 2584 → EReal) (h : ∀ i j, u (ix2 i j) = f i j) :
    transpose S128x6144 [1, 0] (smalls u) transposes_S6144x128_S128x6144_1_0 = Cert.In.GT f := by
  funext p
  obtain ⟨j, i, rfl⟩ : ∃ (j : Fin 128) (i : Fin 6144), p = ix2 j i := ⟨p 0, p 1, eq_ix2 p⟩
  rw [Cert.In.GT_at _ _ i j rfl rfl, ← Cert.In.GS_at f (ix2 i j) i j rfl rfl, ← g4 u f h]
  pointwise

end Cert.Reference2Ideal.At

namespace Cert.In

/-- The reference's program leaves its arguments alone and no counter raised. -/
theorem frame_reference : Cert.quiescent_Reference2Ideal := fun m ρ _ =>
  (θ_run Cert.Reference2Ideal.defs _ _).mono (fun r h => ⟨fun c => (h c).2.2.2.2.2.2,
      Idealize.ShloMosaic.sem_eq_zero_of_no_sems (by decide) r.2⟩)
    (Cert.Reference2Ideal.Value.run (F := Ideal) m ρ)

/-- The kernel's six arrays are the reference's: the projected columns of the modulated, normed tokens. -/
theorem algebraic : Cert.algebraic_Kernel2Ideal_Reference2Ideal := by
  intro m ρ m' ρ' hpre hagree
  refine ⟨fun c => G (Cert.Kernel2Ideal.At.um m c) 768 0 (by omega), fun c => G (Cert.Kernel2Ideal.At.um m c) 1024 776 (by omega),
    fun c => G (Cert.Kernel2Ideal.At.um m c) 256 1816 (by omega), fun c => G (Cert.Kernel2Ideal.At.um m c) 512 2072 (by omega),
    fun c => GS (Cert.Kernel2Ideal.At.um m c), fun c => GT (Cert.Kernel2Ideal.At.um m c), ?_, ?_⟩
  · exact (θ_run Cert.Kernel2Ideal.defs _ _).mono (fun _ h c =>
      ⟨(h c).1.trans (Cert.Kernel2Ideal.At.final0 m c), (h c).2.1.trans (Cert.Kernel2Ideal.At.final1 m c),
        (h c).2.2.1.trans (Cert.Kernel2Ideal.At.final2 m c), (h c).2.2.2.1.trans (Cert.Kernel2Ideal.At.final3 m c),
        (h c).2.2.2.2.1.trans (Cert.Kernel2Ideal.At.final4 m c), (h c).2.2.2.2.2.1.trans (Cert.Kernel2Ideal.At.final5 m c), (h c).2.2.2.2.2.2⟩)
      (Cert.Kernel2Ideal.Value.run_blocks m ρ)
  · have hu : ∀ c i j, Cert.Reference2Ideal.At.ur m' c (ix2 i j) = Cert.Kernel2Ideal.At.um m c i j := fun c i j => by
      unfold Cert.Reference2Ideal.At.ur Cert.Kernel2Ideal.At.um
      rw [Cert.Reference2Ideal.At.cols_at, (hagree c).1, (hagree c).2.1, (hagree c).2.2.1, (hagree c).2.2.2.1, (hagree c).2.2.2.2]
    refine (θ_run Cert.Reference2Ideal.defs _ _).mono (fun _ h c => ⟨(h c).1.trans ?_, (h c).2.1.trans ?_, (h c).2.2.1.trans ?_,
        (h c).2.2.2.1.trans ?_, (h c).2.2.2.2.1.trans ?_, (h c).2.2.2.2.2.1.trans ?_, (h c).2.2.2.2.2.2⟩)
      (Cert.Reference2Ideal.Value.run (F := Ideal) m' ρ')
    · exact Cert.Reference2Ideal.At.g0 (Cert.Reference2Ideal.At.ur m' c) _ (hu c)
    · exact Cert.Reference2Ideal.At.g1 (Cert.Reference2Ideal.At.ur m' c) _ (hu c)
    · exact Cert.Reference2Ideal.At.g2 (Cert.Reference2Ideal.At.ur m' c) _ (hu c)
    · exact Cert.Reference2Ideal.At.g3 (Cert.Reference2Ideal.At.ur m' c) _ (hu c)
    · exact Cert.Reference2Ideal.At.g4 (Cert.Reference2Ideal.At.ur m' c) _ (hu c)
    · exact Cert.Reference2Ideal.At.g5 (Cert.Reference2Ideal.At.ur m' c) _ (hu c)

end Cert.In

end
-- ==== Proof.OutRef.lean ====
/- The output projection's reference, entry by entry: the gated residual of the projected branches and its modulated norm. -/
module

public import proofs.«01_k».proof.Proof.Modulated
public import proofs.«01_k».proof.Proof.Gen.Reference3Ideal.Run
public import Idealize.ShloMosaic.Lib.Pointwise

@[expose] public section

set_option maxRecDepth 16384

noncomputable section

open Idealize.ShloMosaic Idealize.ShloMosaic.TcCoe Idealize.SL.Sem

namespace Cert.Out

/-- Element `k` of token `i`'s four branches in a row. -/
def Y (a b c d : (⟨2, ![6144, 256]⟩ : Shape).Idx → EReal) (i : Fin 6144) (k : Fin 1024) : EReal :=
  if h : (k : ℕ) < 256 then a (ix2 i ⟨k, h⟩) else if h : (k : ℕ) - 256 < 256 then b (ix2 i ⟨k - 256, h⟩)
    else if h : (k : ℕ) - 256 - 256 < 256 then c (ix2 i ⟨k - 256 - 256, h⟩) else d (ix2 i ⟨k - 256 - 256 - 256, by omega⟩)

/-- The gated residual stream: token `i`, channel `j`. -/
def X1 (a b c d : (⟨2, ![6144, 256]⟩ : Shape).Idx → EReal) (x : (⟨2, ![6144, 1024]⟩ : Shape).Idx → EReal) (W : (⟨2, ![1024, 1024]⟩ : Shape).Idx → EReal)
    (g : (⟨3, ![8, 1, 1024]⟩ : Shape).Idx → EReal) (i : Fin 6144) (j : Fin 1024) : EReal :=
  x (ix2 i j) + g (ix3 (Cert.Mod.grp i) 0 j) * ∑ k, Y a b c d i k * W (ix2 k j)

/-- Its modulated norm: token `i`, channel `j`. -/
def H2 (a b c d : (⟨2, ![6144, 256]⟩ : Shape).Idx → EReal) (x : (⟨2, ![6144, 1024]⟩ : Shape).Idx → EReal) (W : (⟨2, ![1024, 1024]⟩ : Shape).Idx → EReal)
    (g : (⟨3, ![8, 1, 1024]⟩ : Shape).Idx → EReal) (w : (⟨1, ![1024]⟩ : Shape).Idx → EReal) (sc sh : (⟨3, ![8, 1, 1024]⟩ : Shape).Idx → EReal) (i : Fin 6144) (j : Fin 1024) : EReal :=
  Cert.Mod.nrm (fun k => X1 a b c d x W g i k) (fun k => w (ix1 k)) (fun k => sc (ix3 (Cert.Mod.grp i) 0 k)) (fun k => sh (ix3 (Cert.Mod.grp i) 0 k)) j

end Cert.Out

namespace Cert.Reference3Ideal.At

open Cert.Reference3Ideal Cert.Reference3Ideal.Gen Cert.Reference3Ideal.Value

/-- The prompt's modulated norms. -/
def hp (X : FVec Ideal S16x256x1024 .f32) (w : FVec Ideal S1024 .f32) (s h : FVec Ideal S1x1x1024 .f32) : FVec Ideal S16x256x1024 .f32 :=
  addf (mulf (mulf (mulf X (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf X X) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32))))))
    (broadcastInDim S16x256x1024 ![0, 1, 2] bcast_S1x1x1024_S16x256x1024_0_1_2 (broadcastInDim S1x1x1024 ![2] bcast_S1024_S1x1x1024_2 w)))
    (broadcastInDim S16x256x1024 ![0, 1, 2] bcast_S1x1x1024_S16x256x1024_0_1_2 (addf (broadcastInDim S1x1x1024 ![] bcast_S_S1x1x1024 (constant S_ .f32 0x3F800000#32)) s)))
    (broadcastInDim S16x256x1024 ![0, 1, 2] bcast_S1x1x1024_S16x256x1024_0_1_2 h)

/-- The latents' modulated norms. -/
def hs (X : FVec Ideal S2x1024x1024 .f32) (w : FVec Ideal S1024 .f32) (s h : FVec Ideal S2x1x1024 .f32) : FVec Ideal S2x1024x1024 .f32 :=
  addf (mulf (mulf (mulf X (broadcastInDim S2x1024x1024 ![0, 1, 2] bcast_S2x1024x1_S2x1024x1024_0_1_2 (Host.rsqrt (addf (Host.divf (broadcastInDim S2x1024x1 ![0, 1] bcast_S2x1024_S2x1024x1_0_1 (Host.reduceAdd (mulf X X) (constant S_ .f32 0x00000000#32) reducesTo_S2x1024x1024_S2x1024_d2 h_S_)) (broadcastInDim S2x1024x1 ![] bcast_S_S2x1024x1 (constant S_ .f32 0x44800000#32))) (broadcastInDim S2x1024x1 ![] bcast_S_S2x1024x1 (constant S_ .f32 0x358637BD#32))))))
    (broadcastInDim S2x1024x1024 ![0, 1, 2] bcast_S1x1x1024_S2x1024x1024_0_1_2 (broadcastInDim S1x1x1024 ![2] bcast_S1024_S1x1x1024_2 w)))
    (broadcastInDim S2x1024x1024 ![0, 1, 2] bcast_S2x1x1024_S2x1024x1024_0_1_2 (addf (broadcastInDim S2x1x1024 ![] bcast_S_S2x1x1024 (constant S_ .f32 0x3F800000#32)) s)))
    (broadcastInDim S2x1024x1024 ![0, 1, 2] bcast_S2x1x1024_S2x1024x1024_0_1_2 h)

/-- The four branches in a row. -/
def yc (a b c d : FVec Ideal S6144x256 .bf16) : FVec Ideal S6144x1024 .f32 :=
  extf .f32 (concatenate S6144x1024 1 [⟨S6144x256, a⟩, ⟨S6144x256, b⟩, ⟨S6144x256, c⟩, ⟨S6144x256, d⟩] concatenates_S6144x256_S6144x256_S6144x256_S6144x256_S6144x1024_d1) bitsLt_bf16_f32

/-- The prompt's gated residual stream. -/
def xp (y : FVec Ideal S6144x1024 .f32) (x : FVec Ideal S6144x1024 .f32) (W : FVec Ideal S1024x1024 .f32) (g : FVec Ideal S8x1x1024 .f32) : FVec Ideal S16x256x1024 .f32 :=
  addf (shapeCast _ (extractStridedSlice S4096x1024 ![0, 0] x slices_S6144x1024_S4096x1024_0_0) shapeCasts_S4096x1024_S16x256x1024)
    (mulf (broadcastInDim S16x256x1024 ![0, 1, 2] bcast_S1x1x1024_S16x256x1024_0_1_2 (extractStridedSlice S1x1x1024 ![0, 0, 0] g slices_S8x1x1024_S1x1x1024_0_0_0))
      (Host.dotGeneral dot_S16x256x1024_S1024x1024_S16x256x1024_2_0_01_1_n_n none (shapeCast _ (extractStridedSlice S4096x1024 ![0, 0] y slices_S6144x1024_S4096x1024_0_0) shapeCasts_S4096x1024_S16x256x1024) W))

/-- The latents' gated residual stream. -/
def xs (y : FVec Ideal S6144x1024 .f32) (x : FVec Ideal S6144x1024 .f32) (W : FVec Ideal S1024x1024 .f32) (g : FVec Ideal S8x1x1024 .f32) : FVec Ideal S2x1024x1024 .f32 :=
  addf (shapeCast _ (extractStridedSlice S2048x1024 ![4096, 0] x slices_S6144x1024_S2048x1024_4096_0) shapeCasts_S2048x1024_S2x1024x1024)
    (mulf (broadcastInDim S2x1024x1024 ![0, 1, 2] bcast_S2x1x1024_S2x1024x1024_0_1_2 (extractStridedSlice S2x1x1024 ![1, 0, 0] g slices_S8x1x1024_S2x1x1024_1_0_0))
      (Host.dotGeneral dot_S2x1024x1024_S1024x1024_S2x1024x1024_2_0_01_1_n_n none (shapeCast _ (extractStridedSlice S2048x1024 ![4096, 0] y slices_S6144x1024_S2048x1024_4096_0) shapeCasts_S2048x1024_S2x1024x1024) W))

/-- The prompt's tokens, then the latents'. -/
def cat (p : FVec Ideal S16x256x1024 .f32) (s : FVec Ideal S2x1024x1024 .f32) : FVec Ideal S6144x1024 .f32 :=
  concatenate S6144x1024 0 [⟨S4096x1024, shapeCast _ p shapeCasts_S16x256x1024_S4096x1024⟩, ⟨S2048x1024, shapeCast _ s shapeCasts_S2x1024x1024_S2048x1024⟩] concatenates_S4096x1024_S2048x1024_S6144x1024_d0

/-- The prompt's modulated norm of the residual stream. -/
def h2p (y : FVec Ideal S6144x1024 .f32) (x : FVec Ideal S6144x1024 .f32) (W : FVec Ideal S1024x1024 .f32) (g : FVec Ideal S8x1x1024 .f32) (w : FVec Ideal S1024 .f32) (sc sh : FVec Ideal S8x1x1024 .f32) : FVec Ideal S16x256x1024 .f32 :=
  hp (xp y x W g) w (extractStridedSlice S1x1x1024 ![0, 0, 0] sc slices_S8x1x1024_S1x1x1024_0_0_0) (extractStridedSlice S1x1x1024 ![0, 0, 0] sh slices_S8x1x1024_S1x1x1024_0_0_0)

/-- The latents' modulated norm of the residual stream. -/
def h2s (y : FVec Ideal S6144x1024 .f32) (x : FVec Ideal S6144x1024 .f32) (W : FVec Ideal S1024x1024 .f32) (g : FVec Ideal S8x1x1024 .f32) (w : FVec Ideal S1024 .f32) (sc sh : FVec Ideal S8x1x1024 .f32) : FVec Ideal S2x1024x1024 .f32 :=
  hs (xs y x W g) w (extractStridedSlice S2x1x1024 ![1, 0, 0] sc slices_S8x1x1024_S2x1x1024_1_0_0) (extractStridedSlice S2x1x1024 ![1, 0, 0] sh slices_S8x1x1024_S2x1x1024_1_0_0)

/-- A prompt token's modulated norm. -/
theorem hp_at (X : FVec Ideal S16x256x1024 .f32) (w : FVec Ideal S1024 .f32) (s h : FVec Ideal S1x1x1024 .f32) (b : Fin 16) (i : Fin 256) (k : Fin 1024) :
    hp X w s h (ix3 b i k) = Cert.Mod.nrm (fun k => X (ix3 b i k)) (fun k => w (ix1 k)) (fun k => s (ix3 0 0 k)) (fun k => h (ix3 0 0 k)) k := by
  unfold hp Cert.Mod.nrm
  pointwise

/-- A latent token's modulated norm. -/
theorem hs_at (X : FVec Ideal S2x1024x1024 .f32) (w : FVec Ideal S1024 .f32) (s h : FVec Ideal S2x1x1024 .f32) (b : Fin 2) (i : Fin 1024) (k : Fin 1024) :
    hs X w s h (ix3 b i k) = Cert.Mod.nrm (fun k => X (ix3 b i k)) (fun k => w (ix1 k)) (fun k => s (ix3 b 0 k)) (fun k => h (ix3 b 0 k)) k := by
  unfold hs Cert.Mod.nrm
  pointwise

/-- An element of the branches in a row. -/
theorem yc_at (a b c d : FVec Ideal S6144x256 .bf16) (i : Fin 6144) (k : Fin 1024) : yc a b c d (ix2 i k) = Cert.Out.Y a b c d i k := by
  unfold yc Cert.Out.Y
  pointwise

/-- A token's residual stream in the first part. -/
theorem xp_at (a b c d : FVec Ideal S6144x256 .bf16) (x : FVec Ideal S6144x1024 .f32) (W : FVec Ideal S1024x1024 .f32) (g : FVec Ideal S8x1x1024 .f32) (b' : Fin 16) (i : Fin 256) (k : Fin 1024) :
    xp (yc a b c d) x W g (ix3 b' i k) = Cert.Out.X1 a b c d x W g ⟨b' * 256 + i, by omega⟩ k := by
  unfold xp Cert.Out.X1
  pointwise [yc_at]
  rw [show Cert.Mod.grp ⟨(b' : ℕ) * 256 + i, by omega⟩ = 0 from Cert.Mod.grp_prompt ⟨(b' : ℕ) * 256 + i, by omega⟩]

/-- A token's residual stream in the second part. -/
theorem xs_at (a b c d : FVec Ideal S6144x256 .bf16) (x : FVec Ideal S6144x1024 .f32) (W : FVec Ideal S1024x1024 .f32) (g : FVec Ideal S8x1x1024 .f32) (b' : Fin 2) (i : Fin 1024) (k : Fin 1024) :
    xs (yc a b c d) x W g (ix3 b' i k) = Cert.Out.X1 a b c d x W g ⟨4096 + (b' * 1024 + i), by omega⟩ k := by
  unfold xs Cert.Out.X1
  pointwise [yc_at]
  have e : Cert.Mod.grp ⟨4096 + ((b' : ℕ) * 1024 + i), by omega⟩ = ⟨1 + b', by omega⟩ :=
    (Cert.Mod.grp_latent ⟨(b' : ℕ) * 1024 + i, by omega⟩).trans (Fin.ext (show 1 + ((b' : ℕ) * 1024 + i) / 1024 = 1 + b' by omega))
  rw [e]

/-- A function of tokens read off its two parts. -/
theorem cat_at (p : FVec Ideal S16x256x1024 .f32) (s : FVec Ideal S2x1024x1024 .f32) (f : Fin 6144 → Fin 1024 → EReal)
    (hp : ∀ (b : Fin 16) (i : Fin 256) k, p (ix3 b i k) = f ⟨b * 256 + i, by omega⟩ k)
    (hs : ∀ (b : Fin 2) (i : Fin 1024) k, s (ix3 b i k) = f ⟨4096 + (b * 1024 + i), by omega⟩ k) (i : Fin 6144) (k : Fin 1024) :
    cat p s (ix2 i k) = f i k := by
  unfold cat
  pointwise
  split
  · rw [hp]
    exact congrArg (fun a => f a k) (Fin.ext (show (i : ℕ) / 256 * 256 + (i : ℕ) % 256 = i by omega))
  · rw [hs]
    exact congrArg (fun a => f a k) (Fin.ext (show 4096 + (((i : ℕ) - 4096) / 1024 * 1024 + ((i : ℕ) - 4096) % 1024) = i by omega))

/-- The reference's residual stream. -/
theorem x1_at (a b c d : FVec Ideal S6144x256 .bf16) (x : FVec Ideal S6144x1024 .f32) (W : FVec Ideal S1024x1024 .f32) (g : FVec Ideal S8x1x1024 .f32) (i : Fin 6144) (k : Fin 1024) :
    cat (xp (yc a b c d) x W g) (xs (yc a b c d) x W g) (ix2 i k) = Cert.Out.X1 a b c d x W g i k :=
  cat_at _ _ (Cert.Out.X1 a b c d x W g) (xp_at a b c d x W g) (xs_at a b c d x W g) i k

/-- The reference's modulated norm of the residual stream. -/
theorem h2_at (a b c d : FVec Ideal S6144x256 .bf16) (x : FVec Ideal S6144x1024 .f32) (W : FVec Ideal S1024x1024 .f32) (g : FVec Ideal S8x1x1024 .f32) (w : FVec Ideal S1024 .f32) (sc sh : FVec Ideal S8x1x1024 .f32) (i : Fin 6144) (k : Fin 1024) :
    cat (h2p (yc a b c d) x W g w sc sh) (h2s (yc a b c d) x W g w sc sh) (ix2 i k) = Cert.Out.H2 a b c d x W g w sc sh i k := by
  refine cat_at _ _ (Cert.Out.H2 a b c d x W g w sc sh) (fun b' i k => ?_) (fun b' i k => ?_) i k
  · unfold h2p Cert.Out.H2
    rw [hp_at, funext fun k => xp_at a b c d x W g b' i k, show Cert.Mod.grp ⟨(b' : ℕ) * 256 + i, by omega⟩ = 0 from Cert.Mod.grp_prompt ⟨(b' : ℕ) * 256 + i, by omega⟩]
    pointwise
  · unfold h2s Cert.Out.H2
    have e : Cert.Mod.grp ⟨4096 + ((b' : ℕ) * 1024 + i), by omega⟩ = ⟨1 + b', by omega⟩ :=
      (Cert.Mod.grp_latent ⟨(b' : ℕ) * 1024 + i, by omega⟩).trans (Fin.ext (show 1 + ((b' : ℕ) * 1024 + i) / 1024 = 1 + b' by omega))
    rw [hs_at, funext fun k => xs_at a b c d x W g b' i k, e]
    pointwise

end Cert.Reference3Ideal.At

end
-- ==== Proof.OutBlock.lean ====
/- The output projection's blocks and result arrays. -/
module

public import proofs.«01_k».proof.Proof.OutRef
public import proofs.«01_k».proof.Proof.Gen.Kernel3Ideal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.At

open Cert.Kernel3Ideal Cert.Kernel3Ideal.Gen

/-- The block's gated residual stream, from the four branches' blocks and the weights' four parts. -/
theorem pay4_at (a b c d : FVec Ideal S512x256 .bf16) (A B C D : FVec Ideal S256x1024 .bf16) (x : FVec Ideal S512x1024 .f32) (g : FVec Ideal S1x1x1024 .f32) (i : Fin 512) (j : Fin 1024) :
    k0_pay4 (F := Ideal) a A b B c C d D x g (ix2 i j) = x (ix2 i j) + g (ix3 0 0 j) *
      ((∑ k, a (ix2 i k) * A (ix2 k j)) + (∑ k, b (ix2 i k) * B (ix2 k j)) + (∑ k, c (ix2 i k) * C (ix2 k j)) + (∑ k, d (ix2 i k) * D (ix2 k j))) := by
  unfold k0_pay4
  pointwise

/-- The block's sums of squares. -/
theorem pay5_at (a b c d : FVec Ideal S512x256 .bf16) (A B C D : FVec Ideal S256x1024 .bf16) (x : FVec Ideal S512x1024 .f32) (g : FVec Ideal S1x1x1024 .f32) (i : Fin 512) :
    k0_pay5 (F := Ideal) a A b B c C d D x g (ix2 i 0) = ∑ e, k0_pay4 (F := Ideal) a A b B c C d D x g (ix2 i e) * k0_pay4 (F := Ideal) a A b B c C d D x g (ix2 i e) := by
  unfold k0_pay5
  pointwise

/-- The block's modulated norm. -/
theorem pay1_at (v : FVec Ideal S512x1024 .f32) (q : FVec Ideal S512x1 .f32) (w : FVec Ideal S1x1024 .f32) (s h : FVec Ideal S1x1x1024 .f32) (i : Fin 512) (k : Fin 1024)
    (e : q (ix2 i 0) = ∑ e, v (ix2 i e) * v (ix2 i e)) :
    k0_pay1 (F := Ideal) v q (Scalar.ofBits .f32 0x44800000#32) w s h (ix2 i k) = Cert.Mod.nrm (fun k => v (ix2 i k)) (fun k => w (ix2 0 k)) (fun k => s (ix3 0 0 k)) (fun k => h (ix3 0 0 k)) k := by
  unfold k0_pay1 Cert.Mod.nrm
  pointwise [e]

/-- The modulated norm of equal rows. -/
theorem nrm_congr {r r' w w' s s' h h' : Fin 1024 → EReal} (k : Fin 1024) (hr : ∀ k, r k = r' k) (hw : ∀ k, w k = w' k) (hs : ∀ k, s k = s' k) (hh : ∀ k, h k = h' k) :
    Cert.Mod.nrm r w s h k = Cert.Mod.nrm r' w' s' h' k := by
  obtain rfl := funext hr
  obtain rfl := funext hw
  obtain rfl := funext hs
  obtain rfl := funext hh
  rfl

/-- A sum over the 1024 elements in a row is the four branches' sums. -/
theorem sum_rows (a b c d : Fin 256 → EReal) (W : Fin 1024 → EReal) (y : Fin 1024 → EReal)
    (ha : ∀ k : Fin 256, y ⟨k, by omega⟩ = a k) (hb : ∀ k : Fin 256, y ⟨256 + k, by omega⟩ = b k)
    (hc : ∀ k : Fin 256, y ⟨512 + k, by omega⟩ = c k) (hd : ∀ k : Fin 256, y ⟨768 + k, by omega⟩ = d k) :
    (∑ k, a k * W ⟨k, by omega⟩) + (∑ k, b k * W ⟨256 + k, by omega⟩) + (∑ k, c k * W ⟨512 + k, by omega⟩) + (∑ k, d k * W ⟨768 + k, by omega⟩)
      = ∑ k, y k * W k := by
  refine Eq.trans ?_ (Fin.sum_mul_add_fin 4 256 (fun k => y k * W k))
  rw [Fin.sum_univ_four]
  have g : ∀ (f f' : Fin 256 → EReal), (∀ k, f k = f' k) → ∑ k, f k = ∑ k, f' k := fun f f' h => Finset.sum_congr rfl fun k _ => h k
  refine congrArg₂ _ (congrArg₂ _ (congrArg₂ _ (g _ _ fun k => ?_) (g _ _ fun k => ?_)) (g _ _ fun k => ?_)) (g _ _ fun k => ?_)
  · rw [← ha]
    exact congrArg (fun l => y l * W l) (Fin.ext (show (k : ℕ) = 0 * 256 + k by omega))
  · rw [← hb]
    exact congrArg (fun l => y l * W l) (Fin.ext (show 256 + (k : ℕ) = 1 * 256 + k by omega))
  · rw [← hc]
    exact congrArg (fun l => y l * W l) (Fin.ext (show 512 + (k : ℕ) = 2 * 256 + k by omega))
  · rw [← hd]
    exact congrArg (fun l => y l * W l) (Fin.ext (show 768 + (k : ℕ) = 3 * 256 + k by omega))

variable (m : (ℓ : Loc nD τ sig) → Buf (Elt Ideal) ℓ)

/-- The windows' block indices. -/
theorem idx : ∀ t : Fin cfg0.N, t.val < 12 ∧ win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![if t.val < 8 then 0 else 1 + (t.val - 8) / 2, 0, 0] ∧ win0_7.index t = ![0, 0]
    ∧ win0_8.index t = ![if t.val < 8 then 0 else 1 + (t.val - 8) / 2, 0, 0] ∧ win0_9.index t = ![if t.val < 8 then 0 else 1 + (t.val - 8) / 2, 0, 0]
    ∧ win0_10.index t = ![t.val, 0] ∧ win0_11.index t = ![t.val, 0] ∧ win0_12.index t = ![0, t.val] :=
  (by decide +kernel : ∀ t : Fin grid0.N, _)

/-- The token of row `i` of block `t`. -/
def tok (t : Fin cfg0.N) (i : Fin 512) : Fin 6144 := ⟨t.val * 512 + i, by have := (idx t).1; omega⟩

/-- A point's block of branch 0. -/
theorem a_blk (c : Dev nD) (t : Fin cfg0.N) (i : Fin 512) (j : Fin 256) :
    (show FVec Ideal S512x256 .bf16 from iblk m c 0 t) (ix2 i j) = (show FVec Ideal S6144x256 .bf16 from m ((c : Thread nD τ).loc main_arg0)) (ix2 (tok t i) j) := by
  unfold tok
  blk_ext [iblk, V, idx t]

/-- A point's block of branch 1. -/
theorem b_blk (c : Dev nD) (t : Fin cfg0.N) (i : Fin 512) (j : Fin 256) :
    (show FVec Ideal S512x256 .bf16 from iblk m c 1 t) (ix2 i j) = (show FVec Ideal S6144x256 .bf16 from m ((c : Thread nD τ).loc main_arg1)) (ix2 (tok t i) j) := by
  unfold tok
  blk_ext [iblk, V, idx t]

/-- A point's block of branch 2. -/
theorem c_blk (c : Dev nD) (t : Fin cfg0.N) (i : Fin 512) (j : Fin 256) :
    (show FVec Ideal S512x256 .bf16 from iblk m c 2 t) (ix2 i j) = (show FVec Ideal S6144x256 .bf16 from m ((c : Thread nD τ).loc main_arg2)) (ix2 (tok t i) j) := by
  unfold tok
  blk_ext [iblk, V, idx t]

/-- A point's block of branch 3. -/
theorem d_blk (c : Dev nD) (t : Fin cfg0.N) (i : Fin 512) (j : Fin 256) :
    (show FVec Ideal S512x256 .bf16 from iblk m c 3 t) (ix2 i j) = (show FVec Ideal S6144x256 .bf16 from m ((c : Thread nD τ).loc main_arg3)) (ix2 (tok t i) j) := by
  unfold tok
  blk_ext [iblk, V, idx t]

/-- A point's block of the tokens. -/
theorem x_blk (c : Dev nD) (t : Fin cfg0.N) (i : Fin 512) (j : Fin 1024) :
    (show FVec Ideal S512x1024 .f32 from iblk m c 4 t) (ix2 i j) = (show FVec Ideal S6144x1024 .f32 from m ((c : Thread nD τ).loc main_arg4)) (ix2 (tok t i) j) := by
  unfold tok
  blk_ext [iblk, V, idx t]

/-- Every point's block of the weights is the weights. -/
theorem W_blk (c : Dev nD) (t : Fin cfg0.N) (i : Fin 1024) (j : Fin 1024) :
    (show FVec Ideal S1024x1024 .bf16 from iblk m c 5 t) (ix2 i j) = (show FVec Ideal S1024x1024 .f32 from m ((c : Thread nD τ).loc main_arg5)) (ix2 i j) := by
  blk_simp [iblk, idx t]
  entry_read
  pointwise
  blk_ext [idx t]

/-- Every point's block of the norm weights is the weights. -/
theorem w_blk (c : Dev nD) (t : Fin cfg0.N) (j : Fin 1024) :
    (show FVec Ideal S1x1024 .f32 from iblk m c 7 t) (ix2 0 j) = (show FVec Ideal S1024 .f32 from m ((c : Thread nD τ).loc main_arg7)) (ix1 j) := by
  blk_simp [iblk, idx t]
  entry_read
  pointwise
  blk_ext [idx t]

/-- A point's block of the gates is its group's. -/
theorem g_blk (c : Dev nD) (t : Fin cfg0.N) (i : Fin 512) (j : Fin 1024) :
    (show FVec Ideal S1x1x1024 .f32 from iblk m c 6 t) (ix3 0 0 j) = (show FVec Ideal S8x1x1024 .f32 from m ((c : Thread nD τ).loc main_arg6)) (ix3 (Cert.Mod.grp (tok t i)) 0 j) := by
  have e := Cert.Mod.grp_block ⟨t.val, (idx t).1⟩ i
  unfold tok
  blk_ext [iblk, V, idx t, e]

/-- A point's block of the scales is its group's. -/
theorem s_blk (c : Dev nD) (t : Fin cfg0.N) (i : Fin 512) (j : Fin 1024) :
    (show FVec Ideal S1x1x1024 .f32 from iblk m c 8 t) (ix3 0 0 j) = (show FVec Ideal S8x1x1024 .f32 from m ((c : Thread nD τ).loc main_arg8)) (ix3 (Cert.Mod.grp (tok t i)) 0 j) := by
  have e := Cert.Mod.grp_block ⟨t.val, (idx t).1⟩ i
  unfold tok
  blk_ext [iblk, V, idx t, e]

/-- A point's block of the shifts is its group's. -/
theorem h_blk (c : Dev nD) (t : Fin cfg0.N) (i : Fin 512) (j : Fin 1024) :
    (show FVec Ideal S1x1x1024 .f32 from iblk m c 9 t) (ix3 0 0 j) = (show FVec Ideal S8x1x1024 .f32 from m ((c : Thread nD τ).loc main_arg9)) (ix3 (Cert.Mod.grp (tok t i)) 0 j) := by
  have e := Cert.Mod.grp_block ⟨t.val, (idx t).1⟩ i
  unfold tok
  blk_ext [iblk, V, idx t, e]

/-- The weights' block's first part of 256 rows. -/
theorem ld0_at (x : Vec Ideal S1024x1024 .bf16) (k : Fin 256) (j : Fin 1024) :
    View.ld x r0_1 (ix2 k j : S256x1024.Idx) = x (ix2 ⟨k, by omega⟩ j) :=
  congrArg x (funext fun a => Fin.ext (match a with
    | ⟨0, _⟩ => (show 0 + 1 * k.val = k.val by omega)
    | ⟨1, _⟩ => (show 0 + 1 * j.val = j.val by omega)))

/-- Its second part. -/
theorem ld1_at (x : Vec Ideal S1024x1024 .bf16) (k : Fin 256) (j : Fin 1024) :
    View.ld x r0_2 (ix2 k j : S256x1024.Idx) = x (ix2 ⟨256 + k, by omega⟩ j) :=
  congrArg x (funext fun a => Fin.ext (match a with
    | ⟨0, _⟩ => (show 256 + 1 * k.val = 256 + k.val by omega)
    | ⟨1, _⟩ => (show 0 + 1 * j.val = j.val by omega)))

/-- Its third part. -/
theorem ld2_at (x : Vec Ideal S1024x1024 .bf16) (k : Fin 256) (j : Fin 1024) :
    View.ld x r0_3 (ix2 k j : S256x1024.Idx) = x (ix2 ⟨512 + k, by omega⟩ j) :=
  congrArg x (funext fun a => Fin.ext (match a with
    | ⟨0, _⟩ => (show 512 + 1 * k.val = 512 + k.val by omega)
    | ⟨1, _⟩ => (show 0 + 1 * j.val = j.val by omega)))

/-- Its fourth part. -/
theorem ld3_at (x : Vec Ideal S1024x1024 .bf16) (k : Fin 256) (j : Fin 1024) :
    View.ld x r0_4 (ix2 k j : S256x1024.Idx) = x (ix2 ⟨768 + k, by omega⟩ j) :=
  congrArg x (funext fun a => Fin.ext (match a with
    | ⟨0, _⟩ => (show 768 + 1 * k.val = 768 + k.val by omega)
    | ⟨1, _⟩ => (show 0 + 1 * j.val = j.val by omega)))

/-- The four branches' blocks and the weights' parts: the projected sum of the branches in a row. -/
theorem sum_blk (c : Dev nD) (t : Fin cfg0.N) (i : Fin 512) (j : Fin 1024) :
    (∑ k, (show FVec Ideal S512x256 .bf16 from iblk m c 0 t) (ix2 i k) * (show FVec Ideal S256x1024 .bf16 from View.ld (iblk m c 5 t) r0_1) (ix2 k j))
      + (∑ k, (show FVec Ideal S512x256 .bf16 from iblk m c 1 t) (ix2 i k) * (show FVec Ideal S256x1024 .bf16 from View.ld (iblk m c 5 t) r0_2) (ix2 k j))
      + (∑ k, (show FVec Ideal S512x256 .bf16 from iblk m c 2 t) (ix2 i k) * (show FVec Ideal S256x1024 .bf16 from View.ld (iblk m c 5 t) r0_3) (ix2 k j))
      + (∑ k, (show FVec Ideal S512x256 .bf16 from iblk m c 3 t) (ix2 i k) * (show FVec Ideal S256x1024 .bf16 from View.ld (iblk m c 5 t) r0_4) (ix2 k j))
    = ∑ k, Cert.Out.Y (m ((c : Thread nD τ).loc main_arg0)) (m ((c : Thread nD τ).loc main_arg1)) (m ((c : Thread nD τ).loc main_arg2)) (m ((c : Thread nD τ).loc main_arg3)) (tok t i) k
        * (show FVec Ideal S1024x1024 .f32 from m ((c : Thread nD τ).loc main_arg5)) (ix2 k j) := by
  refine Eq.trans ?_ (sum_rows (fun k => (show FVec Ideal S6144x256 .bf16 from m ((c : Thread nD τ).loc main_arg0)) (ix2 (tok t i) k))
    (fun k => (show FVec Ideal S6144x256 .bf16 from m ((c : Thread nD τ).loc main_arg1)) (ix2 (tok t i) k))
    (fun k => (show FVec Ideal S6144x256 .bf16 from m ((c : Thread nD τ).loc main_arg2)) (ix2 (tok t i) k))
    (fun k => (show FVec Ideal S6144x256 .bf16 from m ((c : Thread nD τ).loc main_arg3)) (ix2 (tok t i) k))
    (fun k => (show FVec Ideal S1024x1024 .f32 from m ((c : Thread nD τ).loc main_arg5)) (ix2 k j))
    _ (fun k => ?_) (fun k => ?_) (fun k => ?_) (fun k => ?_))
  · have g : ∀ (f f' : Fin 256 → EReal), (∀ k, f k = f' k) → ∑ k, f k = ∑ k, f' k := fun f f' h => Finset.sum_congr rfl fun k _ => h k
    exact congrArg₂ _ (congrArg₂ _ (congrArg₂ _
      (g _ _ fun k => congrArg₂ _ (a_blk m c t i k) ((ld0_at _ k j).trans (W_blk m c t _ j)))
      (g _ _ fun k => congrArg₂ _ (b_blk m c t i k) ((ld1_at _ k j).trans (W_blk m c t _ j))))
      (g _ _ fun k => congrArg₂ _ (c_blk m c t i k) ((ld2_at _ k j).trans (W_blk m c t _ j))))
      (g _ _ fun k => congrArg₂ _ (d_blk m c t i k) ((ld3_at _ k j).trans (W_blk m c t _ j)))
  · unfold Cert.Out.Y
    rw [dif_pos k.isLt]
  · unfold Cert.Out.Y
    rw [dif_neg (by simp), dif_pos (by simp)]
    exact congrArg (fun l => (show FVec Ideal S6144x256 .bf16 from m ((c : Thread nD τ).loc main_arg1)) (ix2 (tok t i) l)) (Fin.ext (show 256 + (k : ℕ) - 256 = k by omega))
  · unfold Cert.Out.Y
    rw [dif_neg (by dsimp only; omega), dif_neg (by dsimp only; omega), dif_pos (by dsimp only; omega)]
    exact congrArg (fun l => (show FVec Ideal S6144x256 .bf16 from m ((c : Thread nD τ).loc main_arg2)) (ix2 (tok t i) l)) (Fin.ext (show 512 + (k : ℕ) - 256 - 256 = k by omega))
  · unfold Cert.Out.Y
    rw [dif_neg (by dsimp only; omega), dif_neg (by dsimp only; omega), dif_neg (by dsimp only; omega)]
    exact congrArg (fun l => (show FVec Ideal S6144x256 .bf16 from m ((c : Thread nD τ).loc main_arg3)) (ix2 (tok t i) l)) (Fin.ext (show 768 + (k : ℕ) - 256 - 256 - 256 = k by omega))

/-- The argument arrays' residual stream. -/
def x1m (c : Dev nD) : Fin 6144 → Fin 1024 → EReal :=
  Cert.Out.X1 (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- The argument arrays' modulated norm of the residual stream. -/
def h2m (c : Dev nD) : Fin 6144 → Fin 1024 → EReal :=
  Cert.Out.H2 (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9))

/-- A block's residual stream is the tokens'. -/
theorem x1_blk (c : Dev nD) (t : Fin cfg0.N) (i : Fin 512) (j : Fin 1024) :
    k0_pay4 (F := Ideal) (iblk m c 0 t) (View.ld (iblk m c 5 t) r0_1) (iblk m c 1 t) (View.ld (iblk m c 5 t) r0_2) (iblk m c 2 t) (View.ld (iblk m c 5 t) r0_3)
      (iblk m c 3 t) (View.ld (iblk m c 5 t) r0_4) (iblk m c 4 t) (iblk m c 6 t) (ix2 i j) = x1m m c (tok t i) j := by
  refine (pay4_at _ _ _ _ _ _ _ _ _ _ i j).trans ?_
  unfold x1m Cert.Out.X1
  exact congrArg₂ _ (x_blk m c t i j) (congrArg₂ _ (g_blk m c t i j) (sum_blk m c t i j))

/-- The body's shared values are the block's residual stream and its sums of squares. -/
theorem pay6_eq (x0 x1 x2 x3 : FVec Ideal S512x256 .bf16) (x4 : FVec Ideal S512x1024 .f32) (x5 : FVec Ideal S1024x1024 .bf16) (x6 : FVec Ideal S1x1x1024 .f32)
    (x7 : FVec Ideal S1x1024 .f32) (x8 x9 : FVec Ideal S1x1x1024 .f32) : k0_pay6 (F := Ideal) x0 x1 x2 x3 x4 x5 x6 x7 x8 x9
      = k0_pay4 x0 (View.ld x5 r0_1) x1 (View.ld x5 r0_2) x2 (View.ld x5 r0_3) x3 (View.ld x5 r0_4) x4 x6 := by
  unfold k0_pay6 r0_0 r0_5 r0_6
  rw [View.ld_unit_lit _ _ (by decide), View.ld_unit_lit _ _ (by decide), View.ld_unit_lit _ _ (by decide), View.ld_unit_lit _ _ (by decide),
    View.ld_unit_lit _ _ (by decide), View.ld_unit_lit _ _ (by decide)]

/-- The second of them. -/
theorem pay7_eq (x0 x1 x2 x3 : FVec Ideal S512x256 .bf16) (x4 : FVec Ideal S512x1024 .f32) (x5 : FVec Ideal S1024x1024 .bf16) (x6 : FVec Ideal S1x1x1024 .f32)
    (x7 : FVec Ideal S1x1024 .f32) (x8 x9 : FVec Ideal S1x1x1024 .f32) : k0_pay7 (F := Ideal) x0 x1 x2 x3 x4 x5 x6 x7 x8 x9
      = k0_pay5 x0 (View.ld x5 r0_1) x1 (View.ld x5 r0_2) x2 (View.ld x5 r0_3) x3 (View.ld x5 r0_4) x4 x6 := by
  unfold k0_pay7 r0_0 r0_5 r0_6
  rw [View.ld_unit_lit _ _ (by decide), View.ld_unit_lit _ _ (by decide), View.ld_unit_lit _ _ (by decide), View.ld_unit_lit _ _ (by decide),
    View.ld_unit_lit _ _ (by decide), View.ld_unit_lit _ _ (by decide)]

/-- A block's modulated norm is the tokens'. -/
theorem h2_blk (c : Dev nD) (t : Fin cfg0.N) (i : Fin 512) (j : Fin 1024) :
    k0_pay1 (F := Ideal) (k0_pay6 (iblk m c 0 t) (iblk m c 1 t) (iblk m c 2 t) (iblk m c 3 t) (iblk m c 4 t) (iblk m c 5 t) (iblk m c 6 t) (iblk m c 7 t) (iblk m c 8 t) (iblk m c 9 t))
      (k0_pay7 (iblk m c 0 t) (iblk m c 1 t) (iblk m c 2 t) (iblk m c 3 t) (iblk m c 4 t) (iblk m c 5 t) (iblk m c 6 t) (iblk m c 7 t) (iblk m c 8 t) (iblk m c 9 t))
      (Scalar.ofBits .f32 0x44800000#32) (iblk m c 7 t) (iblk m c 8 t) (iblk m c 9 t) (ix2 i j) = h2m m c (tok t i) j := by
  rw [pay6_eq, pay7_eq]
  refine (pay1_at _ _ _ _ _ i j (pay5_at _ _ _ _ _ _ _ _ _ _ i)).trans ?_
  unfold h2m Cert.Out.H2
  exact nrm_congr j (fun k => x1_blk m c t i k) (fun k => w_blk m c t k) (fun k => s_blk m c t i k) (fun k => h_blk m c t i k)

end Cert.Kernel3Ideal.At

end
-- ==== Proof.OutFinal.lean ====
/- The output projection's three result arrays after the run, as functions of its argument arrays. -/
module

public import proofs.«01_k».proof.Proof.OutBlock

@[expose] public section

set_option maxRecDepth 16384

noncomputable section

open Idealize.ShloMosaic Idealize.ShloMosaic.TcCoe Idealize.SL.Sem
open Idealize.ShloMosaic.Pipeline (Dat)

namespace Cert.Out

/-- An array of tokens' rows. -/
def G (f : Fin 6144 → Fin 1024 → EReal) : (⟨2, ![6144, 1024]⟩ : Shape).Idx → EReal := fun p => f ⟨(p 0).val, (p 0).isLt⟩ ⟨(p 1).val, (p 1).isLt⟩

/-- The array transposed. -/
def GT (f : Fin 6144 → Fin 1024 → EReal) : (⟨2, ![1024, 6144]⟩ : Shape).Idx → EReal := fun p => f ⟨(p 1).val, (p 1).isLt⟩ ⟨(p 0).val, (p 0).isLt⟩

/-- An element of the array. -/
theorem G_at (f : Fin 6144 → Fin 1024 → EReal) (p : (⟨2, ![6144, 1024]⟩ : Shape).Idx) (i : Fin 6144) (j : Fin 1024)
    (h0 : (p 0).val = i) (h1 : (p 1).val = j) : G f p = f i j := by
  unfold G
  congr 1 <;> apply Fin.ext <;> simp only [h0, h1]

/-- An element of the transposed array. -/
theorem GT_at (f : Fin 6144 → Fin 1024 → EReal) (p : (⟨2, ![1024, 6144]⟩ : Shape).Idx) (i : Fin 6144) (j : Fin 1024)
    (h0 : (p 0).val = j) (h1 : (p 1).val = i) : GT f p = f i j := by
  unfold GT
  congr 1 <;> apply Fin.ext <;> simp only [h0, h1]

end Cert.Out

namespace Cert.Kernel3Ideal.At

open Cert.Kernel3Ideal Cert.Kernel3Ideal.Gen

variable (m : (ℓ : Loc nD τ sig) → Buf (Elt Ideal) ℓ)

/-- The first array: the residual stream. -/
theorem final0 (c : Dev nD) : (dats m 0 c).arrAt 10 cfg0.N = Cert.Out.G (x1m m c) := by
  refine (dats m 0 c).arrAt_eq_of_covers 10 _ (by decide +kernel) fun t _ y => ?_
  blk_simp
  rw [after0_10]
  frame_out
  obtain ⟨i, j, rfl⟩ : ∃ (i : Fin 512) (j : Fin 1024), y = ix2 i j := ⟨y 0, y 1, eq_ix2 y⟩
  rw [Cert.Out.G_at _ _ (tok t i) j (by unfold tok; blk_simp [idx t]) (by blk_simp [idx t])]
  exact x1_blk m c t i j

/-- The second array: its modulated norm. -/
theorem final1 (c : Dev nD) : (dats m 0 c).arrAt 11 cfg0.N = Cert.Out.G (h2m m c) := by
  refine (dats m 0 c).arrAt_eq_of_covers 11 _ (by decide +kernel) fun t _ y => ?_
  blk_simp
  rw [after0_11]
  frame_out
  obtain ⟨i, j, rfl⟩ : ∃ (i : Fin 512) (j : Fin 1024), y = ix2 i j := ⟨y 0, y 1, eq_ix2 y⟩
  rw [Cert.Out.G_at _ _ (tok t i) j (by unfold tok; blk_simp [idx t]) (by blk_simp [idx t])]
  unfold k0_pay2
  pointwise
  exact h2_blk m c t i j

/-- The third array: the modulated norm transposed. -/
theorem final2 (c : Dev nD) : (dats m 0 c).arrAt 12 cfg0.N = Cert.Out.GT (h2m m c) := by
  refine (dats m 0 c).arrAt_eq_of_covers 12 _ (by decide +kernel) fun t _ y => ?_
  blk_simp
  rw [after0_12]
  frame_out
  obtain ⟨j, i, rfl⟩ : ∃ (j : Fin 1024) (i : Fin 512), y = ix2 j i := ⟨y 0, y 1, eq_ix2 y⟩
  rw [Cert.Out.GT_at _ _ (tok t i) j (by blk_simp [idx t]) (by unfold tok; blk_simp [idx t])]
  unfold k0_pay3
  pointwise
  exact h2_blk m c t i j

end Cert.Kernel3Ideal.At

end
-- ==== Proof.OutClaims.lean ====
/- The claims about the output projection: the run of the kernel against the run of the reference. -/
module

public import proofs.«01_k».proof.Defs
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.OutFinal
public import Idealize.ShloMosaic.Adequacy
public import Idealize.ShloMosaic.Init

@[expose] public section

set_option maxRecDepth 16384

noncomputable section

open Idealize.ShloMosaic Idealize.ShloMosaic.TcCoe Idealize.SL.Sem

namespace Cert.Reference3Ideal.At

open Cert.Reference3Ideal Cert.Reference3Ideal.Gen Cert.Reference3Ideal.Value

/-- The reference's residual stream of its argument arrays. -/
def x1r (m : (ℓ : Loc nD τ sig) → Buf (Elt Ideal) ℓ) (c : Dev nD) : FVec Ideal S6144x1024 .f32 :=
  cat (xp (yc (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6)))
    (xs (yc (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6)))

/-- The reference's modulated norm of it. -/
def h2r (m : (ℓ : Loc nD τ sig) → Buf (Elt Ideal) ℓ) (c : Dev nD) : FVec Ideal S6144x1024 .f32 :=
  cat (h2p (yc (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
    (h2s (yc (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))

/-- An array of tokens' rows, from its elements. -/
theorem g0 (u : FVec Ideal S6144x1024 .f32) (f : Fin 6144 → Fin 1024 → EReal) (h : ∀ i j, u (ix2 i j) = f i j) : u = Cert.Out.G f := by
  funext p
  obtain ⟨i, j, rfl⟩ : ∃ (i : Fin 6144) (j : Fin 1024), p = ix2 i j := ⟨p 0, p 1, eq_ix2 p⟩
  rw [Cert.Out.G_at _ _ i j rfl rfl, ← h]

/-- The same array, cast. -/
theorem g1 (u : FVec Ideal S6144x1024 .f32) (f : Fin 6144 → Fin 1024 → EReal) (h : ∀ i j, u (ix2 i j) = f i j) : truncf .bf16 u bitsLt_bf16_f32 = Cert.Out.G f := by
  funext p
  obtain ⟨i, j, rfl⟩ : ∃ (i : Fin 6144) (j : Fin 1024), p = ix2 i j := ⟨p 0, p 1, eq_ix2 p⟩
  rw [Cert.Out.G_at _ _ i j rfl rfl, ← h]
  pointwise

/-- The same array, transposed and cast. -/
theorem g2 (u : FVec Ideal S6144x1024 .f32) (f : Fin 6144 → Fin 1024 → EReal) (h : ∀ i j, u (ix2 i j) = f i j) :
    truncf .bf16 (transpose S1024x6144 [1, 0] u transposes_S6144x1024_S1024x6144_1_0) bitsLt_bf16_f32 = Cert.Out.GT f := by
  funext p
  obtain ⟨j, i, rfl⟩ : ∃ (j : Fin 1024) (i : Fin 6144), p = ix2 j i := ⟨p 0, p 1, eq_ix2 p⟩
  rw [Cert.Out.GT_at _ _ i j rfl rfl, ← h]
  pointwise

end Cert.Reference3Ideal.At

namespace Cert.Out

/-- The reference's program leaves its arguments alone and no counter raised. -/
theorem frame_reference : Cert.quiescent_Reference3Ideal := fun m ρ _ =>
  (θ_run Cert.Reference3Ideal.defs _ _).mono (fun r h => ⟨fun c => (h c).2.2.2,
      Idealize.ShloMosaic.sem_eq_zero_of_no_sems (by decide) r.2⟩)
    (Cert.Reference3Ideal.Value.run (F := Ideal) m ρ)

/-- The kernel's three arrays are the reference's: the gated residual stream, its modulated norm and that transposed. -/
theorem algebraic : Cert.algebraic_Kernel3Ideal_Reference3Ideal := by
  intro m ρ m' ρ' hpre hagree
  refine ⟨fun c => G (Cert.Kernel3Ideal.At.x1m m c), fun c => G (Cert.Kernel3Ideal.At.h2m m c), fun c => GT (Cert.Kernel3Ideal.At.h2m m c), ?_, ?_⟩
  · exact (θ_run Cert.Kernel3Ideal.defs _ _).mono (fun _ h c =>
      ⟨(h c).1.trans (Cert.Kernel3Ideal.At.final0 m c), (h c).2.1.trans (Cert.Kernel3Ideal.At.final1 m c),
        (h c).2.2.1.trans (Cert.Kernel3Ideal.At.final2 m c), (h c).2.2.2⟩)
      (Cert.Kernel3Ideal.Value.run_blocks m ρ)
  · have hx : ∀ c i j, Cert.Reference3Ideal.At.x1r m' c (ix2 i j) = Cert.Kernel3Ideal.At.x1m m c i j := fun c i j => by
      obtain ⟨h0, h1, h2, h3, h4, h5, h6, h7, h8, h9⟩ := hagree c
      unfold Cert.Reference3Ideal.At.x1r Cert.Kernel3Ideal.At.x1m
      rw [Cert.Reference3Ideal.At.x1_at, h0, h1, h2, h3, h4, h5, h6]
    have hh : ∀ c i j, Cert.Reference3Ideal.At.h2r m' c (ix2 i j) = Cert.Kernel3Ideal.At.h2m m c i j := fun c i j => by
      obtain ⟨h0, h1, h2, h3, h4, h5, h6, h7, h8, h9⟩ := hagree c
      unfold Cert.Reference3Ideal.At.h2r Cert.Kernel3Ideal.At.h2m
      rw [Cert.Reference3Ideal.At.h2_at, h0, h1, h2, h3, h4, h5, h6, h7, h8, h9]
    refine (θ_run Cert.Reference3Ideal.defs _ _).mono (fun _ h c => ⟨(h c).1.trans ?_, (h c).2.1.trans ?_, (h c).2.2.1.trans ?_, (h c).2.2.2⟩)
      (Cert.Reference3Ideal.Value.run (F := Ideal) m' ρ')
    · exact Cert.Reference3Ideal.At.g0 (Cert.Reference3Ideal.At.x1r m' c) _ (hx c)
    · exact Cert.Reference3Ideal.At.g1 (Cert.Reference3Ideal.At.h2r m' c) _ (hh c)
    · exact Cert.Reference3Ideal.At.g2 (Cert.Reference3Ideal.At.h2r m' c) _ (hh c)

end Cert.Out

end
-- ==== Proof.ExSlice.lean ====
module

public import proofs.«01_k».proof.Proof.Gen.Kernel4Ideal.Skeleton
public import Idealize.ShloMosaic.Lib.Pointwise
public import Idealize.ShloMosaic.Lib.Pipeline.ValueKit

@[expose] public section

set_option maxRecDepth 16384

/-! # One slice of the experts' weights: 128 experts of one first key, for one block of 512 tokens.  The body writes sixteen of
them at each grid point, each by the same operations, which the generated payloads split at different places. -/

noncomputable section

open Idealize.ShloMosaic Idealize.ShloMosaic.TcCoe Idealize.SL.Sem

namespace Cert.Kernel4Ideal.At

open Cert.Kernel4Ideal Cert.Kernel4Ideal.Gen

/-- One head's part of the gate: the weight where the second rank is below the limit, else zero. -/
def head (l w : Vec Ideal S1x1x512 .f32) (r e : Vec Ideal S1x128x512 .bf16) : FVec Ideal S128x512 .bf16 :=
  select (cmpf .olt (shapeCast S128x512 r shapeCasts_S1x128x512_S128x512 : FVec Ideal S128x512 .bf16)
      (broadcastTo S128x512 (truncf .bf16 (shapeCast S1x512 l shapeCasts_S1x1x512_S1x512 : FVec Ideal S1x512 .f32) bitsLt_bf16_f32) broadcasts_S1x512_S128x512))
    (mulf (shapeCast S128x512 e shapeCasts_S1x128x512_S128x512 : FVec Ideal S128x512 .bf16)
      (broadcastTo S128x512 (truncf .bf16 (shapeCast S1x512 w shapeCasts_S1x1x512_S1x512 : FVec Ideal S1x512 .f32) bitsLt_bf16_f32) broadcasts_S1x512_S128x512))
    (broadcast S128x512 (Scalar.ofBits .bf16 0x0000#16))

/-- The activation of a slice's scores. -/
def actv (s : FVec Ideal S128x512 .f32) : FVec Ideal S128x512 .f32 :=
  mulf (mulf (broadcast S128x512 (Scalar.ofBits .f32 0x3F000000#32)) s)
    (addf (broadcast S128x512 (Scalar.ofBits .f32 0x3F800000#32)) (erf (mulf s (broadcast S128x512 (Scalar.ofBits .f32 0x3F3504F3#32)))))

/-- A slice: the eight heads' gate times the activation. -/
def slice (s : FVec Ideal S128x512 .f32) (l0 l1 l2 l3 l4 l5 l6 l7 w0 w1 w2 w3 w4 w5 w6 w7 : Vec Ideal S1x1x512 .f32) (r0 r1 r2 r3 r4 r5 r6 r7 e0 e1 e2 e3 e4 e5 e6 e7 : Vec Ideal S1x128x512 .bf16) : FVec Ideal S128x512 .bf16 :=
  shapeCast S128x512 (mulf (addf (addf (addf (addf (addf (addf (addf (head l0 w0 r0 e0) (head l1 w1 r1 e1)) (head l2 w2 r2 e2)) (head l3 w3 r3 e3)) (head l4 w4 r4 e4)) (head l5 w5 r5 e5)) (head l6 w6 r6 e6)) (head l7 w7 r7 e7)) (truncf .bf16 (actv s) bitsLt_bf16_f32)) shapeCasts_S128x512_S128x512

variable (st : FVec Ideal S512x512 .f32) (l0 l1 l2 l3 l4 l5 l6 l7 w0 w1 w2 w3 w4 w5 w6 w7 : Vec Ideal S1x1x512 .f32) (r0 r1 r2 r3 r4 r5 r6 r7 e0 e1 e2 e3 e4 e5 e6 e7 : Vec Ideal S1x128x512 .bf16)

/-- Slice 0 as the body writes it. -/
theorem pay_0 : k0_pay16 st (k0_pay14 (k0_pay12 (k0_pay10 (k0_pay7 l0 r0) (k0_pay8 w0 e0) k0_pay9 l1 w1 r1 e1) (k0_pay11 l2 w2 r2 e2) l3 w3 r3 e3) (k0_pay13 l4 w4 r4 e4) l5 w5 r5 e5) (k0_pay15 l6 w6 r6 e6) l7 w7 r7 e7
    = slice (extractStridedSlice S128x512 ![0, 0] st slices_S512x512_o0_0_S128x512) l0 l1 l2 l3 l4 l5 l6 l7 w0 w1 w2 w3 w4 w5 w6 w7 r0 r1 r2 r3 r4 r5 r6 r7 e0 e1 e2 e3 e4 e5 e6 e7 := by
  unfold slice head actv k0_pay10 k0_pay11 k0_pay12 k0_pay13 k0_pay14 k0_pay15 k0_pay16 k0_pay7 k0_pay8 k0_pay9
  rfl

/-- Slice 1 as the body writes it. -/
theorem pay_1 : k0_pay23 (k0_pay20 (k0_pay19 (k0_pay18 (k0_pay17 l0 w0 r0 e0 l1 w1 r1 e1) l2 w2 r2 e2 l3 w3 r3 e3) l4 w4 r4 e4 l5 w5 r5 e5) l6 w6 r6 e6 l7 w7 r7 e7) (k0_pay21 st) (k0_pay22 st)
    = slice (extractStridedSlice S128x512 ![128, 0] st slices_S512x512_o128_0_S128x512) l0 l1 l2 l3 l4 l5 l6 l7 w0 w1 w2 w3 w4 w5 w6 w7 r0 r1 r2 r3 r4 r5 r6 r7 e0 e1 e2 e3 e4 e5 e6 e7 := by
  unfold slice head actv k0_pay17 k0_pay18 k0_pay19 k0_pay20 k0_pay21 k0_pay22 k0_pay23
  rfl

/-- Slice 2 as the body writes it. -/
theorem pay_2 : k0_pay32 st (k0_pay30 (k0_pay28 (k0_pay26 (k0_pay24 l0 w0 r0 e0) (k0_pay25 l1) w1 r1 e1 l2 w2 r2 e2) (k0_pay27 l3) w3 r3 e3 l4 w4 r4 e4) (k0_pay29 l5) w5 r5 e5 l6 w6 r6 e6) (k0_pay31 l7) w7 r7 e7
    = slice (extractStridedSlice S128x512 ![256, 0] st slices_S512x512_o256_0_S128x512) l0 l1 l2 l3 l4 l5 l6 l7 w0 w1 w2 w3 w4 w5 w6 w7 r0 r1 r2 r3 r4 r5 r6 r7 e0 e1 e2 e3 e4 e5 e6 e7 := by
  unfold slice head actv k0_pay24 k0_pay25 k0_pay26 k0_pay27 k0_pay28 k0_pay29 k0_pay30 k0_pay31 k0_pay32
  rfl

/-- Slice 3 as the body writes it. -/
theorem pay_3 : k0_pay45 (k0_pay44 st (k0_pay41 (k0_pay38 (k0_pay35 (k0_pay33 l0) (k0_pay34 w0) r0 e0 l1 w1 r1 e1) (k0_pay36 l2) (k0_pay37 w2) r2 e2 l3 w3 r3 e3) (k0_pay39 l4) (k0_pay40 w4) r4 e4 l5 w5 r5 e5) (k0_pay42 l6) (k0_pay43 w6) r6 e6 l7 w7 r7 e7)
    = slice (extractStridedSlice S128x512 ![384, 0] st slices_S512x512_o384_0_S128x512) l0 l1 l2 l3 l4 l5 l6 l7 w0 w1 w2 w3 w4 w5 w6 w7 r0 r1 r2 r3 r4 r5 r6 r7 e0 e1 e2 e3 e4 e5 e6 e7 := by
  unfold slice head actv k0_pay33 k0_pay34 k0_pay35 k0_pay36 k0_pay37 k0_pay38 k0_pay39 k0_pay40 k0_pay41 k0_pay42 k0_pay43 k0_pay44 k0_pay45
  rfl

/-- Slice 4 as the body writes it. -/
theorem pay_4 : k0_pay59 st (k0_pay56 (k0_pay53 (k0_pay50 (k0_pay48 w0) (k0_pay49 l0 r0) e0 l1 w1 r1 e1) (k0_pay51 w2) (k0_pay52 l2 r2) e2 l3 w3 r3 e3) (k0_pay54 w4) (k0_pay55 l4 r4) e4 l5 w5 r5 e5) (k0_pay57 w6) (k0_pay58 l6 r6) e6 l7 w7 r7 e7
    = slice (extractStridedSlice S128x512 ![0, 0] st slices_S512x512_o0_0_S128x512) l0 l1 l2 l3 l4 l5 l6 l7 w0 w1 w2 w3 w4 w5 w6 w7 r0 r1 r2 r3 r4 r5 r6 r7 e0 e1 e2 e3 e4 e5 e6 e7 := by
  unfold slice head actv k0_pay48 k0_pay49 k0_pay50 k0_pay51 k0_pay52 k0_pay53 k0_pay54 k0_pay55 k0_pay56 k0_pay57 k0_pay58 k0_pay59
  rfl

/-- Slice 5 as the body writes it. -/
theorem pay_5 : k0_pay72 st (k0_pay69 (k0_pay66 (k0_pay63 (k0_pay60 l0 w0 r0 e0) (k0_pay61 l1 r1) (k0_pay62 w1 e1) l2 w2 r2 e2) (k0_pay64 l3 r3) (k0_pay65 w3 e3) l4 w4 r4 e4) (k0_pay67 l5 r5) (k0_pay68 w5 e5) l6 w6 r6 e6) (k0_pay70 l7 r7) (k0_pay71 w7 e7)
    = slice (extractStridedSlice S128x512 ![128, 0] st slices_S512x512_o128_0_S128x512) l0 l1 l2 l3 l4 l5 l6 l7 w0 w1 w2 w3 w4 w5 w6 w7 r0 r1 r2 r3 r4 r5 r6 r7 e0 e1 e2 e3 e4 e5 e6 e7 := by
  unfold slice head actv k0_pay60 k0_pay61 k0_pay62 k0_pay63 k0_pay64 k0_pay65 k0_pay66 k0_pay67 k0_pay68 k0_pay69 k0_pay70 k0_pay71 k0_pay72
  rfl

/-- Slice 6 as the body writes it. -/
theorem pay_6 : k0_pay77 st (k0_pay76 (k0_pay75 (k0_pay74 (k0_pay73 l0 w0 r0 e0) l1 w1 r1 e1 l2 w2 r2 e2) l3 w3 r3 e3 l4 w4 r4 e4) l5 w5 r5 e5 l6 w6 r6 e6) l7 w7 r7 e7
    = slice (extractStridedSlice S128x512 ![256, 0] st slices_S512x512_o256_0_S128x512) l0 l1 l2 l3 l4 l5 l6 l7 w0 w1 w2 w3 w4 w5 w6 w7 r0 r1 r2 r3 r4 r5 r6 r7 e0 e1 e2 e3 e4 e5 e6 e7 := by
  unfold slice head actv k0_pay73 k0_pay74 k0_pay75 k0_pay76 k0_pay77
  rfl

/-- Slice 7 as the body writes it. -/
theorem pay_7 : k0_pay89 (k0_pay85 (k0_pay83 (k0_pay81 (k0_pay79 (k0_pay78 l0) w0 r0 e0 l1 w1 r1 e1) (k0_pay80 l2) w2 r2 e2 l3 w3 r3 e3) (k0_pay82 l4) w4 r4 e4 l5 w5 r5 e5) (k0_pay84 l6) w6 r6 e6 l7 w7 r7 e7) (k0_pay86 st) (k0_pay87 st) k0_pay88
    = slice (extractStridedSlice S128x512 ![384, 0] st slices_S512x512_o384_0_S128x512) l0 l1 l2 l3 l4 l5 l6 l7 w0 w1 w2 w3 w4 w5 w6 w7 r0 r1 r2 r3 r4 r5 r6 r7 e0 e1 e2 e3 e4 e5 e6 e7 := by
  unfold slice head actv k0_pay78 k0_pay79 k0_pay80 k0_pay81 k0_pay82 k0_pay83 k0_pay84 k0_pay85 k0_pay86 k0_pay87 k0_pay88 k0_pay89
  rfl

/-- Slice 8 as the body writes it. -/
theorem pay_8 : k0_pay105 (k0_pay103 (k0_pay100 (k0_pay97 (k0_pay94 (k0_pay92 l0) (k0_pay93 w0) r0 e0 l1 w1 r1 e1) (k0_pay95 l2) (k0_pay96 w2) r2 e2 l3 w3 r3 e3) (k0_pay98 l4) (k0_pay99 w4) r4 e4 l5 w5 r5 e5) (k0_pay101 l6) (k0_pay102 w6) r6 e6 l7 w7 r7 e7) (k0_pay104 st)
    = slice (extractStridedSlice S128x512 ![0, 0] st slices_S512x512_o0_0_S128x512) l0 l1 l2 l3 l4 l5 l6 l7 w0 w1 w2 w3 w4 w5 w6 w7 r0 r1 r2 r3 r4 r5 r6 r7 e0 e1 e2 e3 e4 e5 e6 e7 := by
  unfold slice head actv k0_pay100 k0_pay101 k0_pay102 k0_pay103 k0_pay104 k0_pay105 k0_pay92 k0_pay93 k0_pay94 k0_pay95 k0_pay96 k0_pay97 k0_pay98 k0_pay99
  rfl

/-- Slice 9 as the body writes it. -/
theorem pay_9 : k0_pay122 st (k0_pay118 (k0_pay114 (k0_pay110 (k0_pay106 l0 w0 r0 e0) (k0_pay107 w1) (k0_pay108 r1) (k0_pay109 l1) e1 l2 w2 r2 e2) (k0_pay111 w3) (k0_pay112 r3) (k0_pay113 l3) e3 l4 w4 r4 e4) (k0_pay115 w5) (k0_pay116 r5) (k0_pay117 l5) e5 l6 w6 r6 e6) (k0_pay119 w7) (k0_pay120 r7) (k0_pay121 l7) e7
    = slice (extractStridedSlice S128x512 ![128, 0] st slices_S512x512_o128_0_S128x512) l0 l1 l2 l3 l4 l5 l6 l7 w0 w1 w2 w3 w4 w5 w6 w7 r0 r1 r2 r3 r4 r5 r6 r7 e0 e1 e2 e3 e4 e5 e6 e7 := by
  unfold slice head actv k0_pay106 k0_pay107 k0_pay108 k0_pay109 k0_pay110 k0_pay111 k0_pay112 k0_pay113 k0_pay114 k0_pay115 k0_pay116 k0_pay117 k0_pay118 k0_pay119 k0_pay120 k0_pay121 k0_pay122
  rfl

/-- Slice 10 as the body writes it. -/
theorem pay_10 : k0_pay134 st (k0_pay131 (k0_pay128 (k0_pay125 (k0_pay123 w0) (k0_pay124 l0 r0) e0 l1 w1 r1 e1) (k0_pay126 w2) (k0_pay127 l2 r2) e2 l3 w3 r3 e3) (k0_pay129 w4) (k0_pay130 l4 r4) e4 l5 w5 r5 e5) (k0_pay132 w6) (k0_pay133 l6 r6) e6 l7 w7 r7 e7
    = slice (extractStridedSlice S128x512 ![256, 0] st slices_S512x512_o256_0_S128x512) l0 l1 l2 l3 l4 l5 l6 l7 w0 w1 w2 w3 w4 w5 w6 w7 r0 r1 r2 r3 r4 r5 r6 r7 e0 e1 e2 e3 e4 e5 e6 e7 := by
  unfold slice head actv k0_pay123 k0_pay124 k0_pay125 k0_pay126 k0_pay127 k0_pay128 k0_pay129 k0_pay130 k0_pay131 k0_pay132 k0_pay133 k0_pay134
  rfl

/-- Slice 11 as the body writes it. -/
theorem pay_11 : k0_pay151 st (k0_pay147 (k0_pay143 (k0_pay139 (k0_pay135 l0 w0 r0 e0) (k0_pay136 l1 r1) (k0_pay137 w1 e1) k0_pay138 l2 w2 r2 e2) (k0_pay140 l3 r3) (k0_pay141 w3 e3) k0_pay142 l4 w4 r4 e4) (k0_pay144 l5 r5) (k0_pay145 w5 e5) k0_pay146 l6 w6 r6 e6) (k0_pay148 l7 r7) (k0_pay149 w7 e7) k0_pay150
    = slice (extractStridedSlice S128x512 ![384, 0] st slices_S512x512_o384_0_S128x512) l0 l1 l2 l3 l4 l5 l6 l7 w0 w1 w2 w3 w4 w5 w6 w7 r0 r1 r2 r3 r4 r5 r6 r7 e0 e1 e2 e3 e4 e5 e6 e7 := by
  unfold slice head actv k0_pay135 k0_pay136 k0_pay137 k0_pay138 k0_pay139 k0_pay140 k0_pay141 k0_pay142 k0_pay143 k0_pay144 k0_pay145 k0_pay146 k0_pay147 k0_pay148 k0_pay149 k0_pay150 k0_pay151
  rfl

/-- Slice 12 as the body writes it. -/
theorem pay_12 : k0_pay165 (k0_pay164 st (k0_pay161 (k0_pay158 (k0_pay155 (k0_pay153 l0) (k0_pay154 w0) r0 e0 l1 w1 r1 e1) (k0_pay156 l2) (k0_pay157 w2) r2 e2 l3 w3 r3 e3) (k0_pay159 l4) (k0_pay160 w4) r4 e4 l5 w5 r5 e5) (k0_pay162 l6) (k0_pay163 w6) r6 e6 l7 w7 r7 e7)
    = slice (extractStridedSlice S128x512 ![0, 0] st slices_S512x512_o0_0_S128x512) l0 l1 l2 l3 l4 l5 l6 l7 w0 w1 w2 w3 w4 w5 w6 w7 r0 r1 r2 r3 r4 r5 r6 r7 e0 e1 e2 e3 e4 e5 e6 e7 := by
  unfold slice head actv k0_pay153 k0_pay154 k0_pay155 k0_pay156 k0_pay157 k0_pay158 k0_pay159 k0_pay160 k0_pay161 k0_pay162 k0_pay163 k0_pay164 k0_pay165
  rfl

/-- Slice 13 as the body writes it. -/
theorem pay_13 : k0_pay178 st (k0_pay175 (k0_pay172 (k0_pay169 (k0_pay166 l0 w0 r0 e0) (k0_pay167 w1) (k0_pay168 l1 r1) e1 l2 w2 r2 e2) (k0_pay170 w3) (k0_pay171 l3 r3) e3 l4 w4 r4 e4) (k0_pay173 w5) (k0_pay174 l5 r5) e5 l6 w6 r6 e6) (k0_pay176 w7) (k0_pay177 l7 r7) e7
    = slice (extractStridedSlice S128x512 ![128, 0] st slices_S512x512_o128_0_S128x512) l0 l1 l2 l3 l4 l5 l6 l7 w0 w1 w2 w3 w4 w5 w6 w7 r0 r1 r2 r3 r4 r5 r6 r7 e0 e1 e2 e3 e4 e5 e6 e7 := by
  unfold slice head actv k0_pay166 k0_pay167 k0_pay168 k0_pay169 k0_pay170 k0_pay171 k0_pay172 k0_pay173 k0_pay174 k0_pay175 k0_pay176 k0_pay177 k0_pay178
  rfl

/-- Slice 14 as the body writes it. -/
theorem pay_14 : k0_pay193 st (k0_pay189 (k0_pay185 (k0_pay181 (k0_pay179 w0) (k0_pay180 l0 r0) e0 l1 w1 r1 e1) (k0_pay182 w2) (k0_pay183 l2 r2) (k0_pay184 e2) l3 w3 r3 e3) (k0_pay186 w4) (k0_pay187 l4 r4) (k0_pay188 e4) l5 w5 r5 e5) (k0_pay190 w6) (k0_pay191 l6 r6) (k0_pay192 e6) l7 w7 r7 e7
    = slice (extractStridedSlice S128x512 ![256, 0] st slices_S512x512_o256_0_S128x512) l0 l1 l2 l3 l4 l5 l6 l7 w0 w1 w2 w3 w4 w5 w6 w7 r0 r1 r2 r3 r4 r5 r6 r7 e0 e1 e2 e3 e4 e5 e6 e7 := by
  unfold slice head actv k0_pay179 k0_pay180 k0_pay181 k0_pay182 k0_pay183 k0_pay184 k0_pay185 k0_pay186 k0_pay187 k0_pay188 k0_pay189 k0_pay190 k0_pay191 k0_pay192 k0_pay193
  rfl

/-- Slice 15 as the body writes it. -/
theorem pay_15 : k0_pay1 st (k0_pay200 (k0_pay198 (k0_pay196 (k0_pay194 l0 w0 r0 e0) (k0_pay195 l1 w1 r1 e1) l2 w2 r2 e2) (k0_pay197 l3 w3 r3 e3) l4 w4 r4 e4) (k0_pay199 l5 w5 r5 e5) l6 w6 r6 e6) (k0_pay201 l7 w7 r7 e7)
    = slice (extractStridedSlice S128x512 ![384, 0] st slices_S512x512_o384_0_S128x512) l0 l1 l2 l3 l4 l5 l6 l7 w0 w1 w2 w3 w4 w5 w6 w7 r0 r1 r2 r3 r4 r5 r6 r7 e0 e1 e2 e3 e4 e5 e6 e7 := by
  unfold slice head actv k0_pay1 k0_pay194 k0_pay195 k0_pay196 k0_pay197 k0_pay198 k0_pay199 k0_pay200 k0_pay201
  rfl

end Cert.Kernel4Ideal.At

end
-- ==== Proof.ExRef.lean ====
/- The experts: the layer's output, and the reference's program read at an element. -/
module

public import proofs.«01_k».proof.Proof.Gen.Reference4Ideal.Run
public import proofs.«01_k».proof.Proof.Modulated
public import Idealize.ShloMosaic.Lib.Pointwise

@[expose] public section

set_option maxRecDepth 16384

noncomputable section

open Idealize.ShloMosaic Idealize.ShloMosaic.TcCoe Idealize.SL.Sem

namespace Cert.Ex

/-- Token `t`'s gate of the expert of keys `i` and `j`: over the heads, the keys' weights where key `j`'s rank is under key `i`'s limit. -/
def G (r e l w : (⟨3, ![8, 128, 6144]⟩ : Shape).Idx → EReal) (t : Fin 6144) (i j : Fin 128) : EReal :=
  ∑ h : Fin 8, if r (ix3 h j t) < l (ix3 h i t) then e (ix3 h j t) * w (ix3 h i t) else 0

/-- The activation of a score. -/
def gelu (s : EReal) : EReal :=
  Ideal.ofBits .f32 0x3F000000#32 * s * (1 + Ideal.erf (s * Ideal.ofBits .f32 0x3F3504F3#32))

/-- Token `t`'s score of expert `e`. -/
def S (h : (⟨2, ![1024, 6144]⟩ : Shape).Idx → EReal) (u : (⟨2, ![16384, 1024]⟩ : Shape).Idx → EReal) (t : Fin 6144) (e : Fin 16384) : EReal :=
  ∑ k : Fin 1024, u (ix2 e k) * h (ix2 k t)

/-- Channel `d` of expert `e`'s part in token `t`'s sum. -/
def term (h : (⟨2, ![1024, 6144]⟩ : Shape).Idx → EReal) (r e l w : (⟨3, ![8, 128, 6144]⟩ : Shape).Idx → EReal)
    (u v : (⟨2, ![16384, 1024]⟩ : Shape).Idx → EReal) (t : Fin 6144) (d : Fin 1024) (a : Fin 16384) : EReal :=
  v (ix2 a d) * (G r e l w t ⟨a / 128, by omega⟩ ⟨a % 128, by omega⟩ * gelu (S h u t a))

/-- Channel `d` of token `t`'s output: the residual stream and the gated sum over the experts. -/
def O (h : (⟨2, ![1024, 6144]⟩ : Shape).Idx → EReal) (r e l w : (⟨3, ![8, 128, 6144]⟩ : Shape).Idx → EReal)
    (x : (⟨2, ![6144, 1024]⟩ : Shape).Idx → EReal) (g : (⟨3, ![8, 1, 1024]⟩ : Shape).Idx → EReal)
    (u v : (⟨2, ![16384, 1024]⟩ : Shape).Idx → EReal) (t : Fin 6144) (d : Fin 1024) : EReal :=
  x (ix2 t d) + g (ix3 (Cert.Mod.grp t) 0 d) * ∑ a, term h r e l w u v t d a

end Cert.Ex

namespace Cert.Reference4Ideal.At

open Cert.Reference4Ideal Cert.Reference4Ideal.Gen Cert.Reference4Ideal.Value

/-- The heads' gates of every expert. -/
def gate (r e : FVec Ideal S8x128x6144 .bf16) (l w : FVec Ideal S8x128x6144 .f32) : FVec Ideal S6144x16384 .f32 :=
  transpose S6144x16384 [1, 0] (shapeCast _ (Host.reduceAdd (select (cmpf .olt (broadcastInDim S8x128x128x6144 ![0, 1, 2, 3] bcast_S8x1x128x6144_S8x128x128x6144_0_1_2_3 (broadcastInDim S8x1x128x6144 ![0, 2, 3] bcast_S8x128x6144_S8x1x128x6144_0_2_3 (extf .f32 r bitsLt_bf16_f32))) (broadcastInDim S8x128x128x6144 ![0, 1, 2, 3] bcast_S8x128x1x6144_S8x128x128x6144_0_1_2_3 (broadcastInDim S8x128x1x6144 ![0, 1, 3] bcast_S8x128x6144_S8x128x1x6144_0_1_3 l))) (mulf (broadcastInDim S8x128x128x6144 ![0, 1, 2, 3] bcast_S8x1x128x6144_S8x128x128x6144_0_1_2_3 (broadcastInDim S8x1x128x6144 ![0, 2, 3] bcast_S8x128x6144_S8x1x128x6144_0_2_3 (extf .f32 e bitsLt_bf16_f32))) (broadcastInDim S8x128x128x6144 ![0, 1, 2, 3] bcast_S8x128x1x6144_S8x128x128x6144_0_1_2_3 (broadcastInDim S8x128x1x6144 ![0, 1, 3] bcast_S8x128x6144_S8x128x1x6144_0_1_3 w))) (broadcastInDim S8x128x128x6144 ![] bcast_S_S8x128x128x6144 (id (constant S_ .f32 0x00000000#32)))) (constant S_ .f32 0x00000000#32) reducesTo_S8x128x128x6144_S128x128x6144_d0 h_S_) shapeCasts_S128x128x6144_S16384x6144) transposes_S16384x6144_S6144x16384_1_0

/-- The experts' scores. -/
def score (h : FVec Ideal S1024x6144 .bf16) (u : FVec Ideal S16384x1024 .f32) : FVec Ideal S6144x16384 .f32 :=
  Host.dotGeneral dot_S6144x1024_S1024x16384_S6144x16384_1_0_0_1_n_n none (transpose S6144x1024 [1, 0] (extf .f32 h bitsLt_bf16_f32) transposes_S1024x6144_S6144x1024_1_0) (transpose S1024x16384 [1, 0] u transposes_S16384x1024_S1024x16384_1_0)

/-- Their activations. -/
def act (s : FVec Ideal S6144x16384 .f32) : FVec Ideal S6144x16384 .f32 :=
  mulf (mulf (broadcastInDim S6144x16384 ![] bcast_S_S6144x16384 (constant S_ .f32 0x3F000000#32)) s) (Host.erfc (mulf (Host.negf s) (broadcastInDim S6144x16384 ![] bcast_S_S6144x16384 (constant S_ .f32 0x3F3504F3#32))))

/-- The experts' sum. -/
def mix (g s : FVec Ideal S6144x16384 .f32) (v : FVec Ideal S16384x1024 .f32) : FVec Ideal S6144x1024 .f32 :=
  Host.dotGeneral dot_S6144x16384_S16384x1024_S6144x1024_1_0_0_1_n_n none (mulf g (act s)) v

/-- An element of the output from the experts' sum `o`. -/
def outp (o x : FVec Ideal S6144x1024 .f32) (g : FVec Ideal S8x1x1024 .f32) : FVec Ideal S16x256x1024 .f32 :=
  addf (shapeCast _ (extractStridedSlice S4096x1024 ![0, 0] x slices_S6144x1024_S4096x1024_0_0) shapeCasts_S4096x1024_S16x256x1024)
    (mulf (broadcastInDim S16x256x1024 ![0, 1, 2] bcast_S1x1x1024_S16x256x1024_0_1_2 (extractStridedSlice S1x1x1024 ![0, 0, 0] g slices_S8x1x1024_S1x1x1024_0_0_0))
      (shapeCast _ (extractStridedSlice S4096x1024 ![0, 0] o slices_S6144x1024_S4096x1024_0_0) shapeCasts_S4096x1024_S16x256x1024))

/-- The latents' part. -/
def outs (o x : FVec Ideal S6144x1024 .f32) (g : FVec Ideal S8x1x1024 .f32) : FVec Ideal S2x1024x1024 .f32 :=
  addf (shapeCast _ (extractStridedSlice S2048x1024 ![4096, 0] x slices_S6144x1024_S2048x1024_4096_0) shapeCasts_S2048x1024_S2x1024x1024)
    (mulf (broadcastInDim S2x1024x1024 ![0, 1, 2] bcast_S2x1x1024_S2x1024x1024_0_1_2 (extractStridedSlice S2x1x1024 ![1, 0, 0] g slices_S8x1x1024_S2x1x1024_1_0_0))
      (shapeCast _ (extractStridedSlice S2048x1024 ![4096, 0] o slices_S6144x1024_S2048x1024_4096_0) shapeCasts_S2048x1024_S2x1024x1024))

/-- The prompt's tokens, then the latents'. -/
def cat (p : FVec Ideal S16x256x1024 .f32) (s : FVec Ideal S2x1024x1024 .f32) : FVec Ideal S6144x1024 .f32 :=
  concatenate S6144x1024 0 [⟨S4096x1024, shapeCast _ p shapeCasts_S16x256x1024_S4096x1024⟩, ⟨S2048x1024, shapeCast _ s shapeCasts_S2x1024x1024_S2048x1024⟩] concatenates_S4096x1024_S2048x1024_S6144x1024_d0

/-- A token's gate of an expert. -/
theorem gate_at (r e : FVec Ideal S8x128x6144 .bf16) (l w : FVec Ideal S8x128x6144 .f32) (t : Fin 6144) (a : Fin 16384) :
    gate r e l w (ix2 t a) = Cert.Ex.G r e l w t ⟨a / 128, by omega⟩ ⟨a % 128, by omega⟩ := by
  unfold gate Cert.Ex.G
  pointwise
  refine Finset.sum_congr rfl fun h _ => ?_
  rw [show id (constant S_ .f32 0x00000000#32 : FVec Ideal S_ .f32) ix0 = (0 : EReal) from Ideal.ofBits_zero_f32]

/-- A token's score of an expert. -/
theorem score_at (h : FVec Ideal S1024x6144 .bf16) (u : FVec Ideal S16384x1024 .f32) (t : Fin 6144) (a : Fin 16384) :
    score h u (ix2 t a) = Cert.Ex.S h u t a := by
  unfold score Cert.Ex.S
  pointwise
  exact Finset.sum_congr rfl fun k _ => mul_comm _ _

/-- The activation, by the error function or by its complement. -/
theorem act_at (s : FVec Ideal S6144x16384 .f32) (t : Fin 6144) (a : Fin 16384) : act s (ix2 t a) = Cert.Ex.gelu (s (ix2 t a)) := by
  unfold act Cert.Ex.gelu
  pointwise
  rw [neg_mul, Ideal.erfc_neg]

/-- The experts' sum. -/
theorem mix_at (h : FVec Ideal S1024x6144 .bf16) (r e : FVec Ideal S8x128x6144 .bf16) (l w : FVec Ideal S8x128x6144 .f32) (u v : FVec Ideal S16384x1024 .f32)
    (t : Fin 6144) (d : Fin 1024) : mix (gate r e l w) (score h u) v (ix2 t d) = ∑ a, Cert.Ex.term h r e l w u v t d a := by
  unfold mix Cert.Ex.term
  pointwise
  refine Finset.sum_congr rfl fun a _ => ?_
  rw [gate_at, act_at, score_at]
  exact mul_comm _ _

/-- The reference's result of its arguments. -/
theorem o_at (h : FVec Ideal S1024x6144 .bf16) (r e : FVec Ideal S8x128x6144 .bf16) (l w : FVec Ideal S8x128x6144 .f32) (x : FVec Ideal S6144x1024 .f32)
    (g : FVec Ideal S8x1x1024 .f32) (u v : FVec Ideal S16384x1024 .f32) (t : Fin 6144) (d : Fin 1024) :
    cat (outp (mix (gate r e l w) (score h u) v) x g) (outs (mix (gate r e l w) (score h u) v) x g) (ix2 t d) = Cert.Ex.O h r e l w x g u v t d := by
  unfold cat outp outs Cert.Ex.O
  pointwise
  split
  · next hp =>
    rw [mix_at, show Cert.Mod.grp t = 0 from Cert.Mod.grp_prompt ⟨t, hp⟩]
    rw [show (⟨t.val / 256 * 256 + t.val % 256, by omega⟩ : Fin 6144) = t from Fin.ext (by dsimp only; omega)]
  · next hp =>
    rw [mix_at]
    have hg : (⟨1 + (t.val - 4096) / 1024, by omega⟩ : Fin 8) = Cert.Mod.grp t := Fin.ext (by simp [Cert.Mod.grp, hp])
    have ht : (⟨4096 + ((t.val - 4096) / 1024 * 1024 + (t.val - 4096) % 1024), by omega⟩ : Fin 6144) = t := Fin.ext (by dsimp only; omega)
    rw [hg, ht]

end Cert.Reference4Ideal.At

end
-- ==== Proof.ExBlock.lean ====
module

public import proofs.«01_k».proof.Proof.ExSlice
public import proofs.«01_k».proof.Proof.ExRef
public import proofs.«01_k».proof.Proof.Gen.Kernel4Ideal.Frame

@[expose] public section

set_option maxRecDepth 16384

/-! # The experts' kernel at one grid point, from the blocks its body reads: 512 tokens and 2048 experts, in four rounds of 512
experts, each of four slices of 128. -/

noncomputable section

open Idealize.ShloMosaic Idealize.ShloMosaic.TcCoe Idealize.SL.Sem

namespace Cert.Kernel4Ideal.At

open Cert.Kernel4Ideal Cert.Kernel4Ideal.Gen

/-- One head's part at an entry. -/
theorem head_at (l w : Vec Ideal S1x1x512 .f32) (r e : Vec Ideal S1x128x512 .bf16) (a : Fin 128) (j : Fin 512) :
    head l w r e (ix2 a j) = if (r (ix3 0 a j) : EReal) < (l (ix3 0 0 j) : EReal) then (e (ix3 0 a j) : EReal) * w (ix3 0 0 j) else 0 := by
  unfold head
  pointwise [Ideal.ofBits_zero_bf16]

/-- The activation at an entry. -/
theorem actv_at (s : FVec Ideal S128x512 .f32) (a : Fin 128) (j : Fin 512) : actv s (ix2 a j) = Cert.Ex.gelu (s (ix2 a j)) := by
  unfold actv Cert.Ex.gelu
  pointwise
  rfl

/-- The offset of the row of a limit or weight that a slice reads: sixteen first keys a grid point, four a round. -/
theorem row_toNat : ∀ (e : Fin 8) (c i : Fin 4), (Scalar.indexCast (Scalar.addi (Scalar.addi (Scalar.muli (BitVec.ofNat 32 e.val) 16#32)
    (BitVec.ofNat 32 (4 * c.val))) (BitVec.ofNat 32 i.val)) : Index).toNat = 16 * e.val + 4 * c.val + i.val := by decide +kernel

/-- A row of the limits or weights, read at its offset. -/
theorem ld_row (X : Vec Ideal S8x128x512 .f32) (off : Fin 3 → ℕ) (inb) (h : Fin 8) (q : Fin 128) (h0 : off 0 = h.val) (h1 : off 1 = q.val)
    (h2 : off 2 = 0) (j : Fin 512) : View.ld X (Rect.unit (s := S8x128x512) off S1x1x512.size inb) (ix3 0 0 j) = X (ix3 h q j) :=
  congrArg X (funext fun a => Fin.ext (match a with
    | ⟨0, _⟩ => by show off 0 + 1 * 0 = h.val; omega
    | ⟨1, _⟩ => by show off 1 + 1 * 0 = q.val; omega
    | ⟨2, _⟩ => by show off 2 + 1 * j.val = j.val; omega))

/-- A head's ranks or weights, read at their offset. -/
theorem ld_head (X : Vec Ideal S8x128x512 .bf16) (h : Fin 8) (off : Fin 3 → ℕ) (inb) (h0 : off 0 = h.val) (h1 : off 1 = 0) (h2 : off 2 = 0)
    (a : Fin 128) (j : Fin 512) : View.ld X (Rect.unit (s := S8x128x512) off S1x128x512.size inb) (ix3 0 a j) = X (ix3 h a j) :=
  congrArg X (funext fun b => Fin.ext (match b with
    | ⟨0, _⟩ => by show off 0 + 1 * 0 = h.val; omega
    | ⟨1, _⟩ => by show off 1 + 1 * a.val = a.val; omega
    | ⟨2, _⟩ => by show off 2 + 1 * j.val = j.val; omega))

/-- The score of a block's expert. -/
def scoreB (h : Vec Ideal S1024x512 .bf16) (u : Vec Ideal S2048x1024 .bf16) (a : Fin 2048) (j : Fin 512) : EReal :=
  ∑ k : Fin 1024, (u (ix2 a k) : EReal) * h (ix2 k j)

/-- The gate of second key `a` at first key `q`. -/
def gateB (r e : Vec Ideal S8x128x512 .bf16) (l w : Vec Ideal S8x128x512 .f32) (q a : Fin 128) (j : Fin 512) : EReal :=
  ∑ h : Fin 8, if (r (ix3 h a j) : EReal) < (l (ix3 h q j) : EReal) then (e (ix3 h a j) : EReal) * w (ix3 h q j) else 0

/-- The weight of a block's expert. -/
def wtB (p : Fin 8) (h : Vec Ideal S1024x512 .bf16) (u : Vec Ideal S2048x1024 .bf16) (r e : Vec Ideal S8x128x512 .bf16)
    (l w : Vec Ideal S8x128x512 .f32) (a : Fin 2048) (j : Fin 512) : EReal :=
  gateB r e l w ⟨16 * p.val + a.val / 128, by omega⟩ ⟨a.val % 128, by omega⟩ j * Cert.Ex.gelu (scoreB h u a j)

/-- A slice's entries are the weights of its experts. -/
theorem slice_at (i : grid0.Coords) (c ii : Fin 4) (s : FVec Ideal S128x512 .f32) (h : Vec Ideal S1024x512 .bf16) (u : Vec Ideal S2048x1024 .bf16)
    (r e : Vec Ideal S8x128x512 .bf16) (l w : Vec Ideal S8x128x512 .f32)
    (hs : ∀ (a : Fin 128) (j : Fin 512), s (ix2 a j) = scoreB h u ⟨512 * c.val + 128 * ii.val + a.val, by omega⟩ j) (a : Fin 128) (j : Fin 512) :
    slice s
      (View.ld l (Rect.unit (s := S8x128x512) (k0_off1 i (BitVec.ofNat 32 (4 * c.val)) (BitVec.ofNat 32 ii.val)) S1x1x512.size (k0_off1_inb i c ii)))
      (View.ld l (Rect.unit (s := S8x128x512) (k0_off2 i (BitVec.ofNat 32 (4 * c.val)) (BitVec.ofNat 32 ii.val)) S1x1x512.size (k0_off2_inb i c ii)))
      (View.ld l (Rect.unit (s := S8x128x512) (k0_off3 i (BitVec.ofNat 32 (4 * c.val)) (BitVec.ofNat 32 ii.val)) S1x1x512.size (k0_off3_inb i c ii)))
      (View.ld l (Rect.unit (s := S8x128x512) (k0_off4 i (BitVec.ofNat 32 (4 * c.val)) (BitVec.ofNat 32 ii.val)) S1x1x512.size (k0_off4_inb i c ii)))
      (View.ld l (Rect.unit (s := S8x128x512) (k0_off5 i (BitVec.ofNat 32 (4 * c.val)) (BitVec.ofNat 32 ii.val)) S1x1x512.size (k0_off5_inb i c ii)))
      (View.ld l (Rect.unit (s := S8x128x512) (k0_off6 i (BitVec.ofNat 32 (4 * c.val)) (BitVec.ofNat 32 ii.val)) S1x1x512.size (k0_off6_inb i c ii)))
      (View.ld l (Rect.unit (s := S8x128x512) (k0_off7 i (BitVec.ofNat 32 (4 * c.val)) (BitVec.ofNat 32 ii.val)) S1x1x512.size (k0_off7_inb i c ii)))
      (View.ld l (Rect.unit (s := S8x128x512) (k0_off8 i (BitVec.ofNat 32 (4 * c.val)) (BitVec.ofNat 32 ii.val)) S1x1x512.size (k0_off8_inb i c ii)))
      (View.ld w (Rect.unit (s := S8x128x512) (k0_off1 i (BitVec.ofNat 32 (4 * c.val)) (BitVec.ofNat 32 ii.val)) S1x1x512.size (k0_off1_inb i c ii)))
      (View.ld w (Rect.unit (s := S8x128x512) (k0_off2 i (BitVec.ofNat 32 (4 * c.val)) (BitVec.ofNat 32 ii.val)) S1x1x512.size (k0_off2_inb i c ii)))
      (View.ld w (Rect.unit (s := S8x128x512) (k0_off3 i (BitVec.ofNat 32 (4 * c.val)) (BitVec.ofNat 32 ii.val)) S1x1x512.size (k0_off3_inb i c ii)))
      (View.ld w (Rect.unit (s := S8x128x512) (k0_off4 i (BitVec.ofNat 32 (4 * c.val)) (BitVec.ofNat 32 ii.val)) S1x1x512.size (k0_off4_inb i c ii)))
      (View.ld w (Rect.unit (s := S8x128x512) (k0_off5 i (BitVec.ofNat 32 (4 * c.val)) (BitVec.ofNat 32 ii.val)) S1x1x512.size (k0_off5_inb i c ii)))
      (View.ld w (Rect.unit (s := S8x128x512) (k0_off6 i (BitVec.ofNat 32 (4 * c.val)) (BitVec.ofNat 32 ii.val)) S1x1x512.size (k0_off6_inb i c ii)))
      (View.ld w (Rect.unit (s := S8x128x512) (k0_off7 i (BitVec.ofNat 32 (4 * c.val)) (BitVec.ofNat 32 ii.val)) S1x1x512.size (k0_off7_inb i c ii)))
      (View.ld w (Rect.unit (s := S8x128x512) (k0_off8 i (BitVec.ofNat 32 (4 * c.val)) (BitVec.ofNat 32 ii.val)) S1x1x512.size (k0_off8_inb i c ii)))
      (View.ld r (Rect.unit (s := S8x128x512) ![0, 0, 0] S1x128x512.size inb_S8x128x512_S1x128x512_0_0_0))
      (View.ld r (Rect.unit (s := S8x128x512) ![1, 0, 0] S1x128x512.size inb_S8x128x512_S1x128x512_1_0_0))
      (View.ld r (Rect.unit (s := S8x128x512) ![2, 0, 0] S1x128x512.size inb_S8x128x512_S1x128x512_2_0_0))
      (View.ld r (Rect.unit (s := S8x128x512) ![3, 0, 0] S1x128x512.size inb_S8x128x512_S1x128x512_3_0_0))
      (View.ld r (Rect.unit (s := S8x128x512) ![4, 0, 0] S1x128x512.size inb_S8x128x512_S1x128x512_4_0_0))
      (View.ld r (Rect.unit (s := S8x128x512) ![5, 0, 0] S1x128x512.size inb_S8x128x512_S1x128x512_5_0_0))
      (View.ld r (Rect.unit (s := S8x128x512) ![6, 0, 0] S1x128x512.size inb_S8x128x512_S1x128x512_6_0_0))
      (View.ld r (Rect.unit (s := S8x128x512) ![7, 0, 0] S1x128x512.size inb_S8x128x512_S1x128x512_7_0_0))
      (View.ld e (Rect.unit (s := S8x128x512) ![0, 0, 0] S1x128x512.size inb_S8x128x512_S1x128x512_0_0_0))
      (View.ld e (Rect.unit (s := S8x128x512) ![1, 0, 0] S1x128x512.size inb_S8x128x512_S1x128x512_1_0_0))
      (View.ld e (Rect.unit (s := S8x128x512) ![2, 0, 0] S1x128x512.size inb_S8x128x512_S1x128x512_2_0_0))
      (View.ld e (Rect.unit (s := S8x128x512) ![3, 0, 0] S1x128x512.size inb_S8x128x512_S1x128x512_3_0_0))
      (View.ld e (Rect.unit (s := S8x128x512) ![4, 0, 0] S1x128x512.size inb_S8x128x512_S1x128x512_4_0_0))
      (View.ld e (Rect.unit (s := S8x128x512) ![5, 0, 0] S1x128x512.size inb_S8x128x512_S1x128x512_5_0_0))
      (View.ld e (Rect.unit (s := S8x128x512) ![6, 0, 0] S1x128x512.size inb_S8x128x512_S1x128x512_6_0_0))
      (View.ld e (Rect.unit (s := S8x128x512) ![7, 0, 0] S1x128x512.size inb_S8x128x512_S1x128x512_7_0_0))
      (ix2 a j) = wtB (i 1) h u r e l w ⟨512 * c.val + 128 * ii.val + a.val, by omega⟩ j := by
  unfold slice wtB gateB
  pointwise
  rw [actv_at, hs]
  refine congrArg (· * _) ?_
  rw [Fin.sum_univ_eight]
  have hq : ∀ (hq), (⟨16 * (i 1).val + (512 * c.val + 128 * ii.val + a.val) / 128, hq⟩ : Fin 128) = ⟨16 * (i 1).val + 4 * c.val + ii.val, by have : (i 1).val < 8 := (i 1).isLt; omega⟩ :=
    fun _ => Fin.ext (by dsimp only; omega)
  have ha : ∀ (ha), (⟨(512 * c.val + 128 * ii.val + a.val) % 128, ha⟩ : Fin 128) = a := fun _ => Fin.ext (by dsimp only; omega)
  rw [hq, ha]
  simp only [head_at]
  rw [ld_row l (k0_off1 i _ _) _ 0 ⟨16 * (i 1).val + 4 * c.val + ii.val, by have : (i 1).val < 8 := (i 1).isLt; omega⟩ rfl (row_toNat (i 1) c ii) rfl]
  rw [ld_row l (k0_off2 i _ _) _ 1 ⟨16 * (i 1).val + 4 * c.val + ii.val, by have : (i 1).val < 8 := (i 1).isLt; omega⟩ rfl (row_toNat (i 1) c ii) rfl]
  rw [ld_row l (k0_off3 i _ _) _ 2 ⟨16 * (i 1).val + 4 * c.val + ii.val, by have : (i 1).val < 8 := (i 1).isLt; omega⟩ rfl (row_toNat (i 1) c ii) rfl]
  rw [ld_row l (k0_off4 i _ _) _ 3 ⟨16 * (i 1).val + 4 * c.val + ii.val, by have : (i 1).val < 8 := (i 1).isLt; omega⟩ rfl (row_toNat (i 1) c ii) rfl]
  rw [ld_row l (k0_off5 i _ _) _ 4 ⟨16 * (i 1).val + 4 * c.val + ii.val, by have : (i 1).val < 8 := (i 1).isLt; omega⟩ rfl (row_toNat (i 1) c ii) rfl]
  rw [ld_row l (k0_off6 i _ _) _ 5 ⟨16 * (i 1).val + 4 * c.val + ii.val, by have : (i 1).val < 8 := (i 1).isLt; omega⟩ rfl (row_toNat (i 1) c ii) rfl]
  rw [ld_row l (k0_off7 i _ _) _ 6 ⟨16 * (i 1).val + 4 * c.val + ii.val, by have : (i 1).val < 8 := (i 1).isLt; omega⟩ rfl (row_toNat (i 1) c ii) rfl]
  rw [ld_row l (k0_off8 i _ _) _ 7 ⟨16 * (i 1).val + 4 * c.val + ii.val, by have : (i 1).val < 8 := (i 1).isLt; omega⟩ rfl (row_toNat (i 1) c ii) rfl]
  rw [ld_row w (k0_off1 i _ _) _ 0 ⟨16 * (i 1).val + 4 * c.val + ii.val, by have : (i 1).val < 8 := (i 1).isLt; omega⟩ rfl (row_toNat (i 1) c ii) rfl]
  rw [ld_row w (k0_off2 i _ _) _ 1 ⟨16 * (i 1).val + 4 * c.val + ii.val, by have : (i 1).val < 8 := (i 1).isLt; omega⟩ rfl (row_toNat (i 1) c ii) rfl]
  rw [ld_row w (k0_off3 i _ _) _ 2 ⟨16 * (i 1).val + 4 * c.val + ii.val, by have : (i 1).val < 8 := (i 1).isLt; omega⟩ rfl (row_toNat (i 1) c ii) rfl]
  rw [ld_row w (k0_off4 i _ _) _ 3 ⟨16 * (i 1).val + 4 * c.val + ii.val, by have : (i 1).val < 8 := (i 1).isLt; omega⟩ rfl (row_toNat (i 1) c ii) rfl]
  rw [ld_row w (k0_off5 i _ _) _ 4 ⟨16 * (i 1).val + 4 * c.val + ii.val, by have : (i 1).val < 8 := (i 1).isLt; omega⟩ rfl (row_toNat (i 1) c ii) rfl]
  rw [ld_row w (k0_off6 i _ _) _ 5 ⟨16 * (i 1).val + 4 * c.val + ii.val, by have : (i 1).val < 8 := (i 1).isLt; omega⟩ rfl (row_toNat (i 1) c ii) rfl]
  rw [ld_row w (k0_off7 i _ _) _ 6 ⟨16 * (i 1).val + 4 * c.val + ii.val, by have : (i 1).val < 8 := (i 1).isLt; omega⟩ rfl (row_toNat (i 1) c ii) rfl]
  rw [ld_row w (k0_off8 i _ _) _ 7 ⟨16 * (i 1).val + 4 * c.val + ii.val, by have : (i 1).val < 8 := (i 1).isLt; omega⟩ rfl (row_toNat (i 1) c ii) rfl]
  rw [ld_head r 0 ![0, 0, 0] _ rfl rfl rfl]
  rw [ld_head r 1 ![1, 0, 0] _ rfl rfl rfl]
  rw [ld_head r 2 ![2, 0, 0] _ rfl rfl rfl]
  rw [ld_head r 3 ![3, 0, 0] _ rfl rfl rfl]
  rw [ld_head r 4 ![4, 0, 0] _ rfl rfl rfl]
  rw [ld_head r 5 ![5, 0, 0] _ rfl rfl rfl]
  rw [ld_head r 6 ![6, 0, 0] _ rfl rfl rfl]
  rw [ld_head r 7 ![7, 0, 0] _ rfl rfl rfl]
  rw [ld_head e 0 ![0, 0, 0] _ rfl rfl rfl]
  rw [ld_head e 1 ![1, 0, 0] _ rfl rfl rfl]
  rw [ld_head e 2 ![2, 0, 0] _ rfl rfl rfl]
  rw [ld_head e 3 ![3, 0, 0] _ rfl rfl rfl]
  rw [ld_head e 4 ![4, 0, 0] _ rfl rfl rfl]
  rw [ld_head e 5 ![5, 0, 0] _ rfl rfl rfl]
  rw [ld_head e 6 ![6, 0, 0] _ rfl rfl rfl]
  rw [ld_head e 7 ![7, 0, 0] _ rfl rfl rfl]

/-- Rows of a stored slice, found under the slice's own rectangle. -/
theorem canon_hit (o : ℕ) (inb) (w : FVec Ideal S128x512 .bf16) (L : List (View.Piece (Elt Ideal) S2048x512 .bf16)) (a : Fin 2048) (b : Fin 512)
    (h0 : o ≤ a.val) (h1 : a.val < o + 128) :
    View.canon (⟨Rect.unit (s := S2048x512) ![o, 0] ![128, 512] inb, w⟩ :: L) (ix2 a b) = w (ix2 ⟨a.val - o, by omega⟩ b) := by
  have hy : (ix2 a b : S2048x512.Idx) = (Rect.unit (s := S2048x512) ![o, 0] ![128, 512] inb).emb (ix2 (⟨a.val - o, by omega⟩ : Fin 128) b) :=
    funext fun x => Fin.ext (match x with
      | ⟨0, _⟩ => by show a.val = o + 1 * (a.val - o); omega
      | ⟨1, _⟩ => by show b.val = 0 + 1 * b.val; omega)
  rw [hy]
  exact View.canon_cons_emb _ _ _ _

/-- Rows off a stored slice are those of the earlier stores. -/
theorem canon_miss (o : ℕ) (inb) (w : FVec Ideal S128x512 .bf16) (L : List (View.Piece (Elt Ideal) S2048x512 .bf16)) (a : Fin 2048) (b : Fin 512)
    (h : a.val < o ∨ o + 128 ≤ a.val) :
    View.canon (⟨Rect.unit (s := S2048x512) ![o, 0] ![128, 512] inb, w⟩ :: L) (ix2 a b) = View.canon L (ix2 a b) := by
  refine View.canon_cons_of_not_mem _ _ fun hm => ?_
  obtain ⟨x, hx⟩ := LoadRect.exists_idx_of_mem _ hm
  have h0 := congrArg (fun y : S2048x512.Idx => (y 0).val) hx
  have h1 : (x 0).val < 128 := (x 0).isLt
  have h2 : o + 1 * (x 0).val = a.val := h0
  omega

/-- A round's load of its four slices. -/
theorem read4 (P : Fin 2048 → Fin 512 → EReal) (o : ℕ) (ho : o + 512 ≤ 2048) (w0 w1 w2 w3 : FVec Ideal S128x512 .bf16)
    (L : List (View.Piece (Elt Ideal) S2048x512 .bf16)) (i0 i1 i2 i3 i4)
    (h0 : ∀ (a : Fin 128) (b : Fin 512), w0 (ix2 a b) = P ⟨o + a.val, by omega⟩ b)
    (h1 : ∀ (a : Fin 128) (b : Fin 512), w1 (ix2 a b) = P ⟨o + 128 + a.val, by omega⟩ b)
    (h2 : ∀ (a : Fin 128) (b : Fin 512), w2 (ix2 a b) = P ⟨o + 256 + a.val, by omega⟩ b)
    (h3 : ∀ (a : Fin 128) (b : Fin 512), w3 (ix2 a b) = P ⟨o + 384 + a.val, by omega⟩ b) (k j : Fin 512) :
    (View.whole cc0_scratch0).readCov (Val := Elt Ideal) (⟨Rect.unit (s := S2048x512) ![o + 384, 0] ![128, 512] i3, w3⟩
      :: ⟨Rect.unit (s := S2048x512) ![o + 256, 0] ![128, 512] i2, w2⟩ :: ⟨Rect.unit (s := S2048x512) ![o + 128, 0] ![128, 512] i1, w1⟩
      :: ⟨Rect.unit (s := S2048x512) ![o, 0] ![128, 512] i0, w0⟩ :: L)
      (Rect.unit (s := S2048x512) ![o, 0] ![512, 512] i4).toLoadRect (ix2 k j) = P ⟨o + k.val, by omega⟩ j := by
  rw [View.readCov_eq_canon']
  have hy : (Rect.unit (s := S2048x512) ![o, 0] ![512, 512] i4).toLoadRect.idx (ix2 k j) = (ix2 (⟨o + k.val, by omega⟩ : Fin 2048) j : S2048x512.Idx) :=
    funext fun x => Fin.ext (match x with
      | ⟨0, _⟩ => by show o + 1 * k.val = o + k.val; omega
      | ⟨1, _⟩ => by show 0 + 1 * j.val = j.val; omega)
  show View.canon _ ((Rect.unit (s := S2048x512) ![o, 0] ![512, 512] i4).toLoadRect.idx (ix2 k j)) = _
  rw [hy]
  by_cases c3 : 384 ≤ k.val
  · rw [canon_hit _ _ _ _ _ _ (by dsimp only; omega) (by dsimp only; omega), h3]
    exact congrArg (P · j) (Fin.ext (by dsimp only; omega))
  rw [canon_miss _ _ _ _ _ _ (by dsimp only; omega)]
  by_cases c2 : 256 ≤ k.val
  · rw [canon_hit _ _ _ _ _ _ (by dsimp only; omega) (by dsimp only; omega), h2]
    exact congrArg (P · j) (Fin.ext (by dsimp only; omega))
  rw [canon_miss _ _ _ _ _ _ (by dsimp only; omega)]
  by_cases c1 : 128 ≤ k.val
  · rw [canon_hit _ _ _ _ _ _ (by dsimp only; omega) (by dsimp only; omega), h1]
    exact congrArg (P · j) (Fin.ext (by dsimp only; omega))
  rw [canon_miss _ _ _ _ _ _ (by dsimp only; omega)]
  rw [canon_hit _ _ _ _ _ _ (by dsimp only; omega) (by dsimp only; omega), h0]
  exact congrArg (P · j) (Fin.ext (by dsimp only; omega))

/-- The four rounds' sums. -/
theorem rounds_at (A : FVec Ideal S1024x512 .f32) (V0 V1 V2 V3 : Vec Ideal S1024x512 .bf16) (R0 R1 R2 R3 : Vec Ideal S512x512 .bf16)
    (d : Fin 1024) (j : Fin 512) : k0_pay2 (k0_pay152 (k0_pay90 (k0_pay46 A V0 R0) V1 R1) V2 R2) V3 R3 (ix2 d j)
      = (A (ix2 d j) : EReal) + ∑ k : Fin 512, (V0 (ix2 d k) : EReal) * R0 (ix2 k j) + ∑ k : Fin 512, (V1 (ix2 d k) : EReal) * R1 (ix2 k j)
        + ∑ k : Fin 512, (V2 (ix2 d k) : EReal) * R2 (ix2 k j) + ∑ k : Fin 512, (V3 (ix2 d k) : EReal) * R3 (ix2 k j) := by
  unfold k0_pay2 k0_pay152 k0_pay90 k0_pay46
  pointwise

/-- A slice's scores are the block's. -/
theorem ext_at (o : ℕ) (hsl) (st : FVec Ideal S512x512 .f32) (h : Vec Ideal S1024x512 .bf16) (u : Vec Ideal S2048x1024 .bf16) (b : ℕ)
    (hb : b + 512 ≤ 2048) (ho : o + 128 ≤ 512)
    (hst : ∀ a j : Fin 512, st (ix2 a j) = scoreB h u ⟨b + a.val, by omega⟩ j) (a : Fin 128) (j : Fin 512) :
    extractStridedSlice S128x512 ![o, 0] st hsl (ix2 a j) = scoreB h u ⟨b + o + a.val, by omega⟩ j := by
  have hx : extractStridedSlice S128x512 ![o, 0] st hsl (ix2 a j) = st (ix2 (⟨o + a.val, by omega⟩ : Fin 512) j) :=
    congrArg st (funext fun x => Fin.ext (match x with
      | ⟨0, _⟩ => by show o + a.val = o + a.val; rfl
      | ⟨1, _⟩ => by show 0 + j.val = j.val; omega))
  rw [hx, hst]
  exact congrArg (scoreB h u · j) (Fin.ext (by dsimp only; omega))

/-- The scores of round 0. -/
theorem st_0 (h : Vec Ideal S1024x512 .bf16) (u : Vec Ideal S2048x1024 .bf16) (inb) (a j : Fin 512) :
    k0_pay5 (View.ld u (Rect.unit (s := S2048x1024) ![0, 0] ![512, 1024] inb)) h (ix2 a j) = scoreB h u ⟨0 + a.val, by omega⟩ j := by
  unfold k0_pay5 scoreB
  pointwise

/-- The scores of round 1. -/
theorem st_1 (h : Vec Ideal S1024x512 .bf16) (u : Vec Ideal S2048x1024 .bf16) (inb) (a j : Fin 512) :
    k0_pay6 (View.ld u (Rect.unit (s := S2048x1024) ![512, 0] ![512, 1024] inb)) h (ix2 a j) = scoreB h u ⟨512 + a.val, by omega⟩ j := by
  unfold k0_pay6 scoreB
  pointwise

/-- The scores of round 2. -/
theorem st_2 (h : Vec Ideal S1024x512 .bf16) (u : Vec Ideal S2048x1024 .bf16) (inb) (a j : Fin 512) :
    k0_pay47 (View.ld u (Rect.unit (s := S2048x1024) ![1024, 0] ![512, 1024] inb)) h (ix2 a j) = scoreB h u ⟨1024 + a.val, by omega⟩ j := by
  unfold k0_pay47 scoreB
  pointwise

/-- The scores of round 3. -/
theorem st_3 (h : Vec Ideal S1024x512 .bf16) (u : Vec Ideal S2048x1024 .bf16) (inb) (a j : Fin 512) :
    k0_pay91 (View.ld u (Rect.unit (s := S2048x1024) ![1536, 0] ![512, 1024] inb)) h (ix2 a j) = scoreB h u ⟨1536 + a.val, by omega⟩ j := by
  unfold k0_pay91 scoreB
  pointwise

/-- What a point adds to the accumulator: its 2048 experts' sum. -/
theorem point_at (v : Vec Ideal S1024x2048 .bf16) (P : Fin 2048 → Fin 512 → EReal) (A : FVec Ideal S1024x512 .f32) (R0 R1 R2 R3 : Vec Ideal S512x512 .bf16)
    (i0 i1 i2 i3) (h0 : ∀ k j : Fin 512, R0 (ix2 k j) = P ⟨0 + k.val, by omega⟩ j) (h1 : ∀ k j : Fin 512, R1 (ix2 k j) = P ⟨512 + k.val, by omega⟩ j)
    (h2 : ∀ k j : Fin 512, R2 (ix2 k j) = P ⟨1024 + k.val, by omega⟩ j) (h3 : ∀ k j : Fin 512, R3 (ix2 k j) = P ⟨1536 + k.val, by omega⟩ j)
    (d : Fin 1024) (j : Fin 512) :
    k0_pay2 (k0_pay152 (k0_pay90 (k0_pay46 A (View.ld v (Rect.unit (s := S1024x2048) ![0, 0] ![1024, 512] i0)) R0)
        (View.ld v (Rect.unit (s := S1024x2048) ![0, 512] ![1024, 512] i1)) R1)
        (View.ld v (Rect.unit (s := S1024x2048) ![0, 1024] ![1024, 512] i2)) R2)
        (View.ld v (Rect.unit (s := S1024x2048) ![0, 1536] ![1024, 512] i3)) R3 (ix2 d j)
      = (A (ix2 d j) : EReal) + ∑ a : Fin 2048, (v (ix2 d a) : EReal) * P a j := by
  have hs : ∑ s : Fin 4, ∑ k : Fin 512, (v (ix2 d (⟨s.val * 512 + k.val, by omega⟩ : Fin 2048)) : EReal) * P ⟨s.val * 512 + k.val, by omega⟩ j
      = ∑ a : Fin 2048, (v (ix2 d a) : EReal) * P a j := Fin.sum_mul_add_congr fun s k hl => rfl
  rw [rounds_at, ← hs, Fin.sum_univ_four]
  simp only [h0, h1, h2, h3, ← add_assoc]
  pointwise

end Cert.Kernel4Ideal.At

end
-- ==== Proof.ExPoint.lean ====
module

public import proofs.«01_k».proof.Proof.ExBlock
public import Idealize.ShloMosaic.Lib.Pipeline.ReadBack

@[expose] public section

set_option maxRecDepth 16384

/-! # What each grid point of the experts' kernel leaves in its accumulator and its output block. -/

noncomputable section

open Idealize.ShloMosaic Idealize.ShloMosaic.TcCoe Idealize.SL.Sem

namespace Cert.Kernel4Ideal.At

open Cert.Kernel4Ideal Cert.Kernel4Ideal.Gen

variable (m : (ℓ : Loc nD τ sig) → Buf (Elt Ideal) ℓ)

/-- The weights of a point's experts. -/
def wtP (c : Dev nD) (t : Fin cfg0.N) : Fin 2048 → Fin 512 → EReal :=
  wtB (grid0.coords t 1) (iblk m c 0 t) (iblk m c 1 t) (iblk m c 3 t) (iblk m c 4 t) (iblk m c 5 t) (iblk m c 6 t)

/-- The gated residual stream of an accumulated block. -/
theorem pay3_at (x : FVec Ideal S512x1024 .f32) (g : FVec Ideal S1x1x1024 .f32) (a : FVec Ideal S1024x512 .f32) (i : Fin 512) (d : Fin 1024) :
    k0_pay3 x g a (ix2 i d) = x (ix2 i d) + g (ix3 0 0 d) * a (ix2 d i) := by
  unfold k0_pay3
  pointwise

/-- A point's part of the experts' sum. -/
def part (c : Dev nD) (t : Fin cfg0.N) (d : Fin 1024) (j : Fin 512) : EReal :=
  ∑ a : Fin 2048, ((show FVec Ideal S1024x2048 .bf16 from iblk m c 2 t) (ix2 d a) : EReal) * wtP m c t a j

/-- The accumulator after a point that is neither first nor last of its tokens. -/
theorem accB (c : Dev nD) (t : Fin cfg0.N) (h0 : ¬t.val % 8 = 0) (h1 : ¬t.val % 8 = 7) (d : Fin 1024) (j : Fin 512) :
    (outsAt0 m c t.val t.isLt).2 (ix2 d j)
      = ((outsAt0 m c (t.val - 1) (Nat.lt_of_le_of_lt (Nat.sub_le _ _) t.isLt)).2 (ix2 d j) : EReal) + part m c t d j := by
  rw [outsAt0_B m c t h0 h1]
  frame_out
  refine (point_at (iblk m c 2 t) (wtP m c t) _ _ _ _ _ _ _ _ _ ?_ ?_ ?_ ?_ d j).trans ?_
  · intro k j
    refine read4 (wtP m c t) 0 (by omega) _ _ _ _ _ _ _ _ _ _ ?_ ?_ ?_ ?_ k j
    · exact (fun a b => (congrFun (pay_0 _ _ _ _ _ _ _ _ _ _ _ _ _ _ _ _ _ _ _ _ _ _ _ _ _ _ _ _ _ _ _ _ _) _).trans (slice_at (grid0.coords t) 0 0 _ (iblk m c 0 t) (iblk m c 1 t) (iblk m c 3 t) (iblk m c 4 t) (iblk m c 5 t) (iblk m c 6 t) (ext_at 0 _ _ _ _ 0 (by omega) (by omega) (st_0 _ _ _)) a b))
    · exact (fun a b => (congrFun (pay_1 _ _ _ _ _ _ _ _ _ _ _ _ _ _ _ _ _ _ _ _ _ _ _ _ _ _ _ _ _ _ _ _ _) _).trans (slice_at (grid0.coords t) 0 1 _ (iblk m c 0 t) (iblk m c 1 t) (iblk m c 3 t) (iblk m c 4 t) (iblk m c 5 t) (iblk m c 6 t) (ext_at 128 _ _ _ _ 0 (by omega) (by omega) (st_0 _ _ _)) a b))
    · exact (fun a b => (congrFun (pay_2 _ _ _ _ _ _ _ _ _ _ _ _ _ _ _ _ _ _ _ _ _ _ _ _ _ _ _ _ _ _ _ _ _) _).trans (slice_at (grid0.coords t) 0 2 _ (iblk m c 0 t) (iblk m c 1 t) (iblk m c 3 t) (iblk m c 4 t) (iblk m c 5 t) (iblk m c 6 t) (ext_at 256 _ _ _ _ 0 (by omega) (by omega) (st_0 _ _ _)) a b))
    · exact (fun a b => (congrFun (pay_3 _ _ _ _ _ _ _ _ _ _ _ _ _ _ _ _ _ _ _ _ _ _ _ _ _ _ _ _ _ _ _ _ _) _).trans (slice_at (grid0.coords t) 0 3 _ (iblk m c 0 t) (iblk m c 1 t) (iblk m c 3 t) (iblk m c 4 t) (iblk m c 5 t) (iblk m c 6 t) (ext_at 384 _ _ _ _ 0 (by omega) (by omega) (st_0 _ _ _)) a b))
  · intro k j
    refine read4 (wtP m c t) 512 (by omega) _ _ _ _ _ _ _ _ _ _ ?_ ?_ ?_ ?_ k j
    · exact (fun a b => (congrFun (pay_4 _ _ _ _ _ _ _ _ _ _ _ _ _ _ _ _ _ _ _ _ _ _ _ _ _ _ _ _ _ _ _ _ _) _).trans (slice_at (grid0.coords t) 1 0 _ (iblk m c 0 t) (iblk m c 1 t) (iblk m c 3 t) (iblk m c 4 t) (iblk m c 5 t) (iblk m c 6 t) (ext_at 0 _ _ _ _ 512 (by omega) (by omega) (st_1 _ _ _)) a b))
    · exact (fun a b => (congrFun (pay_5 _ _ _ _ _ _ _ _ _ _ _ _ _ _ _ _ _ _ _ _ _ _ _ _ _ _ _ _ _ _ _ _ _) _).trans (slice_at (grid0.coords t) 1 1 _ (iblk m c 0 t) (iblk m c 1 t) (iblk m c 3 t) (iblk m c 4 t) (iblk m c 5 t) (iblk m c 6 t) (ext_at 128 _ _ _ _ 512 (by omega) (by omega) (st_1 _ _ _)) a b))
    · exact (fun a b => (congrFun (pay_6 _ _ _ _ _ _ _ _ _ _ _ _ _ _ _ _ _ _ _ _ _ _ _ _ _ _ _ _ _ _ _ _ _) _).trans (slice_at (grid0.coords t) 1 2 _ (iblk m c 0 t) (iblk m c 1 t) (iblk m c 3 t) (iblk m c 4 t) (iblk m c 5 t) (iblk m c 6 t) (ext_at 256 _ _ _ _ 512 (by omega) (by omega) (st_1 _ _ _)) a b))
    · exact (fun a b => (congrFun (pay_7 _ _ _ _ _ _ _ _ _ _ _ _ _ _ _ _ _ _ _ _ _ _ _ _ _ _ _ _ _ _ _ _ _) _).trans (slice_at (grid0.coords t) 1 3 _ (iblk m c 0 t) (iblk m c 1 t) (iblk m c 3 t) (iblk m c 4 t) (iblk m c 5 t) (iblk m c 6 t) (ext_at 384 _ _ _ _ 512 (by omega) (by omega) (st_1 _ _ _)) a b))
  · intro k j
    refine read4 (wtP m c t) 1024 (by omega) _ _ _ _ _ _ _ _ _ _ ?_ ?_ ?_ ?_ k j
    · exact (fun a b => (congrFun (pay_8 _ _ _ _ _ _ _ _ _ _ _ _ _ _ _ _ _ _ _ _ _ _ _ _ _ _ _ _ _ _ _ _ _) _).trans (slice_at (grid0.coords t) 2 0 _ (iblk m c 0 t) (iblk m c 1 t) (iblk m c 3 t) (iblk m c 4 t) (iblk m c 5 t) (iblk m c 6 t) (ext_at 0 _ _ _ _ 1024 (by omega) (by omega) (st_2 _ _ _)) a b))
    · exact (fun a b => (congrFun (pay_9 _ _ _ _ _ _ _ _ _ _ _ _ _ _ _ _ _ _ _ _ _ _ _ _ _ _ _ _ _ _ _ _ _) _).trans (slice_at (grid0.coords t) 2 1 _ (iblk m c 0 t) (iblk m c 1 t) (iblk m c 3 t) (iblk m c 4 t) (iblk m c 5 t) (iblk m c 6 t) (ext_at 128 _ _ _ _ 1024 (by omega) (by omega) (st_2 _ _ _)) a b))
    · exact (fun a b => (congrFun (pay_10 _ _ _ _ _ _ _ _ _ _ _ _ _ _ _ _ _ _ _ _ _ _ _ _ _ _ _ _ _ _ _ _ _) _).trans (slice_at (grid0.coords t) 2 2 _ (iblk m c 0 t) (iblk m c 1 t) (iblk m c 3 t) (iblk m c 4 t) (iblk m c 5 t) (iblk m c 6 t) (ext_at 256 _ _ _ _ 1024 (by omega) (by omega) (st_2 _ _ _)) a b))
    · exact (fun a b => (congrFun (pay_11 _ _ _ _ _ _ _ _ _ _ _ _ _ _ _ _ _ _ _ _ _ _ _ _ _ _ _ _ _ _ _ _ _) _).trans (slice_at (grid0.coords t) 2 3 _ (iblk m c 0 t) (iblk m c 1 t) (iblk m c 3 t) (iblk m c 4 t) (iblk m c 5 t) (iblk m c 6 t) (ext_at 384 _ _ _ _ 1024 (by omega) (by omega) (st_2 _ _ _)) a b))
  · intro k j
    refine read4 (wtP m c t) 1536 (by omega) _ _ _ _ _ _ _ _ _ _ ?_ ?_ ?_ ?_ k j
    · exact (fun a b => (congrFun (pay_12 _ _ _ _ _ _ _ _ _ _ _ _ _ _ _ _ _ _ _ _ _ _ _ _ _ _ _ _ _ _ _ _ _) _).trans (slice_at (grid0.coords t) 3 0 _ (iblk m c 0 t) (iblk m c 1 t) (iblk m c 3 t) (iblk m c 4 t) (iblk m c 5 t) (iblk m c 6 t) (ext_at 0 _ _ _ _ 1536 (by omega) (by omega) (st_3 _ _ _)) a b))
    · exact (fun a b => (congrFun (pay_13 _ _ _ _ _ _ _ _ _ _ _ _ _ _ _ _ _ _ _ _ _ _ _ _ _ _ _ _ _ _ _ _ _) _).trans (slice_at (grid0.coords t) 3 1 _ (iblk m c 0 t) (iblk m c 1 t) (iblk m c 3 t) (iblk m c 4 t) (iblk m c 5 t) (iblk m c 6 t) (ext_at 128 _ _ _ _ 1536 (by omega) (by omega) (st_3 _ _ _)) a b))
    · exact (fun a b => (congrFun (pay_14 _ _ _ _ _ _ _ _ _ _ _ _ _ _ _ _ _ _ _ _ _ _ _ _ _ _ _ _ _ _ _ _ _) _).trans (slice_at (grid0.coords t) 3 2 _ (iblk m c 0 t) (iblk m c 1 t) (iblk m c 3 t) (iblk m c 4 t) (iblk m c 5 t) (iblk m c 6 t) (ext_at 256 _ _ _ _ 1536 (by omega) (by omega) (st_3 _ _ _)) a b))
    · exact (fun a b => (congrFun (pay_15 _ _ _ _ _ _ _ _ _ _ _ _ _ _ _ _ _ _ _ _ _ _ _ _ _ _ _ _ _ _ _ _ _) _).trans (slice_at (grid0.coords t) 3 3 _ (iblk m c 0 t) (iblk m c 1 t) (iblk m c 3 t) (iblk m c 4 t) (iblk m c 5 t) (iblk m c 6 t) (ext_at 384 _ _ _ _ 1536 (by omega) (by omega) (st_3 _ _ _)) a b))
  rw [read_unread_whole]
  rfl

/-- The accumulator after the first point of its tokens. -/
theorem accA (c : Dev nD) (t : Fin cfg0.N) (h0 : t.val % 8 = 0) (h1 : ¬t.val % 8 = 7) (d : Fin 1024) (j : Fin 512) :
    (outsAt0 m c t.val t.isLt).2 (ix2 d j) = (0 : EReal) + part m c t d j := by
  rw [outsAt0_A m c t h0 h1]
  frame_out
  refine (point_at (iblk m c 2 t) (wtP m c t) _ _ _ _ _ _ _ _ _ ?_ ?_ ?_ ?_ d j).trans ?_
  · intro k j
    refine read4 (wtP m c t) 0 (by omega) _ _ _ _ _ _ _ _ _ _ ?_ ?_ ?_ ?_ k j
    · exact (fun a b => (congrFun (pay_0 _ _ _ _ _ _ _ _ _ _ _ _ _ _ _ _ _ _ _ _ _ _ _ _ _ _ _ _ _ _ _ _ _) _).trans (slice_at (grid0.coords t) 0 0 _ (iblk m c 0 t) (iblk m c 1 t) (iblk m c 3 t) (iblk m c 4 t) (iblk m c 5 t) (iblk m c 6 t) (ext_at 0 _ _ _ _ 0 (by omega) (by omega) (st_0 _ _ _)) a b))
    · exact (fun a b => (congrFun (pay_1 _ _ _ _ _ _ _ _ _ _ _ _ _ _ _ _ _ _ _ _ _ _ _ _ _ _ _ _ _ _ _ _ _) _).trans (slice_at (grid0.coords t) 0 1 _ (iblk m c 0 t) (iblk m c 1 t) (iblk m c 3 t) (iblk m c 4 t) (iblk m c 5 t) (iblk m c 6 t) (ext_at 128 _ _ _ _ 0 (by omega) (by omega) (st_0 _ _ _)) a b))
    · exact (fun a b => (congrFun (pay_2 _ _ _ _ _ _ _ _ _ _ _ _ _ _ _ _ _ _ _ _ _ _ _ _ _ _ _ _ _ _ _ _ _) _).trans (slice_at (grid0.coords t) 0 2 _ (iblk m c 0 t) (iblk m c 1 t) (iblk m c 3 t) (iblk m c 4 t) (iblk m c 5 t) (iblk m c 6 t) (ext_at 256 _ _ _ _ 0 (by omega) (by omega) (st_0 _ _ _)) a b))
    · exact (fun a b => (congrFun (pay_3 _ _ _ _ _ _ _ _ _ _ _ _ _ _ _ _ _ _ _ _ _ _ _ _ _ _ _ _ _ _ _ _ _) _).trans (slice_at (grid0.coords t) 0 3 _ (iblk m c 0 t) (iblk m c 1 t) (iblk m c 3 t) (iblk m c 4 t) (iblk m c 5 t) (iblk m c 6 t) (ext_at 384 _ _ _ _ 0 (by omega) (by omega) (st_0 _ _ _)) a b))
  · intro k j
    refine read4 (wtP m c t) 512 (by omega) _ _ _ _ _ _ _ _ _ _ ?_ ?_ ?_ ?_ k j
    · exact (fun a b => (congrFun (pay_4 _ _ _ _ _ _ _ _ _ _ _ _ _ _ _ _ _ _ _ _ _ _ _ _ _ _ _ _ _ _ _ _ _) _).trans (slice_at (grid0.coords t) 1 0 _ (iblk m c 0 t) (iblk m c 1 t) (iblk m c 3 t) (iblk m c 4 t) (iblk m c 5 t) (iblk m c 6 t) (ext_at 0 _ _ _ _ 512 (by omega) (by omega) (st_1 _ _ _)) a b))
    · exact (fun a b => (congrFun (pay_5 _ _ _ _ _ _ _ _ _ _ _ _ _ _ _ _ _ _ _ _ _ _ _ _ _ _ _ _ _ _ _ _ _) _).trans (slice_at (grid0.coords t) 1 1 _ (iblk m c 0 t) (iblk m c 1 t) (iblk m c 3 t) (iblk m c 4 t) (iblk m c 5 t) (iblk m c 6 t) (ext_at 128 _ _ _ _ 512 (by omega) (by omega) (st_1 _ _ _)) a b))
    · exact (fun a b => (congrFun (pay_6 _ _ _ _ _ _ _ _ _ _ _ _ _ _ _ _ _ _ _ _ _ _ _ _ _ _ _ _ _ _ _ _ _) _).trans (slice_at (grid0.coords t) 1 2 _ (iblk m c 0 t) (iblk m c 1 t) (iblk m c 3 t) (iblk m c 4 t) (iblk m c 5 t) (iblk m c 6 t) (ext_at 256 _ _ _ _ 512 (by omega) (by omega) (st_1 _ _ _)) a b))
    · exact (fun a b => (congrFun (pay_7 _ _ _ _ _ _ _ _ _ _ _ _ _ _ _ _ _ _ _ _ _ _ _ _ _ _ _ _ _ _ _ _ _) _).trans (slice_at (grid0.coords t) 1 3 _ (iblk m c 0 t) (iblk m c 1 t) (iblk m c 3 t) (iblk m c 4 t) (iblk m c 5 t) (iblk m c 6 t) (ext_at 384 _ _ _ _ 512 (by omega) (by omega) (st_1 _ _ _)) a b))
  · intro k j
    refine read4 (wtP m c t) 1024 (by omega) _ _ _ _ _ _ _ _ _ _ ?_ ?_ ?_ ?_ k j
    · exact (fun a b => (congrFun (pay_8 _ _ _ _ _ _ _ _ _ _ _ _ _ _ _ _ _ _ _ _ _ _ _ _ _ _ _ _ _ _ _ _ _) _).trans (slice_at (grid0.coords t) 2 0 _ (iblk m c 0 t) (iblk m c 1 t) (iblk m c 3 t) (iblk m c 4 t) (iblk m c 5 t) (iblk m c 6 t) (ext_at 0 _ _ _ _ 1024 (by omega) (by omega) (st_2 _ _ _)) a b))
    · exact (fun a b => (congrFun (pay_9 _ _ _ _ _ _ _ _ _ _ _ _ _ _ _ _ _ _ _ _ _ _ _ _ _ _ _ _ _ _ _ _ _) _).trans (slice_at (grid0.coords t) 2 1 _ (iblk m c 0 t) (iblk m c 1 t) (iblk m c 3 t) (iblk m c 4 t) (iblk m c 5 t) (iblk m c 6 t) (ext_at 128 _ _ _ _ 1024 (by omega) (by omega) (st_2 _ _ _)) a b))
    · exact (fun a b => (congrFun (pay_10 _ _ _ _ _ _ _ _ _ _ _ _ _ _ _ _ _ _ _ _ _ _ _ _ _ _ _ _ _ _ _ _ _) _).trans (slice_at (grid0.coords t) 2 2 _ (iblk m c 0 t) (iblk m c 1 t) (iblk m c 3 t) (iblk m c 4 t) (iblk m c 5 t) (iblk m c 6 t) (ext_at 256 _ _ _ _ 1024 (by omega) (by omega) (st_2 _ _ _)) a b))
    · exact (fun a b => (congrFun (pay_11 _ _ _ _ _ _ _ _ _ _ _ _ _ _ _ _ _ _ _ _ _ _ _ _ _ _ _ _ _ _ _ _ _) _).trans (slice_at (grid0.coords t) 2 3 _ (iblk m c 0 t) (iblk m c 1 t) (iblk m c 3 t) (iblk m c 4 t) (iblk m c 5 t) (iblk m c 6 t) (ext_at 384 _ _ _ _ 1024 (by omega) (by omega) (st_2 _ _ _)) a b))
  · intro k j
    refine read4 (wtP m c t) 1536 (by omega) _ _ _ _ _ _ _ _ _ _ ?_ ?_ ?_ ?_ k j
    · exact (fun a b => (congrFun (pay_12 _ _ _ _ _ _ _ _ _ _ _ _ _ _ _ _ _ _ _ _ _ _ _ _ _ _ _ _ _ _ _ _ _) _).trans (slice_at (grid0.coords t) 3 0 _ (iblk m c 0 t) (iblk m c 1 t) (iblk m c 3 t) (iblk m c 4 t) (iblk m c 5 t) (iblk m c 6 t) (ext_at 0 _ _ _ _ 1536 (by omega) (by omega) (st_3 _ _ _)) a b))
    · exact (fun a b => (congrFun (pay_13 _ _ _ _ _ _ _ _ _ _ _ _ _ _ _ _ _ _ _ _ _ _ _ _ _ _ _ _ _ _ _ _ _) _).trans (slice_at (grid0.coords t) 3 1 _ (iblk m c 0 t) (iblk m c 1 t) (iblk m c 3 t) (iblk m c 4 t) (iblk m c 5 t) (iblk m c 6 t) (ext_at 128 _ _ _ _ 1536 (by omega) (by omega) (st_3 _ _ _)) a b))
    · exact (fun a b => (congrFun (pay_14 _ _ _ _ _ _ _ _ _ _ _ _ _ _ _ _ _ _ _ _ _ _ _ _ _ _ _ _ _ _ _ _ _) _).trans (slice_at (grid0.coords t) 3 2 _ (iblk m c 0 t) (iblk m c 1 t) (iblk m c 3 t) (iblk m c 4 t) (iblk m c 5 t) (iblk m c 6 t) (ext_at 256 _ _ _ _ 1536 (by omega) (by omega) (st_3 _ _ _)) a b))
    · exact (fun a b => (congrFun (pay_15 _ _ _ _ _ _ _ _ _ _ _ _ _ _ _ _ _ _ _ _ _ _ _ _ _ _ _ _ _ _ _ _ _) _).trans (slice_at (grid0.coords t) 3 3 _ (iblk m c 0 t) (iblk m c 1 t) (iblk m c 3 t) (iblk m c 4 t) (iblk m c 5 t) (iblk m c 6 t) (ext_at 384 _ _ _ _ 1536 (by omega) (by omega) (st_3 _ _ _)) a b))
  refine congrArg (· + part m c t d j) ?_
  unfold k0_pay4
  pointwise [Ideal.ofBits_zero_f32]

/-- The accumulator after the last point of its tokens. -/
theorem accC (c : Dev nD) (t : Fin cfg0.N) (h0 : ¬t.val % 8 = 0) (h1 : t.val % 8 = 7) (d : Fin 1024) (j : Fin 512) :
    (outsAt0 m c t.val t.isLt).2 (ix2 d j)
      = ((outsAt0 m c (t.val - 1) (Nat.lt_of_le_of_lt (Nat.sub_le _ _) t.isLt)).2 (ix2 d j) : EReal) + part m c t d j := by
  rw [outsAt0_C m c t h0 h1]
  frame_out
  refine (point_at (iblk m c 2 t) (wtP m c t) _ _ _ _ _ _ _ _ _ ?_ ?_ ?_ ?_ d j).trans ?_
  · intro k j
    refine read4 (wtP m c t) 0 (by omega) _ _ _ _ _ _ _ _ _ _ ?_ ?_ ?_ ?_ k j
    · exact (fun a b => (congrFun (pay_0 _ _ _ _ _ _ _ _ _ _ _ _ _ _ _ _ _ _ _ _ _ _ _ _ _ _ _ _ _ _ _ _ _) _).trans (slice_at (grid0.coords t) 0 0 _ (iblk m c 0 t) (iblk m c 1 t) (iblk m c 3 t) (iblk m c 4 t) (iblk m c 5 t) (iblk m c 6 t) (ext_at 0 _ _ _ _ 0 (by omega) (by omega) (st_0 _ _ _)) a b))
    · exact (fun a b => (congrFun (pay_1 _ _ _ _ _ _ _ _ _ _ _ _ _ _ _ _ _ _ _ _ _ _ _ _ _ _ _ _ _ _ _ _ _) _).trans (slice_at (grid0.coords t) 0 1 _ (iblk m c 0 t) (iblk m c 1 t) (iblk m c 3 t) (iblk m c 4 t) (iblk m c 5 t) (iblk m c 6 t) (ext_at 128 _ _ _ _ 0 (by omega) (by omega) (st_0 _ _ _)) a b))
    · exact (fun a b => (congrFun (pay_2 _ _ _ _ _ _ _ _ _ _ _ _ _ _ _ _ _ _ _ _ _ _ _ _ _ _ _ _ _ _ _ _ _) _).trans (slice_at (grid0.coords t) 0 2 _ (iblk m c 0 t) (iblk m c 1 t) (iblk m c 3 t) (iblk m c 4 t) (iblk m c 5 t) (iblk m c 6 t) (ext_at 256 _ _ _ _ 0 (by omega) (by omega) (st_0 _ _ _)) a b))
    · exact (fun a b => (congrFun (pay_3 _ _ _ _ _ _ _ _ _ _ _ _ _ _ _ _ _ _ _ _ _ _ _ _ _ _ _ _ _ _ _ _ _) _).trans (slice_at (grid0.coords t) 0 3 _ (iblk m c 0 t) (iblk m c 1 t) (iblk m c 3 t) (iblk m c 4 t) (iblk m c 5 t) (iblk m c 6 t) (ext_at 384 _ _ _ _ 0 (by omega) (by omega) (st_0 _ _ _)) a b))
  · intro k j
    refine read4 (wtP m c t) 512 (by omega) _ _ _ _ _ _ _ _ _ _ ?_ ?_ ?_ ?_ k j
    · exact (fun a b => (congrFun (pay_4 _ _ _ _ _ _ _ _ _ _ _ _ _ _ _ _ _ _ _ _ _ _ _ _ _ _ _ _ _ _ _ _ _) _).trans (slice_at (grid0.coords t) 1 0 _ (iblk m c 0 t) (iblk m c 1 t) (iblk m c 3 t) (iblk m c 4 t) (iblk m c 5 t) (iblk m c 6 t) (ext_at 0 _ _ _ _ 512 (by omega) (by omega) (st_1 _ _ _)) a b))
    · exact (fun a b => (congrFun (pay_5 _ _ _ _ _ _ _ _ _ _ _ _ _ _ _ _ _ _ _ _ _ _ _ _ _ _ _ _ _ _ _ _ _) _).trans (slice_at (grid0.coords t) 1 1 _ (iblk m c 0 t) (iblk m c 1 t) (iblk m c 3 t) (iblk m c 4 t) (iblk m c 5 t) (iblk m c 6 t) (ext_at 128 _ _ _ _ 512 (by omega) (by omega) (st_1 _ _ _)) a b))
    · exact (fun a b => (congrFun (pay_6 _ _ _ _ _ _ _ _ _ _ _ _ _ _ _ _ _ _ _ _ _ _ _ _ _ _ _ _ _ _ _ _ _) _).trans (slice_at (grid0.coords t) 1 2 _ (iblk m c 0 t) (iblk m c 1 t) (iblk m c 3 t) (iblk m c 4 t) (iblk m c 5 t) (iblk m c 6 t) (ext_at 256 _ _ _ _ 512 (by omega) (by omega) (st_1 _ _ _)) a b))
    · exact (fun a b => (congrFun (pay_7 _ _ _ _ _ _ _ _ _ _ _ _ _ _ _ _ _ _ _ _ _ _ _ _ _ _ _ _ _ _ _ _ _) _).trans (slice_at (grid0.coords t) 1 3 _ (iblk m c 0 t) (iblk m c 1 t) (iblk m c 3 t) (iblk m c 4 t) (iblk m c 5 t) (iblk m c 6 t) (ext_at 384 _ _ _ _ 512 (by omega) (by omega) (st_1 _ _ _)) a b))
  · intro k j
    refine read4 (wtP m c t) 1024 (by omega) _ _ _ _ _ _ _ _ _ _ ?_ ?_ ?_ ?_ k j
    · exact (fun a b => (congrFun (pay_8 _ _ _ _ _ _ _ _ _ _ _ _ _ _ _ _ _ _ _ _ _ _ _ _ _ _ _ _ _ _ _ _ _) _).trans (slice_at (grid0.coords t) 2 0 _ (iblk m c 0 t) (iblk m c 1 t) (iblk m c 3 t) (iblk m c 4 t) (iblk m c 5 t) (iblk m c 6 t) (ext_at 0 _ _ _ _ 1024 (by omega) (by omega) (st_2 _ _ _)) a b))
    · exact (fun a b => (congrFun (pay_9 _ _ _ _ _ _ _ _ _ _ _ _ _ _ _ _ _ _ _ _ _ _ _ _ _ _ _ _ _ _ _ _ _) _).trans (slice_at (grid0.coords t) 2 1 _ (iblk m c 0 t) (iblk m c 1 t) (iblk m c 3 t) (iblk m c 4 t) (iblk m c 5 t) (iblk m c 6 t) (ext_at 128 _ _ _ _ 1024 (by omega) (by omega) (st_2 _ _ _)) a b))
    · exact (fun a b => (congrFun (pay_10 _ _ _ _ _ _ _ _ _ _ _ _ _ _ _ _ _ _ _ _ _ _ _ _ _ _ _ _ _ _ _ _ _) _).trans (slice_at (grid0.coords t) 2 2 _ (iblk m c 0 t) (iblk m c 1 t) (iblk m c 3 t) (iblk m c 4 t) (iblk m c 5 t) (iblk m c 6 t) (ext_at 256 _ _ _ _ 1024 (by omega) (by omega) (st_2 _ _ _)) a b))
    · exact (fun a b => (congrFun (pay_11 _ _ _ _ _ _ _ _ _ _ _ _ _ _ _ _ _ _ _ _ _ _ _ _ _ _ _ _ _ _ _ _ _) _).trans (slice_at (grid0.coords t) 2 3 _ (iblk m c 0 t) (iblk m c 1 t) (iblk m c 3 t) (iblk m c 4 t) (iblk m c 5 t) (iblk m c 6 t) (ext_at 384 _ _ _ _ 1024 (by omega) (by omega) (st_2 _ _ _)) a b))
  · intro k j
    refine read4 (wtP m c t) 1536 (by omega) _ _ _ _ _ _ _ _ _ _ ?_ ?_ ?_ ?_ k j
    · exact (fun a b => (congrFun (pay_12 _ _ _ _ _ _ _ _ _ _ _ _ _ _ _ _ _ _ _ _ _ _ _ _ _ _ _ _ _ _ _ _ _) _).trans (slice_at (grid0.coords t) 3 0 _ (iblk m c 0 t) (iblk m c 1 t) (iblk m c 3 t) (iblk m c 4 t) (iblk m c 5 t) (iblk m c 6 t) (ext_at 0 _ _ _ _ 1536 (by omega) (by omega) (st_3 _ _ _)) a b))
    · exact (fun a b => (congrFun (pay_13 _ _ _ _ _ _ _ _ _ _ _ _ _ _ _ _ _ _ _ _ _ _ _ _ _ _ _ _ _ _ _ _ _) _).trans (slice_at (grid0.coords t) 3 1 _ (iblk m c 0 t) (iblk m c 1 t) (iblk m c 3 t) (iblk m c 4 t) (iblk m c 5 t) (iblk m c 6 t) (ext_at 128 _ _ _ _ 1536 (by omega) (by omega) (st_3 _ _ _)) a b))
    · exact (fun a b => (congrFun (pay_14 _ _ _ _ _ _ _ _ _ _ _ _ _ _ _ _ _ _ _ _ _ _ _ _ _ _ _ _ _ _ _ _ _) _).trans (slice_at (grid0.coords t) 3 2 _ (iblk m c 0 t) (iblk m c 1 t) (iblk m c 3 t) (iblk m c 4 t) (iblk m c 5 t) (iblk m c 6 t) (ext_at 256 _ _ _ _ 1536 (by omega) (by omega) (st_3 _ _ _)) a b))
    · exact (fun a b => (congrFun (pay_15 _ _ _ _ _ _ _ _ _ _ _ _ _ _ _ _ _ _ _ _ _ _ _ _ _ _ _ _ _ _ _ _ _) _).trans (slice_at (grid0.coords t) 3 3 _ (iblk m c 0 t) (iblk m c 1 t) (iblk m c 3 t) (iblk m c 4 t) (iblk m c 5 t) (iblk m c 6 t) (ext_at 384 _ _ _ _ 1536 (by omega) (by omega) (st_3 _ _ _)) a b))
  rw [read_unread_whole]
  rfl

/-- The block written at the last point of its tokens: the gated residual stream, of the accumulator. -/
theorem outC (c : Dev nD) (t : Fin cfg0.N) (h0 : ¬t.val % 8 = 0) (h1 : t.val % 8 = 7) (i : Fin 512) (d : Fin 1024) :
    (outsAt0 m c t.val t.isLt).1 (ix2 i d)
      = ((show FVec Ideal S512x1024 .f32 from iblk m c 7 t) (ix2 i d) : EReal)
        + (show FVec Ideal S1x1x1024 .f32 from iblk m c 8 t) (ix3 0 0 d) * (outsAt0 m c t.val t.isLt).2 (ix2 d i) := by
  rw [outsAt0_C m c t h0 h1]
  frame_out
  refine (pay3_at _ _ _ i d).trans ?_
  rfl

end Cert.Kernel4Ideal.At

end
-- ==== Proof.ExFinal.lean ====
/- The experts' blocks as parts of the argument arrays, and the result array after the run. -/
module

public import proofs.«01_k».proof.Proof.ExPoint
public import proofs.«01_k».proof.Proof.OutFinal

@[expose] public section

set_option maxRecDepth 16384

noncomputable section

open Idealize.ShloMosaic Idealize.ShloMosaic.TcCoe Idealize.SL.Sem
open Idealize.ShloMosaic.Pipeline (Dat)

namespace Cert.Kernel4Ideal.At

open Cert.Kernel4Ideal Cert.Kernel4Ideal.Gen

variable (m : (ℓ : Loc nD τ sig) → Buf (Elt Ideal) ℓ)

/-- The windows' block indices: a block of tokens for each eight points, a block of experts for each point of them. -/
theorem idx : ∀ t : Fin cfg0.N, t.val < 96 ∧ (grid0.coords t 1).val = t.val % 8 ∧ win0_0.index t = ![0, t.val / 8] ∧ win0_1.index t = ![t.val % 8, 0]
    ∧ win0_2.index t = ![0, t.val % 8] ∧ win0_3.index t = ![0, 0, t.val / 8] ∧ win0_4.index t = ![0, 0, t.val / 8] ∧ win0_5.index t = ![0, 0, t.val / 8]
    ∧ win0_6.index t = ![0, 0, t.val / 8] ∧ win0_7.index t = ![t.val / 8, 0]
    ∧ win0_8.index t = ![if t.val / 8 < 8 then 0 else 1 + (t.val / 8 - 8) / 2, 0, 0] ∧ win0_9.index t = ![t.val / 8, 0] :=
  (by decide +kernel : ∀ t : Fin grid0.N, _)

/-- The token of column `i` of point `t`. -/
def tok (t : Fin cfg0.N) (i : Fin 512) : Fin 6144 := ⟨t.val / 8 * 512 + i, by have := (idx t).1; omega⟩

/-- The expert of row `a` of point `t`. -/
def exp (t : Fin cfg0.N) (a : Fin 2048) : Fin 16384 := ⟨t.val % 8 * 2048 + a, by omega⟩

/-- A point's block of the normed tokens. -/
theorem h_blk (c : Dev nD) (t : Fin cfg0.N) (k : Fin 1024) (j : Fin 512) :
    (show FVec Ideal S1024x512 .bf16 from iblk m c 0 t) (ix2 k j) = (show FVec Ideal S1024x6144 .bf16 from m ((c : Thread nD τ).loc main_arg0)) (ix2 k (tok t j)) := by
  unfold tok
  blk_ext [iblk, V, idx t]

/-- A point's block of the first table. -/
theorem u_blk (c : Dev nD) (t : Fin cfg0.N) (a : Fin 2048) (k : Fin 1024) :
    (show FVec Ideal S2048x1024 .bf16 from iblk m c 1 t) (ix2 a k) = (show FVec Ideal S16384x1024 .f32 from m ((c : Thread nD τ).loc main_arg7)) (ix2 (exp t a) k) := by
  unfold exp
  blk_simp [iblk, idx t]
  entry_read
  pointwise
  blk_ext [idx t]

/-- A point's block of the second table, transposed. -/
theorem v_blk (c : Dev nD) (t : Fin cfg0.N) (d : Fin 1024) (a : Fin 2048) :
    (show FVec Ideal S1024x2048 .bf16 from iblk m c 2 t) (ix2 d a) = (show FVec Ideal S16384x1024 .f32 from m ((c : Thread nD τ).loc main_arg8)) (ix2 (exp t a) d) := by
  unfold exp
  blk_simp [iblk, idx t]
  entry_read
  pointwise
  blk_ext [idx t]

/-- A point's block of the ranks. -/
theorem r_blk (c : Dev nD) (t : Fin cfg0.N) (h : Fin 8) (a : Fin 128) (j : Fin 512) :
    (show FVec Ideal S8x128x512 .bf16 from iblk m c 3 t) (ix3 h a j) = (show FVec Ideal S8x128x6144 .bf16 from m ((c : Thread nD τ).loc main_arg1)) (ix3 h a (tok t j)) := by
  unfold tok
  blk_ext [iblk, V, idx t]

/-- A point's block of the first weights. -/
theorem e_blk (c : Dev nD) (t : Fin cfg0.N) (h : Fin 8) (a : Fin 128) (j : Fin 512) :
    (show FVec Ideal S8x128x512 .bf16 from iblk m c 4 t) (ix3 h a j) = (show FVec Ideal S8x128x6144 .bf16 from m ((c : Thread nD τ).loc main_arg2)) (ix3 h a (tok t j)) := by
  unfold tok
  blk_ext [iblk, V, idx t]

/-- A point's block of the limits. -/
theorem l_blk (c : Dev nD) (t : Fin cfg0.N) (h : Fin 8) (a : Fin 128) (j : Fin 512) :
    (show FVec Ideal S8x128x512 .f32 from iblk m c 5 t) (ix3 h a j) = (show FVec Ideal S8x128x6144 .f32 from m ((c : Thread nD τ).loc main_arg3)) (ix3 h a (tok t j)) := by
  unfold tok
  blk_ext [iblk, V, idx t]

/-- A point's block of the second weights. -/
theorem w_blk (c : Dev nD) (t : Fin cfg0.N) (h : Fin 8) (a : Fin 128) (j : Fin 512) :
    (show FVec Ideal S8x128x512 .f32 from iblk m c 6 t) (ix3 h a j) = (show FVec Ideal S8x128x6144 .f32 from m ((c : Thread nD τ).loc main_arg4)) (ix3 h a (tok t j)) := by
  unfold tok
  blk_ext [iblk, V, idx t]

/-- A point's block of the residual stream. -/
theorem x_blk (c : Dev nD) (t : Fin cfg0.N) (i : Fin 512) (d : Fin 1024) :
    (show FVec Ideal S512x1024 .f32 from iblk m c 7 t) (ix2 i d) = (show FVec Ideal S6144x1024 .f32 from m ((c : Thread nD τ).loc main_arg5)) (ix2 (tok t i) d) := by
  unfold tok
  blk_ext [iblk, V, idx t]

/-- A point's block of the gates is its group's. -/
theorem g_blk (c : Dev nD) (t : Fin cfg0.N) (i : Fin 512) (d : Fin 1024) :
    (show FVec Ideal S1x1x1024 .f32 from iblk m c 8 t) (ix3 0 0 d) = (show FVec Ideal S8x1x1024 .f32 from m ((c : Thread nD τ).loc main_arg6)) (ix3 (Cert.Mod.grp (tok t i)) 0 d) := by
  have e := Cert.Mod.grp_block ⟨t.val / 8, by have := (idx t).1; omega⟩ i
  unfold tok
  blk_ext [iblk, V, idx t, e]

/-- One expert's part in a token's sum. -/
def tm (c : Dev nD) (t : Fin 6144) (d : Fin 1024) (a : Fin 16384) : EReal :=
  Cert.Ex.term (show FVec Ideal S1024x6144 .bf16 from m ((c : Thread nD τ).loc main_arg0)) (show FVec Ideal S8x128x6144 .bf16 from m ((c : Thread nD τ).loc main_arg1)) (show FVec Ideal S8x128x6144 .bf16 from m ((c : Thread nD τ).loc main_arg2)) (show FVec Ideal S8x128x6144 .f32 from m ((c : Thread nD τ).loc main_arg3)) (show FVec Ideal S8x128x6144 .f32 from m ((c : Thread nD τ).loc main_arg4)) (show FVec Ideal S16384x1024 .f32 from m ((c : Thread nD τ).loc main_arg7)) (show FVec Ideal S16384x1024 .f32 from m ((c : Thread nD τ).loc main_arg8)) t d a

/-- A point's part is its experts' parts. -/
theorem part_at (c : Dev nD) (t : Fin cfg0.N) (d : Fin 1024) (j : Fin 512) : part m c t d j = ∑ a : Fin 2048, tm m c (tok t j) d (exp t a) := by
  unfold part
  refine Finset.sum_congr rfl fun a _ => ?_
  unfold tm Cert.Ex.term
  refine congrArg₂ (· * ·) (v_blk m c t d a) ?_
  unfold wtP wtB
  refine congrArg₂ (· * ·) ?_ (congrArg Cert.Ex.gelu ?_)
  · unfold gateB Cert.Ex.G
    refine Finset.sum_congr rfl fun h _ => ?_
    have hq : (⟨16 * (grid0.coords t 1).val + a.val / 128, by have := (idx t).2.1; omega⟩ : Fin 128) = ⟨(exp t a).val / 128, by omega⟩ :=
      Fin.ext (by have := (idx t).2.1; unfold exp; dsimp only; omega)
    have ha : (⟨a.val % 128, by omega⟩ : Fin 128) = ⟨(exp t a).val % 128, by omega⟩ := Fin.ext (by unfold exp; dsimp only; omega)
    rw [hq, ha]
    have e1 := r_blk m c t h ⟨(exp t a).val % 128, by omega⟩ j
    have e2 := l_blk m c t h ⟨(exp t a).val / 128, by omega⟩ j
    have e3 := e_blk m c t h ⟨(exp t a).val % 128, by omega⟩ j
    have e4 := w_blk m c t h ⟨(exp t a).val / 128, by omega⟩ j
    dsimp only at e1 e2 e3 e4
    rw [e1, e2, e3, e4]
  · unfold scoreB Cert.Ex.S
    exact Finset.sum_congr rfl fun k _ => congrArg₂ (· * ·) (u_blk m c t a k) (h_blk m c t k j)

/-- The accumulator at the last point of a block of tokens is the sum over all experts. -/
theorem acc_at (c : Dev nD) (t : Fin cfg0.N) (hr : t.val % 8 = 7) (d : Fin 1024) (j : Fin 512) :
    ((outsAt0 m c t.val t.isLt).2 (ix2 d j) : EReal) = ∑ a, tm m c (tok t j) d a := by
  refine (Pipeline.eq_sum_fin_of_reset_step_apply_of_flush (M := EReal) (ι := Fin 1024 × Fin 512) (fun n h p => (outsAt0 m c n h).2 (ix2 p.1 p.2)) 8 (fun _ => 0)
    (fun t p => part m c t p.1 p.2) (fun t h p => accA m c t h (by omega) p.1 p.2)
    (fun t h p => if h1 : t.val % 8 = 7 then accC m c t h h1 p.1 p.2 else accB m c t h h1 p.1 p.2) t hr (d, j)).trans ?_
  rw [zero_add]
  simp only [part_at]
  refine Fin.sum_mul_add_congr fun s k hl => ?_
  have e1 : tok ⟨8 * (t.val / 8) + s.val, Pipeline.run_point_lt_of_flush t hr s⟩ j = tok t j := Fin.ext (by unfold tok; dsimp only; omega)
  have e2 : exp ⟨8 * (t.val / 8) + s.val, Pipeline.run_point_lt_of_flush t hr s⟩ k = ⟨s.val * 2048 + k.val, hl⟩ := Fin.ext (by unfold exp; dsimp only; omega)
  exact congrArg₂ (fun i a => tm m c i d a) e1 e2

/-- The kernel's output of its argument arrays. -/
def om (c : Dev nD) (t : Fin 6144) (d : Fin 1024) : EReal :=
  Cert.Ex.O (show FVec Ideal S1024x6144 .bf16 from m ((c : Thread nD τ).loc main_arg0)) (show FVec Ideal S8x128x6144 .bf16 from m ((c : Thread nD τ).loc main_arg1)) (show FVec Ideal S8x128x6144 .bf16 from m ((c : Thread nD τ).loc main_arg2)) (show FVec Ideal S8x128x6144 .f32 from m ((c : Thread nD τ).loc main_arg3)) (show FVec Ideal S8x128x6144 .f32 from m ((c : Thread nD τ).loc main_arg4)) (show FVec Ideal S6144x1024 .f32 from m ((c : Thread nD τ).loc main_arg5)) (show FVec Ideal S8x1x1024 .f32 from m ((c : Thread nD τ).loc main_arg6)) (show FVec Ideal S16384x1024 .f32 from m ((c : Thread nD τ).loc main_arg7)) (show FVec Ideal S16384x1024 .f32 from m ((c : Thread nD τ).loc main_arg8)) t d

/-- The result array. -/
theorem final (c : Dev nD) : (dats m 0 c).arrAt 9 cfg0.N = Cert.Out.G (om m c) := by
  refine (dats m 0 c).arrAt_eq_of_covers 9 _ (by decide +kernel) fun t hf y => ?_
  blk_simp
  have hr := (flush0_9 t).mp hf
  rw [after0_9]
  obtain ⟨i, j, rfl⟩ : ∃ (i : Fin 512) (j : Fin 1024), y = ix2 i j := ⟨y 0, y 1, eq_ix2 y⟩
  rw [Cert.Out.G_at _ _ (tok t i) j (by unfold tok; blk_simp [idx t]) (by blk_simp [idx t])]
  refine (outC m c t (by omega) hr i j).trans ?_
  unfold om Cert.Ex.O
  exact congrArg₂ (· + ·) (x_blk m c t i j) (congrArg₂ (· * ·) (g_blk m c t i j) (acc_at m c t hr j i))

end Cert.Kernel4Ideal.At

end
-- ==== Proof.ExClaims.lean ====
/- The claims about the experts: the run of the kernel against the run of the reference. -/
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import proofs.«01_k».proof.Proof.ExFinal
public import Idealize.ShloMosaic.Adequacy
public import Idealize.ShloMosaic.Init

@[expose] public section

set_option maxRecDepth 16384

noncomputable section

open Idealize.ShloMosaic Idealize.ShloMosaic.TcCoe Idealize.SL.Sem

namespace Cert.Kernel4Ideal.At

open Cert.Kernel4Ideal Cert.Kernel4Ideal.Gen

/-- The kernel's run leaves the result array at its tokens' outputs and the argument arrays as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = Cert.Out.G (om m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h c).1 9).trans (final m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      ((h c).1 5).trans (((dats m 0 c).arrAt_in 5 rfl _).trans ((A_eq m c 5).trans (V_main_arg3 m c))),
      ((h c).1 6).trans (((dats m 0 c).arrAt_in 6 rfl _).trans ((A_eq m c 6).trans (V_main_arg4 m c))),
      ((h c).1 7).trans (((dats m 0 c).arrAt_in 7 rfl _).trans ((A_eq m c 7).trans (V_main_arg5 m c))),
      ((h c).1 8).trans (((dats m 0 c).arrAt_in 8 rfl _).trans ((A_eq m c 8).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.Kernel4Ideal.At

namespace Cert.Reference4Ideal.At

open Cert.Reference4Ideal Cert.Reference4Ideal.Gen Cert.Reference4Ideal.Value

/-- The reference's output of its argument arrays. -/
def o (m : (ℓ : Loc nD τ sig) → Buf (Elt Ideal) ℓ) (c : Dev nD) : FVec Ideal S6144x1024 .f32 :=
  cat (outp (mix (gate (m ((c.tc : Thread nD τ).loc main_arg1)) (m ((c.tc : Thread nD τ).loc main_arg2)) (m ((c.tc : Thread nD τ).loc main_arg3)) (m ((c.tc : Thread nD τ).loc main_arg4))) (score (m ((c.tc : Thread nD τ).loc main_arg0)) (m ((c.tc : Thread nD τ).loc main_arg7))) (m ((c.tc : Thread nD τ).loc main_arg8))) (m ((c.tc : Thread nD τ).loc main_arg5)) (m ((c.tc : Thread nD τ).loc main_arg6)))
    (outs (mix (gate (m ((c.tc : Thread nD τ).loc main_arg1)) (m ((c.tc : Thread nD τ).loc main_arg2)) (m ((c.tc : Thread nD τ).loc main_arg3)) (m ((c.tc : Thread nD τ).loc main_arg4))) (score (m ((c.tc : Thread nD τ).loc main_arg0)) (m ((c.tc : Thread nD τ).loc main_arg7))) (m ((c.tc : Thread nD τ).loc main_arg8))) (m ((c.tc : Thread nD τ).loc main_arg5)) (m ((c.tc : Thread nD τ).loc main_arg6)))

/-- The generated result is this output. -/
theorem res_eq (m : (ℓ : Loc nD τ sig) → Buf (Elt Ideal) ℓ) (c : Dev nD) : res_main_v47 (F := Ideal) m c = o m c := by
  unfold res_main_v47 o cat outp outs mix act score gate
  rfl

/-- An array of tokens' rows, from its elements. -/
theorem rows (u : FVec Ideal S6144x1024 .f32) (f : Fin 6144 → Fin 1024 → EReal) (h : ∀ i j, u (ix2 i j) = f i j) : u = Cert.Out.G f := by
  funext p
  obtain ⟨i, j, rfl⟩ : ∃ (i : Fin 6144) (j : Fin 1024), p = ix2 i j := ⟨p 0, p 1, eq_ix2 p⟩
  rw [Cert.Out.G_at _ _ i j rfl rfl, ← h]

end Cert.Reference4Ideal.At

namespace Cert.Ex

/-- The reference's program leaves its arguments alone and no counter raised. -/
theorem frame_reference : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The kernel's array is the reference's: the residual stream and the gated sum over the experts. -/
theorem algebraic : Cert.algebraic_Kernel4Ideal_Reference4Ideal := by
  intro m ρ m' ρ' hpre hagree
  refine ⟨fun c => Cert.Out.G (Cert.Kernel4Ideal.At.om m c), ?_, ?_⟩
  · exact Cert.Kernel4Ideal.At.run m ρ
  · refine (θ_run Cert.Reference4Ideal.defs _ _).mono (fun _ h c => ⟨(h c).1.trans ?_, (h c).2⟩)
      (Cert.Reference4Ideal.Value.run (F := Ideal) m' ρ')
    obtain ⟨h0, h1, h2, h3, h4, h5, h6, h7, h8⟩ := hagree c
    rw [Cert.Reference4Ideal.At.res_eq]
    refine Cert.Reference4Ideal.At.rows (Cert.Reference4Ideal.At.o m' c) _ fun i j => ?_
    unfold Cert.Reference4Ideal.At.o Cert.Kernel4Ideal.At.om
    rw [Cert.Reference4Ideal.At.o_at, h0, h1, h2, h3, h4, h5, h6, h7, h8]

end Cert.Ex

end
-- ==== Proof.AdaRef.lean ====
/- The modulation of the layers' conditions: its elements, and those of the reference's array. -/
module

public import proofs.«01_k».proof.Proof.Gen.Reference5Ideal.Run
public import Idealize.ShloMosaic.Lib.Pointwise
public import Idealize.ShloMosaic.PureOps.Ideal

@[expose] public section

set_option maxRecDepth 16384

noncomputable section

open Idealize.ShloMosaic Idealize.ShloMosaic.TcCoe Idealize.SL.Sem

namespace Cert.Ada

/-- An array of modulation vectors from its elements. -/
def G (f : Fin 4 → Fin 8 → Fin 6144 → EReal) : (⟨3, ![4, 8, 6144]⟩ : Shape).Idx → EReal :=
  fun p => f ⟨(p 0).val, (p 0).isLt⟩ ⟨(p 1).val, (p 1).isLt⟩ ⟨(p 2).val, (p 2).isLt⟩

/-- An element of the array. -/
theorem G_at (f : Fin 4 → Fin 8 → Fin 6144 → EReal) (p : (⟨3, ![4, 8, 6144]⟩ : Shape).Idx) (l : Fin 4) (r : Fin 8) (j : Fin 6144)
    (h0 : (p 0).val = l) (h1 : (p 1).val = r) (h2 : (p 2).val = j) : G f p = f l r j := by
  unfold G
  congr 1 <;> apply Fin.ext <;> simp only [h0, h1, h2]

/-- The condition rows: the context's, the two samples', and rows of zeros. -/
def cv (x : FVec Ideal ⟨1, ![1024]⟩ .f32) (c : FVec Ideal ⟨2, ![2, 1024]⟩ .f32) (r : Fin 8) (k : Fin 1024) : EReal :=
  if _h : r.val < 1 then x (ix1 k) else if h : r.val - 1 < 2 then c (ix2 ⟨r.val - 1, h⟩ k) else 0

/-- A number times its logistic. -/
def sil (x : EReal) : EReal := x * Ideal.div 1 (1 + Ideal.exp (-x))

/-- An element of the modulation. -/
def el (x : FVec Ideal ⟨1, ![1024]⟩ .f32) (c : FVec Ideal ⟨2, ![2, 1024]⟩ .f32) (w : FVec Ideal ⟨3, ![4, 1024, 6144]⟩ .f32)
    (b : FVec Ideal ⟨2, ![4, 6144]⟩ .f32) (l : Fin 4) (r : Fin 8) (j : Fin 6144) : EReal :=
  ∑ k, sil (cv x c r k) * w (ix3 l k j) + b (ix2 l j)

end Cert.Ada

namespace Cert.Reference5Ideal.At

open Cert.Reference5Ideal Cert.Reference5Ideal.Gen Cert.Reference5Ideal.Value

/-- The reference's condition rows. -/
def cvec (x : FVec Ideal S1024 .f32) (c : FVec Ideal S2x1024 .f32) : FVec Ideal S8x1024 .f32 :=
  concatenate S8x1024 0 [⟨S1x1024, broadcastInDim S1x1024 ![1] bcast_S1024_S1x1024_1 x⟩, ⟨S2x1024, c⟩,
    ⟨S5x1024, broadcastInDim S5x1024 ![] bcast_S_S5x1024 (constant S_ .f32 0x00000000#32)⟩] concatenates_S1x1024_S2x1024_S5x1024_S8x1024_d0

/-- Their elements. -/
theorem cvec_at (x : FVec Ideal S1024 .f32) (c : FVec Ideal S2x1024 .f32) (r : Fin 8) (k : Fin 1024) : cvec x c (ix2 r k) = Cert.Ada.cv x c r k := by
  unfold cvec Cert.Ada.cv
  pointwise [Ideal.ofBits_zero_f32]

/-- The rows passed through their logistic. -/
def act (u : FVec Ideal S8x1024 .f32) : FVec Ideal S8x1024 .f32 :=
  mulf u (Host.divf (broadcastInDim S8x1024 ![] bcast_S_S8x1024 (constant S_ .f32 0x3F800000#32))
    (addf (broadcastInDim S8x1024 ![] bcast_S_S8x1024 (constant S_ .f32 0x3F800000#32)) (Host.exp (Host.negf u))))

/-- Their elements. -/
theorem act_at (u : FVec Ideal S8x1024 .f32) (r : Fin 8) (k : Fin 1024) : act u (ix2 r k) = Cert.Ada.sil (u (ix2 r k)) := by
  unfold act Cert.Ada.sil
  pointwise

/-- One layer's modulation. -/
def lay (u : FVec Ideal S8x1024 .f32) (w : FVec Ideal S1x1024x6144 .f32) (b : FVec Ideal S1x6144 .f32) : FVec Ideal S1x8x6144 .f32 :=
  broadcastInDim S1x8x6144 ![1, 2] bcast_S8x6144_S1x8x6144_1_2 (addf (Host.dotGeneral dot_S8x1024_S1024x6144_S8x6144_1_0_0_1_n_n none (act u)
    (shapeCast _ w shapeCasts_S1x1024x6144_S1024x6144))
    (broadcastInDim S8x6144 ![0, 1] bcast_S1x6144_S8x6144_0_1 (broadcastInDim S1x6144 ![1] bcast_S6144_S1x6144_1 (shapeCast _ b shapeCasts_S1x6144_S6144))))

/-- Its elements. -/
theorem lay_at (u : FVec Ideal S8x1024 .f32) (w : FVec Ideal S1x1024x6144 .f32) (b : FVec Ideal S1x6144 .f32) (l : Fin 1) (r : Fin 8) (j : Fin 6144) :
    lay u w b (ix3 l r j) = ∑ k, Cert.Ada.sil (u (ix2 r k)) * w (ix3 0 k j) + b (ix2 0 j) := by
  unfold lay
  pointwise [act_at]

/-- The four layers' modulation. -/
def o (x : FVec Ideal S1024 .f32) (c : FVec Ideal S2x1024 .f32) (w : FVec Ideal S4x1024x6144 .f32) (b : FVec Ideal S4x6144 .f32) : FVec Ideal S4x8x6144 .f32 :=
  concatenate S4x8x6144 0 [
    ⟨S1x8x6144, lay (cvec x c) (extractStridedSlice S1x1024x6144 ![0, 0, 0] w slices_S4x1024x6144_S1x1024x6144_0_0_0) (extractStridedSlice S1x6144 ![0, 0] b slices_S4x6144_S1x6144_0_0)⟩,
    ⟨S1x8x6144, lay (cvec x c) (extractStridedSlice S1x1024x6144 ![1, 0, 0] w slices_S4x1024x6144_S1x1024x6144_1_0_0) (extractStridedSlice S1x6144 ![1, 0] b slices_S4x6144_S1x6144_1_0)⟩,
    ⟨S1x8x6144, lay (cvec x c) (extractStridedSlice S1x1024x6144 ![2, 0, 0] w slices_S4x1024x6144_S1x1024x6144_2_0_0) (extractStridedSlice S1x6144 ![2, 0] b slices_S4x6144_S1x6144_2_0)⟩,
    ⟨S1x8x6144, lay (cvec x c) (extractStridedSlice S1x1024x6144 ![3, 0, 0] w slices_S4x1024x6144_S1x1024x6144_3_0_0) (extractStridedSlice S1x6144 ![3, 0] b slices_S4x6144_S1x6144_3_0)⟩]
    concatenates_S1x8x6144_S1x8x6144_S1x8x6144_S1x8x6144_S4x8x6144_d0

/-- The generated result is this modulation. -/
theorem res_eq (m : (ℓ : Loc nD τ sig) → Buf (Elt Ideal) ℓ) (c : Dev nD) : res_main_v43 (F := Ideal) m c
    = o (m ((c.tc : Thread nD τ).loc main_arg1)) (m ((c.tc : Thread nD τ).loc main_arg0)) (m ((c.tc : Thread nD τ).loc main_arg2)) (m ((c.tc : Thread nD τ).loc main_arg3)) := by
  unfold res_main_v43 o lay act cvec
  rfl

/-- Its elements. -/
theorem o_at (x : FVec Ideal S1024 .f32) (c : FVec Ideal S2x1024 .f32) (w : FVec Ideal S4x1024x6144 .f32) (b : FVec Ideal S4x6144 .f32) (l : Fin 4) (r : Fin 8) (j : Fin 6144) :
    o x c w b (ix3 l r j) = Cert.Ada.el x c w b l r j := by
  unfold o Cert.Ada.el
  fin_cases l
  all_goals
    pointwise [lay_at, cvec_at]

end Cert.Reference5Ideal.At

end
-- ==== Proof.AdaBlock.lean ====
/- The modulation's result array after the run, as a function of its argument arrays. -/
module

public import proofs.«01_k».proof.Proof.AdaRef
public import proofs.«01_k».proof.Proof.Gen.Kernel5Ideal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel5Ideal.At

open Cert.Kernel5Ideal Cert.Kernel5Ideal.Gen

/-- A block's elements. -/
theorem pay1_at (u : Vec Ideal S8x1024 .f32) (w : Vec Ideal S1x1024x1536 .f32) (b : Vec Ideal S1x1x1536 .f32) (l : Fin 1) (r : Fin 8) (j : Fin 1536) :
    k0_pay1 (F := Ideal) u w b (ix3 l r j) = ∑ k, Cert.Ada.sil (u (ix2 r k)) * w (ix3 0 k j) + b (ix3 0 0 j) := by
  unfold k0_pay1 Cert.Ada.sil
  pointwise [Ideal.ofBits_zero_f32]
  simp only [zero_sub]

variable (m : (ℓ : Loc nD τ sig) → Buf (Elt Ideal) ℓ)

/-- The windows' block indices. -/
theorem idx : ∀ t : Fin cfg0.N, t.val < 16 ∧ win0_0.index t = ![0, 0] ∧ win0_1.index t = ![t.val / 4, 0, t.val % 4] ∧ win0_2.index t = ![t.val / 4, 0, t.val % 4]
    ∧ win0_3.index t = ![t.val / 4, 0, t.val % 4] :=
  (by decide +kernel : ∀ t : Fin grid0.N, _)

/-- The layer of point `t`. -/
def lay (t : Fin cfg0.N) : Fin 4 := ⟨t.val / 4, by have := (idx t).1; omega⟩

/-- The column of column `j` of point `t`'s block. -/
def col (t : Fin cfg0.N) (j : Fin 1536) : Fin 6144 := ⟨t.val % 4 * 1536 + j, by omega⟩

/-- The condition rows the kernel is given. -/
def cvec (x : FVec Ideal S1024 .f32) (c : FVec Ideal S2x1024 .f32) : FVec Ideal S8x1024 .f32 :=
  concatenate S8x1024 0 [⟨S1x1024, broadcastInDim S1x1024 ![1] bcast_S1024_S1x1024_1 x⟩, ⟨S2x1024, c⟩,
    ⟨S5x1024, broadcastInDim S5x1024 ![] bcast_S_S5x1024 (constant S_ .f32 0x00000000#32)⟩] concatenates_S1x1024_S2x1024_S5x1024_S8x1024_d0

/-- The rows are those. -/
theorem V_cvec (c : Dev nD) : V m c main_v2 = cvec (m ((c : Thread nD τ).loc main_arg1)) (m ((c : Thread nD τ).loc main_arg0)) := by
  unfold V cvec
  after_results_simp
  rfl

/-- The biases the kernel is given. -/
theorem V_bias (c : Dev nD) : V m c main_v3 = shapeCast S4x1x6144 (show FVec Ideal S4x6144 .f32 from m ((c : Thread nD τ).loc main_arg3)) shapeCasts_S4x6144_S4x1x6144 := by
  unfold V
  after_results_simp
  rfl

/-- Every point's condition rows. -/
theorem cv_blk (c : Dev nD) (t : Fin cfg0.N) (r : Fin 8) (k : Fin 1024) :
    (show FVec Ideal S8x1024 .f32 from iblk m c 0 t) (ix2 r k) = Cert.Ada.cv (m ((c : Thread nD τ).loc main_arg1)) (m ((c : Thread nD τ).loc main_arg0)) r k := by
  blk_simp [iblk, idx t]
  refine (congrFun (V_cvec m c) _).trans ?_
  have e : (win0_0.blk t).view.emb (ix2 r k) = ix2 r k := by blk_ext [idx t]
  rw [e]
  unfold cvec Cert.Ada.cv
  pointwise [Ideal.ofBits_zero_f32]

/-- A point's weights. -/
theorem w_blk (c : Dev nD) (t : Fin cfg0.N) (k : Fin 1024) (j : Fin 1536) :
    (show FVec Ideal S1x1024x1536 .f32 from iblk m c 1 t) (ix3 0 k j) = (show FVec Ideal S4x1024x6144 .f32 from m ((c : Thread nD τ).loc main_arg2)) (ix3 (lay t) k (col t j)) := by
  unfold lay col
  blk_ext [iblk, V, idx t]

/-- A point's biases. -/
theorem b_blk (c : Dev nD) (t : Fin cfg0.N) (j : Fin 1536) :
    (show FVec Ideal S1x1x1536 .f32 from iblk m c 2 t) (ix3 0 0 j) = (show FVec Ideal S4x6144 .f32 from m ((c : Thread nD τ).loc main_arg3)) (ix2 (lay t) (col t j)) := by
  blk_simp [iblk, idx t]
  refine (congrFun (V_bias m c) _).trans ?_
  have e : (win0_2.blk t).view.emb (ix3 0 0 j) = ix3 (lay t) 0 (col t j) := by
    unfold lay col
    blk_ext [idx t]
  rw [e]
  pointwise

/-- The array: every layer's modulation of every condition row. -/
theorem final (c : Dev nD) : (dats m 0 c).arrAt 3 cfg0.N = Cert.Ada.G (Cert.Ada.el (m ((c : Thread nD τ).loc main_arg1)) (m ((c : Thread nD τ).loc main_arg0))
    (m ((c : Thread nD τ).loc main_arg2)) (m ((c : Thread nD τ).loc main_arg3))) := by
  refine (dats m 0 c).arrAt_eq_of_covers 3 _ (by decide +kernel) fun t _ y => ?_
  blk_simp
  rw [after0_3]
  frame_out
  obtain ⟨l, r, j, rfl⟩ : ∃ (l : Fin 1) (r : Fin 8) (j : Fin 1536), y = ix3 l r j := ⟨y 0, y 1, y 2, eq_ix3 y⟩
  rw [Cert.Ada.G_at _ _ (lay t) r (col t j) (by unfold lay; blk_simp [idx t]) (by blk_simp [idx t]) (by unfold col; blk_simp [idx t])]
  refine (pay1_at _ _ _ l r j).trans ?_
  unfold Cert.Ada.el
  simp only [cv_blk, w_blk, b_blk]

end Cert.Kernel5Ideal.At

end
-- ==== Proof.AdaClaims.lean ====
/- The claims about the modulation: the run of the kernel against the run of the reference. -/
module

public import proofs.«01_k».proof.Defs
public import proofs.«01_k».proof.Proof.AdaBlock
public import Idealize.ShloMosaic.Adequacy
public import Idealize.ShloMosaic.Init

@[expose] public section

set_option maxRecDepth 16384

noncomputable section

open Idealize.ShloMosaic Idealize.ShloMosaic.TcCoe Idealize.SL.Sem

namespace Cert.Ada

/-- The reference's program leaves its arguments alone and no counter raised. -/
theorem frame_reference : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- An array of modulation vectors is the array of its elements. -/
theorem rows (u : FVec Ideal ⟨3, ![4, 8, 6144]⟩ .f32) (f : Fin 4 → Fin 8 → Fin 6144 → EReal) (h : ∀ l r j, u (ix3 l r j) = f l r j) : u = G f := by
  funext p
  obtain ⟨l, r, j, rfl⟩ : ∃ (l : Fin 4) (r : Fin 8) (j : Fin 6144), p = ix3 l r j := ⟨p 0, p 1, p 2, eq_ix3 p⟩
  rw [G_at _ _ l r j rfl rfl rfl, ← h]

/-- The kernel's array is the reference's: every layer's modulation of every condition row. -/
theorem algebraic : Cert.algebraic_Kernel5Ideal_Reference5Ideal := by
  intro m ρ m' ρ' hpre hagree
  refine ⟨fun c => G (el (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))), ?_, ?_⟩
  · exact (θ_run Cert.Kernel5Ideal.defs _ _).mono (fun _ h c => ⟨(h c).1.trans (Cert.Kernel5Ideal.At.final m c), (h c).2⟩)
      (Cert.Kernel5Ideal.Value.run_blocks (F := Ideal) m ρ)
  · refine (θ_run Cert.Reference5Ideal.defs _ _).mono (fun _ h c => ⟨(h c).1.trans ?_, (h c).2⟩)
      (Cert.Reference5Ideal.Value.run (F := Ideal) m' ρ')
    obtain ⟨h0, h1, h2, h3⟩ := hagree c
    rw [Cert.Reference5Ideal.At.res_eq]
    refine rows _ _ fun l r j => ?_
    rw [Cert.Reference5Ideal.At.o_at, h0, h1, h2, h3]

end Cert.Ada

end
-- ==== Proof.SsdSum.lean ====
/- Facts about extended reals for a state-space scan's final state: the sum of its inputs, each under the exponential of
   the steps after it, is the same number whether it is summed at once or chunk by chunk. -/
module

public import proofs.«01_k».proof.Proof.Softmax
public import Idealize.ShloMosaic.Lib.Pipeline.ValueKit

@[expose] public section

noncomputable section

open Idealize.ShloMosaic

namespace Cert.Ssd

/-- The final state: each input under the exponential of the sum of the later steps. -/
def fin (r : Fin 256 → ℝ) (v : Fin 256 → EReal) : EReal := ∑ t, v t * ((Real.exp (∑ s, if t < s then r s else 0) : ℝ) : EReal)

/-- The first state of the scan run backwards: each input under the exponential of the sum of the earlier steps. -/
def bin (r : Fin 256 → ℝ) (v : Fin 256 → EReal) : EReal := ∑ t, v t * ((Real.exp (∑ s, if s < t then r s else 0) : ℝ) : EReal)

/-- The scan run backwards is the scan of the reversed inputs. -/
theorem fin_rev (r : Fin 256 → ℝ) (v : Fin 256 → EReal) : fin (fun t => r t.rev) (fun t => v t.rev) = bin r v := by
  unfold fin bin
  refine Fintype.sum_equiv Fin.revPerm _ _ fun t => ?_
  refine congrArg (fun z : ℝ => v t.rev * ((Real.exp z : ℝ) : EReal)) ?_
  refine Fintype.sum_equiv Fin.revPerm _ _ fun s => ?_
  show _ = if Fin.rev s < Fin.rev t then _ else _
  simp only [Fin.rev_lt_rev]
  rfl

/-- A finite sum times a nonnegative real number. -/
theorem sum_mul' {ι : Type} (s : Finset ι) (f : ι → EReal) (e : ℝ) (he : 0 ≤ e) : (∑ i ∈ s, f i) * (e : EReal) = ∑ i ∈ s, f i * (e : EReal) := by
  classical
  induction s using Finset.induction_on with
  | empty => simp
  | insert a s ha ih =>
    rw [Finset.sum_insert ha, Finset.sum_insert ha, EReal.right_distrib_of_nonneg_of_ne_top (by exact_mod_cast he) (EReal.coe_ne_top e), ih]

/-- The exponential of a real number. -/
theorem exp_coe (x : ℝ) : Ideal.exp (x : EReal) = ((Real.exp x : ℝ) : EReal) := rfl

/-- A triangular sum of real numbers. -/
theorem tri {n : ℕ} (r : Fin n → ℝ) (k : Fin n) : ∑ j, (if j ≤ k then (1 : EReal) else 0) * (r j : EReal) = ((∑ j, if j ≤ k then r j else 0 : ℝ) : EReal) := by
  rw [Cert.Att.coe_sum']
  refine Finset.sum_congr rfl fun j _ => ?_
  split <;> simp

/-- The whole sum less a triangular sum is the sum of the later terms. -/
theorem after {n : ℕ} (r : Fin n → ℝ) (l k : Fin n) (hl : ∀ j, j ≤ l) : (∑ j, if j ≤ l then r j else 0) - (∑ j, if j ≤ k then r j else 0) = ∑ j, if k < j then r j else 0 := by
  rw [← Finset.sum_sub_distrib]
  refine Finset.sum_congr rfl fun j _ => ?_
  rw [if_pos (hl j)]
  by_cases h : j ≤ k
  · rw [if_pos h, if_neg (not_lt.mpr h), sub_self]
  · rw [if_neg h, if_pos (not_le.mp h), sub_zero]

/-- A triangular sum less its last term is the sum of the earlier terms. -/
theorem before {n : ℕ} (r : Fin n → ℝ) (k : Fin n) : (∑ j, if j ≤ k then r j else 0) - r k = ∑ j, if j < k then r j else 0 := by
  have e : r k = ∑ j, if j = k then r j else 0 := by simp
  conv_lhs => rw [e]
  rw [← Finset.sum_sub_distrib]
  refine Finset.sum_congr rfl fun j _ => ?_
  rcases lt_trichotomy j k with h | h | h
  · rw [if_pos h.le, if_neg h.ne, if_pos h, sub_zero]
  · subst h; simp
  · rw [if_neg (not_le.mpr h), if_neg h.ne', if_neg (not_lt.mpr h.le), sub_zero]

/-- The later steps' sum, from one chunk of 64 and the chunks after it. -/
theorem later (r : Fin 256 → ℝ) (c : Fin 4) (k : Fin 64) : (∑ s, if (⟨c.val * 64 + k.val, by omega⟩ : Fin 256) < s then r s else 0)
    = (∑ j : Fin 64, if k < j then r ⟨c.val * 64 + j.val, by omega⟩ else 0) + ∑ d : Fin 4, if c < d then ∑ j : Fin 64, r ⟨d.val * 64 + j.val, by omega⟩ else 0 := by
  have hs : ∑ d : Fin 4, ∑ j : Fin 64, (if (⟨c.val * 64 + k.val, by omega⟩ : Fin 256) < ⟨d.val * 64 + j.val, by omega⟩ then r ⟨d.val * 64 + j.val, by omega⟩ else 0)
      = ∑ s, if (⟨c.val * 64 + k.val, by omega⟩ : Fin 256) < s then r s else 0 := Fin.sum_mul_add_congr fun s k hl => rfl
  rw [← hs]
  have e : (∑ j : Fin 64, if k < j then r ⟨c.val * 64 + j.val, by omega⟩ else 0) = ∑ d : Fin 4, if d = c then (∑ j : Fin 64, if k < j then r ⟨d.val * 64 + j.val, by omega⟩ else 0) else 0 := by
    rw [Finset.sum_ite_eq' Finset.univ c, if_pos (Finset.mem_univ c)]
  rw [e, ← Finset.sum_add_distrib]
  refine Finset.sum_congr rfl fun d _ => ?_
  rcases lt_trichotomy c d with h | h | h
  · rw [if_neg h.ne', if_pos h, zero_add]
    refine Finset.sum_congr rfl fun j _ => if_pos ?_
    have := Fin.lt_def.mp h
    show c.val * 64 + k.val < d.val * 64 + j.val
    omega
  · subst h
    rw [if_pos rfl, if_neg (lt_irrefl _), add_zero]
    refine Finset.sum_congr rfl fun j _ => ?_
    refine if_congr ?_ rfl rfl
    show c.val * 64 + k.val < c.val * 64 + j.val ↔ k.val < j.val
    omega
  · rw [if_neg h.ne, if_neg (not_lt.mpr h.le), add_zero]
    refine Finset.sum_eq_zero fun j _ => if_neg ?_
    have := Fin.lt_def.mp h
    show ¬ c.val * 64 + k.val < d.val * 64 + j.val
    omega

/-- The state carried over the four chunks is the sum over all inputs. -/
theorem chunks (r : Fin 256 → ℝ) (v : Fin 256 → EReal) (S D : Fin 4 → EReal)
    (hS : ∀ c : Fin 4, S c = ∑ k : Fin 64, v ⟨c.val * 64 + k.val, by omega⟩ * ((Real.exp (∑ j : Fin 64, if k < j then r ⟨c.val * 64 + j.val, by omega⟩ else 0) : ℝ) : EReal))
    (hD : ∀ c : Fin 4, D c = ((Real.exp (∑ j : Fin 64, r ⟨c.val * 64 + j.val, by omega⟩) : ℝ) : EReal)) :
    (((0 * D 0 + S 0) * D 1 + S 1) * D 2 + S 2) * D 3 + S 3 = fin r v := by
  have hfin : fin r v = ∑ c : Fin 4, ∑ k : Fin 64, v ⟨c.val * 64 + k.val, by omega⟩
      * ((Real.exp (∑ s, if (⟨c.val * 64 + k.val, by omega⟩ : Fin 256) < s then r s else 0) : ℝ) : EReal) :=
    (Fin.sum_mul_add_congr fun s k hl => rfl).symm
  have dist : ∀ (x y : EReal) (e : ℝ), 0 ≤ e → (x + y) * (e : EReal) = x * (e : EReal) + y * (e : EReal) := fun x y e he =>
    EReal.right_distrib_of_nonneg_of_ne_top (by exact_mod_cast he) (EReal.coe_ne_top e) x y
  rw [hfin, Fin.sum_univ_four, zero_mul, zero_add, hD 1, hD 2, hD 3]
  simp only [dist _ _ _ (Real.exp_nonneg _)]
  rw [hS 0, hS 1, hS 2, hS 3]
  simp only [sum_mul' _ _ _ (Real.exp_nonneg _)]
  simp only [later, mul_assoc, ← EReal.coe_mul, ← Real.exp_add]
  simp [Fin.sum_univ_four, add_assoc]

end Cert.Ssd

end
-- ==== Proof.SsdEl.lean ====
/- The state-space mixer's final states, element by element, from the projected columns. -/
module

public import proofs.«01_k».proof.Proof.SsdSum
public import Idealize.ShloMosaic.Lib.Pointwise
public import Idealize.ShloMosaic.Lib.WordCmp

@[expose] public section

set_option maxRecDepth 16384

noncomputable section

open Idealize.ShloMosaic

namespace Cert.Ssd

/-- The convolution's input column at a padded time: zeros two steps before and after the prompt. -/
def pad (U : FVec Ideal ⟨2, ![6144, 768]⟩ .f32) (b : Fin 16) (t : Fin 260) (j : Fin 512) : EReal :=
  if h : 2 ≤ t.val ∧ t.val - 2 < 256 then U (ix2 ⟨b.val * 256 + (t.val - 2), by omega⟩ ⟨256 + j.val, by omega⟩) else 0

/-- The convolution. -/
def cnv (U : FVec Ideal ⟨2, ![6144, 768]⟩ .f32) (W : FVec Ideal ⟨2, ![5, 512]⟩ .f32) (B : FVec Ideal ⟨1, ![512]⟩ .f32) (b : Fin 16) (t : Fin 256) (j : Fin 512) : EReal :=
  pad U b ⟨t.val, by omega⟩ j * W (ix2 0 j) + pad U b ⟨1 + t.val, by omega⟩ j * W (ix2 1 j) + pad U b ⟨2 + t.val, by omega⟩ j * W (ix2 2 j)
    + pad U b ⟨3 + t.val, by omega⟩ j * W (ix2 3 j) + pad U b ⟨4 + t.val, by omega⟩ j * W (ix2 4 j) + B (ix1 j)

/-- A number times its logistic. -/
def sil (x : EReal) : EReal := x * Ideal.div 1 (1 + Ideal.exp (-x))

/-- The softplus. -/
def sp (z : EReal) : EReal := max z 0 + Ideal.log (1 + Ideal.exp (-max z (-z)))

/-- A step's size. -/
def dt (M : FVec Ideal ⟨2, ![6144, 128]⟩ .f32) (db : FVec Ideal ⟨2, ![2, 4]⟩ .f32) (b : Fin 16) (d : Fin 2) (h : Fin 4) (t : Fin 256) : EReal :=
  sp (M (ix2 ⟨b.val * 256 + t.val, by omega⟩ ⟨d.val * 4 + h.val, by omega⟩) + db (ix2 d h))

/-- A step's log decay. -/
def stp (M : FVec Ideal ⟨2, ![6144, 128]⟩ .f32) (al db : FVec Ideal ⟨2, ![2, 4]⟩ .f32) (b : Fin 16) (d : Fin 2) (h : Fin 4) (t : Fin 256) : EReal :=
  dt M db b d h t * -Ideal.exp (al (ix2 d h))

/-- A step's input to the state. -/
def inp (U : FVec Ideal ⟨2, ![6144, 768]⟩ .f32) (M : FVec Ideal ⟨2, ![6144, 128]⟩ .f32) (W : FVec Ideal ⟨2, ![5, 512]⟩ .f32) (B : FVec Ideal ⟨1, ![512]⟩ .f32)
    (db : FVec Ideal ⟨2, ![2, 4]⟩ .f32) (b : Fin 16) (d : Fin 2) (h : Fin 4) (p n : Fin 64) (t : Fin 256) : EReal :=
  sil (cnv U W B b t ⟨h.val * 64 + p.val, by omega⟩) * dt M db b d h t * sil (cnv U W B b t ⟨256 + (h.val / 2 * 64 + n.val), by omega⟩)

/-- An element of the final states, the forward scan's or the backward one's. -/
def el (U : FVec Ideal ⟨2, ![6144, 768]⟩ .f32) (M : FVec Ideal ⟨2, ![6144, 128]⟩ .f32) (W : FVec Ideal ⟨2, ![5, 512]⟩ .f32) (B : FVec Ideal ⟨1, ![512]⟩ .f32)
    (al db : FVec Ideal ⟨2, ![2, 4]⟩ .f32) (b : Fin 16) (d : Fin 2) (h : Fin 4) (p n : Fin 64) : EReal :=
  if d = 0 then fin (fun t => (stp M al db b d h t).toReal) (inp U M W B db b d h p n) else bin (fun t => (stp M al db b d h t).toReal) (inp U M W B db b d h p n)

/-- A state is the sum, from the parts of the kernel's formula. -/
theorem fin_of (r : Fin 256 → ℝ) (P D x y : Fin 256 → EReal) (h d : EReal) (h0 : h = 0)
    (hP : ∀ t, P t = ((∑ s, if s ≤ t then r s else 0 : ℝ) : EReal)) :
    h * d + ∑ t, x t * (D t * Ideal.exp (P 255 - P t)) * y t = fin r (fun t => x t * D t * y t) := by
  rw [h0, zero_mul, zero_add]
  refine Finset.sum_congr rfl fun t _ => ?_
  rw [hP, hP, ← EReal.coe_sub, after r 255 t (fun j => by omega), exp_coe, ← mul_assoc, mul_right_comm]

/-- The same of the scan run backwards. -/
theorem bin_of (r : Fin 256 → ℝ) (P A D x y : Fin 256 → EReal) (h d : EReal) (h0 : h = 0)
    (hP : ∀ t, P t = ((∑ s, if s ≤ t then r s else 0 : ℝ) : EReal)) (hA : ∀ t, A t = (r t : EReal)) :
    h * d + ∑ t, x t * (D t * Ideal.exp (P t - A t)) * y t = bin r (fun t => x t * D t * y t) := by
  rw [h0, zero_mul, zero_add]
  refine Finset.sum_congr rfl fun t _ => ?_
  rw [hP, hA, ← EReal.coe_sub, before r t, exp_coe, ← mul_assoc, mul_right_comm]

/-- A triangular sum of real numbers, by a choice between each and zero. -/
theorem tri' {n : ℕ} (hn : n ≤ 256) (f : Fin n → EReal) (r : Fin n → ℝ) (hf : ∀ j, f j = (r j : EReal)) (k : Fin n) :
    ∑ j : Fin n, Scalar.select (IntOp.cmpi .sge (BitVec.ofNat 32 k.val) (BitVec.ofNat 32 j.val)) (f j) 0 = ((∑ j, if j ≤ k then r j else 0 : ℝ) : EReal) := by
  rw [Cert.Att.coe_sum']
  refine Finset.sum_congr rfl fun j _ => ?_
  rw [Idealize.ShloMosaic.WordCmp.cmpi_sge_ofNat (by norm_num; omega) (by norm_num; omega), hf]
  by_cases h : j ≤ k
  · rw [if_pos h, decide_eq_true (Fin.le_def.mp h)]; rfl
  · rw [if_neg h, decide_eq_false (fun e => h (Fin.le_def.mpr e))]; rfl

/-- The exponential of a number below the top is a real number. -/
theorem exp_fin (x : EReal) (h : x ≠ ⊤) : Cert.Att.Fin' (Ideal.exp x) := by
  induction x using EReal.rec with
  | bot => exact ⟨0, rfl⟩
  | top => exact absurd rfl h
  | coe r => exact ⟨_, rfl⟩

/-- The softplus of a number below the top is a real number. -/
theorem sp_fin (z : EReal) (h : z ≠ ⊤) : Cert.Att.Fin' (sp z) := by
  unfold sp
  induction z using EReal.rec with
  | bot =>
    refine ⟨0, ?_⟩
    have e : max (⊥ : EReal) (-⊥) = ⊤ := by simp
    rw [e, EReal.neg_top]
    show max (⊥ : EReal) 0 + Ideal.log (1 + 0) = _
    rw [add_zero]
    show _ + (if (1 : ℝ) ≤ 0 then (⊥ : EReal) else (Real.log 1 : EReal)) = _
    norm_num
  | top => exact absurd rfl h
  | coe r =>
    have e : max (r : EReal) (-r) = ((max r (-r) : ℝ) : EReal) := by push_cast; rfl
    rw [e, ← EReal.coe_neg, exp_coe]
    have e1 : (1 : EReal) + ((Real.exp (-max r (-r)) : ℝ) : EReal) = ((1 + Real.exp (-max r (-r)) : ℝ) : EReal) := by push_cast; rfl
    rw [e1]
    show Cert.Att.Fin' (max (r : EReal) 0 + (if 1 + Real.exp (-max r (-r)) ≤ 0 then (⊥ : EReal) else (Real.log (1 + Real.exp (-max r (-r))) : EReal)))
    rw [if_neg (by have := Real.exp_pos (-max r (-r)); linarith)]
    exact ⟨max r 0 + Real.log (1 + Real.exp (-max r (-r))), by push_cast; rfl⟩

/-- A step's log decay is a real number, its column, bias and decay rate being below the top. -/
theorem stp_fin (M : FVec Ideal ⟨2, ![6144, 128]⟩ .f32) (al db : FVec Ideal ⟨2, ![2, 4]⟩ .f32)
    (hM : ∀ (i : Fin 4096) (j : Fin 8), M (ix2 ⟨i.val, by omega⟩ ⟨j.val, by omega⟩) ≠ ⊤) (hal : ∀ d h, al (ix2 d h) ≠ ⊤) (hdb : ∀ d h, db (ix2 d h) ≠ ⊤)
    (b : Fin 16) (d : Fin 2) (h : Fin 4) (t : Fin 256) : stp M al db b d h t = (((stp M al db b d h t).toReal : ℝ) : EReal) := by
  have hf : Cert.Att.Fin' (stp M al db b d h t) := by
    refine Cert.Att.Fin'.mul (sp_fin _ ?_) ?_
    · exact (EReal.add_lt_top (hM ⟨b.val * 256 + t.val, by omega⟩ ⟨d.val * 4 + h.val, by omega⟩) (hdb d h)).ne
    · obtain ⟨r, hr⟩ := exp_fin _ (hal d h)
      exact ⟨-r, by rw [hr, EReal.coe_neg]⟩
  obtain ⟨r, hr⟩ := hf
  rw [hr, EReal.toReal_coe]

end Cert.Ssd

end
-- ==== Proof.SsdConv.lean ====
/- The kernel's convolution, step sizes and sums of log decays, element by element. -/
module

public import proofs.«01_k».proof.Proof.SsdEl
public import proofs.«01_k».proof.Proof.Gen.Kernel6Ideal.Skeleton

@[expose] public section

set_option maxRecDepth 16384

noncomputable section

open Idealize.ShloMosaic Idealize.ShloMosaic.TcCoe Idealize.SL.Sem

namespace Cert.Kernel6Ideal.At

open Cert.Kernel6Ideal Cert.Kernel6Ideal.Gen

/-- A block's column at a padded time. -/
def padk (x : FVec Ideal S256x512 .f32) (t : Fin 260) (j : Fin 512) : EReal :=
  if h : 2 ≤ t.val ∧ t.val - 2 < 256 then x (ix2 ⟨t.val - 2, by omega⟩ j) else 0

/-- A batch's block at a padded time is the columns at it. -/
theorem padk_eq (x : FVec Ideal S256x512 .f32) (U : FVec Ideal S6144x768 .f32) (b : Fin 16)
    (hx : ∀ (i : Fin 256) (j : Fin 512), x (ix2 i j) = U (ix2 ⟨b.val * 256 + i.val, by omega⟩ ⟨256 + j.val, by omega⟩)) (t : Fin 260) (j : Fin 512) :
    padk x t j = Cert.Ssd.pad U b t j := by
  unfold padk Cert.Ssd.pad
  exact dite_congr rfl (fun _ => hx _ _) (fun _ => rfl)

/-- Which rows have a row two before. -/
theorem m2 : ∀ t : Fin 256, IntOp.andi (IntOp.cmpi .sge (IntOp.addi (BitVec.ofNat 32 t.val) 4294967294#32) 0#32) (IntOp.cmpi .slt (IntOp.addi (BitVec.ofNat 32 t.val) 4294967294#32) 256#32)
    = if 2 ≤ t.val then 1#1 else 0#1 := by decide +kernel

/-- Which rows have a row before. -/
theorem m1 : ∀ t : Fin 256, IntOp.andi (IntOp.cmpi .sge (IntOp.addi (BitVec.ofNat 32 t.val) 4294967295#32) 0#32) (IntOp.cmpi .slt (IntOp.addi (BitVec.ofNat 32 t.val) 4294967295#32) 256#32)
    = if 1 ≤ t.val then 1#1 else 0#1 := by decide +kernel

/-- Which rows have a row after. -/
theorem p1 : ∀ t : Fin 256, IntOp.andi (IntOp.cmpi .sge (IntOp.addi (BitVec.ofNat 32 t.val) 1#32) 0#32) (IntOp.cmpi .slt (IntOp.addi (BitVec.ofNat 32 t.val) 1#32) 256#32)
    = if t.val < 255 then 1#1 else 0#1 := by decide +kernel

/-- Which rows have a row two after. -/
theorem p2 : ∀ t : Fin 256, IntOp.andi (IntOp.cmpi .sge (IntOp.addi (BitVec.ofNat 32 t.val) 2#32) 0#32) (IntOp.cmpi .slt (IntOp.addi (BitVec.ofNat 32 t.val) 2#32) 256#32)
    = if t.val < 254 then 1#1 else 0#1 := by decide +kernel

/-- A tap under its mask is the tap of the padded column. -/
theorem tap (x : FVec Ideal S256x512 .f32) (w : EReal) (j : Fin 512) (r : Fin 256) (c : Prop) [Decidable c] (o : Fin 260)
    (h1 : c → 2 ≤ o.val ∧ o.val - 2 = r.val) (h2 : ¬ c → ¬ (2 ≤ o.val ∧ o.val - 2 < 256)) :
    Scalar.select (if c then 1#1 else 0#1) (w * x (ix2 r j)) 0 = padk x o j * w := by
  unfold padk
  by_cases h : c
  · obtain ⟨a, b⟩ := h1 h
    have hb : o.val - 2 < 256 := by omega
    rw [if_pos h, dif_pos ⟨a, hb⟩, mul_comm]
    have e : r = ⟨o.val - 2, hb⟩ := Fin.ext b.symm
    rw [e]
    rfl
  · rw [if_neg h, dif_neg (h2 h), zero_mul]
    rfl

/-- The kernel's convolution. -/
theorem cnv_at (x : FVec Ideal S256x512 .f32) (b w0 w1 w2 w3 w4 : FVec Ideal S1x512 .f32) (t : Fin 256) (j : Fin 512) :
    k0_pay6 (F := Ideal) x (k0_pay1 x b w2 w0) w1 (k0_pay2 x) k0_pay3 k0_pay4 k0_pay5 w3 w4 (ix2 t j)
      = padk x ⟨t.val, by omega⟩ j * w0 (ix2 0 j) + padk x ⟨1 + t.val, by omega⟩ j * w1 (ix2 0 j) + padk x ⟨2 + t.val, by omega⟩ j * w2 (ix2 0 j)
        + padk x ⟨3 + t.val, by omega⟩ j * w3 (ix2 0 j) + padk x ⟨4 + t.val, by omega⟩ j * w4 (ix2 0 j) + b (ix2 0 j) := by
  unfold k0_pay6 k0_pay1 k0_pay2 k0_pay3 k0_pay4 k0_pay5
  pointwise [Ideal.ofBits_zero_f32]
  rw [m2, m1, p1, p2, tap x _ j _ _ ⟨t.val, by omega⟩ (fun h => by dsimp only; omega) (fun h => by dsimp only; omega),
    tap x _ j _ _ ⟨1 + t.val, by omega⟩ (fun h => by dsimp only; omega) (fun h => by dsimp only; omega),
    tap x _ j _ _ ⟨3 + t.val, by omega⟩ (fun h => by dsimp only; omega) (fun h => by dsimp only; omega),
    tap x _ j _ _ ⟨4 + t.val, by omega⟩ (fun h => by dsimp only; omega) (fun h => by dsimp only; omega)]
  have e : w2 (ix2 0 j) * x (ix2 t j) = padk x ⟨2 + t.val, by omega⟩ j * w2 (ix2 0 j) := by
    unfold padk
    rw [dif_pos ⟨by dsimp only; omega, by dsimp only; omega⟩, mul_comm]
    exact congrArg (fun y => x (ix2 y j) * w2 (ix2 0 j)) (Fin.ext (by dsimp only; omega))
  rw [e]
  have key : ∀ a b c d e f : EReal, f + c + a + b + d + e = a + b + c + d + e + f := fun a b c d e f => by ac_rfl
  exact key _ _ _ _ _ _

/-- The kernel's step sizes. -/
theorem dt_at (x : Vec Ideal S256x8 .f32) (b : Vec Ideal S1x8 .f32) (t : Fin 256) (j : Fin 8) :
    k0_pay10 (F := Ideal) x b (ix2 t j) = Cert.Ssd.sp (x (ix2 t j) + b (ix2 0 j)) := by
  unfold k0_pay10 Cert.Ssd.sp
  pointwise [Ideal.ofBits_zero_f32]
  rw [zero_sub]
  rfl

/-- The kernel's log decays. -/
theorem stp_at (d : FVec Ideal S256x8 .f32) (a : FVec Ideal S1x8 .f32) (t : Fin 256) (j : Fin 8) :
    k0_pay13 (F := Ideal) d (k0_pay12 a) (FloatOps.ofBits .f32 0#32) (ix2 t j) = d (ix2 t j) * -Ideal.exp (a (ix2 0 j)) := by
  unfold k0_pay13 k0_pay12
  pointwise [Ideal.ofBits_zero_f32]
  rw [zero_sub]

/-- The forward scan's sums of log decays. -/
theorem pf_at (d : FVec Ideal S256x8 .f32) (a : FVec Ideal S1x8 .f32) (r : Fin 256 → ℝ) (j : Fin 8)
    (hr : ∀ t, k0_pay13 (F := Ideal) d (k0_pay12 a) (FloatOps.ofBits .f32 0#32) (ix2 t j) = (r t : EReal)) (t : Fin 256) :
    k0_pay22 (F := Ideal) d (k0_pay12 a) (FloatOps.ofBits .f32 0#32) (ix2 t j) = ((∑ s, if s ≤ t then r s else 0 : ℝ) : EReal) := by
  rw [← Cert.Ssd.tri' (by norm_num) _ _ hr t]
  unfold k0_pay22 k0_pay17 k0_pay15
  pointwise [Ideal.ofBits_zero_f32]

/-- The backward scan's. -/
theorem pb_at (A : FVec Ideal S256x8 .f32) (r : Fin 256 → ℝ) (j : Fin 8) (hr : ∀ t, A (ix2 t j) = (r t : EReal)) (t : Fin 256) :
    k0_pay53 (F := Ideal) A k0_pay17 (ix2 t j) = ((∑ s, if s ≤ t then r s else 0 : ℝ) : EReal) := by
  rw [← Cert.Ssd.tri' (by norm_num) _ _ hr t]
  unfold k0_pay53 k0_pay17 k0_pay15
  pointwise [Ideal.ofBits_zero_f32]

/-- The kernel's activated columns. -/
theorem act_at (v : FVec Ideal S256x512 .f32) (t : Fin 256) (j : Fin 512) : k0_pay8 (F := Ideal) v k0_pay7 (ix2 t j) = Cert.Ssd.sil (v (ix2 t j)) := by
  unfold k0_pay8 k0_pay7 Cert.Ssd.sil
  pointwise [Ideal.ofBits_zero_f32]
  rw [zero_sub]

/-- The kernel's convolution of a batch, from the columns. -/
abbrev cvk (x : FVec Ideal S256x512 .f32) (b w0 w1 w2 w3 w4 : FVec Ideal S1x512 .f32) : FVec Ideal S256x512 .f32 :=
  k0_pay6 x (k0_pay1 x b w2 w0) w1 (k0_pay2 x) k0_pay3 k0_pay4 k0_pay5 w3 w4

/-- The step column of a direction and a head. -/
def col (e : Fin 2) (h : Fin 4) : Fin 8 := ⟨e.val * 4 + h.val, by omega⟩

/-- The value column of a head. -/
def xcol (h : Fin 4) (p : Fin 64) : Fin 512 := ⟨h.val * 64 + p.val, by omega⟩

/-- The key column of a head. -/
def ycol (h : Fin 4) (n : Fin 64) : Fin 512 := ⟨256 + (h.val / 2 * 64 + n.val), by omega⟩

/-- What a batch's block reads of the arrays. -/
structure Reads (x : FVec Ideal S256x512 .f32) (bb w0 w1 w2 w3 w4 : FVec Ideal S1x512 .f32) (mm : FVec Ideal S256x8 .f32) (a d : FVec Ideal S1x8 .f32)
    (U : FVec Ideal S6144x768 .f32) (M : FVec Ideal S6144x128 .f32) (W : FVec Ideal S5x512 .f32) (B : FVec Ideal S512 .f32) (al db : FVec Ideal S2x4 .f32) (b : Fin 16) : Prop where
  hx : ∀ (i : Fin 256) (j : Fin 512), x (ix2 i j) = U (ix2 ⟨b.val * 256 + i.val, by omega⟩ ⟨256 + j.val, by omega⟩)
  hb : ∀ j, bb (ix2 0 j) = B (ix1 j)
  h0 : ∀ j, w0 (ix2 0 j) = W (ix2 0 j)
  h1 : ∀ j, w1 (ix2 0 j) = W (ix2 1 j)
  h2 : ∀ j, w2 (ix2 0 j) = W (ix2 2 j)
  h3 : ∀ j, w3 (ix2 0 j) = W (ix2 3 j)
  h4 : ∀ j, w4 (ix2 0 j) = W (ix2 4 j)
  hm : ∀ (i : Fin 256) (j : Fin 8), mm (ix2 i j) = M (ix2 ⟨b.val * 256 + i.val, by omega⟩ ⟨j.val, by omega⟩)
  ha : ∀ (e : Fin 2) (h : Fin 4), a (ix2 0 (col e h)) = al (ix2 e h)
  hd : ∀ (e : Fin 2) (h : Fin 4), d (ix2 0 (col e h)) = db (ix2 e h)

variable {x : FVec Ideal S256x512 .f32} {bb w0 w1 w2 w3 w4 : FVec Ideal S1x512 .f32} {mm : FVec Ideal S256x8 .f32} {a d : FVec Ideal S1x8 .f32}
  {U : FVec Ideal S6144x768 .f32} {M : FVec Ideal S6144x128 .f32} {W : FVec Ideal S5x512 .f32} {B : FVec Ideal S512 .f32} {al db : FVec Ideal S2x4 .f32} {b : Fin 16}
  (R : Reads x bb w0 w1 w2 w3 w4 mm a d U M W B al db b)
include R

/-- The batch's activated columns. -/
theorem Reads.act (t : Fin 256) (j : Fin 512) : k0_pay8 (F := Ideal) (cvk x bb w0 w1 w2 w3 w4) k0_pay7 (ix2 t j) = Cert.Ssd.sil (Cert.Ssd.cnv U W B b t j) := by
  rw [act_at]
  unfold cvk
  rw [cnv_at]
  unfold Cert.Ssd.cnv
  simp only [padk_eq x U b R.hx, R.hb, R.h0, R.h1, R.h2, R.h3, R.h4]

/-- The batch's step sizes. -/
theorem Reads.dt (e : Fin 2) (h : Fin 4) (t : Fin 256) : k0_pay10 (F := Ideal) mm d (ix2 t (col e h)) = Cert.Ssd.dt M db b e h t := by
  rw [dt_at, R.hm, R.hd]
  rfl

/-- The batch's log decays. -/
theorem Reads.stp (e : Fin 2) (h : Fin 4) (t : Fin 256) :
    k0_pay13 (F := Ideal) (k0_pay10 mm d) (k0_pay12 a) (FloatOps.ofBits .f32 0#32) (ix2 t (col e h)) = Cert.Ssd.stp M al db b e h t := by
  rw [stp_at, R.dt, R.ha]
  rfl

end Cert.Kernel6Ideal.At

end
-- ==== Proof.SsdPay.lean ====
/- The state-space mixer's payloads, element by element. -/
module

public import proofs.«01_k».proof.Proof.SsdEl
public import proofs.«01_k».proof.Proof.Gen.Kernel6Ideal.Skeleton

@[expose] public section

set_option maxRecDepth 16384

noncomputable section

open Idealize.ShloMosaic Idealize.ShloMosaic.TcCoe Idealize.SL.Sem

namespace Cert.Kernel6Ideal.At

open Cert.Kernel6Ideal Cert.Kernel6Ideal.Gen

/-- The forward state of a head: its values in columns from `x`, its keys in columns from `y`, its steps in column `j`. -/
def fwd (X : FVec Ideal S256x512 .f32) (D P : FVec Ideal S256x8 .f32) (h : EReal) (j : Fin 8) (x y : Fin 512) : EReal :=
  h * Ideal.exp (P (ix2 255 j)) + ∑ t : Fin 256, X (ix2 t x) * (D (ix2 t j) * Ideal.exp (P (ix2 255 j) - P (ix2 t j))) * X (ix2 t y)

/-- The backward state of a head. -/
def bwd (X : FVec Ideal S256x512 .f32) (D P A : FVec Ideal S256x8 .f32) (h : EReal) (j : Fin 8) (x y : Fin 512) : EReal :=
  h * Ideal.exp (P (ix2 255 j)) + ∑ t : Fin 256, X (ix2 t x) * (D (ix2 t j) * Ideal.exp (P (ix2 t j) - A (ix2 t j))) * X (ix2 t y)

variable (v w : FVec Ideal S256x512 .f32) (D P A : FVec Ideal S256x8 .f32) (z : Vec Ideal S1x1x1x64x64 .f32) (p n : Fin 64)

/-- The first head's forward state. -/
theorem f0_at : k0_pay78 (F := Ideal) (k0_pay29 D (k0_pay18 z) P (k0_pay24 (k0_pay9 v w)) (k0_pay25 (k0_pay8 v w))) (ix5 0 0 0 p n)
    = fwd (k0_pay8 v w) D P (z (ix5 0 0 0 p n)) 0 ⟨0 + p.val, by omega⟩ ⟨256 + n.val, by omega⟩ := by
  unfold k0_pay78 k0_pay29 k0_pay18 k0_pay24 k0_pay9 k0_pay25 k0_pay8 fwd
  pointwise

/-- The second head's forward state. -/
theorem f1_at : shapeCast S1x1x1x64x64 (k0_pay36 (F := Ideal) (k0_pay30 (k0_pay9 v w)) (k0_pay31 (k0_pay8 v w)) (k0_pay34 D P) (k0_pay35 (k0_pay19 z) P)) shapeCasts_S64x64_S1x1x1x64x64 (ix5 0 0 0 p n)
    = fwd (k0_pay8 v w) D P (z (ix5 0 0 0 p n)) 1 ⟨64 + p.val, by omega⟩ ⟨256 + n.val, by omega⟩ := by
  unfold k0_pay36 k0_pay30 k0_pay9 k0_pay31 k0_pay8 k0_pay34 k0_pay35 k0_pay33 k0_pay19 fwd
  pointwise

/-- The third head's forward state. -/
theorem f2_at : shapeCast S1x1x1x64x64 (k0_pay43 (F := Ideal) (k0_pay20 z) (k0_pay37 (k0_pay9 v w)) (k0_pay38 (k0_pay8 v w)) (k0_pay40 P) (k0_pay41 D) (k0_pay42 P)) shapeCasts_S64x64_S1x1x1x64x64 (ix5 0 0 0 p n)
    = fwd (k0_pay8 v w) D P (z (ix5 0 0 0 p n)) 2 ⟨128 + p.val, by omega⟩ ⟨320 + n.val, by omega⟩ := by
  unfold k0_pay43 k0_pay20 k0_pay37 k0_pay9 k0_pay38 k0_pay8 k0_pay41 k0_pay42 k0_pay40 fwd
  pointwise

/-- The fourth head's forward state. -/
theorem f3_at : shapeCast S1x1x1x64x64 (k0_pay47 (F := Ideal) D (k0_pay21 z) P (k0_pay44 (k0_pay9 v w)) (k0_pay45 (k0_pay8 v w))) shapeCasts_S64x64_S1x1x1x64x64 (ix5 0 0 0 p n)
    = fwd (k0_pay8 v w) D P (z (ix5 0 0 0 p n)) 3 ⟨192 + p.val, by omega⟩ ⟨320 + n.val, by omega⟩ := by
  unfold k0_pay47 k0_pay21 k0_pay44 k0_pay9 k0_pay45 k0_pay8 fwd
  pointwise

/-- The first head's backward state. -/
theorem b0_at : k0_pay79 (F := Ideal) (k0_pay61 D (k0_pay49 z) (k0_pay54 (k0_pay9 v w)) (k0_pay55 (k0_pay8 v w)) (k0_pay57 A k0_pay17) (k0_pay58 A k0_pay17)) (ix5 0 0 0 p n)
    = bwd (k0_pay8 v w) D (k0_pay53 A k0_pay17) A (z (ix5 0 0 0 p n)) 4 ⟨0 + p.val, by omega⟩ ⟨256 + n.val, by omega⟩ := by
  unfold k0_pay79 k0_pay61 k0_pay49 k0_pay54 k0_pay9 k0_pay55 k0_pay8 k0_pay57 k0_pay58 bwd
  pointwise

/-- The second head's backward state. -/
theorem b1_at : shapeCast S1x1x1x64x64 (k0_pay65 (F := Ideal) (k0_pay8 v w) (k0_pay9 v w) D A (k0_pay50 z) (k0_pay53 A k0_pay17)) shapeCasts_S64x64_S1x1x1x64x64 (ix5 0 0 0 p n)
    = bwd (k0_pay8 v w) D (k0_pay53 A k0_pay17) A (z (ix5 0 0 0 p n)) 5 ⟨64 + p.val, by omega⟩ ⟨256 + n.val, by omega⟩ := by
  unfold k0_pay65 k0_pay50 k0_pay9 k0_pay8 k0_pay62 k0_pay63 bwd
  pointwise

/-- The third head's backward state. -/
theorem b2_at : shapeCast S1x1x1x64x64 (k0_pay73 (F := Ideal) (k0_pay51 z) (k0_pay66 (k0_pay9 v w)) (k0_pay67 (k0_pay8 v w)) (k0_pay71 D A (k0_pay53 A k0_pay17)) (k0_pay72 (k0_pay53 A k0_pay17))) shapeCasts_S64x64_S1x1x1x64x64 (ix5 0 0 0 p n)
    = bwd (k0_pay8 v w) D (k0_pay53 A k0_pay17) A (z (ix5 0 0 0 p n)) 6 ⟨128 + p.val, by omega⟩ ⟨320 + n.val, by omega⟩ := by
  unfold k0_pay73 k0_pay51 k0_pay66 k0_pay9 k0_pay67 k0_pay8 k0_pay71 k0_pay72 k0_pay68 k0_pay69 bwd
  pointwise

/-- The fourth head's backward state. -/
theorem b3_at : shapeCast S1x1x1x64x64 (k0_pay76 (F := Ideal) (k0_pay8 v w) (k0_pay9 v w) D A (k0_pay52 z) (k0_pay53 A k0_pay17)) shapeCasts_S64x64_S1x1x1x64x64 (ix5 0 0 0 p n)
    = bwd (k0_pay8 v w) D (k0_pay53 A k0_pay17) A (z (ix5 0 0 0 p n)) 7 ⟨192 + p.val, by omega⟩ ⟨320 + n.val, by omega⟩ := by
  unfold k0_pay76 k0_pay52 k0_pay9 k0_pay8 k0_pay74 k0_pay75 bwd
  pointwise

end Cert.Kernel6Ideal.At

end
-- ==== Proof.SsdState.lean ====
/- A head's state from the kernel's formula is the state of the batch, the direction and the head. -/
module

public import proofs.«01_k».proof.Proof.SsdConv
public import proofs.«01_k».proof.Proof.SsdPay

@[expose] public section

set_option maxRecDepth 16384

noncomputable section

open Idealize.ShloMosaic Idealize.ShloMosaic.TcCoe Idealize.SL.Sem

namespace Cert.Kernel6Ideal.At

open Cert.Kernel6Ideal Cert.Kernel6Ideal.Gen

variable {x : FVec Ideal S256x512 .f32} {bb w0 w1 w2 w3 w4 : FVec Ideal S1x512 .f32} {mm : FVec Ideal S256x8 .f32} {a d : FVec Ideal S1x8 .f32}
  {U : FVec Ideal S6144x768 .f32} {M : FVec Ideal S6144x128 .f32} {W : FVec Ideal S5x512 .f32} {B : FVec Ideal S512 .f32} {al db : FVec Ideal S2x4 .f32} {b : Fin 16}
  (R : Reads x bb w0 w1 w2 w3 w4 mm a d U M W B al db b)
  (hs : ∀ b d h t, Cert.Ssd.stp M al db b d h t = (((Cert.Ssd.stp M al db b d h t).toReal : ℝ) : EReal))
include R hs

/-- The forward states. -/
theorem Reads.fwd (h : Fin 4) (p n : Fin 64) (z : EReal) (hz : z = 0) (j : Fin 8) (i k : Fin 512) (hj : j.val = h.val) (hi : i.val = h.val * 64 + p.val)
    (hk : k.val = 256 + (h.val / 2 * 64 + n.val)) :
    At.fwd (k0_pay8 (cvk x bb w0 w1 w2 w3 w4) k0_pay7) (k0_pay10 mm d) (k0_pay22 (k0_pay10 mm d) (k0_pay12 a) (FloatOps.ofBits .f32 0#32)) z j i k
      = Cert.Ssd.el U M W B al db b 0 h p n := by
  obtain rfl : j = col 0 h := Fin.ext (hj.trans (by unfold col; simp))
  obtain rfl : i = xcol h p := Fin.ext hi
  obtain rfl : k = ycol h n := Fin.ext hk
  unfold Cert.Ssd.el At.fwd
  rw [if_pos rfl, Cert.Ssd.fin_of (fun t => (Cert.Ssd.stp M al db b 0 h t).toReal)
    (fun t => k0_pay22 (F := Ideal) (k0_pay10 mm d) (k0_pay12 a) (FloatOps.ofBits .f32 0#32) (ix2 t (col 0 h)))
    _ _ _ _ _ hz (fun t => pf_at _ _ _ _ (fun t => (R.stp 0 h t).trans (hs b 0 h t)) t)]
  refine congrArg (Cert.Ssd.fin _) (funext fun t => ?_)
  show k0_pay8 (F := Ideal) _ _ _ * k0_pay10 (F := Ideal) _ _ _ * k0_pay8 (F := Ideal) _ _ _ = _
  rw [R.act, R.act, R.dt]
  rfl

/-- The backward states. -/
theorem Reads.bwd (h : Fin 4) (p n : Fin 64) (z : EReal) (hz : z = 0) (j : Fin 8) (i k : Fin 512) (hj : j.val = 4 + h.val) (hi : i.val = h.val * 64 + p.val)
    (hk : k.val = 256 + (h.val / 2 * 64 + n.val)) :
    At.bwd (k0_pay8 (cvk x bb w0 w1 w2 w3 w4) k0_pay7) (k0_pay10 mm d) (k0_pay53 (k0_pay13 (k0_pay10 mm d) (k0_pay12 a) (FloatOps.ofBits .f32 0#32)) k0_pay17)
      (k0_pay13 (k0_pay10 mm d) (k0_pay12 a) (FloatOps.ofBits .f32 0#32)) z j i k
      = Cert.Ssd.el U M W B al db b 1 h p n := by
  obtain rfl : j = col 1 h := Fin.ext (hj.trans (by unfold col; simp))
  obtain rfl : i = xcol h p := Fin.ext hi
  obtain rfl : k = ycol h n := Fin.ext hk
  have hA := fun t => (R.stp 1 h t).trans (hs b 1 h t)
  unfold Cert.Ssd.el At.bwd
  rw [if_neg (by decide), Cert.Ssd.bin_of (fun t => (Cert.Ssd.stp M al db b 1 h t).toReal)
    (fun t => k0_pay53 (F := Ideal) (k0_pay13 (k0_pay10 mm d) (k0_pay12 a) (FloatOps.ofBits .f32 0#32)) k0_pay17 (ix2 t (col 1 h)))
    (fun t => k0_pay13 (F := Ideal) (k0_pay10 mm d) (k0_pay12 a) (FloatOps.ofBits .f32 0#32) (ix2 t (col 1 h)))
    _ _ _ _ _ hz (fun t => pb_at _ _ _ hA t) hA]
  refine congrArg (Cert.Ssd.bin _) (funext fun t => ?_)
  show k0_pay8 (F := Ideal) _ _ _ * k0_pay10 (F := Ideal) _ _ _ * k0_pay8 (F := Ideal) _ _ _ = _
  rw [R.act, R.act, R.dt]
  rfl

end Cert.Kernel6Ideal.At

end
-- ==== Proof.SsdBlock.lean ====
/- What a batch's block reads of the argument arrays. -/
module

public import proofs.«01_k».proof.Proof.SsdState
public import proofs.«01_k».proof.Proof.Gen.Kernel6Ideal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel6Ideal.At

open Cert.Kernel6Ideal Cert.Kernel6Ideal.Gen

variable (m : (ℓ : Loc nD τ sig) → Buf (Elt Ideal) ℓ)

/-- The windows' block indices. -/
theorem idx : ∀ t : Fin cfg0.N, t.val < 16 ∧ win0_0.index t = ![t.val, 0] ∧ win0_1.index t = ![t.val, 0] ∧ win0_3.index t = ![0, 0] ∧ win0_4.index t = ![0, 0]
    ∧ win0_5.index t = ![0, 0] ∧ win0_7.index t = ![0, 0] ∧ win0_11.index t = ![t.val, 0, 0, 0, 0] ∧ win0_13.index t = ![t.val, 0, 0, 0, 0] :=
  (by decide +kernel : ∀ t : Fin grid0.N, _)

/-- The batch of point `t`. -/
def bat (t : Fin cfg0.N) : Fin 16 := ⟨t.val, (idx t).1⟩

/-- The convolution's bias as the kernel is given it. -/
theorem V_bias (c : Dev nD) : V m c main_v0 = broadcastInDim S1x512 ![1] bcast_S512_S1x512_1 (show FVec Ideal S512 .f32 from m ((c : Thread nD τ).loc main_arg4)) := by
  unfold V
  after_results_simp

/-- The decay rates as the kernel is given them. -/
theorem V_al (c : Dev nD) : V m c main_v1 = shapeCast S1x8 (show FVec Ideal S2x4 .f32 from m ((c : Thread nD τ).loc main_arg5)) shapeCasts_S2x4_S1x8 := by
  unfold V
  after_results_simp
  rfl

/-- The steps' bias as the kernel is given it. -/
theorem V_db (c : Dev nD) : V m c main_v3 = shapeCast S1x8 (show FVec Ideal S2x4 .f32 from m ((c : Thread nD τ).loc main_arg6)) shapeCasts_S2x4_S1x8 := by
  unfold V
  after_results_simp
  rfl

/-- The initial states the kernel is given. -/
theorem V_h0 (c : Dev nD) : V m c main_v9 = broadcastInDim S16x2x4x64x64 ![] bcast_S_S16x2x4x64x64 (constant (F := Ideal) S_ .f32 0x00000000#32) := by
  unfold V
  after_results_simp

/-- A point's columns. -/
theorem u_blk (c : Dev nD) (t : Fin cfg0.N) (i : Fin 256) (j : Fin 768) :
    (show FVec Ideal S256x768 .f32 from iblk m c 0 t) (ix2 i j) = (show FVec Ideal S6144x768 .f32 from m ((c : Thread nD τ).loc main_arg0)) (ix2 ⟨(bat t).val * 256 + i.val, by omega⟩ j) := by
  unfold bat
  blk_ext [iblk, V, idx t]

/-- A point's step columns. -/
theorem s_blk (c : Dev nD) (t : Fin cfg0.N) (i : Fin 256) (j : Fin 128) :
    (show FVec Ideal S256x128 .f32 from iblk m c 1 t) (ix2 i j) = (show FVec Ideal S6144x128 .f32 from m ((c : Thread nD τ).loc main_arg1)) (ix2 ⟨(bat t).val * 256 + i.val, by omega⟩ j) := by
  unfold bat
  blk_ext [iblk, V, idx t]

/-- A point's taps. -/
theorem w_blk (c : Dev nD) (t : Fin cfg0.N) (i : Fin 5) (j : Fin 512) :
    (show FVec Ideal S5x512 .f32 from iblk m c 3 t) (ix2 i j) = (show FVec Ideal S5x512 .f32 from m ((c : Thread nD τ).loc main_arg3)) (ix2 i j) := by
  blk_ext [iblk, V, idx t]

/-- A point's convolution bias. -/
theorem b_blk (c : Dev nD) (t : Fin cfg0.N) (j : Fin 512) :
    (show FVec Ideal S1x512 .f32 from iblk m c 4 t) (ix2 0 j) = (show FVec Ideal S512 .f32 from m ((c : Thread nD τ).loc main_arg4)) (ix1 j) := by
  blk_simp [iblk, idx t]
  refine (congrFun (V_bias m c) _).trans ?_
  have e : (win0_4.blk t).view.emb (ix2 0 j) = ix2 0 j := by blk_ext [idx t]
  rw [e]
  pointwise

/-- A point's decay rates. -/
theorem al_blk (c : Dev nD) (t : Fin cfg0.N) (e : Fin 2) (h : Fin 4) :
    (show FVec Ideal S1x8 .f32 from iblk m c 5 t) (ix2 0 (col e h)) = (show FVec Ideal S2x4 .f32 from m ((c : Thread nD τ).loc main_arg5)) (ix2 e h) := by
  unfold col
  blk_simp [iblk, idx t]
  refine (congrFun (V_al m c) _).trans ?_
  have q : (win0_5.blk t).view.emb (ix2 0 ⟨e.val * 4 + h.val, by omega⟩) = ix2 0 ⟨e.val * 4 + h.val, by omega⟩ := by blk_ext [idx t]
  rw [q]
  pointwise

/-- A point's step bias. -/
theorem db_blk (c : Dev nD) (t : Fin cfg0.N) (e : Fin 2) (h : Fin 4) :
    (show FVec Ideal S1x8 .f32 from iblk m c 7 t) (ix2 0 (col e h)) = (show FVec Ideal S2x4 .f32 from m ((c : Thread nD τ).loc main_arg6)) (ix2 e h) := by
  unfold col
  blk_simp [iblk, idx t]
  refine (congrFun (V_db m c) _).trans ?_
  have q : (win0_7.blk t).view.emb (ix2 0 ⟨e.val * 4 + h.val, by omega⟩) = ix2 0 ⟨e.val * 4 + h.val, by omega⟩ := by blk_ext [idx t]
  rw [q]
  pointwise

/-- A point's initial states are zero. -/
theorem h_blk (c : Dev nD) (t : Fin cfg0.N) (y : S1x2x4x64x64.Idx) : (show FVec Ideal S1x2x4x64x64 .f32 from iblk m c 11 t) y = (0 : EReal) := by
  blk_simp [iblk, idx t]
  refine (congrFun (V_h0 m c) _).trans ?_
  pointwise [Ideal.ofBits_zero_f32]

/-- A load of some rows and columns of a two-dimensional block. -/
theorem ld_at {n k a b : ℕ} (X : Vec Ideal ⟨2, ![n, k]⟩ .f32) (o q : ℕ) (inb) (i : Fin a) (j : Fin b) (i' : Fin n) (j' : Fin k) (h0 : i'.val = o + i.val) (h1 : j'.val = q + j.val) :
    View.ld X (Rect.unit (s := ⟨2, ![n, k]⟩) ![o, q] ![a, b] inb) (ix2 i j) = X (ix2 i' j') :=
  congrArg X (funext fun x => Fin.ext (match x with
    | ⟨0, _⟩ => by show o + 1 * i.val = i'.val; omega
    | ⟨1, _⟩ => by show q + 1 * j.val = j'.val; omega))

/-- What a point's block reads of the arrays. -/
theorem reads (c : Dev nD) (t : Fin cfg0.N) : Reads (View.ld (iblk m c 0 t) (Rect.unit ![0, 256] ![256, 512] inb_S256x768_S256x512_0_256)) (iblk m c 4 t)
    (View.ld (iblk m c 3 t) (Rect.unit ![0, 0] ![1, 512] inb_S5x512_S1x512_0_0)) (View.ld (iblk m c 3 t) (Rect.unit ![1, 0] ![1, 512] inb_S5x512_S1x512_1_0))
    (View.ld (iblk m c 3 t) (Rect.unit ![2, 0] ![1, 512] inb_S5x512_S1x512_2_0)) (View.ld (iblk m c 3 t) (Rect.unit ![3, 0] ![1, 512] inb_S5x512_S1x512_3_0))
    (View.ld (iblk m c 3 t) (Rect.unit ![4, 0] ![1, 512] inb_S5x512_S1x512_4_0)) (View.ld (iblk m c 1 t) (Rect.unit ![0, 0] ![256, 8] inb_S256x128_S256x8_0_0))
    (iblk m c 5 t) (iblk m c 7 t) (m ((c : Thread nD τ).loc main_arg0)) (m ((c : Thread nD τ).loc main_arg1)) (m ((c : Thread nD τ).loc main_arg3))
    (m ((c : Thread nD τ).loc main_arg4)) (m ((c : Thread nD τ).loc main_arg5)) (m ((c : Thread nD τ).loc main_arg6)) (bat t) where
  hx i j := (ld_at _ _ _ _ i j i ⟨256 + j.val, by omega⟩ (by simp) rfl).trans (u_blk m c t i ⟨256 + j.val, by omega⟩)
  hb j := b_blk m c t j
  h0 j := (ld_at _ _ _ _ 0 j 0 j rfl (by simp)).trans (w_blk m c t 0 j)
  h1 j := (ld_at _ _ _ _ 0 j 1 j rfl (by simp)).trans (w_blk m c t 1 j)
  h2 j := (ld_at _ _ _ _ 0 j 2 j rfl (by simp)).trans (w_blk m c t 2 j)
  h3 j := (ld_at _ _ _ _ 0 j 3 j rfl (by simp)).trans (w_blk m c t 3 j)
  h4 j := (ld_at _ _ _ _ 0 j 4 j rfl (by simp)).trans (w_blk m c t 4 j)
  hm i j := (ld_at _ _ _ _ i j i ⟨j.val, by omega⟩ (by simp) (by simp)).trans (s_blk m c t i ⟨j.val, by omega⟩)
  ha e h := al_blk m c t e h
  hd e h := db_blk m c t e h

end Cert.Kernel6Ideal.At

end
-- ==== Proof.SsdFinal.lean ====
/- The array of final states after the kernel's run, as a function of its argument arrays. -/
module

public import proofs.«01_k».proof.Proof.SsdBlock

@[expose] public section

set_option maxRecDepth 16384

noncomputable section

open Idealize.ShloMosaic Idealize.ShloMosaic.TcCoe Idealize.SL.Sem
open Idealize.ShloMosaic.Pipeline (Dat)

namespace Cert.Ssd

/-- An array of states from its elements. -/
def G (f : Fin 16 → Fin 2 → Fin 4 → Fin 64 → Fin 64 → EReal) : (⟨5, ![16, 2, 4, 64, 64]⟩ : Shape).Idx → EReal :=
  fun p => f ⟨(p 0).val, (p 0).isLt⟩ ⟨(p 1).val, (p 1).isLt⟩ ⟨(p 2).val, (p 2).isLt⟩ ⟨(p 3).val, (p 3).isLt⟩ ⟨(p 4).val, (p 4).isLt⟩

/-- An element of the array. -/
theorem G_at (f : Fin 16 → Fin 2 → Fin 4 → Fin 64 → Fin 64 → EReal) (x : (⟨5, ![16, 2, 4, 64, 64]⟩ : Shape).Idx) (b : Fin 16) (d : Fin 2) (h : Fin 4) (p n : Fin 64)
    (h0 : (x 0).val = b) (h1 : (x 1).val = d) (h2 : (x 2).val = h) (h3 : (x 3).val = p) (h4 : (x 4).val = n) : G f x = f b d h p n := by
  unfold G
  congr 1 <;> apply Fin.ext <;> simp only [h0, h1, h2, h3, h4]

end Cert.Ssd

namespace Cert.Kernel6Ideal.At

open Cert.Kernel6Ideal Cert.Kernel6Ideal.Gen

/-- A head's stored state, found under its own rectangle. -/
theorem canon_hit (d : Fin 2) (h : Fin 4) (o q : ℕ) (inb) (w : FVec Ideal S1x1x1x64x64 .f32) (L : List (View.Piece (Elt Ideal) S1x2x4x64x64 .f32)) (p n : Fin 64)
    (h0 : o = d.val) (h1 : q = h.val) :
    View.canon (⟨Rect.unit (s := S1x2x4x64x64) ![0, o, q, 0, 0] ![1, 1, 1, 64, 64] inb, w⟩ :: L) (ix5 0 d h p n) = w (ix5 0 0 0 p n) := by
  have hy : (ix5 0 d h p n : S1x2x4x64x64.Idx) = (Rect.unit (s := S1x2x4x64x64) ![0, o, q, 0, 0] ![1, 1, 1, 64, 64] inb).emb (ix5 0 0 0 p n) :=
    funext fun x => Fin.ext (match x with
      | ⟨0, _⟩ => rfl
      | ⟨1, _⟩ => by show d.val = o + 1 * 0; omega
      | ⟨2, _⟩ => by show h.val = q + 1 * 0; omega
      | ⟨3, _⟩ => by show p.val = 0 + 1 * p.val; omega
      | ⟨4, _⟩ => by show n.val = 0 + 1 * n.val; omega)
  rw [hy]
  exact View.canon_cons_emb _ _ _ _

/-- Off a head's stored state the states are those of the earlier stores. -/
theorem canon_miss (d : Fin 2) (h : Fin 4) (o q : ℕ) (inb) (w : FVec Ideal S1x1x1x64x64 .f32) (L : List (View.Piece (Elt Ideal) S1x2x4x64x64 .f32)) (p n : Fin 64)
    (hne : o ≠ d.val ∨ q ≠ h.val) :
    View.canon (⟨Rect.unit (s := S1x2x4x64x64) ![0, o, q, 0, 0] ![1, 1, 1, 64, 64] inb, w⟩ :: L) (ix5 0 d h p n) = View.canon L (ix5 0 d h p n) := by
  refine View.canon_cons_of_not_mem _ _ fun hm => ?_
  obtain ⟨x, hx⟩ := LoadRect.exists_idx_of_mem _ hm
  have e0 := congrArg (fun y : S1x2x4x64x64.Idx => (y 1).val) hx
  have e1 := congrArg (fun y : S1x2x4x64x64.Idx => (y 2).val) hx
  have l0 : (x 1).val < 1 := (x 1).isLt
  have l1 : (x 2).val < 1 := (x 2).isLt
  have g0 : o + 1 * (x 1).val = d.val := e0
  have g1 : q + 1 * (x 2).val = h.val := e1
  omega

/-- Eight heads' states, stored one after another. -/
theorem canon8 (f : Fin 2 → Fin 4 → Fin 64 → Fin 64 → EReal) (i0 i1 i2 i3 i4 i5 i6 i7) (b3 f3 b2 f2 b1 f1 b0 f0 : FVec Ideal S1x1x1x64x64 .f32)
    (hb3 : ∀ p n, b3 (ix5 0 0 0 p n) = f 1 3 p n) (hf3 : ∀ p n, f3 (ix5 0 0 0 p n) = f 0 3 p n)
    (hb2 : ∀ p n, b2 (ix5 0 0 0 p n) = f 1 2 p n) (hf2 : ∀ p n, f2 (ix5 0 0 0 p n) = f 0 2 p n)
    (hb1 : ∀ p n, b1 (ix5 0 0 0 p n) = f 1 1 p n) (hf1 : ∀ p n, f1 (ix5 0 0 0 p n) = f 0 1 p n)
    (hb0 : ∀ p n, b0 (ix5 0 0 0 p n) = f 1 0 p n) (hf0 : ∀ p n, f0 (ix5 0 0 0 p n) = f 0 0 p n) (d : Fin 2) (h : Fin 4) (p n : Fin 64) :
    View.canon (Val := Elt Ideal) (s := S1x2x4x64x64) (e := .f32) [⟨Rect.unit (s := S1x2x4x64x64) ![0, 1, 3, 0, 0] ![1, 1, 1, 64, 64] i0, b3⟩, ⟨Rect.unit (s := S1x2x4x64x64) ![0, 0, 3, 0, 0] ![1, 1, 1, 64, 64] i1, f3⟩,
      ⟨Rect.unit (s := S1x2x4x64x64) ![0, 1, 2, 0, 0] ![1, 1, 1, 64, 64] i2, b2⟩, ⟨Rect.unit (s := S1x2x4x64x64) ![0, 0, 2, 0, 0] ![1, 1, 1, 64, 64] i3, f2⟩,
      ⟨Rect.unit (s := S1x2x4x64x64) ![0, 1, 1, 0, 0] ![1, 1, 1, 64, 64] i4, b1⟩, ⟨Rect.unit (s := S1x2x4x64x64) ![0, 0, 1, 0, 0] ![1, 1, 1, 64, 64] i5, f1⟩,
      ⟨Rect.unit (s := S1x2x4x64x64) ![0, 1, 0, 0, 0] ![1, 1, 1, 64, 64] i6, b0⟩, ⟨Rect.unit (s := S1x2x4x64x64) ![0, 0, 0, 0, 0] ![1, 1, 1, 64, 64] i7, f0⟩] (ix5 0 d h p n) = f d h p n := by
  by_cases c7 : d = 1 ∧ h = 3
  · obtain ⟨rfl, rfl⟩ := c7
    rw [canon_hit _ _ _ _ _ _ _ _ _ (by rfl) (by rfl), hb3]
  rw [canon_miss _ _ _ _ _ _ _ _ _ (by omega)]
  by_cases c6 : d = 0 ∧ h = 3
  · obtain ⟨rfl, rfl⟩ := c6
    rw [canon_hit _ _ _ _ _ _ _ _ _ (by rfl) (by rfl), hf3]
  rw [canon_miss _ _ _ _ _ _ _ _ _ (by omega)]
  by_cases c5 : d = 1 ∧ h = 2
  · obtain ⟨rfl, rfl⟩ := c5
    rw [canon_hit _ _ _ _ _ _ _ _ _ (by rfl) (by rfl), hb2]
  rw [canon_miss _ _ _ _ _ _ _ _ _ (by omega)]
  by_cases c4 : d = 0 ∧ h = 2
  · obtain ⟨rfl, rfl⟩ := c4
    rw [canon_hit _ _ _ _ _ _ _ _ _ (by rfl) (by rfl), hf2]
  rw [canon_miss _ _ _ _ _ _ _ _ _ (by omega)]
  by_cases c3 : d = 1 ∧ h = 1
  · obtain ⟨rfl, rfl⟩ := c3
    rw [canon_hit _ _ _ _ _ _ _ _ _ (by rfl) (by rfl), hb1]
  rw [canon_miss _ _ _ _ _ _ _ _ _ (by omega)]
  by_cases c2 : d = 0 ∧ h = 1
  · obtain ⟨rfl, rfl⟩ := c2
    rw [canon_hit _ _ _ _ _ _ _ _ _ (by rfl) (by rfl), hf1]
  rw [canon_miss _ _ _ _ _ _ _ _ _ (by omega)]
  by_cases c1 : d = 1 ∧ h = 0
  · obtain ⟨rfl, rfl⟩ := c1
    rw [canon_hit _ _ _ _ _ _ _ _ _ (by rfl) (by rfl), hb0]
  rw [canon_miss _ _ _ _ _ _ _ _ _ (by omega)]
  obtain ⟨rfl, rfl⟩ : d = 0 ∧ h = 0 := by omega
  rw [canon_hit _ _ _ _ _ _ _ _ _ (by rfl) (by rfl), hf0]

variable (m : (ℓ : Loc nD τ sig) → Buf (Elt Ideal) ℓ)

/-- The array: every batch's final states, both directions', every head's. -/
theorem final (c : Dev nD)
    (hs : ∀ b d h t, Cert.Ssd.stp (m ((c : Thread nD τ).loc main_arg1)) (m ((c : Thread nD τ).loc main_arg5)) (m ((c : Thread nD τ).loc main_arg6)) b d h t
      = (((Cert.Ssd.stp (m ((c : Thread nD τ).loc main_arg1)) (m ((c : Thread nD τ).loc main_arg5)) (m ((c : Thread nD τ).loc main_arg6)) b d h t).toReal : ℝ) : EReal)) :
    (dats m 0 c).arrAt 13 cfg0.N = Cert.Ssd.G (Cert.Ssd.el (m ((c : Thread nD τ).loc main_arg0)) (m ((c : Thread nD τ).loc main_arg1))
      (m ((c : Thread nD τ).loc main_arg3)) (m ((c : Thread nD τ).loc main_arg4)) (m ((c : Thread nD τ).loc main_arg5)) (m ((c : Thread nD τ).loc main_arg6))) := by
  refine (dats m 0 c).arrAt_eq_of_covers 13 _ (by decide +kernel) fun t _ y => ?_
  blk_simp
  rw [after0_13]
  unfold outsAt0
  dsimp only
  frame_out
  obtain ⟨o, d, h, p, n, rfl⟩ : ∃ (o : Fin 1) (d : Fin 2) (h : Fin 4) (p n : Fin 64), y = ix5 o d h p n := ⟨y 0, y 1, y 2, y 3, y 4, eq_ix5 y⟩
  obtain rfl : o = 0 := Subsingleton.elim _ _
  rw [Cert.Ssd.G_at _ _ (bat t) d h p n (by unfold bat; blk_simp [idx t]; rfl) (by blk_simp [idx t]) (by blk_simp [idx t]) (by blk_simp [idx t]) (by blk_simp [idx t])]
  have R := reads m c t
  refine canon8 (fun d h p n => Cert.Ssd.el _ _ _ _ _ _ (bat t) d h p n) _ _ _ _ _ _ _ _ _ _ _ _ _ _ _ _ (fun p n => ?_) (fun p n => ?_) (fun p n => ?_) (fun p n => ?_) (fun p n => ?_) (fun p n => ?_) (fun p n => ?_) (fun p n => ?_) d h p n
  · exact (b3_at _ _ _ _ _ _ _).trans (R.bwd hs 3 p n _ (h_blk m c t _) _ _ _ rfl rfl (show 320 + n.val = 256 + (64 + n.val) by omega))
  · exact (f3_at _ _ _ _ _ _ _).trans (R.fwd hs 3 p n _ (h_blk m c t _) _ _ _ rfl rfl (show 320 + n.val = 256 + (64 + n.val) by omega))
  · exact (b2_at _ _ _ _ _ _ _).trans (R.bwd hs 2 p n _ (h_blk m c t _) _ _ _ rfl rfl (show 320 + n.val = 256 + (64 + n.val) by omega))
  · exact (f2_at _ _ _ _ _ _ _).trans (R.fwd hs 2 p n _ (h_blk m c t _) _ _ _ rfl rfl (show 320 + n.val = 256 + (64 + n.val) by omega))
  · exact (b1_at _ _ _ _ _ _ _).trans (R.bwd hs 1 p n _ (h_blk m c t _) _ _ _ rfl rfl (show 256 + n.val = 256 + (0 + n.val) by omega))
  · exact (f1_at _ _ _ _ _ _ _).trans (R.fwd hs 1 p n _ (h_blk m c t _) _ _ _ rfl rfl (show 256 + n.val = 256 + (0 + n.val) by omega))
  · exact (b0_at _ _ _ _ _ _ _).trans (R.bwd hs 0 p n _ (h_blk m c t _) _ _ _ rfl rfl (show 256 + n.val = 256 + (0 + n.val) by omega))
  · exact (f0_at _ _ _ _ _ _ _).trans (R.fwd hs 0 p n _ (h_blk m c t _) _ _ _ rfl rfl (show 256 + n.val = 256 + (0 + n.val) by omega))

end Cert.Kernel6Ideal.At

end
-- ==== Proof.SsdRef.lean ====
/- The reference's final states: the elements of the arrays on their way. -/
module

public import proofs.«01_k».proof.Proof.SsdEl
public import proofs.«01_k».proof.Proof.Gen.Reference6Ideal.Run

@[expose] public section

set_option maxRecDepth 16384

noncomputable section

open Idealize.ShloMosaic Idealize.ShloMosaic.TcCoe Idealize.SL.Sem

namespace Cert.Reference6Ideal.At

open Cert.Reference6Ideal Cert.Reference6Ideal.Gen Cert.Reference6Ideal.Value

variable (V0 : Valuation τ sig (Elt Ideal))

/-- The projected columns. -/
abbrev U : FVec Ideal S6144x768 .f32 := V0 (Proc.devRef .tc main_arg0)

/-- The step columns. -/
abbrev M : FVec Ideal S6144x128 .f32 := V0 (Proc.devRef .tc main_arg1)

/-- The convolution's taps. -/
abbrev W : FVec Ideal S5x512 .f32 := V0 (Proc.devRef .tc main_arg3)

/-- The convolution's bias. -/
abbrev B : FVec Ideal S512 .f32 := V0 (Proc.devRef .tc main_arg4)

/-- The decay rates' logarithms. -/
abbrev al : FVec Ideal S2x4 .f32 := V0 (Proc.devRef .tc main_arg5)

/-- The steps' bias. -/
abbrev db : FVec Ideal S2x4 .f32 := V0 (Proc.devRef .tc main_arg6)

/-- An integer zero made a float is zero. -/
theorem zero_f : FloatOps.sitofp (F := Ideal) .f32 0#32 = (0 : EReal) := by
  show (((0#32).toInt : ℝ) : EReal) = 0
  simp

/-- The padded columns. -/
theorem v5_at (b : Fin 16) (t : Fin 260) (j : Fin 512) : (show FVec Ideal S16x260x512 .f32 from res_main_v5 V0) (ix3 b t j) = Cert.Ssd.pad (U V0) b t j := by
  unfold res_main_v5 Cert.Ssd.pad
  pointwise
  exact dite_congr rfl (fun _ => rfl) (fun _ => zero_f)

/-- The convolution. -/
theorem v44_at (b : Fin 16) (t : Fin 256) (j : Fin 512) :
    (show FVec Ideal S16x256x512 .f32 from res_main_v44 V0) (ix3 b t j) = Cert.Ssd.cnv (U V0) (W V0) (B V0) b t j := by
  unfold res_main_v44 Cert.Ssd.cnv
  simp only [← v5_at V0]
  pointwise

/-- The activated columns. -/
theorem v45_at (b : Fin 16) (t : Fin 256) (j : Fin 512) :
    (show FVec Ideal S16x256x512 .f32 from res_main_v45 V0) (ix3 b t j) = Cert.Ssd.sil (Cert.Ssd.cnv (U V0) (W V0) (B V0) b t j) := by
  unfold res_main_v45 Cert.Ssd.sil
  simp only [← v44_at V0]
  pointwise

/-- The steps' values. -/
theorem v49_at (b : Fin 16) (t : Fin 256) (h : Fin 4) (p : Fin 64) : (show FVec Ideal S16x256x4x64 .f32 from res_main_v49 V0) (ix4 b t h p)
    = Cert.Ssd.sil (Cert.Ssd.cnv (U V0) (W V0) (B V0) b t ⟨h.val * 64 + p.val, by omega⟩) := by
  unfold res_main_v49
  rw [← v45_at V0]
  pointwise

/-- The steps' keys. -/
theorem v52_at (b : Fin 16) (t : Fin 256) (h : Fin 4) (n : Fin 64) : (show FVec Ideal S16x256x4x64 .f32 from res_main_v52 V0) (ix4 b t h n)
    = Cert.Ssd.sil (Cert.Ssd.cnv (U V0) (W V0) (B V0) b t ⟨256 + (h.val / 2 * 64 + n.val), by omega⟩) := by
  unfold res_main_v52
  rw [← v45_at V0]
  pointwise

/-- The steps' sizes. -/
theorem v56_at (b : Fin 16) (t : Fin 256) (d : Fin 2) (h : Fin 4) : (show FVec Ideal S16x256x2x4 .f32 from res_main_v56 V0) (ix4 b t d h)
    = Cert.Ssd.dt (M V0) (db V0) b d h t := by
  unfold res_main_v56 res_main_call2_v3 res_main_v55 res_main_call2_cst Cert.Ssd.dt Cert.Ssd.sp
  pointwise
  rw [if_neg (fun h => h rfl)]
  rfl

/-- The decay rates. -/
theorem v58_at (d : Fin 2) (h : Fin 4) : (show FVec Ideal S2x4 .f32 from res_main_v58 V0) (ix2 d h) = -Ideal.exp (al V0 (ix2 d h)) := by
  unfold res_main_v58
  pointwise

/-- The forward scan's step sizes. -/
theorem v60_at (b : Fin 16) (t : Fin 256) (h : Fin 4) : (show FVec Ideal S16x256x4 .f32 from res_main_v60 V0) (ix3 b t h) = Cert.Ssd.dt (M V0) (db V0) b 0 h t := by
  unfold res_main_v60
  rw [← v56_at V0]
  pointwise

/-- The backward scan's step sizes. -/
theorem v123_at (b : Fin 16) (t : Fin 256) (h : Fin 4) :
    (show FVec Ideal S16x256x4 .f32 from res_main_v123 V0) (ix3 b t h) = Cert.Ssd.dt (M V0) (db V0) b 1 h t.rev := by
  unfold res_main_v123
  rw [← v56_at V0]
  pointwise
  rfl

variable (hs : ∀ b d h t, Cert.Ssd.stp (M V0) (al V0) (db V0) b d h t = (((Cert.Ssd.stp (M V0) (al V0) (db V0) b d h t).toReal : ℝ) : EReal))

include hs in
/-- The forward scan's sums of log decays in a chunk. -/
theorem v70_at (b : Fin 16) (c : Fin 4) (k : Fin 64) (h : Fin 4) : (show FVec Ideal S16x4x64x4 .f32 from res_main_v70 V0) (ix4 b c k h)
    = ((∑ j : Fin 64, if j ≤ k then (Cert.Ssd.stp (M V0) (al V0) (db V0) b 0 h ⟨c.val * 64 + j.val, by omega⟩).toReal else 0 : ℝ) : EReal) := by
  rw [← Cert.Ssd.tri' (by norm_num) (fun j : Fin 64 => Cert.Ssd.stp (M V0) (al V0) (db V0) b 0 h ⟨c.val * 64 + j.val, by omega⟩) _ (fun j => hs b 0 h _) k]
  unfold res_main_v70 Cert.Ssd.stp
  simp only [← v60_at V0, ← v58_at V0]
  pointwise
  simp only [IntOp.addi, BitVec.add_zero]

include hs in
/-- The backward scan's. -/
theorem v134_at (b : Fin 16) (c : Fin 4) (k : Fin 64) (h : Fin 4) : (show FVec Ideal S16x4x64x4 .f32 from res_main_v134 V0) (ix4 b c k h)
    = ((∑ j : Fin 64, if j ≤ k then (Cert.Ssd.stp (M V0) (al V0) (db V0) b 1 h (Fin.rev ⟨c.val * 64 + j.val, by omega⟩)).toReal else 0 : ℝ) : EReal) := by
  rw [← Cert.Ssd.tri' (by norm_num) (fun j : Fin 64 => Cert.Ssd.stp (M V0) (al V0) (db V0) b 1 h (Fin.rev ⟨c.val * 64 + j.val, by omega⟩)) _ (fun j => hs b 1 h _) k]
  unfold res_main_v134 Cert.Ssd.stp
  simp only [← v123_at V0, ← v58_at V0]
  pointwise
  simp only [IntOp.addi, BitVec.add_zero]

/-- A chunk's sum, in the parts of the reference's formula. -/
theorem part (r : Fin 256 → ℝ) (c : Fin 4) (P X D Y : Fin 64 → EReal) (v : Fin 256 → EReal)
    (hP : ∀ k, P k = ((∑ j : Fin 64, if j ≤ k then r ⟨c.val * 64 + j.val, by omega⟩ else 0 : ℝ) : EReal))
    (hv : ∀ k : Fin 64, v ⟨c.val * 64 + k.val, by omega⟩ = X k * D k * Y k) :
    ∑ k, X k * D k * (Y k * Ideal.exp (P 63 - P k))
      = ∑ k : Fin 64, v ⟨c.val * 64 + k.val, by omega⟩ * ((Real.exp (∑ j : Fin 64, if k < j then r ⟨c.val * 64 + j.val, by omega⟩ else 0) : ℝ) : EReal) := by
  refine Finset.sum_congr rfl fun k _ => ?_
  rw [hP, hP, ← EReal.coe_sub, Cert.Ssd.after (fun j : Fin 64 => r ⟨c.val * 64 + j.val, by omega⟩) 63 k (fun j => by omega), Cert.Ssd.exp_coe, hv, ← mul_assoc]

include hs in
/-- The forward scan's chunk sums. -/
theorem v83_at (b : Fin 16) (c : Fin 4) (h : Fin 4) (p n : Fin 64) : (show FVec Ideal S16x4x4x64x64 .f32 from res_main_v83 V0) (ix5 b c h p n)
    = ∑ k : Fin 64, Cert.Ssd.inp (U V0) (M V0) (W V0) (B V0) (db V0) b 0 h p n ⟨c.val * 64 + k.val, by omega⟩
      * ((Real.exp (∑ j : Fin 64, if k < j then (Cert.Ssd.stp (M V0) (al V0) (db V0) b 0 h ⟨c.val * 64 + j.val, by omega⟩).toReal else 0) : ℝ) : EReal) := by
  rw [← part (fun t => (Cert.Ssd.stp (M V0) (al V0) (db V0) b 0 h t).toReal) c _ _ _ _ _ (fun k => v70_at V0 hs b c k h) (fun k => rfl)]
  unfold res_main_v83
  simp only [← v49_at V0, ← v60_at V0, ← v52_at V0]
  pointwise

include hs in
/-- The backward scan's. -/
theorem v147_at (b : Fin 16) (c : Fin 4) (h : Fin 4) (p n : Fin 64) : (show FVec Ideal S16x4x4x64x64 .f32 from res_main_v147 V0) (ix5 b c h p n)
    = ∑ k : Fin 64, Cert.Ssd.inp (U V0) (M V0) (W V0) (B V0) (db V0) b 1 h p n (Fin.rev ⟨c.val * 64 + k.val, by omega⟩)
      * ((Real.exp (∑ j : Fin 64, if k < j then (Cert.Ssd.stp (M V0) (al V0) (db V0) b 1 h (Fin.rev ⟨c.val * 64 + j.val, by omega⟩)).toReal else 0) : ℝ) : EReal) := by
  rw [← part (fun t => (Cert.Ssd.stp (M V0) (al V0) (db V0) b 1 h t.rev).toReal) c _ _ _ _ (fun t => Cert.Ssd.inp (U V0) (M V0) (W V0) (B V0) (db V0) b 1 h p n t.rev) (fun k => v134_at V0 hs b c k h) (fun k => rfl)]
  unfold res_main_v147
  simp only [← v49_at V0, ← v123_at V0, ← v52_at V0]
  pointwise
  rfl

include hs in
/-- The forward scan's chunk decays. -/
theorem v86_at (b : Fin 16) (c : Fin 4) (h : Fin 4) : (show FVec Ideal S16x4x4 .f32 from res_main_v86 V0) (ix3 b c h)
    = ((Real.exp (∑ j : Fin 64, (Cert.Ssd.stp (M V0) (al V0) (db V0) b 0 h ⟨c.val * 64 + j.val, by omega⟩).toReal) : ℝ) : EReal) := by
  have e : (show FVec Ideal S16x4x4 .f32 from res_main_v86 V0) (ix3 b c h) = Ideal.exp ((show FVec Ideal S16x4x64x4 .f32 from res_main_v70 V0) (ix4 b c 63 h)) := by
    unfold res_main_v86
    pointwise
  rw [e, v70_at V0 hs, Cert.Ssd.exp_coe]
  refine congrArg (fun x : ℝ => ((Real.exp x : ℝ) : EReal)) (Finset.sum_congr rfl fun j _ => if_pos ?_)
  show j.val ≤ 63
  omega

include hs in
/-- The backward scan's. -/
theorem v150_at (b : Fin 16) (c : Fin 4) (h : Fin 4) : (show FVec Ideal S16x4x4 .f32 from res_main_v150 V0) (ix3 b c h)
    = ((Real.exp (∑ j : Fin 64, (Cert.Ssd.stp (M V0) (al V0) (db V0) b 1 h (Fin.rev ⟨c.val * 64 + j.val, by omega⟩)).toReal) : ℝ) : EReal) := by
  have e : (show FVec Ideal S16x4x4 .f32 from res_main_v150 V0) (ix3 b c h) = Ideal.exp ((show FVec Ideal S16x4x64x4 .f32 from res_main_v134 V0) (ix4 b c 63 h)) := by
    unfold res_main_v150
    pointwise
  rw [e, v134_at V0 hs, Cert.Ssd.exp_coe]
  refine congrArg (fun x : ℝ => ((Real.exp x : ℝ) : EReal)) (Finset.sum_congr rfl fun j _ => if_pos ?_)
  show j.val ≤ 63
  omega

include hs in
/-- The forward scan's final states. -/
theorem fwd_at (b : Fin 16) (h : Fin 4) (p n : Fin 64) : (show FVec Ideal S16x2x4x64x64 .f32 from res_main_v186 V0) (ix5 b 0 h p n)
    = Cert.Ssd.el (U V0) (M V0) (W V0) (B V0) (al V0) (db V0) b 0 h p n := by
  unfold Cert.Ssd.el
  rw [if_pos rfl, ← Cert.Ssd.chunks (fun t => (Cert.Ssd.stp (M V0) (al V0) (db V0) b 0 h t).toReal) (Cert.Ssd.inp (U V0) (M V0) (W V0) (B V0) (db V0) b 0 h p n) (fun c => (show FVec Ideal S16x4x4x64x64 .f32 from res_main_v83 V0) (ix5 b c h p n))
    (fun c => (show FVec Ideal S16x4x4 .f32 from res_main_v86 V0) (ix3 b c h)) (fun c => v83_at V0 hs b c h p n) (fun c => v86_at V0 hs b c h)]
  unfold res_main_v186
  pointwise [Ideal.ofBits_zero_f32]

include hs in
/-- The backward scan's. -/
theorem bwd_at (b : Fin 16) (h : Fin 4) (p n : Fin 64) : (show FVec Ideal S16x2x4x64x64 .f32 from res_main_v186 V0) (ix5 b 1 h p n)
    = Cert.Ssd.el (U V0) (M V0) (W V0) (B V0) (al V0) (db V0) b 1 h p n := by
  unfold Cert.Ssd.el
  rw [if_neg (by decide), ← Cert.Ssd.fin_rev, ← Cert.Ssd.chunks (fun t => (Cert.Ssd.stp (M V0) (al V0) (db V0) b 1 h t.rev).toReal)
    (fun t => Cert.Ssd.inp (U V0) (M V0) (W V0) (B V0) (db V0) b 1 h p n t.rev) (fun c => (show FVec Ideal S16x4x4x64x64 .f32 from res_main_v147 V0) (ix5 b c h p n))
    (fun c => (show FVec Ideal S16x4x4 .f32 from res_main_v150 V0) (ix3 b c h)) (fun c => v147_at V0 hs b c h p n) (fun c => v150_at V0 hs b c h)]
  unfold res_main_v186
  pointwise [Ideal.ofBits_zero_f32]

include hs in
/-- The reference's final states are those sums. -/
theorem res_at (b : Fin 16) (d : Fin 2) (h : Fin 4) (p n : Fin 64) : (show FVec Ideal S16x2x4x64x64 .f32 from res_main_v186 V0) (ix5 b d h p n)
    = Cert.Ssd.el (U V0) (M V0) (W V0) (B V0) (al V0) (db V0) b d h p n := by
  match d with
  | ⟨0, _⟩ => exact fwd_at V0 hs b h p n
  | ⟨1, _⟩ => exact bwd_at V0 hs b h p n

end Cert.Reference6Ideal.At

end
-- ==== Proof.PreSteps.lean ====
/- The precondition read at the entries of the step columns, the decay rates and the steps' bias. -/
module

public import proofs.«01_k».proof.Pre_steps_below_inf
public import proofs.«01_k».proof.Proof.PreAt

@[expose] public section

set_option maxRecDepth 16384

noncomputable section

open Idealize.ShloMosaic

namespace Cert.Pre_steps_below_inf

/-- The precondition's shape facts. -/
theorem facts : Facts := ⟨by decide, by decide, by decide, by decide, by decide, by decide⟩

variable [Facts] {u : FVec Ideal S6144x768 .f32} {s : FVec Ideal S6144x128 .f32} {st : FVec Ideal S128x6144 .f32} {w : FVec Ideal S5x512 .f32} {b : FVec Ideal S512 .f32}
  {al db : FVec Ideal S2x4 .f32} {dk : FVec Ideal S4 .f32} {nw : FVec Ideal S256 .f32} (H : fn (F := Ideal) u s st w b al db dk nw = fun _ => 1#1)
include H

/-- No step column of the prompt is the top. -/
theorem s_ne (i : Fin 4096) (j : Fin 8) : s (ix2 ⟨i.val, by omega⟩ ⟨j.val, by omega⟩) ≠ ⊤ := by
  have h := congrFun H (ix1 ⟨i.val * 8 + j.val, by omega⟩)
  unfold fn at h
  pointwise at h
  rw [Cert.Att.ctop, dif_pos (by omega)] at h
  exact Cert.Pre_weights_finite.ne_of_lt _ h

/-- No decay rate is the top. -/
theorem al_ne (d : Fin 2) (k : Fin 4) : al (ix2 d k) ≠ ⊤ := by
  have h := congrFun H (ix1 ⟨32768 + (d.val * 4 + k.val), by omega⟩)
  unfold fn at h
  pointwise at h
  rw [Cert.Att.ctop, dif_pos (by omega)] at h
  exact Cert.Pre_weights_finite.ne_of_lt _ h

/-- No step bias is the top. -/
theorem db_ne (d : Fin 2) (k : Fin 4) : db (ix2 d k) ≠ ⊤ := by
  have h := congrFun H (ix1 ⟨32776 + (d.val * 4 + k.val), by omega⟩)
  unfold fn at h
  pointwise at h
  rw [Cert.Att.ctop, dif_neg (by omega), dif_neg (by omega)] at h
  have e0 : (⟨(32776 + (d.val * 4 + k.val) - 32768 - 8) / 4, by omega⟩ : Fin 2) = d := Fin.ext (show (32776 + (d.val * 4 + k.val) - 32768 - 8) / 4 = d.val by omega)
  have e1 : (⟨(32776 + (d.val * 4 + k.val) - 32768 - 8) % 4, by omega⟩ : Fin 4) = k := Fin.ext (show (32776 + (d.val * 4 + k.val) - 32768 - 8) % 4 = k.val by omega)
  have h' := Cert.Pre_weights_finite.ne_of_lt _ h
  rwa [e0, e1] at h'

end Cert.Pre_steps_below_inf

end
-- ==== Proof.SsdClaims.lean ====
/- The claims about the state-space mixer's final states: the run of the kernel against the run of the reference. -/
module

public import proofs.«01_k».proof.Defs
public import proofs.«01_k».proof.Proof.SsdFinal
public import proofs.«01_k».proof.Proof.SsdRef
public import proofs.«01_k».proof.Proof.PreSteps
public import Idealize.ShloMosaic.Adequacy
public import Idealize.ShloMosaic.Init

@[expose] public section

set_option maxRecDepth 16384

noncomputable section

open Idealize.ShloMosaic Idealize.ShloMosaic.TcCoe Idealize.SL.Sem

namespace Cert.Ssd

/-- The reference's program leaves its arguments alone and no counter raised. -/
theorem frame_reference : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- An array of states is the array of its elements. -/
theorem states (u : FVec Ideal ⟨5, ![16, 2, 4, 64, 64]⟩ .f32) (f : Fin 16 → Fin 2 → Fin 4 → Fin 64 → Fin 64 → EReal)
    (h : ∀ b d k p n, u (ix5 b d k p n) = f b d k p n) : u = G f := by
  funext x
  obtain ⟨b, d, k, p, n, rfl⟩ : ∃ (b : Fin 16) (d : Fin 2) (k : Fin 4) (p n : Fin 64), x = ix5 b d k p n := ⟨x 0, x 1, x 2, x 3, x 4, eq_ix5 x⟩
  rw [G_at _ _ b d k p n rfl rfl rfl rfl rfl, ← h]

/-- Where no step column of the prompt, decay rate or step bias is the top, the kernel's final states are the reference's:
    every batch's, both directions', every head's. -/
theorem algebraic [Cert.Pre_steps_below_inf.Facts] : Cert.algebraic_Kernel6Ideal_Reference6Ideal_pre_steps_below_inf := by
  intro m ρ m' ρ' hpre hagree
  have hs := fun c : Dev Cert.Kernel6Ideal.nD => stp_fin (m ((c.tc : Thread Cert.Kernel6Ideal.nD Cert.Kernel6Ideal.τ).loc Cert.Kernel6Ideal.main_arg1))
    (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))
    (Cert.Pre_steps_below_inf.s_ne (hpre c)) (Cert.Pre_steps_below_inf.al_ne (hpre c)) (Cert.Pre_steps_below_inf.db_ne (hpre c))
  refine ⟨fun c => G (el (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))
    (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))
    (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))), ?_, ?_⟩
  · exact (θ_run Cert.Kernel6Ideal.defs _ _).mono (fun _ h c => ⟨(h c).2.1.trans (Cert.Kernel6Ideal.At.final m c (hs c)), (h c).2.2⟩)
      (Cert.Kernel6Ideal.Value.run_blocks (F := Ideal) m ρ)
  · refine (θ_run Cert.Reference6Ideal.defs _ _).mono (fun _ h c => ⟨(h c).1.trans ?_, (h c).2⟩)
      (Cert.Reference6Ideal.Value.run (F := Ideal) m' ρ')
    have hc := hs c
    obtain ⟨h0, h1, h2, h3, h4, h5, h6, h7, h8⟩ := hagree c
    rw [← h1, ← h5, ← h6] at hc
    refine states _ _ fun b d k p n => ?_
    refine (Cert.Reference6Ideal.At.res_at _ hc b d k p n).trans ?_
    rw [← h0, ← h1, ← h3, ← h4, ← h5, ← h6]

end Cert.Ssd

end
-- ==== Proof.FnBase.lean ====
/- The Fourier mixer: the transform's tables element by element, and the sum over a group of channels written as a sum over all
   channels under a mask. -/
module

public import proofs.«01_k».proof.Proof.SsdSum
public import Idealize.ShloMosaic.Lib.Pointwise
public import Idealize.ShloMosaic.PureOps.Ideal
public import Idealize.ShloMosaic.Lib.StableHlo.Run

@[expose] public section

set_option maxRecDepth 16384

noncomputable section

open Idealize.ShloMosaic Idealize.ShloMosaic.TcCoe Idealize.SL.Sem

namespace Cert.Fn

/-- The divisor of a remainder, one in place of zero. -/
def nn (n : BitVec 32) : IVec ⟨0, ![]⟩ 32 :=
  select (cmpi CmpIPredicate.eq (id (constantI ⟨0, ![]⟩ 32 n)) (constantI ⟨0, ![]⟩ 32 0#32)) (constantI ⟨0, ![]⟩ 32 1#32) (id (constantI ⟨0, ![]⟩ 32 n))

/-- The remainder of an array, of the divisor's sign. -/
def fmod (s : Shape) (hb : (⟨0, ![]⟩ : Shape).BroadcastsInDim s (![] : Fin 0 → Fin s.rank)) (x : IVec s 32) (n : BitVec 32) : IVec s 32 :=
  select (andi (cmpi CmpIPredicate.ne (cmpi CmpIPredicate.slt (Host.remsi x (broadcastInDim s ![] hb (nn n))) (broadcastInDim s ![] hb (constantI ⟨0, ![]⟩ 32 0#32)))
      (broadcastInDim s ![] hb (cmpi CmpIPredicate.slt (nn n) (constantI ⟨0, ![]⟩ 32 0#32))))
    (cmpi CmpIPredicate.ne (Host.remsi x (broadcastInDim s ![] hb (nn n))) (broadcastInDim s ![] hb (constantI ⟨0, ![]⟩ 32 0#32))))
    (addi (Host.remsi x (broadcastInDim s ![] hb (nn n))) (broadcastInDim s ![] hb (nn n))) (Host.remsi x (broadcastInDim s ![] hb (nn n)))

/-- The remainder of a number, of the divisor's sign. -/
def md (v n : BitVec 32) : BitVec 32 :=
  (select (andi (cmpi CmpIPredicate.ne (cmpi CmpIPredicate.slt (Host.remsi (constantI ⟨0, ![]⟩ 32 v) (nn n)) (constantI ⟨0, ![]⟩ 32 0#32))
      (cmpi CmpIPredicate.slt (nn n) (constantI ⟨0, ![]⟩ 32 0#32)))
    (cmpi CmpIPredicate.ne (Host.remsi (constantI ⟨0, ![]⟩ 32 v) (nn n)) (constantI ⟨0, ![]⟩ 32 0#32)))
    (addi (Host.remsi (constantI ⟨0, ![]⟩ 32 v) (nn n)) (nn n)) (Host.remsi (constantI ⟨0, ![]⟩ 32 v) (nn n)) : IVec ⟨0, ![]⟩ 32) ix0

/-- An element of the remainder array. -/
theorem fmod_at (s : Shape) (hb : (⟨0, ![]⟩ : Shape).BroadcastsInDim s (![] : Fin 0 → Fin s.rank)) (x : IVec s 32) (n : BitVec 32) (i : s.Idx) :
    fmod s hb x n i = md (x i) n := rfl

/-- A channel's number within its group. -/
theorem md64 : ∀ x : Fin 256, md (BitVec.ofNat 32 x) 64#32 = BitVec.ofNat 32 (x % 64) := by
  decide +kernel

/-- The quotient of an array, rounded down. -/
def fdiv (s : Shape) (hb : (⟨0, ![]⟩ : Shape).BroadcastsInDim s (![] : Fin 0 → Fin s.rank)) (x : IVec s 32) (n : BitVec 32) : IVec s 32 :=
  select (andi (cmpi CmpIPredicate.ne (signi x) (broadcastInDim s ![] hb (signi (id (constantI ⟨0, ![]⟩ 32 n)))))
    (cmpi CmpIPredicate.ne (Host.remsi x (broadcastInDim s ![] hb (id (constantI ⟨0, ![]⟩ 32 n)))) (broadcastInDim s ![] hb (constantI ⟨0, ![]⟩ 32 0#32))))
    (subi (Host.divsi x (broadcastInDim s ![] hb (id (constantI ⟨0, ![]⟩ 32 n)))) (broadcastInDim s ![] hb (constantI ⟨0, ![]⟩ 32 1#32)))
    (Host.divsi x (broadcastInDim s ![] hb (id (constantI ⟨0, ![]⟩ 32 n))))

/-- The quotient of a number, rounded down. -/
def qt (v n : BitVec 32) : BitVec 32 :=
  (select (andi (cmpi CmpIPredicate.ne (signi (constantI ⟨0, ![]⟩ 32 v)) (signi (constantI ⟨0, ![]⟩ 32 n)))
    (cmpi CmpIPredicate.ne (Host.remsi (constantI ⟨0, ![]⟩ 32 v) (constantI ⟨0, ![]⟩ 32 n)) (constantI ⟨0, ![]⟩ 32 0#32)))
    (subi (Host.divsi (constantI ⟨0, ![]⟩ 32 v) (constantI ⟨0, ![]⟩ 32 n)) (constantI ⟨0, ![]⟩ 32 1#32))
    (Host.divsi (constantI ⟨0, ![]⟩ 32 v) (constantI ⟨0, ![]⟩ 32 n)) : IVec ⟨0, ![]⟩ 32) ix0

/-- An element of the quotient array. -/
theorem fdiv_at (s : Shape) (hb : (⟨0, ![]⟩ : Shape).BroadcastsInDim s (![] : Fin 0 → Fin s.rank)) (x : IVec s 32) (n : BitVec 32) (i : s.Idx) :
    fdiv s hb x n i = qt (x i) n := rfl

/-- A channel's group. -/
theorem qt64 : ∀ x : Fin 256, qt (BitVec.ofNat 32 x) 64#32 = BitVec.ofNat 32 (x / 64) := by
  decide +kernel

/-- The mask keeps a value in its group. -/
theorem sel_group (j k : Fin 256) (a : EReal) :
    Scalar.select (IntOp.cmpi CmpIPredicate.eq (qt (BitVec.ofNat 32 j) 64#32) (qt (BitVec.ofNat 32 k) 64#32)) a 0 = if j.val / 64 = k.val / 64 then a else 0 := by
  rw [qt64, qt64]
  by_cases h : j.val / 64 = k.val / 64
  · rw [if_pos h]
    simp [h, Scalar.select, IntOp.cmpi]
  · rw [if_neg h]
    have hne : BitVec.ofNat 32 (j.val / 64) ≠ BitVec.ofNat 32 (k.val / 64) := by
      intro he
      have := congrArg BitVec.toNat he
      simp only [BitVec.toNat_ofNat] at this
      omega
    unfold Scalar.select IntOp.cmpi
    dsimp only
    rw [beq_eq_false_iff_ne.mpr hne]
    rfl

/-- The angle of two numbers' product, of `n` to a turn. -/
def an (c : EReal) (n a b : BitVec 32) : EReal := c * (sitofp .f32 (constantI ⟨0, ![]⟩ 32 (md (a * b) n)) : FVec Ideal ⟨0, ![]⟩ .f32) ix0

/-- A masked sum over all channels, under a scale, is the scaled sum over the group. -/
theorem group (x : Fin 256 → EReal) (c : Fin 64 → EReal) (b : ℝ) (hb : 0 ≤ b) (g : Fin 4) :
    ∑ j : Fin 256, x j * (if j.val / 64 = g then c ⟨j.val % 64, by omega⟩ * (b : EReal) else 0) = (∑ e : Fin 64, x ⟨g * 64 + e, by omega⟩ * c e) * (b : EReal) := by
  rw [Fin.sum_univ_tiles 4 64 rfl, Finset.sum_eq_single g]
  · rw [Cert.Ssd.sum_mul' _ _ b hb]
    refine Finset.sum_congr rfl fun t _ => ?_
    rw [if_pos (show ((g : ℕ) * 64 + t) / 64 = g by omega), mul_assoc]
    have : (⟨((g : ℕ) * 64 + t) % 64, by omega⟩ : Fin 64) = t := Fin.ext (by show ((g : ℕ) * 64 + t) % 64 = t; omega)
    exact congrArg (fun e => x ⟨g * 64 + t, by omega⟩ * (c e * (b : EReal))) this
  · intro a _ ha
    refine Finset.sum_eq_zero fun t _ => ?_
    rw [if_neg, mul_zero]
    intro h
    exact ha (Fin.ext (show (a : ℕ) = g by rw [← h]; show (a : ℕ) = ((a : ℕ) * 64 + t) / 64; omega))
  · intro h
    exact absurd (Finset.mem_univ _) h

/-- The real part's sum with the two scales on the tables is the sum divided by the product of their inverses. -/
theorem scaled {L : ℕ} (C S : Fin L → EReal) (p q : Fin L → EReal) (a b d : ℝ) (ha : 0 ≤ a) (hb : 0 ≤ b) (hd : d ≠ 0) (h : a * b = 1 / d) :
    (∑ l, C l * (a : EReal) * (p l * (b : EReal))) - (∑ l, S l * (a : EReal) * (q l * (b : EReal))) = Ideal.div ((∑ l, p l * C l) - ∑ l, q l * S l) (d : EReal) := by
  have e : ∀ (C p : Fin L → EReal), (∑ l, C l * (a : EReal) * (p l * (b : EReal))) = (∑ l, p l * C l) * ((1 / d : ℝ) : EReal) := fun C p => by
    rw [← h, Cert.Ssd.sum_mul' _ _ _ (mul_nonneg ha hb), EReal.coe_mul]
    exact Finset.sum_congr rfl fun l _ => by ac_rfl
  rw [e, e, Ideal.div_coe hd, sub_eq_add_neg, sub_eq_add_neg, EReal.right_distrib_of_nonneg_of_ne_top (by rw [← h]; exact_mod_cast mul_nonneg ha hb) (EReal.coe_ne_top _), EReal.neg_mul]

/-- The context's position scale is the real 1/16. -/
theorem c16 : Ideal.ofBits .f32 0x3D800000#32 = ((1 / 16 : ℝ) : EReal) := by
  simp [Ideal.ofBits, Ideal.ieee]
  rw [← EReal.coe_mul]
  norm_num

/-- The latent sequences' position scale is the real 1/32. -/
theorem c32 : Ideal.ofBits .f32 0x3D000000#32 = ((1 / 32 : ℝ) : EReal) := by
  simp [Ideal.ofBits, Ideal.ieee]
  rw [← EReal.coe_mul]
  norm_num

/-- The context's divisor is the real 128. -/
theorem c128 : Ideal.ofBits .f32 0x43000000#32 = ((128 : ℝ) : EReal) := by
  simp [Ideal.ofBits, Ideal.ieee]
  rw [← EReal.coe_mul]
  norm_num

/-- The latent sequences' divisor is the real 256. -/
theorem c256 : Ideal.ofBits .f32 0x43800000#32 = ((256 : ℝ) : EReal) := by
  simp [Ideal.ofBits, Ideal.ieee]
  rw [← EReal.coe_mul]
  norm_num

end Cert.Fn

end
-- ==== Proof.Fn7Block.lean ====
/- The Fourier mixer's result array after the run (the context's sequences), as a function of its columns. -/
module

public import proofs.«01_k».proof.Proof.FnBase
public import proofs.«01_k».proof.Proof.Gen.Kernel7Ideal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Fn

/-- An element of the transform: of row `k` and channel `m` of group `g`, from a sequence's elements. -/
def el7 (x : Fin 256 → Fin 256 → EReal) (k : Fin 256) (g : Fin 4) (m : Fin 64) : EReal :=
  Ideal.div ((∑ l : Fin 256, (∑ e : Fin 64, x l ⟨g * 64 + e, by omega⟩ * Ideal.cos (an (Ideal.ofBits .f32 0x3DC90FDB#32) 64#32 (BitVec.ofNat 32 e) (BitVec.ofNat 32 m)))
      * Ideal.cos (an (Ideal.ofBits .f32 0x3CC90FDB#32) 256#32 (BitVec.ofNat 32 k) (BitVec.ofNat 32 l)))
    - ∑ l : Fin 256, (∑ e : Fin 64, x l ⟨g * 64 + e, by omega⟩ * Ideal.sin (an (Ideal.ofBits .f32 0x3DC90FDB#32) 64#32 (BitVec.ofNat 32 e) (BitVec.ofNat 32 m)))
      * Ideal.sin (an (Ideal.ofBits .f32 0x3CC90FDB#32) 256#32 (BitVec.ofNat 32 k) (BitVec.ofNat 32 l)))
    ((128 : ℝ) : EReal)

/-- An array of rows from its elements. -/
def G7 (f : Fin 16 → Fin 256 → Fin 4 → Fin 64 → EReal) : (⟨2, ![4096, 256]⟩ : Shape).Idx → EReal :=
  fun p => f ⟨(p 0).val / 256, by have h : (p 0).val < 4096 := (p 0).isLt; omega⟩ ⟨(p 0).val % 256, by omega⟩
    ⟨(p 1).val / 64, by have h : (p 1).val < 256 := (p 1).isLt; omega⟩ ⟨(p 1).val % 64, by omega⟩

/-- An element of the array. -/
theorem G7_at (f : Fin 16 → Fin 256 → Fin 4 → Fin 64 → EReal) (p : (⟨2, ![4096, 256]⟩ : Shape).Idx) (b : Fin 16) (k : Fin 256) (g : Fin 4) (e : Fin 64)
    (h0 : (p 0).val = b * 256 + k) (h1 : (p 1).val = g * 64 + e) : G7 f p = f b k g e := by
  unfold G7
  congr 1 <;> apply Fin.ext <;> simp only [h0, h1] <;> omega

end Cert.Fn

namespace Cert.Kernel7Ideal.At

open Cert.Kernel7Ideal Cert.Kernel7Ideal.Gen

/-- The angles of the positions' roots of unity. -/
def angL : FVec Ideal S256x256 .f32 :=
  mulf (broadcastInDim S256x256 ![] bcast_S_S256x256 (constant S_ .f32 0x3CC90FDB#32)) (sitofp .f32 (Cert.Fn.fmod S256x256 bcast_S_S256x256
    (muli (broadcastInDim S256x256 ![0, 1] bcast_S256x1_S256x256_0_1 (broadcastInDim S256x1 ![0] bcast_S256_S256x1_0 (iotaInDim S256 32 0)))
      (broadcastInDim S256x256 ![0, 1] bcast_S1x256_S256x256_0_1 (broadcastInDim S1x256 ![1] bcast_S256_S1x256_1 (iotaInDim S256 32 0)))) 256#32))

/-- Their elements. -/
theorem angL_at (k l : Fin 256) : angL (ix2 k l) = Cert.Fn.an (Ideal.ofBits .f32 0x3CC90FDB#32) 256#32 (BitVec.ofNat 32 k) (BitVec.ofNat 32 l) := by
  unfold angL
  pointwise [Cert.Fn.fmod_at]
  rfl

/-- The angles of the channels' roots of unity. -/
def angC : FVec Ideal S256x256 .f32 :=
  mulf (broadcastInDim S256x256 ![] bcast_S_S256x256 (constant S_ .f32 0x3DC90FDB#32)) (sitofp .f32 (Cert.Fn.fmod S256x256 bcast_S_S256x256
    (muli (broadcastInDim S256x256 ![0, 1] bcast_S256x1_S256x256_0_1 (Cert.Fn.fmod S256x1 bcast_S_S256x1 (broadcastInDim S256x1 ![0] bcast_S256_S256x1_0 (iotaInDim S256 32 0)) 64#32))
      (broadcastInDim S256x256 ![0, 1] bcast_S1x256_S256x256_0_1 (Cert.Fn.fmod S1x256 bcast_S_S1x256 (broadcastInDim S1x256 ![1] bcast_S256_S1x256_1 (iotaInDim S256 32 0)) 64#32))) 64#32))

/-- Their elements. -/
theorem angC_at (j m : Fin 256) : angC (ix2 j m) = Cert.Fn.an (Ideal.ofBits .f32 0x3DC90FDB#32) 64#32 (BitVec.ofNat 32 (j.val % 64)) (BitVec.ofNat 32 (m.val % 64)) := by
  rw [← Cert.Fn.md64, ← Cert.Fn.md64]
  unfold angC
  pointwise [Cert.Fn.fmod_at]
  rfl

/-- The channels' mask: whether two are of one group. -/
def same : IVec S256x256 1 :=
  cmpi CmpIPredicate.eq
    (broadcastInDim S256x256 ![0, 1] bcast_S256x1_S256x256_0_1 (Cert.Fn.fdiv S256x1 bcast_S_S256x1 (broadcastInDim S256x1 ![0] bcast_S256_S256x1_0 (iotaInDim S256 32 0)) 64#32))
    (broadcastInDim S256x256 ![0, 1] bcast_S1x256_S256x256_0_1 (Cert.Fn.fdiv S1x256 bcast_S_S1x256 (broadcastInDim S1x256 ![1] bcast_S256_S1x256_1 (iotaInDim S256 32 0)) 64#32))

/-- A channel table under the mask and its scale. -/
def tabC (u : FVec Ideal S256x256 .f32) : FVec Ideal S256x256 .f32 :=
  select same (mulf u (broadcastInDim S256x256 ![] bcast_S_S256x256 (constant S_ .f32 0x3E000000#32)))
    (broadcastInDim S256x256 ![] bcast_S_S256x256 (id (constant S_ .f32 0x00000000#32)))

/-- Its elements. -/
theorem tabC_at (u : FVec Ideal S256x256 .f32) (j m : Fin 256) : tabC u (ix2 j m) = if j.val / 64 = m.val / 64 then u (ix2 j m) * ((1 / 8 : ℝ) : EReal) else 0 := by
  rw [← Cert.Fn.sel_group, ← Cert.Att.cscale]
  unfold tabC same
  pointwise [Cert.Fn.fdiv_at]
  rw [show id (constant S_ .f32 0x00000000#32 : FVec Ideal S_ .f32) ix0 = (0 : EReal) from Ideal.ofBits_zero_f32]

/-- A position table under its scale. -/
def tabL (u : FVec Ideal S256x256 .f32) : FVec Ideal S256x256 .f32 :=
  mulf u (broadcastInDim S256x256 ![] bcast_S_S256x256 (constant S_ .f32 0x3D800000#32))

/-- Its elements. -/
theorem tabL_at (u : FVec Ideal S256x256 .f32) (k l : Fin 256) : tabL u (ix2 k l) = u (ix2 k l) * ((1 / 16 : ℝ) : EReal) := by
  rw [← Cert.Fn.c16]
  unfold tabL
  pointwise

/-- A block's elements. -/
theorem pay1_at (x : Vec Ideal S256x256 .f32) (cc sc : Vec Ideal S256x256 .f32) (cl sl : Vec Ideal S256x256 .f32) (k : Fin 256) (m : Fin 256) :
    k0_pay1 (F := Ideal) x cc sc cl sl (ix2 k m) = (∑ l, cl (ix2 k l) * ∑ j, x (ix2 l j) * cc (ix2 j m)) - ∑ l, sl (ix2 k l) * ∑ j, x (ix2 l j) * sc (ix2 j m) := by
  unfold k0_pay1
  pointwise

/-- A block's elements under the tables. -/
theorem blk_at (x : Vec Ideal S256x256 .f32) (k : Fin 256) (g : Fin 4) (e : Fin 64) :
    k0_pay1 (F := Ideal) x (tabC (Host.cos angC)) (tabC (Host.sin angC)) (tabL (Host.cos angL)) (tabL (Host.sin angL)) (ix2 k ⟨g * 64 + e, by omega⟩)
      = Cert.Fn.el7 (fun l j => x (ix2 l j)) k g e := by
  rw [pay1_at]
  have hc : ∀ j : Fin 256, Host.cos (F := Ideal) angC (ix2 j ⟨g * 64 + e, by omega⟩) = Ideal.cos (Cert.Fn.an (Ideal.ofBits .f32 0x3DC90FDB#32) 64#32 (BitVec.ofNat 32 (j.val % 64)) (BitVec.ofNat 32 e)) := fun j => by
    have := angC_at j ⟨g * 64 + e, by omega⟩
    rw [show ((g : ℕ) * 64 + e) % 64 = e by omega] at this
    rw [← this]
    pointwise
  have hs : ∀ j : Fin 256, Host.sin (F := Ideal) angC (ix2 j ⟨g * 64 + e, by omega⟩) = Ideal.sin (Cert.Fn.an (Ideal.ofBits .f32 0x3DC90FDB#32) 64#32 (BitVec.ofNat 32 (j.val % 64)) (BitVec.ofNat 32 e)) := fun j => by
    have := angC_at j ⟨g * 64 + e, by omega⟩
    rw [show ((g : ℕ) * 64 + e) % 64 = e by omega] at this
    rw [← this]
    pointwise
  have lc : ∀ l : Fin 256, Host.cos (F := Ideal) angL (ix2 k l) = Ideal.cos (Cert.Fn.an (Ideal.ofBits .f32 0x3CC90FDB#32) 256#32 (BitVec.ofNat 32 k) (BitVec.ofNat 32 l)) := fun l => by
    rw [← angL_at]
    pointwise
  have ls : ∀ l : Fin 256, Host.sin (F := Ideal) angL (ix2 k l) = Ideal.sin (Cert.Fn.an (Ideal.ofBits .f32 0x3CC90FDB#32) 256#32 (BitVec.ofNat 32 k) (BitVec.ofNat 32 l)) := fun l => by
    rw [← angL_at]
    pointwise
  have hg : ((g : ℕ) * 64 + e) / 64 = g := by omega
  simp only [tabC_at, tabL_at, hc, hs, lc, ls, hg]
  have gc : ∀ (T : Fin 64 → EReal) (l : Fin 256), (∑ j : Fin 256, x (ix2 l j) * (if j.val / 64 = g then T ⟨j.val % 64, by omega⟩ * ((1 / 8 : ℝ) : EReal) else 0))
      = (∑ e : Fin 64, x (ix2 l ⟨g * 64 + e, by omega⟩) * T e) * ((1 / 8 : ℝ) : EReal) := fun T l => Cert.Fn.group (fun j => x (ix2 l j)) T (1 / 8) (by norm_num) g
  have ac := gc (fun a => Ideal.cos (Cert.Fn.an (Ideal.ofBits .f32 0x3DC90FDB#32) 64#32 (BitVec.ofNat 32 a) (BitVec.ofNat 32 e)))
  have bs := gc (fun a => Ideal.sin (Cert.Fn.an (Ideal.ofBits .f32 0x3DC90FDB#32) 64#32 (BitVec.ofNat 32 a) (BitVec.ofNat 32 e)))
  dsimp only at ac bs
  simp only [ac, bs]
  unfold Cert.Fn.el7
  exact Cert.Fn.scaled _ _ _ _ (1 / 16) (1 / 8) 128 (by norm_num) (by norm_num) (by norm_num) (by norm_num)

variable (m : (ℓ : Loc nD τ sig) → Buf (Elt Ideal) ℓ)

/-- The windows' block indices. -/
theorem idx : ∀ t : Fin cfg0.N, t.val < 16 ∧ win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The positions' cosines the kernel is given. -/
theorem V_cl (c : Dev nD) : V m c main_v31 = tabL (Host.cos angL) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil,
    List.cons_append, List.nil_append, StableHlo.TRef.binary, StableHlo.TRef.nullary, StableHlo.TRef.ternary, StableHlo.TRef.unary, StableHlo.TRef.toBuf, StableHlo.TRef.ofBuf, cast_eq]
  after_results_simp
  rfl

/-- The positions' sines the kernel is given. -/
theorem V_sl (c : Dev nD) : V m c main_v34 = tabL (Host.sin angL) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil,
    List.cons_append, List.nil_append, StableHlo.TRef.binary, StableHlo.TRef.nullary, StableHlo.TRef.ternary, StableHlo.TRef.unary, StableHlo.TRef.toBuf, StableHlo.TRef.ofBuf, cast_eq]
  after_results_simp
  rfl

/-- The channels' cosines the kernel is given. -/
theorem V_cc (c : Dev nD) : V m c main_v38 = tabC (Host.cos angC) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil,
    List.cons_append, List.nil_append, StableHlo.TRef.binary, StableHlo.TRef.nullary, StableHlo.TRef.ternary, StableHlo.TRef.unary, StableHlo.TRef.toBuf, StableHlo.TRef.ofBuf, cast_eq]
  after_results_simp
  rfl

/-- The channels' sines the kernel is given. -/
theorem V_sc (c : Dev nD) : V m c main_v42 = tabC (Host.sin angC) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil,
    List.cons_append, List.nil_append, StableHlo.TRef.binary, StableHlo.TRef.nullary, StableHlo.TRef.ternary, StableHlo.TRef.unary, StableHlo.TRef.toBuf, StableHlo.TRef.ofBuf, cast_eq]
  after_results_simp
  rfl

/-- Every point's table of positions' cosines. -/
theorem cl_blk (c : Dev nD) (t : Fin cfg0.N) : (show Vec Ideal S256x256 .f32 from iblk m c 1 t) = tabL (Host.cos angL) := by
  funext y
  obtain ⟨k, l, rfl⟩ : ∃ (k : Fin 256) (l : Fin 256), y = ix2 k l := ⟨y 0, y 1, eq_ix2 y⟩
  blk_simp [iblk, idx t]
  refine (congrFun (V_cl m c) _).trans (congrArg _ ?_)
  blk_ext [idx t]

/-- Every point's table of positions' sines. -/
theorem sl_blk (c : Dev nD) (t : Fin cfg0.N) : (show Vec Ideal S256x256 .f32 from iblk m c 2 t) = tabL (Host.sin angL) := by
  funext y
  obtain ⟨k, l, rfl⟩ : ∃ (k : Fin 256) (l : Fin 256), y = ix2 k l := ⟨y 0, y 1, eq_ix2 y⟩
  blk_simp [iblk, idx t]
  refine (congrFun (V_sl m c) _).trans (congrArg _ ?_)
  blk_ext [idx t]

/-- Every point's table of channels' cosines. -/
theorem cc_blk (c : Dev nD) (t : Fin cfg0.N) : (show Vec Ideal S256x256 .f32 from iblk m c 3 t) = tabC (Host.cos angC) := by
  funext y
  obtain ⟨k, l, rfl⟩ : ∃ (k : Fin 256) (l : Fin 256), y = ix2 k l := ⟨y 0, y 1, eq_ix2 y⟩
  blk_simp [iblk, idx t]
  refine (congrFun (V_cc m c) _).trans (congrArg _ ?_)
  blk_ext [idx t]

/-- Every point's table of channels' sines. -/
theorem sc_blk (c : Dev nD) (t : Fin cfg0.N) : (show Vec Ideal S256x256 .f32 from iblk m c 4 t) = tabC (Host.sin angC) := by
  funext y
  obtain ⟨k, l, rfl⟩ : ∃ (k : Fin 256) (l : Fin 256), y = ix2 k l := ⟨y 0, y 1, eq_ix2 y⟩
  blk_simp [iblk, idx t]
  refine (congrFun (V_sc m c) _).trans (congrArg _ ?_)
  blk_ext [idx t]

/-- A point's columns. -/
theorem x_blk (c : Dev nD) (t : Fin cfg0.N) (l : Fin 256) (j : Fin 256) : (show Vec Ideal S256x256 .f32 from iblk m c 0 t) (ix2 l j)
    = (show FVec Ideal S6144x256 .f32 from m ((c : Thread nD τ).loc main_arg0)) (ix2 ⟨t.val * 256 + l, by have := (idx t).1; omega⟩ j) := by
  blk_simp [iblk, idx t]
  refine (congrFun (V_main_arg0 m c) _).trans (congrArg _ ?_)
  blk_ext [idx t]

/-- A sequence's columns. -/
def sq (u : FVec Ideal S6144x256 .f32) (b : Fin 16) (l : Fin 256) (j : Fin 256) : EReal := u (ix2 ⟨b.val * 256 + l, by omega⟩ j)

/-- The array: every sequence's transform. -/
theorem final (c : Dev nD) : (dats m 0 c).arrAt 5 cfg0.N = Cert.Fn.G7 fun b => Cert.Fn.el7 (sq (m ((c : Thread nD τ).loc main_arg0)) b) := by
  refine (dats m 0 c).arrAt_eq_of_covers 5 _ (by decide +kernel) fun t _ y => ?_
  blk_simp
  rw [after0_5]
  frame_out
  obtain ⟨k, j, rfl⟩ : ∃ (k : Fin 256) (j : Fin 256), y = ix2 k j := ⟨y 0, y 1, eq_ix2 y⟩
  obtain ⟨g, e, rfl⟩ : ∃ (g : Fin 4) (e : Fin 64), j = ⟨g * 64 + e, by omega⟩ := ⟨⟨j / 64, by omega⟩, ⟨j % 64, by omega⟩, Fin.ext (by show j.val = j / 64 * 64 + j % 64; omega)⟩
  rw [Cert.Fn.G7_at _ _ ⟨t.val, (idx t).1⟩ k g e (by blk_simp [idx t]) (by blk_simp [idx t])]
  have hx : (fun l j => (show Vec Ideal S256x256 .f32 from iblk m c 0 t) (ix2 l j)) = sq (m ((c : Thread nD τ).loc main_arg0)) ⟨t.val, (idx t).1⟩ := by
    funext l j
    exact x_blk m c t l j
  rw [← hx, ← blk_at, ← cl_blk m c t, ← sl_blk m c t, ← cc_blk m c t, ← sc_blk m c t]

end Cert.Kernel7Ideal.At

end
-- ==== Proof.Fn7Ref.lean ====
/- The Fourier mixer's reference (the context's sequences): its elements. -/
module

public import proofs.«01_k».proof.Proof.Fn7Block
public import proofs.«01_k».proof.Proof.Gen.Reference7Ideal.Run

@[expose] public section

set_option maxRecDepth 16384

noncomputable section

open Idealize.ShloMosaic Idealize.ShloMosaic.TcCoe Idealize.SL.Sem

namespace Cert.Reference7Ideal.At

open Cert.Reference7Ideal Cert.Reference7Ideal.Gen Cert.Reference7Ideal.Value

/-- The angles of the positions' roots of unity. -/
def angL : FVec Ideal S256x256 .f32 :=
  mulf (broadcastInDim S256x256 ![] bcast_S_S256x256 (constant S_ .f32 0x3CC90FDB#32)) (sitofp .f32 (Cert.Fn.fmod S256x256 bcast_S_S256x256
    (muli (broadcastInDim S256x256 ![0, 1] bcast_S256x1_S256x256_0_1 (broadcastInDim S256x1 ![0] bcast_S256_S256x1_0 (iotaInDim S256 32 0)))
      (broadcastInDim S256x256 ![0, 1] bcast_S1x256_S256x256_0_1 (broadcastInDim S1x256 ![1] bcast_S256_S1x256_1 (iotaInDim S256 32 0)))) 256#32))

/-- Their elements. -/
theorem angL_at (k l : Fin 256) : angL (ix2 k l) = Cert.Fn.an (Ideal.ofBits .f32 0x3CC90FDB#32) 256#32 (BitVec.ofNat 32 k) (BitVec.ofNat 32 l) := by
  unfold angL
  pointwise [Cert.Fn.fmod_at]
  rfl

/-- The angles of the channels' roots of unity. -/
def angC : FVec Ideal S64x64 .f32 :=
  mulf (broadcastInDim S64x64 ![] bcast_S_S64x64 (constant S_ .f32 0x3DC90FDB#32)) (sitofp .f32 (Cert.Fn.fmod S64x64 bcast_S_S64x64
    (muli (broadcastInDim S64x64 ![0, 1] bcast_S64x1_S64x64_0_1 (broadcastInDim S64x1 ![0] bcast_S64_S64x1_0 (iotaInDim S64 32 0)))
      (broadcastInDim S64x64 ![0, 1] bcast_S1x64_S64x64_0_1 (broadcastInDim S1x64 ![1] bcast_S64_S1x64_1 (iotaInDim S64 32 0)))) 64#32))

/-- Their elements. -/
theorem angC_at (k l : Fin 64) : angC (ix2 k l) = Cert.Fn.an (Ideal.ofBits .f32 0x3DC90FDB#32) 64#32 (BitVec.ofNat 32 k) (BitVec.ofNat 32 l) := by
  unfold angC
  pointwise [Cert.Fn.fmod_at]
  rfl

/-- The sequences' columns by group. -/
def xf (u : FVec Ideal S6144x256 .f32) : FVec Ideal S16x256x4x64 .f32 :=
  shapeCast _ (shapeCast S16x256x256 (extractStridedSlice S4096x256 ![0, 0] u slices_S6144x256_S4096x256_0_0) shapeCasts_S4096x256_S16x256x256) shapeCasts_S16x256x256_S16x256x4x64

/-- Their elements. -/
theorem xf_at (u : FVec Ideal S6144x256 .f32) (b : Fin 16) (l : Fin 256) (g : Fin 4) (e : Fin 64) :
    xf u (ix4 b l g e) = Cert.Kernel7Ideal.At.sq u b l ⟨g * 64 + e, by omega⟩ := by
  unfold xf Cert.Kernel7Ideal.At.sq
  pointwise

/-- A product with a table of the channels, then with one of the positions. -/
def tr (u : FVec Ideal S16x256x4x64 .f32) (c : FVec Ideal S64x64 .f32) (p : FVec Ideal S256x256 .f32) : FVec Ideal S16x256x4x64 .f32 :=
  transpose S16x256x4x64 [0, 3, 1, 2] (Host.dotGeneral dot_S16x256x4x64_S256x256_S16x4x64x256_1_1_023_0_n_n none
    (Host.dotGeneral dot_S16x256x4x64_S64x64_S16x256x4x64_3_0_012_1_n_n none u c) p) transposes_S16x4x64x256_S16x256x4x64_0_3_1_2

/-- Its elements. -/
theorem tr_at (u : FVec Ideal S16x256x4x64 .f32) (c : FVec Ideal S64x64 .f32) (p : FVec Ideal S256x256 .f32) (b : Fin 16) (k : Fin 256) (g : Fin 4) (e : Fin 64) :
    tr u c p (ix4 b k g e) = ∑ l : Fin 256, (∑ a : Fin 64, u (ix4 b l g a) * c (ix2 a e)) * p (ix2 k l) := by
  unfold tr
  pointwise

/-- The transform before its last reshape. -/
def pre (u : FVec Ideal S6144x256 .f32) : FVec Ideal S16x256x4x64 .f32 :=
  Host.divf (subf (tr (xf u) (Host.cos angC) (Host.cos angL)) (tr (xf u) (Host.sin angC) (Host.sin angL)))
    (broadcastInDim S16x256x4x64 ![] bcast_S_S16x256x4x64 (constant S_ .f32 0x43000000#32))

/-- Its elements. -/
theorem pre_at (u : FVec Ideal S6144x256 .f32) (b : Fin 16) (k : Fin 256) (g : Fin 4) (e : Fin 64) :
    pre u (ix4 b k g e) = Cert.Fn.el7 (Cert.Kernel7Ideal.At.sq u b) k g e := by
  unfold pre Cert.Fn.el7
  rw [← Cert.Fn.c128]
  pointwise [tr_at, xf_at, angC_at, angL_at]

/-- The transform. -/
def o (u : FVec Ideal S6144x256 .f32) : FVec Ideal S4096x256 .bf16 :=
  truncf .bf16 (shapeCast S4096x256 (shapeCast S16x256x256 (pre u) shapeCasts_S16x256x4x64_S16x256x256) shapeCasts_S16x256x256_S4096x256) bitsLt_bf16_f32

/-- Its elements. -/
theorem o_at (u : FVec Ideal S6144x256 .f32) (b : Fin 16) (k : Fin 256) (g : Fin 4) (e : Fin 64) :
    o u (ix2 ⟨b * 256 + k, by omega⟩ ⟨g * 64 + e, by omega⟩) = Cert.Fn.el7 (Cert.Kernel7Ideal.At.sq u b) k g e := by
  rw [← pre_at]
  unfold o
  pointwise

/-- The transform is the array of its elements. -/
theorem o_eq (u : FVec Ideal S6144x256 .f32) : o u = Cert.Fn.G7 fun b => Cert.Fn.el7 (Cert.Kernel7Ideal.At.sq u b) := by
  funext y
  obtain ⟨i, j, rfl⟩ : ∃ (i : Fin 4096) (j : Fin 256), y = ix2 i j := ⟨y 0, y 1, eq_ix2 y⟩
  obtain ⟨g, e, rfl⟩ : ∃ (g : Fin 4) (e : Fin 64), j = ⟨g * 64 + e, by omega⟩ := ⟨⟨j / 64, by omega⟩, ⟨j % 64, by omega⟩, Fin.ext (by show j.val = j / 64 * 64 + j % 64; omega)⟩
  obtain ⟨b, k, rfl⟩ : ∃ (b : Fin 16) (k : Fin 256), i = ⟨b * 256 + k, by omega⟩ := ⟨⟨i / 256, by omega⟩, ⟨i % 256, by omega⟩, Fin.ext (by show i.val = i / 256 * 256 + i % 256; omega)⟩
  rw [o_at, Cert.Fn.G7_at _ _ b k g e rfl rfl]

/-- The generated result is this transform. -/
theorem res_eq (m : (ℓ : Loc nD τ sig) → Buf (Elt Ideal) ℓ) (c : Dev nD) : res_main_v38 (F := Ideal) m c = o (m ((c.tc : Thread nD τ).loc main_arg0)) := by
  unfold res_main_v38 o pre tr xf angL angC
  rfl

end Cert.Reference7Ideal.At

end
-- ==== Proof.Fn7Claims.lean ====
/- The claims about the Fourier mixer (the context's sequences): the run of the kernel against the run of the reference. -/
module

public import proofs.«01_k».proof.Defs
public import proofs.«01_k».proof.Proof.Fn7Ref
public import Idealize.ShloMosaic.Adequacy
public import Idealize.ShloMosaic.Init

@[expose] public section

set_option maxRecDepth 16384

noncomputable section

open Idealize.ShloMosaic Idealize.ShloMosaic.TcCoe Idealize.SL.Sem

namespace Cert.Fn

/-- The reference's program leaves its arguments alone and no counter raised. -/
theorem frame_reference7 : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- The kernel's array is the reference's: every sequence's transform. -/
theorem algebraic7 : Cert.algebraic_Kernel7Ideal_Reference7Ideal := by
  intro m ρ m' ρ' hpre hagree
  refine ⟨fun c => G7 fun b => el7 (Cert.Kernel7Ideal.At.sq (m ((c.tc : Thread Cert.Kernel7Ideal.nD Cert.Kernel7Ideal.τ).loc Cert.Kernel7Ideal.main_arg0)) b), ?_, ?_⟩
  · exact (θ_run Cert.Kernel7Ideal.defs _ _).mono (fun _ h c => ⟨(h c).1.trans (Cert.Kernel7Ideal.At.final m c), (h c).2⟩)
      (Cert.Kernel7Ideal.Value.run_blocks (F := Ideal) m ρ)
  · refine (θ_run Cert.Reference7Ideal.defs _ _).mono (fun _ h c => ⟨(h c).1.trans ?_, (h c).2⟩)
      (Cert.Reference7Ideal.Value.run (F := Ideal) m' ρ')
    have h0 := hagree c
    rw [Cert.Reference7Ideal.At.res_eq, Cert.Reference7Ideal.At.o_eq, h0]

end Cert.Fn

end
-- ==== Proof.Fn8Block.lean ====
/- The Fourier mixer's result array after the run (the latent sequences), as a function of its columns. -/
module

public import proofs.«01_k».proof.Proof.FnBase
public import proofs.«01_k».proof.Proof.Gen.Kernel8Ideal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Fn

/-- An element of the transform: of row `k` and channel `m` of group `g`, from a sequence's elements. -/
def el8 (x : Fin 1024 → Fin 256 → EReal) (k : Fin 1024) (g : Fin 4) (m : Fin 64) : EReal :=
  Ideal.div ((∑ l : Fin 1024, (∑ e : Fin 64, x l ⟨g * 64 + e, by omega⟩ * Ideal.cos (an (Ideal.ofBits .f32 0x3DC90FDB#32) 64#32 (BitVec.ofNat 32 e) (BitVec.ofNat 32 m)))
      * Ideal.cos (an (Ideal.ofBits .f32 0x3BC90FDB#32) 1024#32 (BitVec.ofNat 32 k) (BitVec.ofNat 32 l)))
    - ∑ l : Fin 1024, (∑ e : Fin 64, x l ⟨g * 64 + e, by omega⟩ * Ideal.sin (an (Ideal.ofBits .f32 0x3DC90FDB#32) 64#32 (BitVec.ofNat 32 e) (BitVec.ofNat 32 m)))
      * Ideal.sin (an (Ideal.ofBits .f32 0x3BC90FDB#32) 1024#32 (BitVec.ofNat 32 k) (BitVec.ofNat 32 l)))
    ((256 : ℝ) : EReal)

/-- An array of rows from its elements. -/
def G8 (f : Fin 2 → Fin 1024 → Fin 4 → Fin 64 → EReal) : (⟨2, ![2048, 256]⟩ : Shape).Idx → EReal :=
  fun p => f ⟨(p 0).val / 1024, by have h : (p 0).val < 2048 := (p 0).isLt; omega⟩ ⟨(p 0).val % 1024, by omega⟩
    ⟨(p 1).val / 64, by have h : (p 1).val < 256 := (p 1).isLt; omega⟩ ⟨(p 1).val % 64, by omega⟩

/-- An element of the array. -/
theorem G8_at (f : Fin 2 → Fin 1024 → Fin 4 → Fin 64 → EReal) (p : (⟨2, ![2048, 256]⟩ : Shape).Idx) (b : Fin 2) (k : Fin 1024) (g : Fin 4) (e : Fin 64)
    (h0 : (p 0).val = b * 1024 + k) (h1 : (p 1).val = g * 64 + e) : G8 f p = f b k g e := by
  unfold G8
  congr 1 <;> apply Fin.ext <;> simp only [h0, h1] <;> omega

end Cert.Fn

namespace Cert.Kernel8Ideal.At

open Cert.Kernel8Ideal Cert.Kernel8Ideal.Gen

/-- The angles of the positions' roots of unity. -/
def angL : FVec Ideal S1024x1024 .f32 :=
  mulf (broadcastInDim S1024x1024 ![] bcast_S_S1024x1024 (constant S_ .f32 0x3BC90FDB#32)) (sitofp .f32 (Cert.Fn.fmod S1024x1024 bcast_S_S1024x1024
    (muli (broadcastInDim S1024x1024 ![0, 1] bcast_S1024x1_S1024x1024_0_1 (broadcastInDim S1024x1 ![0] bcast_S1024_S1024x1_0 (iotaInDim S1024 32 0)))
      (broadcastInDim S1024x1024 ![0, 1] bcast_S1x1024_S1024x1024_0_1 (broadcastInDim S1x1024 ![1] bcast_S1024_S1x1024_1 (iotaInDim S1024 32 0)))) 1024#32))

/-- Their elements. -/
theorem angL_at (k l : Fin 1024) : angL (ix2 k l) = Cert.Fn.an (Ideal.ofBits .f32 0x3BC90FDB#32) 1024#32 (BitVec.ofNat 32 k) (BitVec.ofNat 32 l) := by
  unfold angL
  pointwise [Cert.Fn.fmod_at]
  rfl

/-- The angles of the channels' roots of unity. -/
def angC : FVec Ideal S256x256 .f32 :=
  mulf (broadcastInDim S256x256 ![] bcast_S_S256x256 (constant S_ .f32 0x3DC90FDB#32)) (sitofp .f32 (Cert.Fn.fmod S256x256 bcast_S_S256x256
    (muli (broadcastInDim S256x256 ![0, 1] bcast_S256x1_S256x256_0_1 (Cert.Fn.fmod S256x1 bcast_S_S256x1 (broadcastInDim S256x1 ![0] bcast_S256_S256x1_0 (iotaInDim S256 32 0)) 64#32))
      (broadcastInDim S256x256 ![0, 1] bcast_S1x256_S256x256_0_1 (Cert.Fn.fmod S1x256 bcast_S_S1x256 (broadcastInDim S1x256 ![1] bcast_S256_S1x256_1 (iotaInDim S256 32 0)) 64#32))) 64#32))

/-- Their elements. -/
theorem angC_at (j m : Fin 256) : angC (ix2 j m) = Cert.Fn.an (Ideal.ofBits .f32 0x3DC90FDB#32) 64#32 (BitVec.ofNat 32 (j.val % 64)) (BitVec.ofNat 32 (m.val % 64)) := by
  rw [← Cert.Fn.md64, ← Cert.Fn.md64]
  unfold angC
  pointwise [Cert.Fn.fmod_at]
  rfl

/-- The channels' mask: whether two are of one group. -/
def same : IVec S256x256 1 :=
  cmpi CmpIPredicate.eq
    (broadcastInDim S256x256 ![0, 1] bcast_S256x1_S256x256_0_1 (Cert.Fn.fdiv S256x1 bcast_S_S256x1 (broadcastInDim S256x1 ![0] bcast_S256_S256x1_0 (iotaInDim S256 32 0)) 64#32))
    (broadcastInDim S256x256 ![0, 1] bcast_S1x256_S256x256_0_1 (Cert.Fn.fdiv S1x256 bcast_S_S1x256 (broadcastInDim S1x256 ![1] bcast_S256_S1x256_1 (iotaInDim S256 32 0)) 64#32))

/-- A channel table under the mask and its scale. -/
def tabC (u : FVec Ideal S256x256 .f32) : FVec Ideal S256x256 .f32 :=
  select same (mulf u (broadcastInDim S256x256 ![] bcast_S_S256x256 (constant S_ .f32 0x3E000000#32)))
    (broadcastInDim S256x256 ![] bcast_S_S256x256 (id (constant S_ .f32 0x00000000#32)))

/-- Its elements. -/
theorem tabC_at (u : FVec Ideal S256x256 .f32) (j m : Fin 256) : tabC u (ix2 j m) = if j.val / 64 = m.val / 64 then u (ix2 j m) * ((1 / 8 : ℝ) : EReal) else 0 := by
  rw [← Cert.Fn.sel_group, ← Cert.Att.cscale]
  unfold tabC same
  pointwise [Cert.Fn.fdiv_at]
  rw [show id (constant S_ .f32 0x00000000#32 : FVec Ideal S_ .f32) ix0 = (0 : EReal) from Ideal.ofBits_zero_f32]

/-- A position table under its scale. -/
def tabL (u : FVec Ideal S1024x1024 .f32) : FVec Ideal S1024x1024 .f32 :=
  mulf u (broadcastInDim S1024x1024 ![] bcast_S_S1024x1024 (constant S_ .f32 0x3D000000#32))

/-- Its elements. -/
theorem tabL_at (u : FVec Ideal S1024x1024 .f32) (k l : Fin 1024) : tabL u (ix2 k l) = u (ix2 k l) * ((1 / 32 : ℝ) : EReal) := by
  rw [← Cert.Fn.c32]
  unfold tabL
  pointwise

/-- A block's elements. -/
theorem pay1_at (x : Vec Ideal S1024x256 .f32) (cc sc : Vec Ideal S256x256 .f32) (cl sl : Vec Ideal S1024x1024 .f32) (k : Fin 1024) (m : Fin 256) :
    k0_pay1 (F := Ideal) x cc sc cl sl (ix2 k m) = (∑ l, cl (ix2 k l) * ∑ j, x (ix2 l j) * cc (ix2 j m)) - ∑ l, sl (ix2 k l) * ∑ j, x (ix2 l j) * sc (ix2 j m) := by
  unfold k0_pay1
  pointwise

/-- A block's elements under the tables. -/
theorem blk_at (x : Vec Ideal S1024x256 .f32) (k : Fin 1024) (g : Fin 4) (e : Fin 64) :
    k0_pay1 (F := Ideal) x (tabC (Host.cos angC)) (tabC (Host.sin angC)) (tabL (Host.cos angL)) (tabL (Host.sin angL)) (ix2 k ⟨g * 64 + e, by omega⟩)
      = Cert.Fn.el8 (fun l j => x (ix2 l j)) k g e := by
  rw [pay1_at]
  have hc : ∀ j : Fin 256, Host.cos (F := Ideal) angC (ix2 j ⟨g * 64 + e, by omega⟩) = Ideal.cos (Cert.Fn.an (Ideal.ofBits .f32 0x3DC90FDB#32) 64#32 (BitVec.ofNat 32 (j.val % 64)) (BitVec.ofNat 32 e)) := fun j => by
    have := angC_at j ⟨g * 64 + e, by omega⟩
    rw [show ((g : ℕ) * 64 + e) % 64 = e by omega] at this
    rw [← this]
    pointwise
  have hs : ∀ j : Fin 256, Host.sin (F := Ideal) angC (ix2 j ⟨g * 64 + e, by omega⟩) = Ideal.sin (Cert.Fn.an (Ideal.ofBits .f32 0x3DC90FDB#32) 64#32 (BitVec.ofNat 32 (j.val % 64)) (BitVec.ofNat 32 e)) := fun j => by
    have := angC_at j ⟨g * 64 + e, by omega⟩
    rw [show ((g : ℕ) * 64 + e) % 64 = e by omega] at this
    rw [← this]
    pointwise
  have lc : ∀ l : Fin 1024, Host.cos (F := Ideal) angL (ix2 k l) = Ideal.cos (Cert.Fn.an (Ideal.ofBits .f32 0x3BC90FDB#32) 1024#32 (BitVec.ofNat 32 k) (BitVec.ofNat 32 l)) := fun l => by
    rw [← angL_at]
    pointwise
  have ls : ∀ l : Fin 1024, Host.sin (F := Ideal) angL (ix2 k l) = Ideal.sin (Cert.Fn.an (Ideal.ofBits .f32 0x3BC90FDB#32) 1024#32 (BitVec.ofNat 32 k) (BitVec.ofNat 32 l)) := fun l => by
    rw [← angL_at]
    pointwise
  have hg : ((g : ℕ) * 64 + e) / 64 = g := by omega
  simp only [tabC_at, tabL_at, hc, hs, lc, ls, hg]
  have gc : ∀ (T : Fin 64 → EReal) (l : Fin 1024), (∑ j : Fin 256, x (ix2 l j) * (if j.val / 64 = g then T ⟨j.val % 64, by omega⟩ * ((1 / 8 : ℝ) : EReal) else 0))
      = (∑ e : Fin 64, x (ix2 l ⟨g * 64 + e, by omega⟩) * T e) * ((1 / 8 : ℝ) : EReal) := fun T l => Cert.Fn.group (fun j => x (ix2 l j)) T (1 / 8) (by norm_num) g
  have ac := gc (fun a => Ideal.cos (Cert.Fn.an (Ideal.ofBits .f32 0x3DC90FDB#32) 64#32 (BitVec.ofNat 32 a) (BitVec.ofNat 32 e)))
  have bs := gc (fun a => Ideal.sin (Cert.Fn.an (Ideal.ofBits .f32 0x3DC90FDB#32) 64#32 (BitVec.ofNat 32 a) (BitVec.ofNat 32 e)))
  dsimp only at ac bs
  simp only [ac, bs]
  unfold Cert.Fn.el8
  exact Cert.Fn.scaled _ _ _ _ (1 / 32) (1 / 8) 256 (by norm_num) (by norm_num) (by norm_num) (by norm_num)

variable (m : (ℓ : Loc nD τ sig) → Buf (Elt Ideal) ℓ)

/-- The windows' block indices. -/
theorem idx : ∀ t : Fin cfg0.N, t.val < 2 ∧ win0_0.index t = ![4 + t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The positions' cosines the kernel is given. -/
theorem V_cl (c : Dev nD) : V m c main_v31 = tabL (Host.cos angL) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil,
    List.cons_append, List.nil_append, StableHlo.TRef.binary, StableHlo.TRef.nullary, StableHlo.TRef.ternary, StableHlo.TRef.unary, StableHlo.TRef.toBuf, StableHlo.TRef.ofBuf, cast_eq]
  after_results_simp
  rfl

/-- The positions' sines the kernel is given. -/
theorem V_sl (c : Dev nD) : V m c main_v34 = tabL (Host.sin angL) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil,
    List.cons_append, List.nil_append, StableHlo.TRef.binary, StableHlo.TRef.nullary, StableHlo.TRef.ternary, StableHlo.TRef.unary, StableHlo.TRef.toBuf, StableHlo.TRef.ofBuf, cast_eq]
  after_results_simp
  rfl

/-- The channels' cosines the kernel is given. -/
theorem V_cc (c : Dev nD) : V m c main_v38 = tabC (Host.cos angC) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil,
    List.cons_append, List.nil_append, StableHlo.TRef.binary, StableHlo.TRef.nullary, StableHlo.TRef.ternary, StableHlo.TRef.unary, StableHlo.TRef.toBuf, StableHlo.TRef.ofBuf, cast_eq]
  after_results_simp
  rfl

/-- The channels' sines the kernel is given. -/
theorem V_sc (c : Dev nD) : V m c main_v42 = tabC (Host.sin angC) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil,
    List.cons_append, List.nil_append, StableHlo.TRef.binary, StableHlo.TRef.nullary, StableHlo.TRef.ternary, StableHlo.TRef.unary, StableHlo.TRef.toBuf, StableHlo.TRef.ofBuf, cast_eq]
  after_results_simp
  rfl

/-- Every point's table of positions' cosines. -/
theorem cl_blk (c : Dev nD) (t : Fin cfg0.N) : (show Vec Ideal S1024x1024 .f32 from iblk m c 1 t) = tabL (Host.cos angL) := by
  funext y
  obtain ⟨k, l, rfl⟩ : ∃ (k : Fin 1024) (l : Fin 1024), y = ix2 k l := ⟨y 0, y 1, eq_ix2 y⟩
  blk_simp [iblk, idx t]
  refine (congrFun (V_cl m c) _).trans (congrArg _ ?_)
  blk_ext [idx t]

/-- Every point's table of positions' sines. -/
theorem sl_blk (c : Dev nD) (t : Fin cfg0.N) : (show Vec Ideal S1024x1024 .f32 from iblk m c 2 t) = tabL (Host.sin angL) := by
  funext y
  obtain ⟨k, l, rfl⟩ : ∃ (k : Fin 1024) (l : Fin 1024), y = ix2 k l := ⟨y 0, y 1, eq_ix2 y⟩
  blk_simp [iblk, idx t]
  refine (congrFun (V_sl m c) _).trans (congrArg _ ?_)
  blk_ext [idx t]

/-- Every point's table of channels' cosines. -/
theorem cc_blk (c : Dev nD) (t : Fin cfg0.N) : (show Vec Ideal S256x256 .f32 from iblk m c 3 t) = tabC (Host.cos angC) := by
  funext y
  obtain ⟨k, l, rfl⟩ : ∃ (k : Fin 256) (l : Fin 256), y = ix2 k l := ⟨y 0, y 1, eq_ix2 y⟩
  blk_simp [iblk, idx t]
  refine (congrFun (V_cc m c) _).trans (congrArg _ ?_)
  blk_ext [idx t]

/-- Every point's table of channels' sines. -/
theorem sc_blk (c : Dev nD) (t : Fin cfg0.N) : (show Vec Ideal S256x256 .f32 from iblk m c 4 t) = tabC (Host.sin angC) := by
  funext y
  obtain ⟨k, l, rfl⟩ : ∃ (k : Fin 256) (l : Fin 256), y = ix2 k l := ⟨y 0, y 1, eq_ix2 y⟩
  blk_simp [iblk, idx t]
  refine (congrFun (V_sc m c) _).trans (congrArg _ ?_)
  blk_ext [idx t]

/-- A point's columns. -/
theorem x_blk (c : Dev nD) (t : Fin cfg0.N) (l : Fin 1024) (j : Fin 256) : (show Vec Ideal S1024x256 .f32 from iblk m c 0 t) (ix2 l j)
    = (show FVec Ideal S6144x256 .f32 from m ((c : Thread nD τ).loc main_arg0)) (ix2 ⟨4096 + t.val * 1024 + l, by have := (idx t).1; omega⟩ j) := by
  blk_simp [iblk, idx t]
  refine (congrFun (V_main_arg0 m c) _).trans (congrArg _ ?_)
  blk_ext [idx t]

/-- A sequence's columns. -/
def sq (u : FVec Ideal S6144x256 .f32) (b : Fin 2) (l : Fin 1024) (j : Fin 256) : EReal := u (ix2 ⟨4096 + b.val * 1024 + l, by omega⟩ j)

/-- The array: every sequence's transform. -/
theorem final (c : Dev nD) : (dats m 0 c).arrAt 5 cfg0.N = Cert.Fn.G8 fun b => Cert.Fn.el8 (sq (m ((c : Thread nD τ).loc main_arg0)) b) := by
  refine (dats m 0 c).arrAt_eq_of_covers 5 _ (by decide +kernel) fun t _ y => ?_
  blk_simp
  rw [after0_5]
  frame_out
  obtain ⟨k, j, rfl⟩ : ∃ (k : Fin 1024) (j : Fin 256), y = ix2 k j := ⟨y 0, y 1, eq_ix2 y⟩
  obtain ⟨g, e, rfl⟩ : ∃ (g : Fin 4) (e : Fin 64), j = ⟨g * 64 + e, by omega⟩ := ⟨⟨j / 64, by omega⟩, ⟨j % 64, by omega⟩, Fin.ext (by show j.val = j / 64 * 64 + j % 64; omega)⟩
  rw [Cert.Fn.G8_at _ _ ⟨t.val, (idx t).1⟩ k g e (by blk_simp [idx t]) (by blk_simp [idx t])]
  have hx : (fun l j => (show Vec Ideal S1024x256 .f32 from iblk m c 0 t) (ix2 l j)) = sq (m ((c : Thread nD τ).loc main_arg0)) ⟨t.val, (idx t).1⟩ := by
    funext l j
    exact x_blk m c t l j
  rw [← hx, ← blk_at, ← cl_blk m c t, ← sl_blk m c t, ← cc_blk m c t, ← sc_blk m c t]

end Cert.Kernel8Ideal.At

end
-- ==== Proof.Fn8Ref.lean ====
/- The Fourier mixer's reference (the latent sequences): its elements. -/
module

public import proofs.«01_k».proof.Proof.Fn8Block
public import proofs.«01_k».proof.Proof.Gen.Reference8Ideal.Run

@[expose] public section

set_option maxRecDepth 16384

noncomputable section

open Idealize.ShloMosaic Idealize.ShloMosaic.TcCoe Idealize.SL.Sem

namespace Cert.Reference8Ideal.At

open Cert.Reference8Ideal Cert.Reference8Ideal.Gen Cert.Reference8Ideal.Value

/-- The angles of the positions' roots of unity. -/
def angL : FVec Ideal S1024x1024 .f32 :=
  mulf (broadcastInDim S1024x1024 ![] bcast_S_S1024x1024 (constant S_ .f32 0x3BC90FDB#32)) (sitofp .f32 (Cert.Fn.fmod S1024x1024 bcast_S_S1024x1024
    (muli (broadcastInDim S1024x1024 ![0, 1] bcast_S1024x1_S1024x1024_0_1 (broadcastInDim S1024x1 ![0] bcast_S1024_S1024x1_0 (iotaInDim S1024 32 0)))
      (broadcastInDim S1024x1024 ![0, 1] bcast_S1x1024_S1024x1024_0_1 (broadcastInDim S1x1024 ![1] bcast_S1024_S1x1024_1 (iotaInDim S1024 32 0)))) 1024#32))

/-- Their elements. -/
theorem angL_at (k l : Fin 1024) : angL (ix2 k l) = Cert.Fn.an (Ideal.ofBits .f32 0x3BC90FDB#32) 1024#32 (BitVec.ofNat 32 k) (BitVec.ofNat 32 l) := by
  unfold angL
  pointwise [Cert.Fn.fmod_at]
  rfl

/-- The angles of the channels' roots of unity. -/
def angC : FVec Ideal S64x64 .f32 :=
  mulf (broadcastInDim S64x64 ![] bcast_S_S64x64 (constant S_ .f32 0x3DC90FDB#32)) (sitofp .f32 (Cert.Fn.fmod S64x64 bcast_S_S64x64
    (muli (broadcastInDim S64x64 ![0, 1] bcast_S64x1_S64x64_0_1 (broadcastInDim S64x1 ![0] bcast_S64_S64x1_0 (iotaInDim S64 32 0)))
      (broadcastInDim S64x64 ![0, 1] bcast_S1x64_S64x64_0_1 (broadcastInDim S1x64 ![1] bcast_S64_S1x64_1 (iotaInDim S64 32 0)))) 64#32))

/-- Their elements. -/
theorem angC_at (k l : Fin 64) : angC (ix2 k l) = Cert.Fn.an (Ideal.ofBits .f32 0x3DC90FDB#32) 64#32 (BitVec.ofNat 32 k) (BitVec.ofNat 32 l) := by
  unfold angC
  pointwise [Cert.Fn.fmod_at]
  rfl

/-- The sequences' columns by group. -/
def xf (u : FVec Ideal S6144x256 .f32) : FVec Ideal S2x1024x4x64 .f32 :=
  shapeCast _ (shapeCast S2x1024x256 (extractStridedSlice S2048x256 ![4096, 0] u slices_S6144x256_S2048x256_4096_0) shapeCasts_S2048x256_S2x1024x256) shapeCasts_S2x1024x256_S2x1024x4x64

/-- Their elements. -/
theorem xf_at (u : FVec Ideal S6144x256 .f32) (b : Fin 2) (l : Fin 1024) (g : Fin 4) (e : Fin 64) :
    xf u (ix4 b l g e) = Cert.Kernel8Ideal.At.sq u b l ⟨g * 64 + e, by omega⟩ := by
  unfold xf Cert.Kernel8Ideal.At.sq
  pointwise
  simp only [Nat.add_assoc]

/-- A product with a table of the channels, then with one of the positions. -/
def tr (u : FVec Ideal S2x1024x4x64 .f32) (c : FVec Ideal S64x64 .f32) (p : FVec Ideal S1024x1024 .f32) : FVec Ideal S2x1024x4x64 .f32 :=
  transpose S2x1024x4x64 [0, 3, 1, 2] (Host.dotGeneral dot_S2x1024x4x64_S1024x1024_S2x4x64x1024_1_1_023_0_n_n none
    (Host.dotGeneral dot_S2x1024x4x64_S64x64_S2x1024x4x64_3_0_012_1_n_n none u c) p) transposes_S2x4x64x1024_S2x1024x4x64_0_3_1_2

/-- Its elements. -/
theorem tr_at (u : FVec Ideal S2x1024x4x64 .f32) (c : FVec Ideal S64x64 .f32) (p : FVec Ideal S1024x1024 .f32) (b : Fin 2) (k : Fin 1024) (g : Fin 4) (e : Fin 64) :
    tr u c p (ix4 b k g e) = ∑ l : Fin 1024, (∑ a : Fin 64, u (ix4 b l g a) * c (ix2 a e)) * p (ix2 k l) := by
  unfold tr
  pointwise

/-- The transform before its last reshape. -/
def pre (u : FVec Ideal S6144x256 .f32) : FVec Ideal S2x1024x4x64 .f32 :=
  Host.divf (subf (tr (xf u) (Host.cos angC) (Host.cos angL)) (tr (xf u) (Host.sin angC) (Host.sin angL)))
    (broadcastInDim S2x1024x4x64 ![] bcast_S_S2x1024x4x64 (constant S_ .f32 0x43800000#32))

/-- Its elements. -/
theorem pre_at (u : FVec Ideal S6144x256 .f32) (b : Fin 2) (k : Fin 1024) (g : Fin 4) (e : Fin 64) :
    pre u (ix4 b k g e) = Cert.Fn.el8 (Cert.Kernel8Ideal.At.sq u b) k g e := by
  unfold pre Cert.Fn.el8
  rw [← Cert.Fn.c256]
  pointwise [tr_at, xf_at, angC_at, angL_at]

/-- The transform. -/
def o (u : FVec Ideal S6144x256 .f32) : FVec Ideal S2048x256 .bf16 :=
  truncf .bf16 (shapeCast S2048x256 (shapeCast S2x1024x256 (pre u) shapeCasts_S2x1024x4x64_S2x1024x256) shapeCasts_S2x1024x256_S2048x256) bitsLt_bf16_f32

/-- Its elements. -/
theorem o_at (u : FVec Ideal S6144x256 .f32) (b : Fin 2) (k : Fin 1024) (g : Fin 4) (e : Fin 64) :
    o u (ix2 ⟨b * 1024 + k, by omega⟩ ⟨g * 64 + e, by omega⟩) = Cert.Fn.el8 (Cert.Kernel8Ideal.At.sq u b) k g e := by
  rw [← pre_at]
  unfold o
  pointwise

/-- The transform is the array of its elements. -/
theorem o_eq (u : FVec Ideal S6144x256 .f32) : o u = Cert.Fn.G8 fun b => Cert.Fn.el8 (Cert.Kernel8Ideal.At.sq u b) := by
  funext y
  obtain ⟨i, j, rfl⟩ : ∃ (i : Fin 2048) (j : Fin 256), y = ix2 i j := ⟨y 0, y 1, eq_ix2 y⟩
  obtain ⟨g, e, rfl⟩ : ∃ (g : Fin 4) (e : Fin 64), j = ⟨g * 64 + e, by omega⟩ := ⟨⟨j / 64, by omega⟩, ⟨j % 64, by omega⟩, Fin.ext (by show j.val = j / 64 * 64 + j % 64; omega)⟩
  obtain ⟨b, k, rfl⟩ : ∃ (b : Fin 2) (k : Fin 1024), i = ⟨b * 1024 + k, by omega⟩ := ⟨⟨i / 1024, by omega⟩, ⟨i % 1024, by omega⟩, Fin.ext (by show i.val = i / 1024 * 1024 + i % 1024; omega)⟩
  rw [o_at, Cert.Fn.G8_at _ _ b k g e rfl rfl]

/-- The generated result is this transform. -/
theorem res_eq (m : (ℓ : Loc nD τ sig) → Buf (Elt Ideal) ℓ) (c : Dev nD) : res_main_v38 (F := Ideal) m c = o (m ((c.tc : Thread nD τ).loc main_arg0)) := by
  unfold res_main_v38 o pre tr xf angL angC
  rfl

end Cert.Reference8Ideal.At

end
-- ==== Proof.Fn8Claims.lean ====
/- The claims about the Fourier mixer (the latent sequences): the run of the kernel against the run of the reference. -/
module

public import proofs.«01_k».proof.Defs
public import proofs.«01_k».proof.Proof.Fn8Ref
public import Idealize.ShloMosaic.Adequacy
public import Idealize.ShloMosaic.Init

@[expose] public section

set_option maxRecDepth 16384

noncomputable section

open Idealize.ShloMosaic Idealize.ShloMosaic.TcCoe Idealize.SL.Sem

namespace Cert.Fn

/-- The reference's program leaves its arguments alone and no counter raised. -/
theorem frame_reference8 : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

/-- The kernel's array is the reference's: every sequence's transform. -/
theorem algebraic8 : Cert.algebraic_Kernel8Ideal_Reference8Ideal := by
  intro m ρ m' ρ' hpre hagree
  refine ⟨fun c => G8 fun b => el8 (Cert.Kernel8Ideal.At.sq (m ((c.tc : Thread Cert.Kernel8Ideal.nD Cert.Kernel8Ideal.τ).loc Cert.Kernel8Ideal.main_arg0)) b), ?_, ?_⟩
  · exact (θ_run Cert.Kernel8Ideal.defs _ _).mono (fun _ h c => ⟨(h c).1.trans (Cert.Kernel8Ideal.At.final m c), (h c).2⟩)
      (Cert.Kernel8Ideal.Value.run_blocks (F := Ideal) m ρ)
  · refine (θ_run Cert.Reference8Ideal.defs _ _).mono (fun _ h c => ⟨(h c).1.trans ?_, (h c).2⟩)
      (Cert.Reference8Ideal.Value.run (F := Ideal) m' ρ')
    have h0 := hagree c
    rw [Cert.Reference8Ideal.At.res_eq, Cert.Reference8Ideal.At.o_eq, h0]

end Cert.Fn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Claims
public import proofs.«01_k».proof.Proof.InClaims
public import proofs.«01_k».proof.Proof.OutClaims
public import proofs.«01_k».proof.Proof.ExClaims
public import proofs.«01_k».proof.Proof.AdaClaims
public import proofs.«01_k».proof.Proof.SsdClaims
public import proofs.«01_k».proof.Proof.Fn7Claims
public import proofs.«01_k».proof.Proof.Fn8Claims
public import proofs.«01_k».proof.Proof.Gen.ReferenceIdeal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_weights_finite.facts, Cert.Pre_steps_below_inf.facts,
  fun m ρ _ => Cert.Kernel.Gen.frame m ρ, fun m ρ _ => Cert.KernelIdeal.Gen.frame m ρ, fun m ρ _ => Cert.KernelIdeal.Gen.frame m ρ,
  Cert.Att.frame_reference, fun m ρ _ => Cert.Att.frame_reference m ρ trivial,
  fun m ρ _ => Cert.Kernel2.Gen.frame m ρ, fun m ρ _ => Cert.Kernel2Ideal.Gen.frame m ρ, Cert.In.frame_reference,
  fun m ρ _ => Cert.Kernel3.Gen.frame m ρ, fun m ρ _ => Cert.Kernel3Ideal.Gen.frame m ρ, Cert.Out.frame_reference,
  fun m ρ _ => Cert.Kernel4.Gen.frame m ρ, fun m ρ _ => Cert.Kernel4Ideal.Gen.frame m ρ, Cert.Ex.frame_reference,
  fun m ρ _ => Cert.Kernel5.Gen.frame m ρ, fun m ρ _ => Cert.Kernel5Ideal.Gen.frame m ρ, Cert.Ada.frame_reference,
  fun m ρ _ => Cert.Kernel6.Gen.frame m ρ, fun m ρ _ => Cert.Kernel6Ideal.Gen.frame m ρ, fun m ρ _ => Cert.Kernel6Ideal.Gen.frame m ρ,
  Cert.Ssd.frame_reference, fun m ρ _ => Cert.Ssd.frame_reference m ρ trivial,
  fun m ρ _ => Cert.Kernel7.Gen.frame m ρ, fun m ρ _ => Cert.Kernel7Ideal.Gen.frame m ρ, Cert.Fn.frame_reference7,
  fun m ρ _ => Cert.Kernel8.Gen.frame m ρ, fun m ρ _ => Cert.Kernel8Ideal.Gen.frame m ρ, Cert.Fn.frame_reference8,
  trivial, @Cert.Att.algebraic Cert.Pre_weights_finite.facts, trivial, Cert.In.algebraic, trivial, Cert.Out.algebraic,
  trivial, Cert.Ex.algebraic, trivial, Cert.Ada.algebraic, trivial, @Cert.Ssd.algebraic Cert.Pre_steps_below_inf.facts,
  trivial, Cert.Fn.algebraic7, trivial, Cert.Fn.algebraic8⟩

end Cert.Proof

end
